-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S8x256x2048 : Shape := ⟨3, ![8, 256, 2048]⟩
abbrev S8 : Shape := ⟨1, ![8]⟩
abbrev S_ : Shape := ⟨0, ![]⟩

class Facts : Prop where
  bcast_S_S8 : S_.BroadcastsInDim S8 (![] : Fin 0 → Fin S8.rank)
  reducesTo_S8_S_d0 : S8.ReducesTo [0] S_
  h_S_ : 0 < S_.numel

variable [Facts]

def fn {F : FTy → Type} [FloatOps F] (main_arg0 : FVec F S8x256x2048 .f32) (main_arg1 : IVec S8 32) : IVec S_ 1 :=
  let main_c : IVec S_ 32 := constantI S_ 32 1544#32
  let main_v0 : IVec S8 32 := broadcastInDim S8 ![] bcast_S_S8 main_c
  let main_v1 : IVec S8 1 := cmpi .sge main_arg1 main_v0
  let main_c_0 : IVec S_ 32 := constantI S_ 32 2048#32
  let main_v2 : IVec S8 32 := broadcastInDim S8 ![] bcast_S_S8 main_c_0
  let main_v3 : IVec S8 1 := cmpi .sle main_arg1 main_v2
  let main_v4 : IVec S8 1 := andi main_v1 main_v3
  let main_c_1 : IVec S_ 1 := constantI S_ 1 1#1
  let main_v5 : IVec S_ 1 := (fun x v => Host.reduce IntOp.andi x v reducesTo_S8_S_d0 h_S_) main_v4 main_c_1
  main_v5
-- ==== Kernel.lean ====
abbrev S8x256x2048 : Shape := ⟨3, ![8, 256, 2048]⟩
abbrev S8 : Shape := ⟨1, ![8]⟩
abbrev S8x1x2048 : Shape := ⟨3, ![8, 1, 2048]⟩
abbrev S8x1x16 : Shape := ⟨3, ![8, 1, 16]⟩
abbrev S1x2048 : Shape := ⟨2, ![1, 2048]⟩
abbrev S1 : Shape := ⟨1, ![1]⟩
abbrev S1x16 : Shape := ⟨2, ![1, 16]⟩
abbrev S1x1x16 : Shape := ⟨3, ![1, 1, 16]⟩
abbrev S1x256x2048 : Shape := ⟨3, ![1, 256, 2048]⟩
abbrev S256x2048 : Shape := ⟨2, ![256, 2048]⟩
abbrev S2048 : Shape := ⟨1, ![2048]⟩
abbrev S8x2048 : Shape := ⟨2, ![8, 2048]⟩
abbrev S8x1024 : Shape := ⟨2, ![8, 1024]⟩
abbrev S1x1024 : Shape := ⟨2, ![1, 1024]⟩
abbrev S8x1023 : Shape := ⟨2, ![8, 1023]⟩
abbrev S8x1 : Shape := ⟨2, ![8, 1]⟩
abbrev S8x1022 : Shape := ⟨2, ![8, 1022]⟩
abbrev S8x2 : Shape := ⟨2, ![8, 2]⟩
abbrev S8x1020 : Shape := ⟨2, ![8, 1020]⟩
abbrev S8x4 : Shape := ⟨2, ![8, 4]⟩
abbrev S8x1016 : Shape := ⟨2, ![8, 1016]⟩
abbrev S8x8 : Shape := ⟨2, ![8, 8]⟩
abbrev S8x1008 : Shape := ⟨2, ![8, 1008]⟩
abbrev S8x16 : Shape := ⟨2, ![8, 16]⟩
abbrev S8x992 : Shape := ⟨2, ![8, 992]⟩
abbrev S8x32 : Shape := ⟨2, ![8, 32]⟩
abbrev S8x960 : Shape := ⟨2, ![8, 960]⟩
abbrev S8x64 : Shape := ⟨2, ![8, 64]⟩
abbrev S8x896 : Shape := ⟨2, ![8, 896]⟩
abbrev S8x128 : Shape := ⟨2, ![8, 128]⟩
abbrev S8x768 : Shape := ⟨2, ![8, 768]⟩
abbrev S8x256 : Shape := ⟨2, ![8, 256]⟩
abbrev S8x512 : Shape := ⟨2, ![8, 512]⟩
abbrev S8x256x1536 : Shape := ⟨3, ![8, 256, 1536]⟩
abbrev S16 : Shape := ⟨1, ![16]⟩
abbrev S1536 : Shape := ⟨1, ![1536]⟩
abbrev S16x2048 : Shape := ⟨2, ![16, 2048]⟩
abbrev S16x1536 : Shape := ⟨2, ![16, 1536]⟩
abbrev S_ : Shape := ⟨0, ![]⟩
abbrev S1x16x2048 : Shape := ⟨3, ![1, 16, 2048]⟩
abbrev S1x1x2048 : Shape := ⟨3, ![1, 1, 2048]⟩
abbrev S1x16x1536 : Shape := ⟨3, ![1, 16, 1536]⟩

abbrev nBuf : Table → Nat
  | .hbm => 5
  | .local .tc .vmem => 3
  | .local .tc .smem => 1
  | .local .scVector .vmem => 9
  | _ => 0

abbrev bufTy : (tb : Table) → Fin (nBuf tb) → BufTy
  | .hbm, ⟨0, _⟩ => ⟨S8x256x2048, .f32⟩
  | .hbm, ⟨1, _⟩ => ⟨S8, .i32⟩
  | .hbm, ⟨2, _⟩ => ⟨S8x1x2048, .i32⟩
  | .hbm, ⟨3, _⟩ => ⟨S8x1x16, .i32⟩
  | .hbm, ⟨4, _⟩ => ⟨S8x256x1536, .f32⟩
  | .local .tc .vmem, ⟨0, _⟩ => ⟨S8x256x2048, .f32⟩
  | .local .tc .vmem, ⟨1, _⟩ => ⟨S8x1x2048, .i32⟩
  | .local .tc .vmem, ⟨2, _⟩ => ⟨S8x1x16, .i32⟩
  | .local .tc .smem, ⟨0, _⟩ => ⟨S8, .i32⟩
  | .local .scVector .vmem, ⟨0, _⟩ => ⟨S16, .i32⟩
  | .local .scVector .vmem, ⟨1, _⟩ => ⟨S2048, .i32⟩
  | .local .scVector .vmem, ⟨2, _⟩ => ⟨S1536, .i32⟩
  | .local .scVector .vmem, ⟨3, _⟩ => ⟨S1536, .i32⟩
  | .local .scVector .vmem, ⟨4, _⟩ => ⟨S1536, .f32⟩
  | .local .scVector .vmem, ⟨5, _⟩ => ⟨S16x2048, .f32⟩
  | .local .scVector .vmem, ⟨6, _⟩ => ⟨S16x2048, .f32⟩
  | .local .scVector .vmem, ⟨7, _⟩ => ⟨S16x1536, .f32⟩
  | .local .scVector .vmem, ⟨8, _⟩ => ⟨S16x1536, .f32⟩
  | _, _ => ⟨S8x256x2048, .f32⟩

abbrev bufScoped : (cs : CoreSpace) → Fin (nBuf (.local .tc cs)) → Bool
  | .vmem, ⟨0, _⟩ => true
  | .vmem, ⟨1, _⟩ => true
  | .vmem, ⟨2, _⟩ => true
  | .smem, ⟨0, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 10 → Bool
  | ⟨0, _⟩ => true
  | ⟨1, _⟩ => true
  | ⟨2, _⟩ => true
  | ⟨3, _⟩ => true
  | ⟨4, _⟩ => false
  | ⟨5, _⟩ => false
  | ⟨6, _⟩ => false
  | ⟨7, _⟩ => false
  | ⟨8, _⟩ => false
  | ⟨9, _⟩ => false
  | _ => false

abbrev sig : RefSig :=
  ofTables nBuf rfl bufTy 4 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_arg0_scv : Ref sig .scVector := ⟨.hbm, 0, rfl⟩
abbrev main_v0_0_scv : Ref sig .scVector := ⟨.hbm, 2, rfl⟩
abbrev main_v0_1_scv : Ref sig .scVector := ⟨.hbm, 3, rfl⟩
abbrev main_v1_scv : Ref sig .scVector := ⟨.hbm, 4, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg0_0 : Ref sig .tc := ⟨.smem, 0, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc1_scratch4 : Ref sig .scVector := ⟨.vmem, 4, rfl⟩
abbrev cc1_scratch5 : Ref sig .scVector := ⟨.vmem, 5, rfl⟩
abbrev cc1_scratch6 : Ref sig .scVector := ⟨.vmem, 6, rfl⟩
abbrev cc1_scratch7 : Ref sig .scVector := ⟨.vmem, 7, rfl⟩
abbrev cc1_scratch8 : Ref sig .scVector := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := .none

abbrev stage0_0 : Fin 1 → Memref sig .tc .smem S8 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x256x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x1x2048 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x1x16 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev grid1 : Pipeline.Grid := ⟨2, ![2, 16], ![false, false]⟩

def k1_off1 (i : grid1.Coords) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c64_i32 : BitVec 32 := 64#32
  let v29 : BitVec 32 := Scalar.muli v28 c64_i32
  let c0_i32_10 : BitVec 32 := 0#32
  ![v18.toNat, v29.toNat, 0]
def k1_off2 (i : grid1.Coords) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c0_i32_12 : BitVec 32 := 0#32
  let c0_i32_95_r0 : BitVec 32 := 0#32
  ![v18.toNat, 0, 0]
def k1_off3 (i : grid1.Coords) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c0_i32_13 : BitVec 32 := 0#32
  let c0_i32_95_r1 : BitVec 32 := 0#32
  ![v18.toNat, 0, 0]
@[reducible] def k1_t1_loop : Scf.Loop 32 :=
  let c0_i32_14 : BitVec 32 := 0#32
  let c96_i32 : BitVec 32 := 96#32
  let v36 : BitVec 32 := Scalar.addi c0_i32_14 c96_i32
  let c1_i32_15 : BitVec 32 := 1#32
  ⟨c0_i32_14, v36, c1_i32_15⟩

def k1_chk1 (v141 : IVec S16 32) : Prop :=
  (∀ a x, ((![v141] : Fin 1 → IVec S16 32) a x).toNat < S2048.size a)
theorem k1_idx1_inb : ∀ (v141 : IVec S16 32) (k1_hw1 : k1_chk1 v141), ∀ a x, ((![v141] : Fin 1 → IVec S16 32) a x).toNat < S2048.size a := fun v141 k1_hw1 => k1_hw1
def k1_off4 (k1_t1 : Fin k1_t1_loop.trips) : Fin 1 → Nat :=
  let c0_i32_96 : BitVec 32 := 0#32
  let c0_i32_14 : BitVec 32 := 0#32
  let c1_i32_15 : BitVec 32 := 1#32
  let arg19 : BitVec 32 := Scf.iv c0_i32_14 c1_i32_15 k1_t1
  let c1_i32_95 : BitVec 32 := 1#32
  let v136 : BitVec 32 := Scalar.muli arg19 c1_i32_95
  let v137 : BitVec 32 := Scalar.addi c0_i32_96 v136
  let c16_i32_98 : BitVec 32 := 16#32
  let v143 : BitVec 32 := Scalar.muli v137 c16_i32_98
  let v144 : Index := Scalar.indexCast v143
  ![v144.toNat]
def k1_off5 (k1_t1 : Fin k1_t1_loop.trips) : Fin 1 → Nat :=
  let c0_i32_96 : BitVec 32 := 0#32
  let c0_i32_14 : BitVec 32 := 0#32
  let c1_i32_15 : BitVec 32 := 1#32
  let arg19 : BitVec 32 := Scf.iv c0_i32_14 c1_i32_15 k1_t1
  let c1_i32_95 : BitVec 32 := 1#32
  let v136 : BitVec 32 := Scalar.muli arg19 c1_i32_95
  let v137 : BitVec 32 := Scalar.addi c0_i32_96 v136
  let c16_i32_99 : BitVec 32 := 16#32
  let v146 : BitVec 32 := Scalar.muli v137 c16_i32_99
  let v147 : Index := Scalar.indexCast v146
  ![v147.toNat]
def k1_off6 (i : grid1.Coords) (c16_i32_20 : BitVec 32) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c64_i32 : BitVec 32 := 64#32
  let v29 : BitVec 32 := Scalar.muli v28 c64_i32
  let v53 : BitVec 32 := Scalar.addi v29 c16_i32_20
  let c0_i32_21 : BitVec 32 := 0#32
  ![v18.toNat, v53.toNat, 0]
@[reducible] def k1_t2_loop : Scf.Loop 32 :=
  let c0_i32_26 : BitVec 32 := 0#32
  let c32_i32 : BitVec 32 := 32#32
  let v63 : BitVec 32 := Scalar.addi c0_i32_26 c32_i32
  let c1_i32_27 : BitVec 32 := 1#32
  ⟨c0_i32_26, v63, c1_i32_27⟩
def k1_off7 (k1_t2 : Fin k1_t2_loop.trips) : Fin 1 → Nat :=
  let c0_i32_96 : BitVec 32 := 0#32
  let c0_i32_26 : BitVec 32 := 0#32
  let c1_i32_27 : BitVec 32 := 1#32
  let arg19 : BitVec 32 := Scf.iv c0_i32_26 c1_i32_27 k1_t2
  let c1_i32_95 : BitVec 32 := 1#32
  let v136 : BitVec 32 := Scalar.muli arg19 c1_i32_95
  let v137 : BitVec 32 := Scalar.addi c0_i32_96 v136
  let c16_i32_97 : BitVec 32 := 16#32
  let v138 : BitVec 32 := Scalar.muli v137 c16_i32_97
  let v139 : Index := Scalar.indexCast v138
  ![v139.toNat]
def k1_off8 (k1_t2 : Fin k1_t2_loop.trips) : Fin 2 → Nat :=
  let c0_i32_98 : BitVec 32 := 0#32
  let v149 : Index := Scalar.indexCast c0_i32_98
  let c0_i32_96 : BitVec 32 := 0#32
  let c0_i32_26 : BitVec 32 := 0#32
  let c1_i32_27 : BitVec 32 := 1#32
  let arg19 : BitVec 32 := Scf.iv c0_i32_26 c1_i32_27 k1_t2
  let c1_i32_95 : BitVec 32 := 1#32
  let v136 : BitVec 32 := Scalar.muli arg19 c1_i32_95
  let v137 : BitVec 32 := Scalar.addi c0_i32_96 v136
  let c16_i32_97 : BitVec 32 := 16#32
  let v138 : BitVec 32 := Scalar.muli v137 c16_i32_97
  let v150 : Index := Scalar.indexCast v138
  ![0, v150.toNat]
def k1_off9 (k1_t2 : Fin k1_t2_loop.trips) : Fin 2 → Nat :=
  let c1_i32_99 : BitVec 32 := 1#32
  let v156 : Index := Scalar.indexCast c1_i32_99
  let c0_i32_96 : BitVec 32 := 0#32
  let c0_i32_26 : BitVec 32 := 0#32
  let c1_i32_27 : BitVec 32 := 1#32
  let arg19 : BitVec 32 := Scf.iv c0_i32_26 c1_i32_27 k1_t2
  let c1_i32_95 : BitVec 32 := 1#32
  let v136 : BitVec 32 := Scalar.muli arg19 c1_i32_95
  let v137 : BitVec 32 := Scalar.addi c0_i32_96 v136
  let c16_i32_97 : BitVec 32 := 16#32
  let v138 : BitVec 32 := Scalar.muli v137 c16_i32_97
  let v157 : Index := Scalar.indexCast v138
  ![1, v157.toNat]
def k1_off10 (k1_t2 : Fin k1_t2_loop.trips) : Fin 2 → Nat :=
  let c2_i32_100 : BitVec 32 := 2#32
  let v163 : Index := Scalar.indexCast c2_i32_100
  let c0_i32_96 : BitVec 32 := 0#32
  let c0_i32_26 : BitVec 32 := 0#32
  let c1_i32_27 : BitVec 32 := 1#32
  let arg19 : BitVec 32 := Scf.iv c0_i32_26 c1_i32_27 k1_t2
  let c1_i32_95 : BitVec 32 := 1#32
  let v136 : BitVec 32 := Scalar.muli arg19 c1_i32_95
  let v137 : BitVec 32 := Scalar.addi c0_i32_96 v136
  let c16_i32_97 : BitVec 32 := 16#32
  let v138 : BitVec 32 := Scalar.muli v137 c16_i32_97
  let v164 : Index := Scalar.indexCast v138
  ![2, v164.toNat]
def k1_off11 (k1_t2 : Fin k1_t2_loop.trips) : Fin 2 → Nat :=
  let c3_i32_101 : BitVec 32 := 3#32
  let v170 : Index := Scalar.indexCast c3_i32_101
  let c0_i32_96 : BitVec 32 := 0#32
  let c0_i32_26 : BitVec 32 := 0#32
  let c1_i32_27 : BitVec 32 := 1#32
  let arg19 : BitVec 32 := Scf.iv c0_i32_26 c1_i32_27 k1_t2
  let c1_i32_95 : BitVec 32 := 1#32
  let v136 : BitVec 32 := Scalar.muli arg19 c1_i32_95
  let v137 : BitVec 32 := Scalar.addi c0_i32_96 v136
  let c16_i32_97 : BitVec 32 := 16#32
  let v138 : BitVec 32 := Scalar.muli v137 c16_i32_97
  let v171 : Index := Scalar.indexCast v138
  ![3, v171.toNat]
def k1_off12 (k1_t2 : Fin k1_t2_loop.trips) : Fin 2 → Nat :=
  let c4_i32_102 : BitVec 32 := 4#32
  let v177 : Index := Scalar.indexCast c4_i32_102
  let c0_i32_96 : BitVec 32 := 0#32
  let c0_i32_26 : BitVec 32 := 0#32
  let c1_i32_27 : BitVec 32 := 1#32
  let arg19 : BitVec 32 := Scf.iv c0_i32_26 c1_i32_27 k1_t2
  let c1_i32_95 : BitVec 32 := 1#32
  let v136 : BitVec 32 := Scalar.muli arg19 c1_i32_95
  let v137 : BitVec 32 := Scalar.addi c0_i32_96 v136
  let c16_i32_97 : BitVec 32 := 16#32
  let v138 : BitVec 32 := Scalar.muli v137 c16_i32_97
  let v178 : Index := Scalar.indexCast v138
  ![4, v178.toNat]
def k1_off13 (k1_t2 : Fin k1_t2_loop.trips) : Fin 2 → Nat :=
  let c5_i32_103 : BitVec 32 := 5#32
  let v184 : Index := Scalar.indexCast c5_i32_103
  let c0_i32_96 : BitVec 32 := 0#32
  let c0_i32_26 : BitVec 32 := 0#32
  let c1_i32_27 : BitVec 32 := 1#32
  let arg19 : BitVec 32 := Scf.iv c0_i32_26 c1_i32_27 k1_t2
  let c1_i32_95 : BitVec 32 := 1#32
  let v136 : BitVec 32 := Scalar.muli arg19 c1_i32_95
  let v137 : BitVec 32 := Scalar.addi c0_i32_96 v136
  let c16_i32_97 : BitVec 32 := 16#32
  let v138 : BitVec 32 := Scalar.muli v137 c16_i32_97
  let v185 : Index := Scalar.indexCast v138
  ![5, v185.toNat]
def k1_off14 (k1_t2 : Fin k1_t2_loop.trips) : Fin 2 → Nat :=
  let c6_i32_104 : BitVec 32 := 6#32
  let v191 : Index := Scalar.indexCast c6_i32_104
  let c0_i32_96 : BitVec 32 := 0#32
  let c0_i32_26 : BitVec 32 := 0#32
  let c1_i32_27 : BitVec 32 := 1#32
  let arg19 : BitVec 32 := Scf.iv c0_i32_26 c1_i32_27 k1_t2
  let c1_i32_95 : BitVec 32 := 1#32
  let v136 : BitVec 32 := Scalar.muli arg19 c1_i32_95
  let v137 : BitVec 32 := Scalar.addi c0_i32_96 v136
  let c16_i32_97 : BitVec 32 := 16#32
  let v138 : BitVec 32 := Scalar.muli v137 c16_i32_97
  let v192 : Index := Scalar.indexCast v138
  ![6, v192.toNat]
def k1_off15 (k1_t2 : Fin k1_t2_loop.trips) : Fin 2 → Nat :=
  let c7_i32_105 : BitVec 32 := 7#32
  let v198 : Index := Scalar.indexCast c7_i32_105
  let c0_i32_96 : BitVec 32 := 0#32
  let c0_i32_26 : BitVec 32 := 0#32
  let c1_i32_27 : BitVec 32 := 1#32
  let arg19 : BitVec 32 := Scf.iv c0_i32_26 c1_i32_27 k1_t2
  let c1_i32_95 : BitVec 32 := 1#32
  let v136 : BitVec 32 := Scalar.muli arg19 c1_i32_95
  let v137 : BitVec 32 := Scalar.addi c0_i32_96 v136
  let c16_i32_97 : BitVec 32 := 16#32
  let v138 : BitVec 32 := Scalar.muli v137 c16_i32_97
  let v199 : Index := Scalar.indexCast v138
  ![7, v199.toNat]
def k1_off16 (k1_t2 : Fin k1_t2_loop.trips) : Fin 2 → Nat :=
  let c8_i32_106 : BitVec 32 := 8#32
  let v205 : Index := Scalar.indexCast c8_i32_106
  let c0_i32_96 : BitVec 32 := 0#32
  let c0_i32_26 : BitVec 32 := 0#32
  let c1_i32_27 : BitVec 32 := 1#32
  let arg19 : BitVec 32 := Scf.iv c0_i32_26 c1_i32_27 k1_t2
  let c1_i32_95 : BitVec 32 := 1#32
  let v136 : BitVec 32 := Scalar.muli arg19 c1_i32_95
  let v137 : BitVec 32 := Scalar.addi c0_i32_96 v136
  let c16_i32_97 : BitVec 32 := 16#32
  let v138 : BitVec 32 := Scalar.muli v137 c16_i32_97
  let v206 : Index := Scalar.indexCast v138
  ![8, v206.toNat]
def k1_off17 (k1_t2 : Fin k1_t2_loop.trips) : Fin 2 → Nat :=
  let c9_i32_107 : BitVec 32 := 9#32
  let v212 : Index := Scalar.indexCast c9_i32_107
  let c0_i32_96 : BitVec 32 := 0#32
  let c0_i32_26 : BitVec 32 := 0#32
  let c1_i32_27 : BitVec 32 := 1#32
  let arg19 : BitVec 32 := Scf.iv c0_i32_26 c1_i32_27 k1_t2
  let c1_i32_95 : BitVec 32 := 1#32
  let v136 : BitVec 32 := Scalar.muli arg19 c1_i32_95
  let v137 : BitVec 32 := Scalar.addi c0_i32_96 v136
  let c16_i32_97 : BitVec 32 := 16#32
  let v138 : BitVec 32 := Scalar.muli v137 c16_i32_97
  let v213 : Index := Scalar.indexCast v138
  ![9, v213.toNat]
def k1_off18 (k1_t2 : Fin k1_t2_loop.trips) : Fin 2 → Nat :=
  let c10_i32_108 : BitVec 32 := 10#32
  let v219 : Index := Scalar.indexCast c10_i32_108
  let c0_i32_96 : BitVec 32 := 0#32
  let c0_i32_26 : BitVec 32 := 0#32
  let c1_i32_27 : BitVec 32 := 1#32
  let arg19 : BitVec 32 := Scf.iv c0_i32_26 c1_i32_27 k1_t2
  let c1_i32_95 : BitVec 32 := 1#32
  let v136 : BitVec 32 := Scalar.muli arg19 c1_i32_95
  let v137 : BitVec 32 := Scalar.addi c0_i32_96 v136
  let c16_i32_97 : BitVec 32 := 16#32
  let v138 : BitVec 32 := Scalar.muli v137 c16_i32_97
  let v220 : Index := Scalar.indexCast v138
  ![10, v220.toNat]
def k1_off19 (k1_t2 : Fin k1_t2_loop.trips) : Fin 2 → Nat :=
  let c11_i32_109 : BitVec 32 := 11#32
  let v226 : Index := Scalar.indexCast c11_i32_109
  let c0_i32_96 : BitVec 32 := 0#32
  let c0_i32_26 : BitVec 32 := 0#32
  let c1_i32_27 : BitVec 32 := 1#32
  let arg19 : BitVec 32 := Scf.iv c0_i32_26 c1_i32_27 k1_t2
  let c1_i32_95 : BitVec 32 := 1#32
  let v136 : BitVec 32 := Scalar.muli arg19 c1_i32_95
  let v137 : BitVec 32 := Scalar.addi c0_i32_96 v136
  let c16_i32_97 : BitVec 32 := 16#32
  let v138 : BitVec 32 := Scalar.muli v137 c16_i32_97
  let v227 : Index := Scalar.indexCast v138
  ![11, v227.toNat]
def k1_off20 (k1_t2 : Fin k1_t2_loop.trips) : Fin 2 → Nat :=
  let c12_i32_110 : BitVec 32 := 12#32
  let v233 : Index := Scalar.indexCast c12_i32_110
  let c0_i32_96 : BitVec 32 := 0#32
  let c0_i32_26 : BitVec 32 := 0#32
  let c1_i32_27 : BitVec 32 := 1#32
  let arg19 : BitVec 32 := Scf.iv c0_i32_26 c1_i32_27 k1_t2
  let c1_i32_95 : BitVec 32 := 1#32
  let v136 : BitVec 32 := Scalar.muli arg19 c1_i32_95
  let v137 : BitVec 32 := Scalar.addi c0_i32_96 v136
  let c16_i32_97 : BitVec 32 := 16#32
  let v138 : BitVec 32 := Scalar.muli v137 c16_i32_97
  let v234 : Index := Scalar.indexCast v138
  ![12, v234.toNat]
def k1_off21 (k1_t2 : Fin k1_t2_loop.trips) : Fin 2 → Nat :=
  let c13_i32_111 : BitVec 32 := 13#32
  let v240 : Index := Scalar.indexCast c13_i32_111
  let c0_i32_96 : BitVec 32 := 0#32
  let c0_i32_26 : BitVec 32 := 0#32
  let c1_i32_27 : BitVec 32 := 1#32
  let arg19 : BitVec 32 := Scf.iv c0_i32_26 c1_i32_27 k1_t2
  let c1_i32_95 : BitVec 32 := 1#32
  let v136 : BitVec 32 := Scalar.muli arg19 c1_i32_95
  let v137 : BitVec 32 := Scalar.addi c0_i32_96 v136
  let c16_i32_97 : BitVec 32 := 16#32
  let v138 : BitVec 32 := Scalar.muli v137 c16_i32_97
  let v241 : Index := Scalar.indexCast v138
  ![13, v241.toNat]
def k1_off22 (k1_t2 : Fin k1_t2_loop.trips) : Fin 2 → Nat :=
  let c14_i32_112 : BitVec 32 := 14#32
  let v247 : Index := Scalar.indexCast c14_i32_112
  let c0_i32_96 : BitVec 32 := 0#32
  let c0_i32_26 : BitVec 32 := 0#32
  let c1_i32_27 : BitVec 32 := 1#32
  let arg19 : BitVec 32 := Scf.iv c0_i32_26 c1_i32_27 k1_t2
  let c1_i32_95 : BitVec 32 := 1#32
  let v136 : BitVec 32 := Scalar.muli arg19 c1_i32_95
  let v137 : BitVec 32 := Scalar.addi c0_i32_96 v136
  let c16_i32_97 : BitVec 32 := 16#32
  let v138 : BitVec 32 := Scalar.muli v137 c16_i32_97
  let v248 : Index := Scalar.indexCast v138
  ![14, v248.toNat]

def k1_chk2 (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v140 : IVec S16 32) : Prop :=
  (∀ a x, ((![v37, v140] : Fin 2 → IVec S16 32) a x).toNat < S16x2048.size a) ∧
  (∀ a x, ((![v38, v140] : Fin 2 → IVec S16 32) a x).toNat < S16x2048.size a) ∧
  (∀ a x, ((![v39, v140] : Fin 2 → IVec S16 32) a x).toNat < S16x2048.size a) ∧
  (∀ a x, ((![v40, v140] : Fin 2 → IVec S16 32) a x).toNat < S16x2048.size a) ∧
  (∀ a x, ((![v41, v140] : Fin 2 → IVec S16 32) a x).toNat < S16x2048.size a) ∧
  (∀ a x, ((![v42, v140] : Fin 2 → IVec S16 32) a x).toNat < S16x2048.size a) ∧
  (∀ a x, ((![v43, v140] : Fin 2 → IVec S16 32) a x).toNat < S16x2048.size a) ∧
  (∀ a x, ((![v44, v140] : Fin 2 → IVec S16 32) a x).toNat < S16x2048.size a) ∧
  (∀ a x, ((![v45, v140] : Fin 2 → IVec S16 32) a x).toNat < S16x2048.size a) ∧
  (∀ a x, ((![v46, v140] : Fin 2 → IVec S16 32) a x).toNat < S16x2048.size a) ∧
  (∀ a x, ((![v47, v140] : Fin 2 → IVec S16 32) a x).toNat < S16x2048.size a) ∧
  (∀ a x, ((![v48, v140] : Fin 2 → IVec S16 32) a x).toNat < S16x2048.size a) ∧
  (∀ a x, ((![v49, v140] : Fin 2 → IVec S16 32) a x).toNat < S16x2048.size a) ∧
  (∀ a x, ((![v50, v140] : Fin 2 → IVec S16 32) a x).toNat < S16x2048.size a) ∧
  (∀ a x, ((![v51, v140] : Fin 2 → IVec S16 32) a x).toNat < S16x2048.size a) ∧
  (∀ a x, ((![v52, v140] : Fin 2 → IVec S16 32) a x).toNat < S16x2048.size a)
theorem k1_idx2_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v140 : IVec S16 32) (k1_hw2 : k1_chk2 v37 v38 v39 v40 v41 v42 v43 v44 v45 v46 v47 v48 v49 v50 v51 v52 v140), ∀ a x, ((![v37, v140] : Fin 2 → IVec S16 32) a x).toNat < S16x2048.size a := fun v37 v38 v39 v40 v41 v42 v43 v44 v45 v46 v47 v48 v49 v50 v51 v52 v140 k1_hw2 => k1_hw2.1
theorem k1_idx4_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v140 : IVec S16 32) (k1_hw2 : k1_chk2 v37 v38 v39 v40 v41 v42 v43 v44 v45 v46 v47 v48 v49 v50 v51 v52 v140), ∀ a x, ((![v38, v140] : Fin 2 → IVec S16 32) a x).toNat < S16x2048.size a := fun v37 v38 v39 v40 v41 v42 v43 v44 v45 v46 v47 v48 v49 v50 v51 v52 v140 k1_hw2 => k1_hw2.2.1
theorem k1_idx6_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v140 : IVec S16 32) (k1_hw2 : k1_chk2 v37 v38 v39 v40 v41 v42 v43 v44 v45 v46 v47 v48 v49 v50 v51 v52 v140), ∀ a x, ((![v39, v140] : Fin 2 → IVec S16 32) a x).toNat < S16x2048.size a := fun v37 v38 v39 v40 v41 v42 v43 v44 v45 v46 v47 v48 v49 v50 v51 v52 v140 k1_hw2 => k1_hw2.2.2.1
theorem k1_idx8_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v140 : IVec S16 32) (k1_hw2 : k1_chk2 v37 v38 v39 v40 v41 v42 v43 v44 v45 v46 v47 v48 v49 v50 v51 v52 v140), ∀ a x, ((![v40, v140] : Fin 2 → IVec S16 32) a x).toNat < S16x2048.size a := fun v37 v38 v39 v40 v41 v42 v43 v44 v45 v46 v47 v48 v49 v50 v51 v52 v140 k1_hw2 => k1_hw2.2.2.2.1
theorem k1_idx10_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v140 : IVec S16 32) (k1_hw2 : k1_chk2 v37 v38 v39 v40 v41 v42 v43 v44 v45 v46 v47 v48 v49 v50 v51 v52 v140), ∀ a x, ((![v41, v140] : Fin 2 → IVec S16 32) a x).toNat < S16x2048.size a := fun v37 v38 v39 v40 v41 v42 v43 v44 v45 v46 v47 v48 v49 v50 v51 v52 v140 k1_hw2 => k1_hw2.2.2.2.2.1
theorem k1_idx12_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v140 : IVec S16 32) (k1_hw2 : k1_chk2 v37 v38 v39 v40 v41 v42 v43 v44 v45 v46 v47 v48 v49 v50 v51 v52 v140), ∀ a x, ((![v42, v140] : Fin 2 → IVec S16 32) a x).toNat < S16x2048.size a := fun v37 v38 v39 v40 v41 v42 v43 v44 v45 v46 v47 v48 v49 v50 v51 v52 v140 k1_hw2 => k1_hw2.2.2.2.2.2.1
theorem k1_idx14_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v140 : IVec S16 32) (k1_hw2 : k1_chk2 v37 v38 v39 v40 v41 v42 v43 v44 v45 v46 v47 v48 v49 v50 v51 v52 v140), ∀ a x, ((![v43, v140] : Fin 2 → IVec S16 32) a x).toNat < S16x2048.size a := fun v37 v38 v39 v40 v41 v42 v43 v44 v45 v46 v47 v48 v49 v50 v51 v52 v140 k1_hw2 => k1_hw2.2.2.2.2.2.2.1
theorem k1_idx16_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v140 : IVec S16 32) (k1_hw2 : k1_chk2 v37 v38 v39 v40 v41 v42 v43 v44 v45 v46 v47 v48 v49 v50 v51 v52 v140), ∀ a x, ((![v44, v140] : Fin 2 → IVec S16 32) a x).toNat < S16x2048.size a := fun v37 v38 v39 v40 v41 v42 v43 v44 v45 v46 v47 v48 v49 v50 v51 v52 v140 k1_hw2 => k1_hw2.2.2.2.2.2.2.2.1
theorem k1_idx18_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v140 : IVec S16 32) (k1_hw2 : k1_chk2 v37 v38 v39 v40 v41 v42 v43 v44 v45 v46 v47 v48 v49 v50 v51 v52 v140), ∀ a x, ((![v45, v140] : Fin 2 → IVec S16 32) a x).toNat < S16x2048.size a := fun v37 v38 v39 v40 v41 v42 v43 v44 v45 v46 v47 v48 v49 v50 v51 v52 v140 k1_hw2 => k1_hw2.2.2.2.2.2.2.2.2.1
theorem k1_idx20_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v140 : IVec S16 32) (k1_hw2 : k1_chk2 v37 v38 v39 v40 v41 v42 v43 v44 v45 v46 v47 v48 v49 v50 v51 v52 v140), ∀ a x, ((![v46, v140] : Fin 2 → IVec S16 32) a x).toNat < S16x2048.size a := fun v37 v38 v39 v40 v41 v42 v43 v44 v45 v46 v47 v48 v49 v50 v51 v52 v140 k1_hw2 => k1_hw2.2.2.2.2.2.2.2.2.2.1
theorem k1_idx22_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v140 : IVec S16 32) (k1_hw2 : k1_chk2 v37 v38 v39 v40 v41 v42 v43 v44 v45 v46 v47 v48 v49 v50 v51 v52 v140), ∀ a x, ((![v47, v140] : Fin 2 → IVec S16 32) a x).toNat < S16x2048.size a := fun v37 v38 v39 v40 v41 v42 v43 v44 v45 v46 v47 v48 v49 v50 v51 v52 v140 k1_hw2 => k1_hw2.2.2.2.2.2.2.2.2.2.2.1
theorem k1_idx24_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v140 : IVec S16 32) (k1_hw2 : k1_chk2 v37 v38 v39 v40 v41 v42 v43 v44 v45 v46 v47 v48 v49 v50 v51 v52 v140), ∀ a x, ((![v48, v140] : Fin 2 → IVec S16 32) a x).toNat < S16x2048.size a := fun v37 v38 v39 v40 v41 v42 v43 v44 v45 v46 v47 v48 v49 v50 v51 v52 v140 k1_hw2 => k1_hw2.2.2.2.2.2.2.2.2.2.2.2.1
theorem k1_idx26_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v140 : IVec S16 32) (k1_hw2 : k1_chk2 v37 v38 v39 v40 v41 v42 v43 v44 v45 v46 v47 v48 v49 v50 v51 v52 v140), ∀ a x, ((![v49, v140] : Fin 2 → IVec S16 32) a x).toNat < S16x2048.size a := fun v37 v38 v39 v40 v41 v42 v43 v44 v45 v46 v47 v48 v49 v50 v51 v52 v140 k1_hw2 => k1_hw2.2.2.2.2.2.2.2.2.2.2.2.2.1
theorem k1_idx28_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v140 : IVec S16 32) (k1_hw2 : k1_chk2 v37 v38 v39 v40 v41 v42 v43 v44 v45 v46 v47 v48 v49 v50 v51 v52 v140), ∀ a x, ((![v50, v140] : Fin 2 → IVec S16 32) a x).toNat < S16x2048.size a := fun v37 v38 v39 v40 v41 v42 v43 v44 v45 v46 v47 v48 v49 v50 v51 v52 v140 k1_hw2 => k1_hw2.2.2.2.2.2.2.2.2.2.2.2.2.2.1
theorem k1_idx30_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v140 : IVec S16 32) (k1_hw2 : k1_chk2 v37 v38 v39 v40 v41 v42 v43 v44 v45 v46 v47 v48 v49 v50 v51 v52 v140), ∀ a x, ((![v51, v140] : Fin 2 → IVec S16 32) a x).toNat < S16x2048.size a := fun v37 v38 v39 v40 v41 v42 v43 v44 v45 v46 v47 v48 v49 v50 v51 v52 v140 k1_hw2 => k1_hw2.2.2.2.2.2.2.2.2.2.2.2.2.2.2.1
theorem k1_idx32_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v140 : IVec S16 32) (k1_hw2 : k1_chk2 v37 v38 v39 v40 v41 v42 v43 v44 v45 v46 v47 v48 v49 v50 v51 v52 v140), ∀ a x, ((![v52, v140] : Fin 2 → IVec S16 32) a x).toNat < S16x2048.size a := fun v37 v38 v39 v40 v41 v42 v43 v44 v45 v46 v47 v48 v49 v50 v51 v52 v140 k1_hw2 => k1_hw2.2.2.2.2.2.2.2.2.2.2.2.2.2.2.2

def k1_chk3 (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v142 : IVec S16 32) : Prop :=
  (∀ a x, ((![v37, v142] : Fin 2 → IVec S16 32) a x).toNat < S16x2048.size a) ∧
  (∀ a x, ((![v38, v142] : Fin 2 → IVec S16 32) a x).toNat < S16x2048.size a) ∧
  (∀ a x, ((![v39, v142] : Fin 2 → IVec S16 32) a x).toNat < S16x2048.size a) ∧
  (∀ a x, ((![v40, v142] : Fin 2 → IVec S16 32) a x).toNat < S16x2048.size a) ∧
  (∀ a x, ((![v41, v142] : Fin 2 → IVec S16 32) a x).toNat < S16x2048.size a) ∧
  (∀ a x, ((![v42, v142] : Fin 2 → IVec S16 32) a x).toNat < S16x2048.size a) ∧
  (∀ a x, ((![v43, v142] : Fin 2 → IVec S16 32) a x).toNat < S16x2048.size a) ∧
  (∀ a x, ((![v44, v142] : Fin 2 → IVec S16 32) a x).toNat < S16x2048.size a) ∧
  (∀ a x, ((![v45, v142] : Fin 2 → IVec S16 32) a x).toNat < S16x2048.size a) ∧
  (∀ a x, ((![v46, v142] : Fin 2 → IVec S16 32) a x).toNat < S16x2048.size a) ∧
  (∀ a x, ((![v47, v142] : Fin 2 → IVec S16 32) a x).toNat < S16x2048.size a) ∧
  (∀ a x, ((![v48, v142] : Fin 2 → IVec S16 32) a x).toNat < S16x2048.size a) ∧
  (∀ a x, ((![v49, v142] : Fin 2 → IVec S16 32) a x).toNat < S16x2048.size a) ∧
  (∀ a x, ((![v50, v142] : Fin 2 → IVec S16 32) a x).toNat < S16x2048.size a) ∧
  (∀ a x, ((![v51, v142] : Fin 2 → IVec S16 32) a x).toNat < S16x2048.size a) ∧
  (∀ a x, ((![v52, v142] : Fin 2 → IVec S16 32) a x).toNat < S16x2048.size a)
theorem k1_idx3_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v142 : IVec S16 32) (k1_hw3 : k1_chk3 v37 v38 v39 v40 v41 v42 v43 v44 v45 v46 v47 v48 v49 v50 v51 v52 v142), ∀ a x, ((![v37, v142] : Fin 2 → IVec S16 32) a x).toNat < S16x2048.size a := fun v37 v38 v39 v40 v41 v42 v43 v44 v45 v46 v47 v48 v49 v50 v51 v52 v142 k1_hw3 => k1_hw3.1
theorem k1_idx5_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v142 : IVec S16 32) (k1_hw3 : k1_chk3 v37 v38 v39 v40 v41 v42 v43 v44 v45 v46 v47 v48 v49 v50 v51 v52 v142), ∀ a x, ((![v38, v142] : Fin 2 → IVec S16 32) a x).toNat < S16x2048.size a := fun v37 v38 v39 v40 v41 v42 v43 v44 v45 v46 v47 v48 v49 v50 v51 v52 v142 k1_hw3 => k1_hw3.2.1
theorem k1_idx7_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v142 : IVec S16 32) (k1_hw3 : k1_chk3 v37 v38 v39 v40 v41 v42 v43 v44 v45 v46 v47 v48 v49 v50 v51 v52 v142), ∀ a x, ((![v39, v142] : Fin 2 → IVec S16 32) a x).toNat < S16x2048.size a := fun v37 v38 v39 v40 v41 v42 v43 v44 v45 v46 v47 v48 v49 v50 v51 v52 v142 k1_hw3 => k1_hw3.2.2.1
theorem k1_idx9_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v142 : IVec S16 32) (k1_hw3 : k1_chk3 v37 v38 v39 v40 v41 v42 v43 v44 v45 v46 v47 v48 v49 v50 v51 v52 v142), ∀ a x, ((![v40, v142] : Fin 2 → IVec S16 32) a x).toNat < S16x2048.size a := fun v37 v38 v39 v40 v41 v42 v43 v44 v45 v46 v47 v48 v49 v50 v51 v52 v142 k1_hw3 => k1_hw3.2.2.2.1
theorem k1_idx11_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v142 : IVec S16 32) (k1_hw3 : k1_chk3 v37 v38 v39 v40 v41 v42 v43 v44 v45 v46 v47 v48 v49 v50 v51 v52 v142), ∀ a x, ((![v41, v142] : Fin 2 → IVec S16 32) a x).toNat < S16x2048.size a := fun v37 v38 v39 v40 v41 v42 v43 v44 v45 v46 v47 v48 v49 v50 v51 v52 v142 k1_hw3 => k1_hw3.2.2.2.2.1
theorem k1_idx13_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v142 : IVec S16 32) (k1_hw3 : k1_chk3 v37 v38 v39 v40 v41 v42 v43 v44 v45 v46 v47 v48 v49 v50 v51 v52 v142), ∀ a x, ((![v42, v142] : Fin 2 → IVec S16 32) a x).toNat < S16x2048.size a := fun v37 v38 v39 v40 v41 v42 v43 v44 v45 v46 v47 v48 v49 v50 v51 v52 v142 k1_hw3 => k1_hw3.2.2.2.2.2.1
theorem k1_idx15_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v142 : IVec S16 32) (k1_hw3 : k1_chk3 v37 v38 v39 v40 v41 v42 v43 v44 v45 v46 v47 v48 v49 v50 v51 v52 v142), ∀ a x, ((![v43, v142] : Fin 2 → IVec S16 32) a x).toNat < S16x2048.size a := fun v37 v38 v39 v40 v41 v42 v43 v44 v45 v46 v47 v48 v49 v50 v51 v52 v142 k1_hw3 => k1_hw3.2.2.2.2.2.2.1
theorem k1_idx17_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v142 : IVec S16 32) (k1_hw3 : k1_chk3 v37 v38 v39 v40 v41 v42 v43 v44 v45 v46 v47 v48 v49 v50 v51 v52 v142), ∀ a x, ((![v44, v142] : Fin 2 → IVec S16 32) a x).toNat < S16x2048.size a := fun v37 v38 v39 v40 v41 v42 v43 v44 v45 v46 v47 v48 v49 v50 v51 v52 v142 k1_hw3 => k1_hw3.2.2.2.2.2.2.2.1
theorem k1_idx19_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v142 : IVec S16 32) (k1_hw3 : k1_chk3 v37 v38 v39 v40 v41 v42 v43 v44 v45 v46 v47 v48 v49 v50 v51 v52 v142), ∀ a x, ((![v45, v142] : Fin 2 → IVec S16 32) a x).toNat < S16x2048.size a := fun v37 v38 v39 v40 v41 v42 v43 v44 v45 v46 v47 v48 v49 v50 v51 v52 v142 k1_hw3 => k1_hw3.2.2.2.2.2.2.2.2.1
theorem k1_idx21_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v142 : IVec S16 32) (k1_hw3 : k1_chk3 v37 v38 v39 v40 v41 v42 v43 v44 v45 v46 v47 v48 v49 v50 v51 v52 v142), ∀ a x, ((![v46, v142] : Fin 2 → IVec S16 32) a x).toNat < S16x2048.size a := fun v37 v38 v39 v40 v41 v42 v43 v44 v45 v46 v47 v48 v49 v50 v51 v52 v142 k1_hw3 => k1_hw3.2.2.2.2.2.2.2.2.2.1
theorem k1_idx23_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v142 : IVec S16 32) (k1_hw3 : k1_chk3 v37 v38 v39 v40 v41 v42 v43 v44 v45 v46 v47 v48 v49 v50 v51 v52 v142), ∀ a x, ((![v47, v142] : Fin 2 → IVec S16 32) a x).toNat < S16x2048.size a := fun v37 v38 v39 v40 v41 v42 v43 v44 v45 v46 v47 v48 v49 v50 v51 v52 v142 k1_hw3 => k1_hw3.2.2.2.2.2.2.2.2.2.2.1
theorem k1_idx25_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v142 : IVec S16 32) (k1_hw3 : k1_chk3 v37 v38 v39 v40 v41 v42 v43 v44 v45 v46 v47 v48 v49 v50 v51 v52 v142), ∀ a x, ((![v48, v142] : Fin 2 → IVec S16 32) a x).toNat < S16x2048.size a := fun v37 v38 v39 v40 v41 v42 v43 v44 v45 v46 v47 v48 v49 v50 v51 v52 v142 k1_hw3 => k1_hw3.2.2.2.2.2.2.2.2.2.2.2.1
theorem k1_idx27_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v142 : IVec S16 32) (k1_hw3 : k1_chk3 v37 v38 v39 v40 v41 v42 v43 v44 v45 v46 v47 v48 v49 v50 v51 v52 v142), ∀ a x, ((![v49, v142] : Fin 2 → IVec S16 32) a x).toNat < S16x2048.size a := fun v37 v38 v39 v40 v41 v42 v43 v44 v45 v46 v47 v48 v49 v50 v51 v52 v142 k1_hw3 => k1_hw3.2.2.2.2.2.2.2.2.2.2.2.2.1
theorem k1_idx29_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v142 : IVec S16 32) (k1_hw3 : k1_chk3 v37 v38 v39 v40 v41 v42 v43 v44 v45 v46 v47 v48 v49 v50 v51 v52 v142), ∀ a x, ((![v50, v142] : Fin 2 → IVec S16 32) a x).toNat < S16x2048.size a := fun v37 v38 v39 v40 v41 v42 v43 v44 v45 v46 v47 v48 v49 v50 v51 v52 v142 k1_hw3 => k1_hw3.2.2.2.2.2.2.2.2.2.2.2.2.2.1
theorem k1_idx31_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v142 : IVec S16 32) (k1_hw3 : k1_chk3 v37 v38 v39 v40 v41 v42 v43 v44 v45 v46 v47 v48 v49 v50 v51 v52 v142), ∀ a x, ((![v51, v142] : Fin 2 → IVec S16 32) a x).toNat < S16x2048.size a := fun v37 v38 v39 v40 v41 v42 v43 v44 v45 v46 v47 v48 v49 v50 v51 v52 v142 k1_hw3 => k1_hw3.2.2.2.2.2.2.2.2.2.2.2.2.2.2.1
theorem k1_idx33_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v142 : IVec S16 32) (k1_hw3 : k1_chk3 v37 v38 v39 v40 v41 v42 v43 v44 v45 v46 v47 v48 v49 v50 v51 v52 v142), ∀ a x, ((![v52, v142] : Fin 2 → IVec S16 32) a x).toNat < S16x2048.size a := fun v37 v38 v39 v40 v41 v42 v43 v44 v45 v46 v47 v48 v49 v50 v51 v52 v142 k1_hw3 => k1_hw3.2.2.2.2.2.2.2.2.2.2.2.2.2.2.2
def k1_off23 (k1_t2 : Fin k1_t2_loop.trips) : Fin 2 → Nat :=
  let c15_i32_113 : BitVec 32 := 15#32
  let v254 : Index := Scalar.indexCast c15_i32_113
  let c0_i32_96 : BitVec 32 := 0#32
  let c0_i32_26 : BitVec 32 := 0#32
  let c1_i32_27 : BitVec 32 := 1#32
  let arg19 : BitVec 32 := Scf.iv c0_i32_26 c1_i32_27 k1_t2
  let c1_i32_95 : BitVec 32 := 1#32
  let v136 : BitVec 32 := Scalar.muli arg19 c1_i32_95
  let v137 : BitVec 32 := Scalar.addi c0_i32_96 v136
  let c16_i32_97 : BitVec 32 := 16#32
  let v138 : BitVec 32 := Scalar.muli v137 c16_i32_97
  let v255 : Index := Scalar.indexCast v138
  ![15, v255.toNat]
@[reducible] def k1_t3_loop : Scf.Loop 32 :=
  let c0_i32_29 : BitVec 32 := 0#32
  let c64_i32_30 : BitVec 32 := 64#32
  let v64 : BitVec 32 := Scalar.addi c0_i32_29 c64_i32_30
  let c1_i32_31 : BitVec 32 := 1#32
  ⟨c0_i32_29, v64, c1_i32_31⟩
def k1_off24 (k1_t3 : Fin k1_t3_loop.trips) : Fin 1 → Nat :=
  let c32_i32_96 : BitVec 32 := 32#32
  let c0_i32_29 : BitVec 32 := 0#32
  let c1_i32_31 : BitVec 32 := 1#32
  let arg19 : BitVec 32 := Scf.iv c0_i32_29 c1_i32_31 k1_t3
  let c1_i32_95 : BitVec 32 := 1#32
  let v136 : BitVec 32 := Scalar.muli arg19 c1_i32_95
  let v137 : BitVec 32 := Scalar.addi c32_i32_96 v136
  let c16_i32_97 : BitVec 32 := 16#32
  let v138 : BitVec 32 := Scalar.muli v137 c16_i32_97
  let v139 : Index := Scalar.indexCast v138
  ![v139.toNat]
def k1_off25 (k1_t3 : Fin k1_t3_loop.trips) : Fin 2 → Nat :=
  let c0_i32_98 : BitVec 32 := 0#32
  let v142 : Index := Scalar.indexCast c0_i32_98
  let c32_i32_96 : BitVec 32 := 32#32
  let c0_i32_29 : BitVec 32 := 0#32
  let c1_i32_31 : BitVec 32 := 1#32
  let arg19 : BitVec 32 := Scf.iv c0_i32_29 c1_i32_31 k1_t3
  let c1_i32_95 : BitVec 32 := 1#32
  let v136 : BitVec 32 := Scalar.muli arg19 c1_i32_95
  let v137 : BitVec 32 := Scalar.addi c32_i32_96 v136
  let c16_i32_97 : BitVec 32 := 16#32
  let v138 : BitVec 32 := Scalar.muli v137 c16_i32_97
  let v143 : Index := Scalar.indexCast v138
  ![0, v143.toNat]
def k1_off26 (k1_t3 : Fin k1_t3_loop.trips) : Fin 2 → Nat :=
  let c1_i32_99 : BitVec 32 := 1#32
  let v146 : Index := Scalar.indexCast c1_i32_99
  let c32_i32_96 : BitVec 32 := 32#32
  let c0_i32_29 : BitVec 32 := 0#32
  let c1_i32_31 : BitVec 32 := 1#32
  let arg19 : BitVec 32 := Scf.iv c0_i32_29 c1_i32_31 k1_t3
  let c1_i32_95 : BitVec 32 := 1#32
  let v136 : BitVec 32 := Scalar.muli arg19 c1_i32_95
  let v137 : BitVec 32 := Scalar.addi c32_i32_96 v136
  let c16_i32_97 : BitVec 32 := 16#32
  let v138 : BitVec 32 := Scalar.muli v137 c16_i32_97
  let v147 : Index := Scalar.indexCast v138
  ![1, v147.toNat]
def k1_off27 (k1_t3 : Fin k1_t3_loop.trips) : Fin 2 → Nat :=
  let c2_i32_100 : BitVec 32 := 2#32
  let v150 : Index := Scalar.indexCast c2_i32_100
  let c32_i32_96 : BitVec 32 := 32#32
  let c0_i32_29 : BitVec 32 := 0#32
  let c1_i32_31 : BitVec 32 := 1#32
  let arg19 : BitVec 32 := Scf.iv c0_i32_29 c1_i32_31 k1_t3
  let c1_i32_95 : BitVec 32 := 1#32
  let v136 : BitVec 32 := Scalar.muli arg19 c1_i32_95
  let v137 : BitVec 32 := Scalar.addi c32_i32_96 v136
  let c16_i32_97 : BitVec 32 := 16#32
  let v138 : BitVec 32 := Scalar.muli v137 c16_i32_97
  let v151 : Index := Scalar.indexCast v138
  ![2, v151.toNat]
def k1_off28 (k1_t3 : Fin k1_t3_loop.trips) : Fin 2 → Nat :=
  let c3_i32_101 : BitVec 32 := 3#32
  let v154 : Index := Scalar.indexCast c3_i32_101
  let c32_i32_96 : BitVec 32 := 32#32
  let c0_i32_29 : BitVec 32 := 0#32
  let c1_i32_31 : BitVec 32 := 1#32
  let arg19 : BitVec 32 := Scf.iv c0_i32_29 c1_i32_31 k1_t3
  let c1_i32_95 : BitVec 32 := 1#32
  let v136 : BitVec 32 := Scalar.muli arg19 c1_i32_95
  let v137 : BitVec 32 := Scalar.addi c32_i32_96 v136
  let c16_i32_97 : BitVec 32 := 16#32
  let v138 : BitVec 32 := Scalar.muli v137 c16_i32_97
  let v155 : Index := Scalar.indexCast v138
  ![3, v155.toNat]
def k1_off29 (k1_t3 : Fin k1_t3_loop.trips) : Fin 2 → Nat :=
  let c4_i32_102 : BitVec 32 := 4#32
  let v158 : Index := Scalar.indexCast c4_i32_102
  let c32_i32_96 : BitVec 32 := 32#32
  let c0_i32_29 : BitVec 32 := 0#32
  let c1_i32_31 : BitVec 32 := 1#32
  let arg19 : BitVec 32 := Scf.iv c0_i32_29 c1_i32_31 k1_t3
  let c1_i32_95 : BitVec 32 := 1#32
  let v136 : BitVec 32 := Scalar.muli arg19 c1_i32_95
  let v137 : BitVec 32 := Scalar.addi c32_i32_96 v136
  let c16_i32_97 : BitVec 32 := 16#32
  let v138 : BitVec 32 := Scalar.muli v137 c16_i32_97
  let v159 : Index := Scalar.indexCast v138
  ![4, v159.toNat]
def k1_off30 (k1_t3 : Fin k1_t3_loop.trips) : Fin 2 → Nat :=
  let c5_i32_103 : BitVec 32 := 5#32
  let v162 : Index := Scalar.indexCast c5_i32_103
  let c32_i32_96 : BitVec 32 := 32#32
  let c0_i32_29 : BitVec 32 := 0#32
  let c1_i32_31 : BitVec 32 := 1#32
  let arg19 : BitVec 32 := Scf.iv c0_i32_29 c1_i32_31 k1_t3
  let c1_i32_95 : BitVec 32 := 1#32
  let v136 : BitVec 32 := Scalar.muli arg19 c1_i32_95
  let v137 : BitVec 32 := Scalar.addi c32_i32_96 v136
  let c16_i32_97 : BitVec 32 := 16#32
  let v138 : BitVec 32 := Scalar.muli v137 c16_i32_97
  let v163 : Index := Scalar.indexCast v138
  ![5, v163.toNat]
def k1_off31 (k1_t3 : Fin k1_t3_loop.trips) : Fin 2 → Nat :=
  let c6_i32_104 : BitVec 32 := 6#32
  let v166 : Index := Scalar.indexCast c6_i32_104
  let c32_i32_96 : BitVec 32 := 32#32
  let c0_i32_29 : BitVec 32 := 0#32
  let c1_i32_31 : BitVec 32 := 1#32
  let arg19 : BitVec 32 := Scf.iv c0_i32_29 c1_i32_31 k1_t3
  let c1_i32_95 : BitVec 32 := 1#32
  let v136 : BitVec 32 := Scalar.muli arg19 c1_i32_95
  let v137 : BitVec 32 := Scalar.addi c32_i32_96 v136
  let c16_i32_97 : BitVec 32 := 16#32
  let v138 : BitVec 32 := Scalar.muli v137 c16_i32_97
  let v167 : Index := Scalar.indexCast v138
  ![6, v167.toNat]
def k1_off32 (k1_t3 : Fin k1_t3_loop.trips) : Fin 2 → Nat :=
  let c7_i32_105 : BitVec 32 := 7#32
  let v170 : Index := Scalar.indexCast c7_i32_105
  let c32_i32_96 : BitVec 32 := 32#32
  let c0_i32_29 : BitVec 32 := 0#32
  let c1_i32_31 : BitVec 32 := 1#32
  let arg19 : BitVec 32 := Scf.iv c0_i32_29 c1_i32_31 k1_t3
  let c1_i32_95 : BitVec 32 := 1#32
  let v136 : BitVec 32 := Scalar.muli arg19 c1_i32_95
  let v137 : BitVec 32 := Scalar.addi c32_i32_96 v136
  let c16_i32_97 : BitVec 32 := 16#32
  let v138 : BitVec 32 := Scalar.muli v137 c16_i32_97
  let v171 : Index := Scalar.indexCast v138
  ![7, v171.toNat]
def k1_off33 (k1_t3 : Fin k1_t3_loop.trips) : Fin 2 → Nat :=
  let c8_i32_106 : BitVec 32 := 8#32
  let v174 : Index := Scalar.indexCast c8_i32_106
  let c32_i32_96 : BitVec 32 := 32#32
  let c0_i32_29 : BitVec 32 := 0#32
  let c1_i32_31 : BitVec 32 := 1#32
  let arg19 : BitVec 32 := Scf.iv c0_i32_29 c1_i32_31 k1_t3
  let c1_i32_95 : BitVec 32 := 1#32
  let v136 : BitVec 32 := Scalar.muli arg19 c1_i32_95
  let v137 : BitVec 32 := Scalar.addi c32_i32_96 v136
  let c16_i32_97 : BitVec 32 := 16#32
  let v138 : BitVec 32 := Scalar.muli v137 c16_i32_97
  let v175 : Index := Scalar.indexCast v138
  ![8, v175.toNat]
def k1_off34 (k1_t3 : Fin k1_t3_loop.trips) : Fin 2 → Nat :=
  let c9_i32_107 : BitVec 32 := 9#32
  let v178 : Index := Scalar.indexCast c9_i32_107
  let c32_i32_96 : BitVec 32 := 32#32
  let c0_i32_29 : BitVec 32 := 0#32
  let c1_i32_31 : BitVec 32 := 1#32
  let arg19 : BitVec 32 := Scf.iv c0_i32_29 c1_i32_31 k1_t3
  let c1_i32_95 : BitVec 32 := 1#32
  let v136 : BitVec 32 := Scalar.muli arg19 c1_i32_95
  let v137 : BitVec 32 := Scalar.addi c32_i32_96 v136
  let c16_i32_97 : BitVec 32 := 16#32
  let v138 : BitVec 32 := Scalar.muli v137 c16_i32_97
  let v179 : Index := Scalar.indexCast v138
  ![9, v179.toNat]
def k1_off35 (k1_t3 : Fin k1_t3_loop.trips) : Fin 2 → Nat :=
  let c10_i32_108 : BitVec 32 := 10#32
  let v182 : Index := Scalar.indexCast c10_i32_108
  let c32_i32_96 : BitVec 32 := 32#32
  let c0_i32_29 : BitVec 32 := 0#32
  let c1_i32_31 : BitVec 32 := 1#32
  let arg19 : BitVec 32 := Scf.iv c0_i32_29 c1_i32_31 k1_t3
  let c1_i32_95 : BitVec 32 := 1#32
  let v136 : BitVec 32 := Scalar.muli arg19 c1_i32_95
  let v137 : BitVec 32 := Scalar.addi c32_i32_96 v136
  let c16_i32_97 : BitVec 32 := 16#32
  let v138 : BitVec 32 := Scalar.muli v137 c16_i32_97
  let v183 : Index := Scalar.indexCast v138
  ![10, v183.toNat]
def k1_off36 (k1_t3 : Fin k1_t3_loop.trips) : Fin 2 → Nat :=
  let c11_i32_109 : BitVec 32 := 11#32
  let v186 : Index := Scalar.indexCast c11_i32_109
  let c32_i32_96 : BitVec 32 := 32#32
  let c0_i32_29 : BitVec 32 := 0#32
  let c1_i32_31 : BitVec 32 := 1#32
  let arg19 : BitVec 32 := Scf.iv c0_i32_29 c1_i32_31 k1_t3
  let c1_i32_95 : BitVec 32 := 1#32
  let v136 : BitVec 32 := Scalar.muli arg19 c1_i32_95
  let v137 : BitVec 32 := Scalar.addi c32_i32_96 v136
  let c16_i32_97 : BitVec 32 := 16#32
  let v138 : BitVec 32 := Scalar.muli v137 c16_i32_97
  let v187 : Index := Scalar.indexCast v138
  ![11, v187.toNat]
def k1_off37 (k1_t3 : Fin k1_t3_loop.trips) : Fin 2 → Nat :=
  let c12_i32_110 : BitVec 32 := 12#32
  let v190 : Index := Scalar.indexCast c12_i32_110
  let c32_i32_96 : BitVec 32 := 32#32
  let c0_i32_29 : BitVec 32 := 0#32
  let c1_i32_31 : BitVec 32 := 1#32
  let arg19 : BitVec 32 := Scf.iv c0_i32_29 c1_i32_31 k1_t3
  let c1_i32_95 : BitVec 32 := 1#32
  let v136 : BitVec 32 := Scalar.muli arg19 c1_i32_95
  let v137 : BitVec 32 := Scalar.addi c32_i32_96 v136
  let c16_i32_97 : BitVec 32 := 16#32
  let v138 : BitVec 32 := Scalar.muli v137 c16_i32_97
  let v191 : Index := Scalar.indexCast v138
  ![12, v191.toNat]
def k1_off38 (k1_t3 : Fin k1_t3_loop.trips) : Fin 2 → Nat :=
  let c13_i32_111 : BitVec 32 := 13#32
  let v194 : Index := Scalar.indexCast c13_i32_111
  let c32_i32_96 : BitVec 32 := 32#32
  let c0_i32_29 : BitVec 32 := 0#32
  let c1_i32_31 : BitVec 32 := 1#32
  let arg19 : BitVec 32 := Scf.iv c0_i32_29 c1_i32_31 k1_t3
  let c1_i32_95 : BitVec 32 := 1#32
  let v136 : BitVec 32 := Scalar.muli arg19 c1_i32_95
  let v137 : BitVec 32 := Scalar.addi c32_i32_96 v136
  let c16_i32_97 : BitVec 32 := 16#32
  let v138 : BitVec 32 := Scalar.muli v137 c16_i32_97
  let v195 : Index := Scalar.indexCast v138
  ![13, v195.toNat]
def k1_off39 (k1_t3 : Fin k1_t3_loop.trips) : Fin 2 → Nat :=
  let c14_i32_112 : BitVec 32 := 14#32
  let v198 : Index := Scalar.indexCast c14_i32_112
  let c32_i32_96 : BitVec 32 := 32#32
  let c0_i32_29 : BitVec 32 := 0#32
  let c1_i32_31 : BitVec 32 := 1#32
  let arg19 : BitVec 32 := Scf.iv c0_i32_29 c1_i32_31 k1_t3
  let c1_i32_95 : BitVec 32 := 1#32
  let v136 : BitVec 32 := Scalar.muli arg19 c1_i32_95
  let v137 : BitVec 32 := Scalar.addi c32_i32_96 v136
  let c16_i32_97 : BitVec 32 := 16#32
  let v138 : BitVec 32 := Scalar.muli v137 c16_i32_97
  let v199 : Index := Scalar.indexCast v138
  ![14, v199.toNat]

def k1_chk4 (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v140 : IVec S16 32) : Prop :=
  (∀ a x, ((![v37, v140] : Fin 2 → IVec S16 32) a x).toNat < S16x2048.size a) ∧
  (∀ a x, ((![v38, v140] : Fin 2 → IVec S16 32) a x).toNat < S16x2048.size a) ∧
  (∀ a x, ((![v39, v140] : Fin 2 → IVec S16 32) a x).toNat < S16x2048.size a) ∧
  (∀ a x, ((![v40, v140] : Fin 2 → IVec S16 32) a x).toNat < S16x2048.size a) ∧
  (∀ a x, ((![v41, v140] : Fin 2 → IVec S16 32) a x).toNat < S16x2048.size a) ∧
  (∀ a x, ((![v42, v140] : Fin 2 → IVec S16 32) a x).toNat < S16x2048.size a) ∧
  (∀ a x, ((![v43, v140] : Fin 2 → IVec S16 32) a x).toNat < S16x2048.size a) ∧
  (∀ a x, ((![v44, v140] : Fin 2 → IVec S16 32) a x).toNat < S16x2048.size a) ∧
  (∀ a x, ((![v45, v140] : Fin 2 → IVec S16 32) a x).toNat < S16x2048.size a) ∧
  (∀ a x, ((![v46, v140] : Fin 2 → IVec S16 32) a x).toNat < S16x2048.size a) ∧
  (∀ a x, ((![v47, v140] : Fin 2 → IVec S16 32) a x).toNat < S16x2048.size a) ∧
  (∀ a x, ((![v48, v140] : Fin 2 → IVec S16 32) a x).toNat < S16x2048.size a) ∧
  (∀ a x, ((![v49, v140] : Fin 2 → IVec S16 32) a x).toNat < S16x2048.size a) ∧
  (∀ a x, ((![v50, v140] : Fin 2 → IVec S16 32) a x).toNat < S16x2048.size a) ∧
  (∀ a x, ((![v51, v140] : Fin 2 → IVec S16 32) a x).toNat < S16x2048.size a) ∧
  (∀ a x, ((![v52, v140] : Fin 2 → IVec S16 32) a x).toNat < S16x2048.size a)
theorem k1_idx34_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v140 : IVec S16 32) (k1_hw4 : k1_chk4 v37 v38 v39 v40 v41 v42 v43 v44 v45 v46 v47 v48 v49 v50 v51 v52 v140), ∀ a x, ((![v37, v140] : Fin 2 → IVec S16 32) a x).toNat < S16x2048.size a := fun v37 v38 v39 v40 v41 v42 v43 v44 v45 v46 v47 v48 v49 v50 v51 v52 v140 k1_hw4 => k1_hw4.1
theorem k1_idx35_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v140 : IVec S16 32) (k1_hw4 : k1_chk4 v37 v38 v39 v40 v41 v42 v43 v44 v45 v46 v47 v48 v49 v50 v51 v52 v140), ∀ a x, ((![v38, v140] : Fin 2 → IVec S16 32) a x).toNat < S16x2048.size a := fun v37 v38 v39 v40 v41 v42 v43 v44 v45 v46 v47 v48 v49 v50 v51 v52 v140 k1_hw4 => k1_hw4.2.1
theorem k1_idx36_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v140 : IVec S16 32) (k1_hw4 : k1_chk4 v37 v38 v39 v40 v41 v42 v43 v44 v45 v46 v47 v48 v49 v50 v51 v52 v140), ∀ a x, ((![v39, v140] : Fin 2 → IVec S16 32) a x).toNat < S16x2048.size a := fun v37 v38 v39 v40 v41 v42 v43 v44 v45 v46 v47 v48 v49 v50 v51 v52 v140 k1_hw4 => k1_hw4.2.2.1
theorem k1_idx37_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v140 : IVec S16 32) (k1_hw4 : k1_chk4 v37 v38 v39 v40 v41 v42 v43 v44 v45 v46 v47 v48 v49 v50 v51 v52 v140), ∀ a x, ((![v40, v140] : Fin 2 → IVec S16 32) a x).toNat < S16x2048.size a := fun v37 v38 v39 v40 v41 v42 v43 v44 v45 v46 v47 v48 v49 v50 v51 v52 v140 k1_hw4 => k1_hw4.2.2.2.1
theorem k1_idx38_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v140 : IVec S16 32) (k1_hw4 : k1_chk4 v37 v38 v39 v40 v41 v42 v43 v44 v45 v46 v47 v48 v49 v50 v51 v52 v140), ∀ a x, ((![v41, v140] : Fin 2 → IVec S16 32) a x).toNat < S16x2048.size a := fun v37 v38 v39 v40 v41 v42 v43 v44 v45 v46 v47 v48 v49 v50 v51 v52 v140 k1_hw4 => k1_hw4.2.2.2.2.1
theorem k1_idx39_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v140 : IVec S16 32) (k1_hw4 : k1_chk4 v37 v38 v39 v40 v41 v42 v43 v44 v45 v46 v47 v48 v49 v50 v51 v52 v140), ∀ a x, ((![v42, v140] : Fin 2 → IVec S16 32) a x).toNat < S16x2048.size a := fun v37 v38 v39 v40 v41 v42 v43 v44 v45 v46 v47 v48 v49 v50 v51 v52 v140 k1_hw4 => k1_hw4.2.2.2.2.2.1
theorem k1_idx40_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v140 : IVec S16 32) (k1_hw4 : k1_chk4 v37 v38 v39 v40 v41 v42 v43 v44 v45 v46 v47 v48 v49 v50 v51 v52 v140), ∀ a x, ((![v43, v140] : Fin 2 → IVec S16 32) a x).toNat < S16x2048.size a := fun v37 v38 v39 v40 v41 v42 v43 v44 v45 v46 v47 v48 v49 v50 v51 v52 v140 k1_hw4 => k1_hw4.2.2.2.2.2.2.1
theorem k1_idx41_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v140 : IVec S16 32) (k1_hw4 : k1_chk4 v37 v38 v39 v40 v41 v42 v43 v44 v45 v46 v47 v48 v49 v50 v51 v52 v140), ∀ a x, ((![v44, v140] : Fin 2 → IVec S16 32) a x).toNat < S16x2048.size a := fun v37 v38 v39 v40 v41 v42 v43 v44 v45 v46 v47 v48 v49 v50 v51 v52 v140 k1_hw4 => k1_hw4.2.2.2.2.2.2.2.1
theorem k1_idx42_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v140 : IVec S16 32) (k1_hw4 : k1_chk4 v37 v38 v39 v40 v41 v42 v43 v44 v45 v46 v47 v48 v49 v50 v51 v52 v140), ∀ a x, ((![v45, v140] : Fin 2 → IVec S16 32) a x).toNat < S16x2048.size a := fun v37 v38 v39 v40 v41 v42 v43 v44 v45 v46 v47 v48 v49 v50 v51 v52 v140 k1_hw4 => k1_hw4.2.2.2.2.2.2.2.2.1
theorem k1_idx43_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v140 : IVec S16 32) (k1_hw4 : k1_chk4 v37 v38 v39 v40 v41 v42 v43 v44 v45 v46 v47 v48 v49 v50 v51 v52 v140), ∀ a x, ((![v46, v140] : Fin 2 → IVec S16 32) a x).toNat < S16x2048.size a := fun v37 v38 v39 v40 v41 v42 v43 v44 v45 v46 v47 v48 v49 v50 v51 v52 v140 k1_hw4 => k1_hw4.2.2.2.2.2.2.2.2.2.1
theorem k1_idx44_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v140 : IVec S16 32) (k1_hw4 : k1_chk4 v37 v38 v39 v40 v41 v42 v43 v44 v45 v46 v47 v48 v49 v50 v51 v52 v140), ∀ a x, ((![v47, v140] : Fin 2 → IVec S16 32) a x).toNat < S16x2048.size a := fun v37 v38 v39 v40 v41 v42 v43 v44 v45 v46 v47 v48 v49 v50 v51 v52 v140 k1_hw4 => k1_hw4.2.2.2.2.2.2.2.2.2.2.1
theorem k1_idx45_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v140 : IVec S16 32) (k1_hw4 : k1_chk4 v37 v38 v39 v40 v41 v42 v43 v44 v45 v46 v47 v48 v49 v50 v51 v52 v140), ∀ a x, ((![v48, v140] : Fin 2 → IVec S16 32) a x).toNat < S16x2048.size a := fun v37 v38 v39 v40 v41 v42 v43 v44 v45 v46 v47 v48 v49 v50 v51 v52 v140 k1_hw4 => k1_hw4.2.2.2.2.2.2.2.2.2.2.2.1
theorem k1_idx46_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v140 : IVec S16 32) (k1_hw4 : k1_chk4 v37 v38 v39 v40 v41 v42 v43 v44 v45 v46 v47 v48 v49 v50 v51 v52 v140), ∀ a x, ((![v49, v140] : Fin 2 → IVec S16 32) a x).toNat < S16x2048.size a := fun v37 v38 v39 v40 v41 v42 v43 v44 v45 v46 v47 v48 v49 v50 v51 v52 v140 k1_hw4 => k1_hw4.2.2.2.2.2.2.2.2.2.2.2.2.1
theorem k1_idx47_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v140 : IVec S16 32) (k1_hw4 : k1_chk4 v37 v38 v39 v40 v41 v42 v43 v44 v45 v46 v47 v48 v49 v50 v51 v52 v140), ∀ a x, ((![v50, v140] : Fin 2 → IVec S16 32) a x).toNat < S16x2048.size a := fun v37 v38 v39 v40 v41 v42 v43 v44 v45 v46 v47 v48 v49 v50 v51 v52 v140 k1_hw4 => k1_hw4.2.2.2.2.2.2.2.2.2.2.2.2.2.1
theorem k1_idx48_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v140 : IVec S16 32) (k1_hw4 : k1_chk4 v37 v38 v39 v40 v41 v42 v43 v44 v45 v46 v47 v48 v49 v50 v51 v52 v140), ∀ a x, ((![v51, v140] : Fin 2 → IVec S16 32) a x).toNat < S16x2048.size a := fun v37 v38 v39 v40 v41 v42 v43 v44 v45 v46 v47 v48 v49 v50 v51 v52 v140 k1_hw4 => k1_hw4.2.2.2.2.2.2.2.2.2.2.2.2.2.2.1
theorem k1_idx49_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v140 : IVec S16 32) (k1_hw4 : k1_chk4 v37 v38 v39 v40 v41 v42 v43 v44 v45 v46 v47 v48 v49 v50 v51 v52 v140), ∀ a x, ((![v52, v140] : Fin 2 → IVec S16 32) a x).toNat < S16x2048.size a := fun v37 v38 v39 v40 v41 v42 v43 v44 v45 v46 v47 v48 v49 v50 v51 v52 v140 k1_hw4 => k1_hw4.2.2.2.2.2.2.2.2.2.2.2.2.2.2.2
def k1_off40 (k1_t3 : Fin k1_t3_loop.trips) : Fin 2 → Nat :=
  let c15_i32_113 : BitVec 32 := 15#32
  let v202 : Index := Scalar.indexCast c15_i32_113
  let c32_i32_96 : BitVec 32 := 32#32
  let c0_i32_29 : BitVec 32 := 0#32
  let c1_i32_31 : BitVec 32 := 1#32
  let arg19 : BitVec 32 := Scf.iv c0_i32_29 c1_i32_31 k1_t3
  let c1_i32_95 : BitVec 32 := 1#32
  let v136 : BitVec 32 := Scalar.muli arg19 c1_i32_95
  let v137 : BitVec 32 := Scalar.addi c32_i32_96 v136
  let c16_i32_97 : BitVec 32 := 16#32
  let v138 : BitVec 32 := Scalar.muli v137 c16_i32_97
  let v203 : Index := Scalar.indexCast v138
  ![15, v203.toNat]
def k1_off41 (i : grid1.Coords) (c0_i32_33 : BitVec 32) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c64_i32 : BitVec 32 := 64#32
  let v29 : BitVec 32 := Scalar.muli v28 c64_i32
  let v65 : BitVec 32 := Scalar.addi v29 c0_i32_33
  let c0_i32_34 : BitVec 32 := 0#32
  ![v18.toNat, v65.toNat, 0]
def k1_off42 (i : grid1.Coords) (c32_i32_36 : BitVec 32) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c64_i32 : BitVec 32 := 64#32
  let v29 : BitVec 32 := Scalar.muli v28 c64_i32
  let v70 : BitVec 32 := Scalar.addi v29 c32_i32_36
  let c0_i32_37 : BitVec 32 := 0#32
  ![v18.toNat, v70.toNat, 0]
@[reducible] def k1_t4_loop : Scf.Loop 32 :=
  let c0_i32_42 : BitVec 32 := 0#32
  let c32_i32_43 : BitVec 32 := 32#32
  let v80 : BitVec 32 := Scalar.addi c0_i32_42 c32_i32_43
  let c1_i32_44 : BitVec 32 := 1#32
  ⟨c0_i32_42, v80, c1_i32_44⟩
def k1_off43 (k1_t4 : Fin k1_t4_loop.trips) : Fin 1 → Nat :=
  let c0_i32_96 : BitVec 32 := 0#32
  let c0_i32_42 : BitVec 32 := 0#32
  let c1_i32_44 : BitVec 32 := 1#32
  let arg19 : BitVec 32 := Scf.iv c0_i32_42 c1_i32_44 k1_t4
  let c1_i32_95 : BitVec 32 := 1#32
  let v136 : BitVec 32 := Scalar.muli arg19 c1_i32_95
  let v137 : BitVec 32 := Scalar.addi c0_i32_96 v136
  let c16_i32_97 : BitVec 32 := 16#32
  let v138 : BitVec 32 := Scalar.muli v137 c16_i32_97
  let v139 : Index := Scalar.indexCast v138
  ![v139.toNat]
def k1_off44 (k1_t4 : Fin k1_t4_loop.trips) : Fin 2 → Nat :=
  let c0_i32_98 : BitVec 32 := 0#32
  let v149 : Index := Scalar.indexCast c0_i32_98
  let c0_i32_96 : BitVec 32 := 0#32
  let c0_i32_42 : BitVec 32 := 0#32
  let c1_i32_44 : BitVec 32 := 1#32
  let arg19 : BitVec 32 := Scf.iv c0_i32_42 c1_i32_44 k1_t4
  let c1_i32_95 : BitVec 32 := 1#32
  let v136 : BitVec 32 := Scalar.muli arg19 c1_i32_95
  let v137 : BitVec 32 := Scalar.addi c0_i32_96 v136
  let c16_i32_97 : BitVec 32 := 16#32
  let v138 : BitVec 32 := Scalar.muli v137 c16_i32_97
  let v150 : Index := Scalar.indexCast v138
  ![0, v150.toNat]
def k1_off45 (k1_t4 : Fin k1_t4_loop.trips) : Fin 2 → Nat :=
  let c1_i32_99 : BitVec 32 := 1#32
  let v156 : Index := Scalar.indexCast c1_i32_99
  let c0_i32_96 : BitVec 32 := 0#32
  let c0_i32_42 : BitVec 32 := 0#32
  let c1_i32_44 : BitVec 32 := 1#32
  let arg19 : BitVec 32 := Scf.iv c0_i32_42 c1_i32_44 k1_t4
  let c1_i32_95 : BitVec 32 := 1#32
  let v136 : BitVec 32 := Scalar.muli arg19 c1_i32_95
  let v137 : BitVec 32 := Scalar.addi c0_i32_96 v136
  let c16_i32_97 : BitVec 32 := 16#32
  let v138 : BitVec 32 := Scalar.muli v137 c16_i32_97
  let v157 : Index := Scalar.indexCast v138
  ![1, v157.toNat]
def k1_off46 (k1_t4 : Fin k1_t4_loop.trips) : Fin 2 → Nat :=
  let c2_i32_100 : BitVec 32 := 2#32
  let v163 : Index := Scalar.indexCast c2_i32_100
  let c0_i32_96 : BitVec 32 := 0#32
  let c0_i32_42 : BitVec 32 := 0#32
  let c1_i32_44 : BitVec 32 := 1#32
  let arg19 : BitVec 32 := Scf.iv c0_i32_42 c1_i32_44 k1_t4
  let c1_i32_95 : BitVec 32 := 1#32
  let v136 : BitVec 32 := Scalar.muli arg19 c1_i32_95
  let v137 : BitVec 32 := Scalar.addi c0_i32_96 v136
  let c16_i32_97 : BitVec 32 := 16#32
  let v138 : BitVec 32 := Scalar.muli v137 c16_i32_97
  let v164 : Index := Scalar.indexCast v138
  ![2, v164.toNat]
def k1_off47 (k1_t4 : Fin k1_t4_loop.trips) : Fin 2 → Nat :=
  let c3_i32_101 : BitVec 32 := 3#32
  let v170 : Index := Scalar.indexCast c3_i32_101
  let c0_i32_96 : BitVec 32 := 0#32
  let c0_i32_42 : BitVec 32 := 0#32
  let c1_i32_44 : BitVec 32 := 1#32
  let arg19 : BitVec 32 := Scf.iv c0_i32_42 c1_i32_44 k1_t4
  let c1_i32_95 : BitVec 32 := 1#32
  let v136 : BitVec 32 := Scalar.muli arg19 c1_i32_95
  let v137 : BitVec 32 := Scalar.addi c0_i32_96 v136
  let c16_i32_97 : BitVec 32 := 16#32
  let v138 : BitVec 32 := Scalar.muli v137 c16_i32_97
  let v171 : Index := Scalar.indexCast v138
  ![3, v171.toNat]
def k1_off48 (k1_t4 : Fin k1_t4_loop.trips) : Fin 2 → Nat :=
  let c4_i32_102 : BitVec 32 := 4#32
  let v177 : Index := Scalar.indexCast c4_i32_102
  let c0_i32_96 : BitVec 32 := 0#32
  let c0_i32_42 : BitVec 32 := 0#32
  let c1_i32_44 : BitVec 32 := 1#32
  let arg19 : BitVec 32 := Scf.iv c0_i32_42 c1_i32_44 k1_t4
  let c1_i32_95 : BitVec 32 := 1#32
  let v136 : BitVec 32 := Scalar.muli arg19 c1_i32_95
  let v137 : BitVec 32 := Scalar.addi c0_i32_96 v136
  let c16_i32_97 : BitVec 32 := 16#32
  let v138 : BitVec 32 := Scalar.muli v137 c16_i32_97
  let v178 : Index := Scalar.indexCast v138
  ![4, v178.toNat]
def k1_off49 (k1_t4 : Fin k1_t4_loop.trips) : Fin 2 → Nat :=
  let c5_i32_103 : BitVec 32 := 5#32
  let v184 : Index := Scalar.indexCast c5_i32_103
  let c0_i32_96 : BitVec 32 := 0#32
  let c0_i32_42 : BitVec 32 := 0#32
  let c1_i32_44 : BitVec 32 := 1#32
  let arg19 : BitVec 32 := Scf.iv c0_i32_42 c1_i32_44 k1_t4
  let c1_i32_95 : BitVec 32 := 1#32
  let v136 : BitVec 32 := Scalar.muli arg19 c1_i32_95
  let v137 : BitVec 32 := Scalar.addi c0_i32_96 v136
  let c16_i32_97 : BitVec 32 := 16#32
  let v138 : BitVec 32 := Scalar.muli v137 c16_i32_97
  let v185 : Index := Scalar.indexCast v138
  ![5, v185.toNat]
def k1_off50 (k1_t4 : Fin k1_t4_loop.trips) : Fin 2 → Nat :=
  let c6_i32_104 : BitVec 32 := 6#32
  let v191 : Index := Scalar.indexCast c6_i32_104
  let c0_i32_96 : BitVec 32 := 0#32
  let c0_i32_42 : BitVec 32 := 0#32
  let c1_i32_44 : BitVec 32 := 1#32
  let arg19 : BitVec 32 := Scf.iv c0_i32_42 c1_i32_44 k1_t4
  let c1_i32_95 : BitVec 32 := 1#32
  let v136 : BitVec 32 := Scalar.muli arg19 c1_i32_95
  let v137 : BitVec 32 := Scalar.addi c0_i32_96 v136
  let c16_i32_97 : BitVec 32 := 16#32
  let v138 : BitVec 32 := Scalar.muli v137 c16_i32_97
  let v192 : Index := Scalar.indexCast v138
  ![6, v192.toNat]
def k1_off51 (k1_t4 : Fin k1_t4_loop.trips) : Fin 2 → Nat :=
  let c7_i32_105 : BitVec 32 := 7#32
  let v198 : Index := Scalar.indexCast c7_i32_105
  let c0_i32_96 : BitVec 32 := 0#32
  let c0_i32_42 : BitVec 32 := 0#32
  let c1_i32_44 : BitVec 32 := 1#32
  let arg19 : BitVec 32 := Scf.iv c0_i32_42 c1_i32_44 k1_t4
  let c1_i32_95 : BitVec 32 := 1#32
  let v136 : BitVec 32 := Scalar.muli arg19 c1_i32_95
  let v137 : BitVec 32 := Scalar.addi c0_i32_96 v136
  let c16_i32_97 : BitVec 32 := 16#32
  let v138 : BitVec 32 := Scalar.muli v137 c16_i32_97
  let v199 : Index := Scalar.indexCast v138
  ![7, v199.toNat]
def k1_off52 (k1_t4 : Fin k1_t4_loop.trips) : Fin 2 → Nat :=
  let c8_i32_106 : BitVec 32 := 8#32
  let v205 : Index := Scalar.indexCast c8_i32_106
  let c0_i32_96 : BitVec 32 := 0#32
  let c0_i32_42 : BitVec 32 := 0#32
  let c1_i32_44 : BitVec 32 := 1#32
  let arg19 : BitVec 32 := Scf.iv c0_i32_42 c1_i32_44 k1_t4
  let c1_i32_95 : BitVec 32 := 1#32
  let v136 : BitVec 32 := Scalar.muli arg19 c1_i32_95
  let v137 : BitVec 32 := Scalar.addi c0_i32_96 v136
  let c16_i32_97 : BitVec 32 := 16#32
  let v138 : BitVec 32 := Scalar.muli v137 c16_i32_97
  let v206 : Index := Scalar.indexCast v138
  ![8, v206.toNat]
def k1_off53 (k1_t4 : Fin k1_t4_loop.trips) : Fin 2 → Nat :=
  let c9_i32_107 : BitVec 32 := 9#32
  let v212 : Index := Scalar.indexCast c9_i32_107
  let c0_i32_96 : BitVec 32 := 0#32
  let c0_i32_42 : BitVec 32 := 0#32
  let c1_i32_44 : BitVec 32 := 1#32
  let arg19 : BitVec 32 := Scf.iv c0_i32_42 c1_i32_44 k1_t4
  let c1_i32_95 : BitVec 32 := 1#32
  let v136 : BitVec 32 := Scalar.muli arg19 c1_i32_95
  let v137 : BitVec 32 := Scalar.addi c0_i32_96 v136
  let c16_i32_97 : BitVec 32 := 16#32
  let v138 : BitVec 32 := Scalar.muli v137 c16_i32_97
  let v213 : Index := Scalar.indexCast v138
  ![9, v213.toNat]
def k1_off54 (k1_t4 : Fin k1_t4_loop.trips) : Fin 2 → Nat :=
  let c10_i32_108 : BitVec 32 := 10#32
  let v219 : Index := Scalar.indexCast c10_i32_108
  let c0_i32_96 : BitVec 32 := 0#32
  let c0_i32_42 : BitVec 32 := 0#32
  let c1_i32_44 : BitVec 32 := 1#32
  let arg19 : BitVec 32 := Scf.iv c0_i32_42 c1_i32_44 k1_t4
  let c1_i32_95 : BitVec 32 := 1#32
  let v136 : BitVec 32 := Scalar.muli arg19 c1_i32_95
  let v137 : BitVec 32 := Scalar.addi c0_i32_96 v136
  let c16_i32_97 : BitVec 32 := 16#32
  let v138 : BitVec 32 := Scalar.muli v137 c16_i32_97
  let v220 : Index := Scalar.indexCast v138
  ![10, v220.toNat]
def k1_off55 (k1_t4 : Fin k1_t4_loop.trips) : Fin 2 → Nat :=
  let c11_i32_109 : BitVec 32 := 11#32
  let v226 : Index := Scalar.indexCast c11_i32_109
  let c0_i32_96 : BitVec 32 := 0#32
  let c0_i32_42 : BitVec 32 := 0#32
  let c1_i32_44 : BitVec 32 := 1#32
  let arg19 : BitVec 32 := Scf.iv c0_i32_42 c1_i32_44 k1_t4
  let c1_i32_95 : BitVec 32 := 1#32
  let v136 : BitVec 32 := Scalar.muli arg19 c1_i32_95
  let v137 : BitVec 32 := Scalar.addi c0_i32_96 v136
  let c16_i32_97 : BitVec 32 := 16#32
  let v138 : BitVec 32 := Scalar.muli v137 c16_i32_97
  let v227 : Index := Scalar.indexCast v138
  ![11, v227.toNat]
def k1_off56 (k1_t4 : Fin k1_t4_loop.trips) : Fin 2 → Nat :=
  let c12_i32_110 : BitVec 32 := 12#32
  let v233 : Index := Scalar.indexCast c12_i32_110
  let c0_i32_96 : BitVec 32 := 0#32
  let c0_i32_42 : BitVec 32 := 0#32
  let c1_i32_44 : BitVec 32 := 1#32
  let arg19 : BitVec 32 := Scf.iv c0_i32_42 c1_i32_44 k1_t4
  let c1_i32_95 : BitVec 32 := 1#32
  let v136 : BitVec 32 := Scalar.muli arg19 c1_i32_95
  let v137 : BitVec 32 := Scalar.addi c0_i32_96 v136
  let c16_i32_97 : BitVec 32 := 16#32
  let v138 : BitVec 32 := Scalar.muli v137 c16_i32_97
  let v234 : Index := Scalar.indexCast v138
  ![12, v234.toNat]
def k1_off57 (k1_t4 : Fin k1_t4_loop.trips) : Fin 2 → Nat :=
  let c13_i32_111 : BitVec 32 := 13#32
  let v240 : Index := Scalar.indexCast c13_i32_111
  let c0_i32_96 : BitVec 32 := 0#32
  let c0_i32_42 : BitVec 32 := 0#32
  let c1_i32_44 : BitVec 32 := 1#32
  let arg19 : BitVec 32 := Scf.iv c0_i32_42 c1_i32_44 k1_t4
  let c1_i32_95 : BitVec 32 := 1#32
  let v136 : BitVec 32 := Scalar.muli arg19 c1_i32_95
  let v137 : BitVec 32 := Scalar.addi c0_i32_96 v136
  let c16_i32_97 : BitVec 32 := 16#32
  let v138 : BitVec 32 := Scalar.muli v137 c16_i32_97
  let v241 : Index := Scalar.indexCast v138
  ![13, v241.toNat]
def k1_off58 (k1_t4 : Fin k1_t4_loop.trips) : Fin 2 → Nat :=
  let c14_i32_112 : BitVec 32 := 14#32
  let v247 : Index := Scalar.indexCast c14_i32_112
  let c0_i32_96 : BitVec 32 := 0#32
  let c0_i32_42 : BitVec 32 := 0#32
  let c1_i32_44 : BitVec 32 := 1#32
  let arg19 : BitVec 32 := Scf.iv c0_i32_42 c1_i32_44 k1_t4
  let c1_i32_95 : BitVec 32 := 1#32
  let v136 : BitVec 32 := Scalar.muli arg19 c1_i32_95
  let v137 : BitVec 32 := Scalar.addi c0_i32_96 v136
  let c16_i32_97 : BitVec 32 := 16#32
  let v138 : BitVec 32 := Scalar.muli v137 c16_i32_97
  let v248 : Index := Scalar.indexCast v138
  ![14, v248.toNat]

def k1_chk5 (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v140 : IVec S16 32) : Prop :=
  (∀ a x, ((![v37, v140] : Fin 2 → IVec S16 32) a x).toNat < S16x2048.size a) ∧
  (∀ a x, ((![v38, v140] : Fin 2 → IVec S16 32) a x).toNat < S16x2048.size a) ∧
  (∀ a x, ((![v39, v140] : Fin 2 → IVec S16 32) a x).toNat < S16x2048.size a) ∧
  (∀ a x, ((![v40, v140] : Fin 2 → IVec S16 32) a x).toNat < S16x2048.size a) ∧
  (∀ a x, ((![v41, v140] : Fin 2 → IVec S16 32) a x).toNat < S16x2048.size a) ∧
  (∀ a x, ((![v42, v140] : Fin 2 → IVec S16 32) a x).toNat < S16x2048.size a) ∧
  (∀ a x, ((![v43, v140] : Fin 2 → IVec S16 32) a x).toNat < S16x2048.size a) ∧
  (∀ a x, ((![v44, v140] : Fin 2 → IVec S16 32) a x).toNat < S16x2048.size a) ∧
  (∀ a x, ((![v45, v140] : Fin 2 → IVec S16 32) a x).toNat < S16x2048.size a) ∧
  (∀ a x, ((![v46, v140] : Fin 2 → IVec S16 32) a x).toNat < S16x2048.size a) ∧
  (∀ a x, ((![v47, v140] : Fin 2 → IVec S16 32) a x).toNat < S16x2048.size a) ∧
  (∀ a x, ((![v48, v140] : Fin 2 → IVec S16 32) a x).toNat < S16x2048.size a) ∧
  (∀ a x, ((![v49, v140] : Fin 2 → IVec S16 32) a x).toNat < S16x2048.size a) ∧
  (∀ a x, ((![v50, v140] : Fin 2 → IVec S16 32) a x).toNat < S16x2048.size a) ∧
  (∀ a x, ((![v51, v140] : Fin 2 → IVec S16 32) a x).toNat < S16x2048.size a) ∧
  (∀ a x, ((![v52, v140] : Fin 2 → IVec S16 32) a x).toNat < S16x2048.size a)
theorem k1_idx50_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v140 : IVec S16 32) (k1_hw5 : k1_chk5 v37 v38 v39 v40 v41 v42 v43 v44 v45 v46 v47 v48 v49 v50 v51 v52 v140), ∀ a x, ((![v37, v140] : Fin 2 → IVec S16 32) a x).toNat < S16x2048.size a := fun v37 v38 v39 v40 v41 v42 v43 v44 v45 v46 v47 v48 v49 v50 v51 v52 v140 k1_hw5 => k1_hw5.1
theorem k1_idx52_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v140 : IVec S16 32) (k1_hw5 : k1_chk5 v37 v38 v39 v40 v41 v42 v43 v44 v45 v46 v47 v48 v49 v50 v51 v52 v140), ∀ a x, ((![v38, v140] : Fin 2 → IVec S16 32) a x).toNat < S16x2048.size a := fun v37 v38 v39 v40 v41 v42 v43 v44 v45 v46 v47 v48 v49 v50 v51 v52 v140 k1_hw5 => k1_hw5.2.1
theorem k1_idx54_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v140 : IVec S16 32) (k1_hw5 : k1_chk5 v37 v38 v39 v40 v41 v42 v43 v44 v45 v46 v47 v48 v49 v50 v51 v52 v140), ∀ a x, ((![v39, v140] : Fin 2 → IVec S16 32) a x).toNat < S16x2048.size a := fun v37 v38 v39 v40 v41 v42 v43 v44 v45 v46 v47 v48 v49 v50 v51 v52 v140 k1_hw5 => k1_hw5.2.2.1
theorem k1_idx56_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v140 : IVec S16 32) (k1_hw5 : k1_chk5 v37 v38 v39 v40 v41 v42 v43 v44 v45 v46 v47 v48 v49 v50 v51 v52 v140), ∀ a x, ((![v40, v140] : Fin 2 → IVec S16 32) a x).toNat < S16x2048.size a := fun v37 v38 v39 v40 v41 v42 v43 v44 v45 v46 v47 v48 v49 v50 v51 v52 v140 k1_hw5 => k1_hw5.2.2.2.1
theorem k1_idx58_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v140 : IVec S16 32) (k1_hw5 : k1_chk5 v37 v38 v39 v40 v41 v42 v43 v44 v45 v46 v47 v48 v49 v50 v51 v52 v140), ∀ a x, ((![v41, v140] : Fin 2 → IVec S16 32) a x).toNat < S16x2048.size a := fun v37 v38 v39 v40 v41 v42 v43 v44 v45 v46 v47 v48 v49 v50 v51 v52 v140 k1_hw5 => k1_hw5.2.2.2.2.1
theorem k1_idx60_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v140 : IVec S16 32) (k1_hw5 : k1_chk5 v37 v38 v39 v40 v41 v42 v43 v44 v45 v46 v47 v48 v49 v50 v51 v52 v140), ∀ a x, ((![v42, v140] : Fin 2 → IVec S16 32) a x).toNat < S16x2048.size a := fun v37 v38 v39 v40 v41 v42 v43 v44 v45 v46 v47 v48 v49 v50 v51 v52 v140 k1_hw5 => k1_hw5.2.2.2.2.2.1
theorem k1_idx62_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v140 : IVec S16 32) (k1_hw5 : k1_chk5 v37 v38 v39 v40 v41 v42 v43 v44 v45 v46 v47 v48 v49 v50 v51 v52 v140), ∀ a x, ((![v43, v140] : Fin 2 → IVec S16 32) a x).toNat < S16x2048.size a := fun v37 v38 v39 v40 v41 v42 v43 v44 v45 v46 v47 v48 v49 v50 v51 v52 v140 k1_hw5 => k1_hw5.2.2.2.2.2.2.1
theorem k1_idx64_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v140 : IVec S16 32) (k1_hw5 : k1_chk5 v37 v38 v39 v40 v41 v42 v43 v44 v45 v46 v47 v48 v49 v50 v51 v52 v140), ∀ a x, ((![v44, v140] : Fin 2 → IVec S16 32) a x).toNat < S16x2048.size a := fun v37 v38 v39 v40 v41 v42 v43 v44 v45 v46 v47 v48 v49 v50 v51 v52 v140 k1_hw5 => k1_hw5.2.2.2.2.2.2.2.1
theorem k1_idx66_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v140 : IVec S16 32) (k1_hw5 : k1_chk5 v37 v38 v39 v40 v41 v42 v43 v44 v45 v46 v47 v48 v49 v50 v51 v52 v140), ∀ a x, ((![v45, v140] : Fin 2 → IVec S16 32) a x).toNat < S16x2048.size a := fun v37 v38 v39 v40 v41 v42 v43 v44 v45 v46 v47 v48 v49 v50 v51 v52 v140 k1_hw5 => k1_hw5.2.2.2.2.2.2.2.2.1
theorem k1_idx68_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v140 : IVec S16 32) (k1_hw5 : k1_chk5 v37 v38 v39 v40 v41 v42 v43 v44 v45 v46 v47 v48 v49 v50 v51 v52 v140), ∀ a x, ((![v46, v140] : Fin 2 → IVec S16 32) a x).toNat < S16x2048.size a := fun v37 v38 v39 v40 v41 v42 v43 v44 v45 v46 v47 v48 v49 v50 v51 v52 v140 k1_hw5 => k1_hw5.2.2.2.2.2.2.2.2.2.1
theorem k1_idx70_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v140 : IVec S16 32) (k1_hw5 : k1_chk5 v37 v38 v39 v40 v41 v42 v43 v44 v45 v46 v47 v48 v49 v50 v51 v52 v140), ∀ a x, ((![v47, v140] : Fin 2 → IVec S16 32) a x).toNat < S16x2048.size a := fun v37 v38 v39 v40 v41 v42 v43 v44 v45 v46 v47 v48 v49 v50 v51 v52 v140 k1_hw5 => k1_hw5.2.2.2.2.2.2.2.2.2.2.1
theorem k1_idx72_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v140 : IVec S16 32) (k1_hw5 : k1_chk5 v37 v38 v39 v40 v41 v42 v43 v44 v45 v46 v47 v48 v49 v50 v51 v52 v140), ∀ a x, ((![v48, v140] : Fin 2 → IVec S16 32) a x).toNat < S16x2048.size a := fun v37 v38 v39 v40 v41 v42 v43 v44 v45 v46 v47 v48 v49 v50 v51 v52 v140 k1_hw5 => k1_hw5.2.2.2.2.2.2.2.2.2.2.2.1
theorem k1_idx74_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v140 : IVec S16 32) (k1_hw5 : k1_chk5 v37 v38 v39 v40 v41 v42 v43 v44 v45 v46 v47 v48 v49 v50 v51 v52 v140), ∀ a x, ((![v49, v140] : Fin 2 → IVec S16 32) a x).toNat < S16x2048.size a := fun v37 v38 v39 v40 v41 v42 v43 v44 v45 v46 v47 v48 v49 v50 v51 v52 v140 k1_hw5 => k1_hw5.2.2.2.2.2.2.2.2.2.2.2.2.1
theorem k1_idx76_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v140 : IVec S16 32) (k1_hw5 : k1_chk5 v37 v38 v39 v40 v41 v42 v43 v44 v45 v46 v47 v48 v49 v50 v51 v52 v140), ∀ a x, ((![v50, v140] : Fin 2 → IVec S16 32) a x).toNat < S16x2048.size a := fun v37 v38 v39 v40 v41 v42 v43 v44 v45 v46 v47 v48 v49 v50 v51 v52 v140 k1_hw5 => k1_hw5.2.2.2.2.2.2.2.2.2.2.2.2.2.1
theorem k1_idx78_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v140 : IVec S16 32) (k1_hw5 : k1_chk5 v37 v38 v39 v40 v41 v42 v43 v44 v45 v46 v47 v48 v49 v50 v51 v52 v140), ∀ a x, ((![v51, v140] : Fin 2 → IVec S16 32) a x).toNat < S16x2048.size a := fun v37 v38 v39 v40 v41 v42 v43 v44 v45 v46 v47 v48 v49 v50 v51 v52 v140 k1_hw5 => k1_hw5.2.2.2.2.2.2.2.2.2.2.2.2.2.2.1
theorem k1_idx80_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v140 : IVec S16 32) (k1_hw5 : k1_chk5 v37 v38 v39 v40 v41 v42 v43 v44 v45 v46 v47 v48 v49 v50 v51 v52 v140), ∀ a x, ((![v52, v140] : Fin 2 → IVec S16 32) a x).toNat < S16x2048.size a := fun v37 v38 v39 v40 v41 v42 v43 v44 v45 v46 v47 v48 v49 v50 v51 v52 v140 k1_hw5 => k1_hw5.2.2.2.2.2.2.2.2.2.2.2.2.2.2.2

def k1_chk6 (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v142 : IVec S16 32) : Prop :=
  (∀ a x, ((![v37, v142] : Fin 2 → IVec S16 32) a x).toNat < S16x2048.size a) ∧
  (∀ a x, ((![v38, v142] : Fin 2 → IVec S16 32) a x).toNat < S16x2048.size a) ∧
  (∀ a x, ((![v39, v142] : Fin 2 → IVec S16 32) a x).toNat < S16x2048.size a) ∧
  (∀ a x, ((![v40, v142] : Fin 2 → IVec S16 32) a x).toNat < S16x2048.size a) ∧
  (∀ a x, ((![v41, v142] : Fin 2 → IVec S16 32) a x).toNat < S16x2048.size a) ∧
  (∀ a x, ((![v42, v142] : Fin 2 → IVec S16 32) a x).toNat < S16x2048.size a) ∧
  (∀ a x, ((![v43, v142] : Fin 2 → IVec S16 32) a x).toNat < S16x2048.size a) ∧
  (∀ a x, ((![v44, v142] : Fin 2 → IVec S16 32) a x).toNat < S16x2048.size a) ∧
  (∀ a x, ((![v45, v142] : Fin 2 → IVec S16 32) a x).toNat < S16x2048.size a) ∧
  (∀ a x, ((![v46, v142] : Fin 2 → IVec S16 32) a x).toNat < S16x2048.size a) ∧
  (∀ a x, ((![v47, v142] : Fin 2 → IVec S16 32) a x).toNat < S16x2048.size a) ∧
  (∀ a x, ((![v48, v142] : Fin 2 → IVec S16 32) a x).toNat < S16x2048.size a) ∧
  (∀ a x, ((![v49, v142] : Fin 2 → IVec S16 32) a x).toNat < S16x2048.size a) ∧
  (∀ a x, ((![v50, v142] : Fin 2 → IVec S16 32) a x).toNat < S16x2048.size a) ∧
  (∀ a x, ((![v51, v142] : Fin 2 → IVec S16 32) a x).toNat < S16x2048.size a) ∧
  (∀ a x, ((![v52, v142] : Fin 2 → IVec S16 32) a x).toNat < S16x2048.size a)
theorem k1_idx51_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v142 : IVec S16 32) (k1_hw6 : k1_chk6 v37 v38 v39 v40 v41 v42 v43 v44 v45 v46 v47 v48 v49 v50 v51 v52 v142), ∀ a x, ((![v37, v142] : Fin 2 → IVec S16 32) a x).toNat < S16x2048.size a := fun v37 v38 v39 v40 v41 v42 v43 v44 v45 v46 v47 v48 v49 v50 v51 v52 v142 k1_hw6 => k1_hw6.1
theorem k1_idx53_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v142 : IVec S16 32) (k1_hw6 : k1_chk6 v37 v38 v39 v40 v41 v42 v43 v44 v45 v46 v47 v48 v49 v50 v51 v52 v142), ∀ a x, ((![v38, v142] : Fin 2 → IVec S16 32) a x).toNat < S16x2048.size a := fun v37 v38 v39 v40 v41 v42 v43 v44 v45 v46 v47 v48 v49 v50 v51 v52 v142 k1_hw6 => k1_hw6.2.1
theorem k1_idx55_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v142 : IVec S16 32) (k1_hw6 : k1_chk6 v37 v38 v39 v40 v41 v42 v43 v44 v45 v46 v47 v48 v49 v50 v51 v52 v142), ∀ a x, ((![v39, v142] : Fin 2 → IVec S16 32) a x).toNat < S16x2048.size a := fun v37 v38 v39 v40 v41 v42 v43 v44 v45 v46 v47 v48 v49 v50 v51 v52 v142 k1_hw6 => k1_hw6.2.2.1
theorem k1_idx57_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v142 : IVec S16 32) (k1_hw6 : k1_chk6 v37 v38 v39 v40 v41 v42 v43 v44 v45 v46 v47 v48 v49 v50 v51 v52 v142), ∀ a x, ((![v40, v142] : Fin 2 → IVec S16 32) a x).toNat < S16x2048.size a := fun v37 v38 v39 v40 v41 v42 v43 v44 v45 v46 v47 v48 v49 v50 v51 v52 v142 k1_hw6 => k1_hw6.2.2.2.1
theorem k1_idx59_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v142 : IVec S16 32) (k1_hw6 : k1_chk6 v37 v38 v39 v40 v41 v42 v43 v44 v45 v46 v47 v48 v49 v50 v51 v52 v142), ∀ a x, ((![v41, v142] : Fin 2 → IVec S16 32) a x).toNat < S16x2048.size a := fun v37 v38 v39 v40 v41 v42 v43 v44 v45 v46 v47 v48 v49 v50 v51 v52 v142 k1_hw6 => k1_hw6.2.2.2.2.1
theorem k1_idx61_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v142 : IVec S16 32) (k1_hw6 : k1_chk6 v37 v38 v39 v40 v41 v42 v43 v44 v45 v46 v47 v48 v49 v50 v51 v52 v142), ∀ a x, ((![v42, v142] : Fin 2 → IVec S16 32) a x).toNat < S16x2048.size a := fun v37 v38 v39 v40 v41 v42 v43 v44 v45 v46 v47 v48 v49 v50 v51 v52 v142 k1_hw6 => k1_hw6.2.2.2.2.2.1
theorem k1_idx63_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v142 : IVec S16 32) (k1_hw6 : k1_chk6 v37 v38 v39 v40 v41 v42 v43 v44 v45 v46 v47 v48 v49 v50 v51 v52 v142), ∀ a x, ((![v43, v142] : Fin 2 → IVec S16 32) a x).toNat < S16x2048.size a := fun v37 v38 v39 v40 v41 v42 v43 v44 v45 v46 v47 v48 v49 v50 v51 v52 v142 k1_hw6 => k1_hw6.2.2.2.2.2.2.1
theorem k1_idx65_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v142 : IVec S16 32) (k1_hw6 : k1_chk6 v37 v38 v39 v40 v41 v42 v43 v44 v45 v46 v47 v48 v49 v50 v51 v52 v142), ∀ a x, ((![v44, v142] : Fin 2 → IVec S16 32) a x).toNat < S16x2048.size a := fun v37 v38 v39 v40 v41 v42 v43 v44 v45 v46 v47 v48 v49 v50 v51 v52 v142 k1_hw6 => k1_hw6.2.2.2.2.2.2.2.1
theorem k1_idx67_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v142 : IVec S16 32) (k1_hw6 : k1_chk6 v37 v38 v39 v40 v41 v42 v43 v44 v45 v46 v47 v48 v49 v50 v51 v52 v142), ∀ a x, ((![v45, v142] : Fin 2 → IVec S16 32) a x).toNat < S16x2048.size a := fun v37 v38 v39 v40 v41 v42 v43 v44 v45 v46 v47 v48 v49 v50 v51 v52 v142 k1_hw6 => k1_hw6.2.2.2.2.2.2.2.2.1
theorem k1_idx69_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v142 : IVec S16 32) (k1_hw6 : k1_chk6 v37 v38 v39 v40 v41 v42 v43 v44 v45 v46 v47 v48 v49 v50 v51 v52 v142), ∀ a x, ((![v46, v142] : Fin 2 → IVec S16 32) a x).toNat < S16x2048.size a := fun v37 v38 v39 v40 v41 v42 v43 v44 v45 v46 v47 v48 v49 v50 v51 v52 v142 k1_hw6 => k1_hw6.2.2.2.2.2.2.2.2.2.1
theorem k1_idx71_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v142 : IVec S16 32) (k1_hw6 : k1_chk6 v37 v38 v39 v40 v41 v42 v43 v44 v45 v46 v47 v48 v49 v50 v51 v52 v142), ∀ a x, ((![v47, v142] : Fin 2 → IVec S16 32) a x).toNat < S16x2048.size a := fun v37 v38 v39 v40 v41 v42 v43 v44 v45 v46 v47 v48 v49 v50 v51 v52 v142 k1_hw6 => k1_hw6.2.2.2.2.2.2.2.2.2.2.1
theorem k1_idx73_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v142 : IVec S16 32) (k1_hw6 : k1_chk6 v37 v38 v39 v40 v41 v42 v43 v44 v45 v46 v47 v48 v49 v50 v51 v52 v142), ∀ a x, ((![v48, v142] : Fin 2 → IVec S16 32) a x).toNat < S16x2048.size a := fun v37 v38 v39 v40 v41 v42 v43 v44 v45 v46 v47 v48 v49 v50 v51 v52 v142 k1_hw6 => k1_hw6.2.2.2.2.2.2.2.2.2.2.2.1
theorem k1_idx75_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v142 : IVec S16 32) (k1_hw6 : k1_chk6 v37 v38 v39 v40 v41 v42 v43 v44 v45 v46 v47 v48 v49 v50 v51 v52 v142), ∀ a x, ((![v49, v142] : Fin 2 → IVec S16 32) a x).toNat < S16x2048.size a := fun v37 v38 v39 v40 v41 v42 v43 v44 v45 v46 v47 v48 v49 v50 v51 v52 v142 k1_hw6 => k1_hw6.2.2.2.2.2.2.2.2.2.2.2.2.1
theorem k1_idx77_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v142 : IVec S16 32) (k1_hw6 : k1_chk6 v37 v38 v39 v40 v41 v42 v43 v44 v45 v46 v47 v48 v49 v50 v51 v52 v142), ∀ a x, ((![v50, v142] : Fin 2 → IVec S16 32) a x).toNat < S16x2048.size a := fun v37 v38 v39 v40 v41 v42 v43 v44 v45 v46 v47 v48 v49 v50 v51 v52 v142 k1_hw6 => k1_hw6.2.2.2.2.2.2.2.2.2.2.2.2.2.1
theorem k1_idx79_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v142 : IVec S16 32) (k1_hw6 : k1_chk6 v37 v38 v39 v40 v41 v42 v43 v44 v45 v46 v47 v48 v49 v50 v51 v52 v142), ∀ a x, ((![v51, v142] : Fin 2 → IVec S16 32) a x).toNat < S16x2048.size a := fun v37 v38 v39 v40 v41 v42 v43 v44 v45 v46 v47 v48 v49 v50 v51 v52 v142 k1_hw6 => k1_hw6.2.2.2.2.2.2.2.2.2.2.2.2.2.2.1
theorem k1_idx81_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v142 : IVec S16 32) (k1_hw6 : k1_chk6 v37 v38 v39 v40 v41 v42 v43 v44 v45 v46 v47 v48 v49 v50 v51 v52 v142), ∀ a x, ((![v52, v142] : Fin 2 → IVec S16 32) a x).toNat < S16x2048.size a := fun v37 v38 v39 v40 v41 v42 v43 v44 v45 v46 v47 v48 v49 v50 v51 v52 v142 k1_hw6 => k1_hw6.2.2.2.2.2.2.2.2.2.2.2.2.2.2.2
def k1_off59 (k1_t4 : Fin k1_t4_loop.trips) : Fin 2 → Nat :=
  let c15_i32_113 : BitVec 32 := 15#32
  let v254 : Index := Scalar.indexCast c15_i32_113
  let c0_i32_96 : BitVec 32 := 0#32
  let c0_i32_42 : BitVec 32 := 0#32
  let c1_i32_44 : BitVec 32 := 1#32
  let arg19 : BitVec 32 := Scf.iv c0_i32_42 c1_i32_44 k1_t4
  let c1_i32_95 : BitVec 32 := 1#32
  let v136 : BitVec 32 := Scalar.muli arg19 c1_i32_95
  let v137 : BitVec 32 := Scalar.addi c0_i32_96 v136
  let c16_i32_97 : BitVec 32 := 16#32
  let v138 : BitVec 32 := Scalar.muli v137 c16_i32_97
  let v255 : Index := Scalar.indexCast v138
  ![15, v255.toNat]
@[reducible] def k1_t5_loop : Scf.Loop 32 :=
  let c0_i32_46 : BitVec 32 := 0#32
  let c64_i32_47 : BitVec 32 := 64#32
  let v81 : BitVec 32 := Scalar.addi c0_i32_46 c64_i32_47
  let c1_i32_48 : BitVec 32 := 1#32
  ⟨c0_i32_46, v81, c1_i32_48⟩
def k1_off60 (k1_t5 : Fin k1_t5_loop.trips) : Fin 1 → Nat :=
  let c32_i32_96 : BitVec 32 := 32#32
  let c0_i32_46 : BitVec 32 := 0#32
  let c1_i32_48 : BitVec 32 := 1#32
  let arg19 : BitVec 32 := Scf.iv c0_i32_46 c1_i32_48 k1_t5
  let c1_i32_95 : BitVec 32 := 1#32
  let v136 : BitVec 32 := Scalar.muli arg19 c1_i32_95
  let v137 : BitVec 32 := Scalar.addi c32_i32_96 v136
  let c16_i32_97 : BitVec 32 := 16#32
  let v138 : BitVec 32 := Scalar.muli v137 c16_i32_97
  let v139 : Index := Scalar.indexCast v138
  ![v139.toNat]
def k1_off61 (k1_t5 : Fin k1_t5_loop.trips) : Fin 2 → Nat :=
  let c0_i32_98 : BitVec 32 := 0#32
  let v142 : Index := Scalar.indexCast c0_i32_98
  let c32_i32_96 : BitVec 32 := 32#32
  let c0_i32_46 : BitVec 32 := 0#32
  let c1_i32_48 : BitVec 32 := 1#32
  let arg19 : BitVec 32 := Scf.iv c0_i32_46 c1_i32_48 k1_t5
  let c1_i32_95 : BitVec 32 := 1#32
  let v136 : BitVec 32 := Scalar.muli arg19 c1_i32_95
  let v137 : BitVec 32 := Scalar.addi c32_i32_96 v136
  let c16_i32_97 : BitVec 32 := 16#32
  let v138 : BitVec 32 := Scalar.muli v137 c16_i32_97
  let v143 : Index := Scalar.indexCast v138
  ![0, v143.toNat]
def k1_off62 (k1_t5 : Fin k1_t5_loop.trips) : Fin 2 → Nat :=
  let c1_i32_99 : BitVec 32 := 1#32
  let v146 : Index := Scalar.indexCast c1_i32_99
  let c32_i32_96 : BitVec 32 := 32#32
  let c0_i32_46 : BitVec 32 := 0#32
  let c1_i32_48 : BitVec 32 := 1#32
  let arg19 : BitVec 32 := Scf.iv c0_i32_46 c1_i32_48 k1_t5
  let c1_i32_95 : BitVec 32 := 1#32
  let v136 : BitVec 32 := Scalar.muli arg19 c1_i32_95
  let v137 : BitVec 32 := Scalar.addi c32_i32_96 v136
  let c16_i32_97 : BitVec 32 := 16#32
  let v138 : BitVec 32 := Scalar.muli v137 c16_i32_97
  let v147 : Index := Scalar.indexCast v138
  ![1, v147.toNat]
def k1_off63 (k1_t5 : Fin k1_t5_loop.trips) : Fin 2 → Nat :=
  let c2_i32_100 : BitVec 32 := 2#32
  let v150 : Index := Scalar.indexCast c2_i32_100
  let c32_i32_96 : BitVec 32 := 32#32
  let c0_i32_46 : BitVec 32 := 0#32
  let c1_i32_48 : BitVec 32 := 1#32
  let arg19 : BitVec 32 := Scf.iv c0_i32_46 c1_i32_48 k1_t5
  let c1_i32_95 : BitVec 32 := 1#32
  let v136 : BitVec 32 := Scalar.muli arg19 c1_i32_95
  let v137 : BitVec 32 := Scalar.addi c32_i32_96 v136
  let c16_i32_97 : BitVec 32 := 16#32
  let v138 : BitVec 32 := Scalar.muli v137 c16_i32_97
  let v151 : Index := Scalar.indexCast v138
  ![2, v151.toNat]
def k1_off64 (k1_t5 : Fin k1_t5_loop.trips) : Fin 2 → Nat :=
  let c3_i32_101 : BitVec 32 := 3#32
  let v154 : Index := Scalar.indexCast c3_i32_101
  let c32_i32_96 : BitVec 32 := 32#32
  let c0_i32_46 : BitVec 32 := 0#32
  let c1_i32_48 : BitVec 32 := 1#32
  let arg19 : BitVec 32 := Scf.iv c0_i32_46 c1_i32_48 k1_t5
  let c1_i32_95 : BitVec 32 := 1#32
  let v136 : BitVec 32 := Scalar.muli arg19 c1_i32_95
  let v137 : BitVec 32 := Scalar.addi c32_i32_96 v136
  let c16_i32_97 : BitVec 32 := 16#32
  let v138 : BitVec 32 := Scalar.muli v137 c16_i32_97
  let v155 : Index := Scalar.indexCast v138
  ![3, v155.toNat]
def k1_off65 (k1_t5 : Fin k1_t5_loop.trips) : Fin 2 → Nat :=
  let c4_i32_102 : BitVec 32 := 4#32
  let v158 : Index := Scalar.indexCast c4_i32_102
  let c32_i32_96 : BitVec 32 := 32#32
  let c0_i32_46 : BitVec 32 := 0#32
  let c1_i32_48 : BitVec 32 := 1#32
  let arg19 : BitVec 32 := Scf.iv c0_i32_46 c1_i32_48 k1_t5
  let c1_i32_95 : BitVec 32 := 1#32
  let v136 : BitVec 32 := Scalar.muli arg19 c1_i32_95
  let v137 : BitVec 32 := Scalar.addi c32_i32_96 v136
  let c16_i32_97 : BitVec 32 := 16#32
  let v138 : BitVec 32 := Scalar.muli v137 c16_i32_97
  let v159 : Index := Scalar.indexCast v138
  ![4, v159.toNat]
def k1_off66 (k1_t5 : Fin k1_t5_loop.trips) : Fin 2 → Nat :=
  let c5_i32_103 : BitVec 32 := 5#32
  let v162 : Index := Scalar.indexCast c5_i32_103
  let c32_i32_96 : BitVec 32 := 32#32
  let c0_i32_46 : BitVec 32 := 0#32
  let c1_i32_48 : BitVec 32 := 1#32
  let arg19 : BitVec 32 := Scf.iv c0_i32_46 c1_i32_48 k1_t5
  let c1_i32_95 : BitVec 32 := 1#32
  let v136 : BitVec 32 := Scalar.muli arg19 c1_i32_95
  let v137 : BitVec 32 := Scalar.addi c32_i32_96 v136
  let c16_i32_97 : BitVec 32 := 16#32
  let v138 : BitVec 32 := Scalar.muli v137 c16_i32_97
  let v163 : Index := Scalar.indexCast v138
  ![5, v163.toNat]
def k1_off67 (k1_t5 : Fin k1_t5_loop.trips) : Fin 2 → Nat :=
  let c6_i32_104 : BitVec 32 := 6#32
  let v166 : Index := Scalar.indexCast c6_i32_104
  let c32_i32_96 : BitVec 32 := 32#32
  let c0_i32_46 : BitVec 32 := 0#32
  let c1_i32_48 : BitVec 32 := 1#32
  let arg19 : BitVec 32 := Scf.iv c0_i32_46 c1_i32_48 k1_t5
  let c1_i32_95 : BitVec 32 := 1#32
  let v136 : BitVec 32 := Scalar.muli arg19 c1_i32_95
  let v137 : BitVec 32 := Scalar.addi c32_i32_96 v136
  let c16_i32_97 : BitVec 32 := 16#32
  let v138 : BitVec 32 := Scalar.muli v137 c16_i32_97
  let v167 : Index := Scalar.indexCast v138
  ![6, v167.toNat]
def k1_off68 (k1_t5 : Fin k1_t5_loop.trips) : Fin 2 → Nat :=
  let c7_i32_105 : BitVec 32 := 7#32
  let v170 : Index := Scalar.indexCast c7_i32_105
  let c32_i32_96 : BitVec 32 := 32#32
  let c0_i32_46 : BitVec 32 := 0#32
  let c1_i32_48 : BitVec 32 := 1#32
  let arg19 : BitVec 32 := Scf.iv c0_i32_46 c1_i32_48 k1_t5
  let c1_i32_95 : BitVec 32 := 1#32
  let v136 : BitVec 32 := Scalar.muli arg19 c1_i32_95
  let v137 : BitVec 32 := Scalar.addi c32_i32_96 v136
  let c16_i32_97 : BitVec 32 := 16#32
  let v138 : BitVec 32 := Scalar.muli v137 c16_i32_97
  let v171 : Index := Scalar.indexCast v138
  ![7, v171.toNat]
def k1_off69 (k1_t5 : Fin k1_t5_loop.trips) : Fin 2 → Nat :=
  let c8_i32_106 : BitVec 32 := 8#32
  let v174 : Index := Scalar.indexCast c8_i32_106
  let c32_i32_96 : BitVec 32 := 32#32
  let c0_i32_46 : BitVec 32 := 0#32
  let c1_i32_48 : BitVec 32 := 1#32
  let arg19 : BitVec 32 := Scf.iv c0_i32_46 c1_i32_48 k1_t5
  let c1_i32_95 : BitVec 32 := 1#32
  let v136 : BitVec 32 := Scalar.muli arg19 c1_i32_95
  let v137 : BitVec 32 := Scalar.addi c32_i32_96 v136
  let c16_i32_97 : BitVec 32 := 16#32
  let v138 : BitVec 32 := Scalar.muli v137 c16_i32_97
  let v175 : Index := Scalar.indexCast v138
  ![8, v175.toNat]
def k1_off70 (k1_t5 : Fin k1_t5_loop.trips) : Fin 2 → Nat :=
  let c9_i32_107 : BitVec 32 := 9#32
  let v178 : Index := Scalar.indexCast c9_i32_107
  let c32_i32_96 : BitVec 32 := 32#32
  let c0_i32_46 : BitVec 32 := 0#32
  let c1_i32_48 : BitVec 32 := 1#32
  let arg19 : BitVec 32 := Scf.iv c0_i32_46 c1_i32_48 k1_t5
  let c1_i32_95 : BitVec 32 := 1#32
  let v136 : BitVec 32 := Scalar.muli arg19 c1_i32_95
  let v137 : BitVec 32 := Scalar.addi c32_i32_96 v136
  let c16_i32_97 : BitVec 32 := 16#32
  let v138 : BitVec 32 := Scalar.muli v137 c16_i32_97
  let v179 : Index := Scalar.indexCast v138
  ![9, v179.toNat]
def k1_off71 (k1_t5 : Fin k1_t5_loop.trips) : Fin 2 → Nat :=
  let c10_i32_108 : BitVec 32 := 10#32
  let v182 : Index := Scalar.indexCast c10_i32_108
  let c32_i32_96 : BitVec 32 := 32#32
  let c0_i32_46 : BitVec 32 := 0#32
  let c1_i32_48 : BitVec 32 := 1#32
  let arg19 : BitVec 32 := Scf.iv c0_i32_46 c1_i32_48 k1_t5
  let c1_i32_95 : BitVec 32 := 1#32
  let v136 : BitVec 32 := Scalar.muli arg19 c1_i32_95
  let v137 : BitVec 32 := Scalar.addi c32_i32_96 v136
  let c16_i32_97 : BitVec 32 := 16#32
  let v138 : BitVec 32 := Scalar.muli v137 c16_i32_97
  let v183 : Index := Scalar.indexCast v138
  ![10, v183.toNat]
def k1_off72 (k1_t5 : Fin k1_t5_loop.trips) : Fin 2 → Nat :=
  let c11_i32_109 : BitVec 32 := 11#32
  let v186 : Index := Scalar.indexCast c11_i32_109
  let c32_i32_96 : BitVec 32 := 32#32
  let c0_i32_46 : BitVec 32 := 0#32
  let c1_i32_48 : BitVec 32 := 1#32
  let arg19 : BitVec 32 := Scf.iv c0_i32_46 c1_i32_48 k1_t5
  let c1_i32_95 : BitVec 32 := 1#32
  let v136 : BitVec 32 := Scalar.muli arg19 c1_i32_95
  let v137 : BitVec 32 := Scalar.addi c32_i32_96 v136
  let c16_i32_97 : BitVec 32 := 16#32
  let v138 : BitVec 32 := Scalar.muli v137 c16_i32_97
  let v187 : Index := Scalar.indexCast v138
  ![11, v187.toNat]
def k1_off73 (k1_t5 : Fin k1_t5_loop.trips) : Fin 2 → Nat :=
  let c12_i32_110 : BitVec 32 := 12#32
  let v190 : Index := Scalar.indexCast c12_i32_110
  let c32_i32_96 : BitVec 32 := 32#32
  let c0_i32_46 : BitVec 32 := 0#32
  let c1_i32_48 : BitVec 32 := 1#32
  let arg19 : BitVec 32 := Scf.iv c0_i32_46 c1_i32_48 k1_t5
  let c1_i32_95 : BitVec 32 := 1#32
  let v136 : BitVec 32 := Scalar.muli arg19 c1_i32_95
  let v137 : BitVec 32 := Scalar.addi c32_i32_96 v136
  let c16_i32_97 : BitVec 32 := 16#32
  let v138 : BitVec 32 := Scalar.muli v137 c16_i32_97
  let v191 : Index := Scalar.indexCast v138
  ![12, v191.toNat]
def k1_off74 (k1_t5 : Fin k1_t5_loop.trips) : Fin 2 → Nat :=
  let c13_i32_111 : BitVec 32 := 13#32
  let v194 : Index := Scalar.indexCast c13_i32_111
  let c32_i32_96 : BitVec 32 := 32#32
  let c0_i32_46 : BitVec 32 := 0#32
  let c1_i32_48 : BitVec 32 := 1#32
  let arg19 : BitVec 32 := Scf.iv c0_i32_46 c1_i32_48 k1_t5
  let c1_i32_95 : BitVec 32 := 1#32
  let v136 : BitVec 32 := Scalar.muli arg19 c1_i32_95
  let v137 : BitVec 32 := Scalar.addi c32_i32_96 v136
  let c16_i32_97 : BitVec 32 := 16#32
  let v138 : BitVec 32 := Scalar.muli v137 c16_i32_97
  let v195 : Index := Scalar.indexCast v138
  ![13, v195.toNat]
def k1_off75 (k1_t5 : Fin k1_t5_loop.trips) : Fin 2 → Nat :=
  let c14_i32_112 : BitVec 32 := 14#32
  let v198 : Index := Scalar.indexCast c14_i32_112
  let c32_i32_96 : BitVec 32 := 32#32
  let c0_i32_46 : BitVec 32 := 0#32
  let c1_i32_48 : BitVec 32 := 1#32
  let arg19 : BitVec 32 := Scf.iv c0_i32_46 c1_i32_48 k1_t5
  let c1_i32_95 : BitVec 32 := 1#32
  let v136 : BitVec 32 := Scalar.muli arg19 c1_i32_95
  let v137 : BitVec 32 := Scalar.addi c32_i32_96 v136
  let c16_i32_97 : BitVec 32 := 16#32
  let v138 : BitVec 32 := Scalar.muli v137 c16_i32_97
  let v199 : Index := Scalar.indexCast v138
  ![14, v199.toNat]

def k1_chk7 (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v140 : IVec S16 32) : Prop :=
  (∀ a x, ((![v37, v140] : Fin 2 → IVec S16 32) a x).toNat < S16x2048.size a) ∧
  (∀ a x, ((![v38, v140] : Fin 2 → IVec S16 32) a x).toNat < S16x2048.size a) ∧
  (∀ a x, ((![v39, v140] : Fin 2 → IVec S16 32) a x).toNat < S16x2048.size a) ∧
  (∀ a x, ((![v40, v140] : Fin 2 → IVec S16 32) a x).toNat < S16x2048.size a) ∧
  (∀ a x, ((![v41, v140] : Fin 2 → IVec S16 32) a x).toNat < S16x2048.size a) ∧
  (∀ a x, ((![v42, v140] : Fin 2 → IVec S16 32) a x).toNat < S16x2048.size a) ∧
  (∀ a x, ((![v43, v140] : Fin 2 → IVec S16 32) a x).toNat < S16x2048.size a) ∧
  (∀ a x, ((![v44, v140] : Fin 2 → IVec S16 32) a x).toNat < S16x2048.size a) ∧
  (∀ a x, ((![v45, v140] : Fin 2 → IVec S16 32) a x).toNat < S16x2048.size a) ∧
  (∀ a x, ((![v46, v140] : Fin 2 → IVec S16 32) a x).toNat < S16x2048.size a) ∧
  (∀ a x, ((![v47, v140] : Fin 2 → IVec S16 32) a x).toNat < S16x2048.size a) ∧
  (∀ a x, ((![v48, v140] : Fin 2 → IVec S16 32) a x).toNat < S16x2048.size a) ∧
  (∀ a x, ((![v49, v140] : Fin 2 → IVec S16 32) a x).toNat < S16x2048.size a) ∧
  (∀ a x, ((![v50, v140] : Fin 2 → IVec S16 32) a x).toNat < S16x2048.size a) ∧
  (∀ a x, ((![v51, v140] : Fin 2 → IVec S16 32) a x).toNat < S16x2048.size a) ∧
  (∀ a x, ((![v52, v140] : Fin 2 → IVec S16 32) a x).toNat < S16x2048.size a)
theorem k1_idx82_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v140 : IVec S16 32) (k1_hw7 : k1_chk7 v37 v38 v39 v40 v41 v42 v43 v44 v45 v46 v47 v48 v49 v50 v51 v52 v140), ∀ a x, ((![v37, v140] : Fin 2 → IVec S16 32) a x).toNat < S16x2048.size a := fun v37 v38 v39 v40 v41 v42 v43 v44 v45 v46 v47 v48 v49 v50 v51 v52 v140 k1_hw7 => k1_hw7.1
theorem k1_idx83_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v140 : IVec S16 32) (k1_hw7 : k1_chk7 v37 v38 v39 v40 v41 v42 v43 v44 v45 v46 v47 v48 v49 v50 v51 v52 v140), ∀ a x, ((![v38, v140] : Fin 2 → IVec S16 32) a x).toNat < S16x2048.size a := fun v37 v38 v39 v40 v41 v42 v43 v44 v45 v46 v47 v48 v49 v50 v51 v52 v140 k1_hw7 => k1_hw7.2.1
theorem k1_idx84_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v140 : IVec S16 32) (k1_hw7 : k1_chk7 v37 v38 v39 v40 v41 v42 v43 v44 v45 v46 v47 v48 v49 v50 v51 v52 v140), ∀ a x, ((![v39, v140] : Fin 2 → IVec S16 32) a x).toNat < S16x2048.size a := fun v37 v38 v39 v40 v41 v42 v43 v44 v45 v46 v47 v48 v49 v50 v51 v52 v140 k1_hw7 => k1_hw7.2.2.1
theorem k1_idx85_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v140 : IVec S16 32) (k1_hw7 : k1_chk7 v37 v38 v39 v40 v41 v42 v43 v44 v45 v46 v47 v48 v49 v50 v51 v52 v140), ∀ a x, ((![v40, v140] : Fin 2 → IVec S16 32) a x).toNat < S16x2048.size a := fun v37 v38 v39 v40 v41 v42 v43 v44 v45 v46 v47 v48 v49 v50 v51 v52 v140 k1_hw7 => k1_hw7.2.2.2.1
theorem k1_idx86_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v140 : IVec S16 32) (k1_hw7 : k1_chk7 v37 v38 v39 v40 v41 v42 v43 v44 v45 v46 v47 v48 v49 v50 v51 v52 v140), ∀ a x, ((![v41, v140] : Fin 2 → IVec S16 32) a x).toNat < S16x2048.size a := fun v37 v38 v39 v40 v41 v42 v43 v44 v45 v46 v47 v48 v49 v50 v51 v52 v140 k1_hw7 => k1_hw7.2.2.2.2.1
theorem k1_idx87_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v140 : IVec S16 32) (k1_hw7 : k1_chk7 v37 v38 v39 v40 v41 v42 v43 v44 v45 v46 v47 v48 v49 v50 v51 v52 v140), ∀ a x, ((![v42, v140] : Fin 2 → IVec S16 32) a x).toNat < S16x2048.size a := fun v37 v38 v39 v40 v41 v42 v43 v44 v45 v46 v47 v48 v49 v50 v51 v52 v140 k1_hw7 => k1_hw7.2.2.2.2.2.1
theorem k1_idx88_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v140 : IVec S16 32) (k1_hw7 : k1_chk7 v37 v38 v39 v40 v41 v42 v43 v44 v45 v46 v47 v48 v49 v50 v51 v52 v140), ∀ a x, ((![v43, v140] : Fin 2 → IVec S16 32) a x).toNat < S16x2048.size a := fun v37 v38 v39 v40 v41 v42 v43 v44 v45 v46 v47 v48 v49 v50 v51 v52 v140 k1_hw7 => k1_hw7.2.2.2.2.2.2.1
theorem k1_idx89_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v140 : IVec S16 32) (k1_hw7 : k1_chk7 v37 v38 v39 v40 v41 v42 v43 v44 v45 v46 v47 v48 v49 v50 v51 v52 v140), ∀ a x, ((![v44, v140] : Fin 2 → IVec S16 32) a x).toNat < S16x2048.size a := fun v37 v38 v39 v40 v41 v42 v43 v44 v45 v46 v47 v48 v49 v50 v51 v52 v140 k1_hw7 => k1_hw7.2.2.2.2.2.2.2.1
theorem k1_idx90_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v140 : IVec S16 32) (k1_hw7 : k1_chk7 v37 v38 v39 v40 v41 v42 v43 v44 v45 v46 v47 v48 v49 v50 v51 v52 v140), ∀ a x, ((![v45, v140] : Fin 2 → IVec S16 32) a x).toNat < S16x2048.size a := fun v37 v38 v39 v40 v41 v42 v43 v44 v45 v46 v47 v48 v49 v50 v51 v52 v140 k1_hw7 => k1_hw7.2.2.2.2.2.2.2.2.1
theorem k1_idx91_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v140 : IVec S16 32) (k1_hw7 : k1_chk7 v37 v38 v39 v40 v41 v42 v43 v44 v45 v46 v47 v48 v49 v50 v51 v52 v140), ∀ a x, ((![v46, v140] : Fin 2 → IVec S16 32) a x).toNat < S16x2048.size a := fun v37 v38 v39 v40 v41 v42 v43 v44 v45 v46 v47 v48 v49 v50 v51 v52 v140 k1_hw7 => k1_hw7.2.2.2.2.2.2.2.2.2.1
theorem k1_idx92_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v140 : IVec S16 32) (k1_hw7 : k1_chk7 v37 v38 v39 v40 v41 v42 v43 v44 v45 v46 v47 v48 v49 v50 v51 v52 v140), ∀ a x, ((![v47, v140] : Fin 2 → IVec S16 32) a x).toNat < S16x2048.size a := fun v37 v38 v39 v40 v41 v42 v43 v44 v45 v46 v47 v48 v49 v50 v51 v52 v140 k1_hw7 => k1_hw7.2.2.2.2.2.2.2.2.2.2.1
theorem k1_idx93_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v140 : IVec S16 32) (k1_hw7 : k1_chk7 v37 v38 v39 v40 v41 v42 v43 v44 v45 v46 v47 v48 v49 v50 v51 v52 v140), ∀ a x, ((![v48, v140] : Fin 2 → IVec S16 32) a x).toNat < S16x2048.size a := fun v37 v38 v39 v40 v41 v42 v43 v44 v45 v46 v47 v48 v49 v50 v51 v52 v140 k1_hw7 => k1_hw7.2.2.2.2.2.2.2.2.2.2.2.1
theorem k1_idx94_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v140 : IVec S16 32) (k1_hw7 : k1_chk7 v37 v38 v39 v40 v41 v42 v43 v44 v45 v46 v47 v48 v49 v50 v51 v52 v140), ∀ a x, ((![v49, v140] : Fin 2 → IVec S16 32) a x).toNat < S16x2048.size a := fun v37 v38 v39 v40 v41 v42 v43 v44 v45 v46 v47 v48 v49 v50 v51 v52 v140 k1_hw7 => k1_hw7.2.2.2.2.2.2.2.2.2.2.2.2.1
theorem k1_idx95_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v140 : IVec S16 32) (k1_hw7 : k1_chk7 v37 v38 v39 v40 v41 v42 v43 v44 v45 v46 v47 v48 v49 v50 v51 v52 v140), ∀ a x, ((![v50, v140] : Fin 2 → IVec S16 32) a x).toNat < S16x2048.size a := fun v37 v38 v39 v40 v41 v42 v43 v44 v45 v46 v47 v48 v49 v50 v51 v52 v140 k1_hw7 => k1_hw7.2.2.2.2.2.2.2.2.2.2.2.2.2.1
theorem k1_idx96_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v140 : IVec S16 32) (k1_hw7 : k1_chk7 v37 v38 v39 v40 v41 v42 v43 v44 v45 v46 v47 v48 v49 v50 v51 v52 v140), ∀ a x, ((![v51, v140] : Fin 2 → IVec S16 32) a x).toNat < S16x2048.size a := fun v37 v38 v39 v40 v41 v42 v43 v44 v45 v46 v47 v48 v49 v50 v51 v52 v140 k1_hw7 => k1_hw7.2.2.2.2.2.2.2.2.2.2.2.2.2.2.1
theorem k1_idx97_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v140 : IVec S16 32) (k1_hw7 : k1_chk7 v37 v38 v39 v40 v41 v42 v43 v44 v45 v46 v47 v48 v49 v50 v51 v52 v140), ∀ a x, ((![v52, v140] : Fin 2 → IVec S16 32) a x).toNat < S16x2048.size a := fun v37 v38 v39 v40 v41 v42 v43 v44 v45 v46 v47 v48 v49 v50 v51 v52 v140 k1_hw7 => k1_hw7.2.2.2.2.2.2.2.2.2.2.2.2.2.2.2
def k1_off76 (k1_t5 : Fin k1_t5_loop.trips) : Fin 2 → Nat :=
  let c15_i32_113 : BitVec 32 := 15#32
  let v202 : Index := Scalar.indexCast c15_i32_113
  let c32_i32_96 : BitVec 32 := 32#32
  let c0_i32_46 : BitVec 32 := 0#32
  let c1_i32_48 : BitVec 32 := 1#32
  let arg19 : BitVec 32 := Scf.iv c0_i32_46 c1_i32_48 k1_t5
  let c1_i32_95 : BitVec 32 := 1#32
  let v136 : BitVec 32 := Scalar.muli arg19 c1_i32_95
  let v137 : BitVec 32 := Scalar.addi c32_i32_96 v136
  let c16_i32_97 : BitVec 32 := 16#32
  let v138 : BitVec 32 := Scalar.muli v137 c16_i32_97
  let v203 : Index := Scalar.indexCast v138
  ![15, v203.toNat]
@[reducible] def k1_t6_loop : Scf.Loop 32 :=
  let c0_i32_61 : BitVec 32 := 0#32
  let c32_i32_62 : BitVec 32 := 32#32
  let v102 : BitVec 32 := Scalar.addi c0_i32_61 c32_i32_62
  let c1_i32_63 : BitVec 32 := 1#32
  ⟨c0_i32_61, v102, c1_i32_63⟩
def k1_off77 (k1_t6 : Fin k1_t6_loop.trips) : Fin 1 → Nat :=
  let c0_i32_96 : BitVec 32 := 0#32
  let c0_i32_61 : BitVec 32 := 0#32
  let c1_i32_63 : BitVec 32 := 1#32
  let arg19 : BitVec 32 := Scf.iv c0_i32_61 c1_i32_63 k1_t6
  let c1_i32_95 : BitVec 32 := 1#32
  let v136 : BitVec 32 := Scalar.muli arg19 c1_i32_95
  let v137 : BitVec 32 := Scalar.addi c0_i32_96 v136
  let c16_i32_97 : BitVec 32 := 16#32
  let v138 : BitVec 32 := Scalar.muli v137 c16_i32_97
  let v139 : Index := Scalar.indexCast v138
  ![v139.toNat]
def k1_off78 (k1_t6 : Fin k1_t6_loop.trips) : Fin 2 → Nat :=
  let c0_i32_98 : BitVec 32 := 0#32
  let v149 : Index := Scalar.indexCast c0_i32_98
  let c0_i32_96 : BitVec 32 := 0#32
  let c0_i32_61 : BitVec 32 := 0#32
  let c1_i32_63 : BitVec 32 := 1#32
  let arg19 : BitVec 32 := Scf.iv c0_i32_61 c1_i32_63 k1_t6
  let c1_i32_95 : BitVec 32 := 1#32
  let v136 : BitVec 32 := Scalar.muli arg19 c1_i32_95
  let v137 : BitVec 32 := Scalar.addi c0_i32_96 v136
  let c16_i32_97 : BitVec 32 := 16#32
  let v138 : BitVec 32 := Scalar.muli v137 c16_i32_97
  let v150 : Index := Scalar.indexCast v138
  ![0, v150.toNat]
def k1_off79 (k1_t6 : Fin k1_t6_loop.trips) : Fin 2 → Nat :=
  let c1_i32_99 : BitVec 32 := 1#32
  let v156 : Index := Scalar.indexCast c1_i32_99
  let c0_i32_96 : BitVec 32 := 0#32
  let c0_i32_61 : BitVec 32 := 0#32
  let c1_i32_63 : BitVec 32 := 1#32
  let arg19 : BitVec 32 := Scf.iv c0_i32_61 c1_i32_63 k1_t6
  let c1_i32_95 : BitVec 32 := 1#32
  let v136 : BitVec 32 := Scalar.muli arg19 c1_i32_95
  let v137 : BitVec 32 := Scalar.addi c0_i32_96 v136
  let c16_i32_97 : BitVec 32 := 16#32
  let v138 : BitVec 32 := Scalar.muli v137 c16_i32_97
  let v157 : Index := Scalar.indexCast v138
  ![1, v157.toNat]
def k1_off80 (k1_t6 : Fin k1_t6_loop.trips) : Fin 2 → Nat :=
  let c2_i32_100 : BitVec 32 := 2#32
  let v163 : Index := Scalar.indexCast c2_i32_100
  let c0_i32_96 : BitVec 32 := 0#32
  let c0_i32_61 : BitVec 32 := 0#32
  let c1_i32_63 : BitVec 32 := 1#32
  let arg19 : BitVec 32 := Scf.iv c0_i32_61 c1_i32_63 k1_t6
  let c1_i32_95 : BitVec 32 := 1#32
  let v136 : BitVec 32 := Scalar.muli arg19 c1_i32_95
  let v137 : BitVec 32 := Scalar.addi c0_i32_96 v136
  let c16_i32_97 : BitVec 32 := 16#32
  let v138 : BitVec 32 := Scalar.muli v137 c16_i32_97
  let v164 : Index := Scalar.indexCast v138
  ![2, v164.toNat]
def k1_off81 (k1_t6 : Fin k1_t6_loop.trips) : Fin 2 → Nat :=
  let c3_i32_101 : BitVec 32 := 3#32
  let v170 : Index := Scalar.indexCast c3_i32_101
  let c0_i32_96 : BitVec 32 := 0#32
  let c0_i32_61 : BitVec 32 := 0#32
  let c1_i32_63 : BitVec 32 := 1#32
  let arg19 : BitVec 32 := Scf.iv c0_i32_61 c1_i32_63 k1_t6
  let c1_i32_95 : BitVec 32 := 1#32
  let v136 : BitVec 32 := Scalar.muli arg19 c1_i32_95
  let v137 : BitVec 32 := Scalar.addi c0_i32_96 v136
  let c16_i32_97 : BitVec 32 := 16#32
  let v138 : BitVec 32 := Scalar.muli v137 c16_i32_97
  let v171 : Index := Scalar.indexCast v138
  ![3, v171.toNat]
def k1_off82 (k1_t6 : Fin k1_t6_loop.trips) : Fin 2 → Nat :=
  let c4_i32_102 : BitVec 32 := 4#32
  let v177 : Index := Scalar.indexCast c4_i32_102
  let c0_i32_96 : BitVec 32 := 0#32
  let c0_i32_61 : BitVec 32 := 0#32
  let c1_i32_63 : BitVec 32 := 1#32
  let arg19 : BitVec 32 := Scf.iv c0_i32_61 c1_i32_63 k1_t6
  let c1_i32_95 : BitVec 32 := 1#32
  let v136 : BitVec 32 := Scalar.muli arg19 c1_i32_95
  let v137 : BitVec 32 := Scalar.addi c0_i32_96 v136
  let c16_i32_97 : BitVec 32 := 16#32
  let v138 : BitVec 32 := Scalar.muli v137 c16_i32_97
  let v178 : Index := Scalar.indexCast v138
  ![4, v178.toNat]
def k1_off83 (k1_t6 : Fin k1_t6_loop.trips) : Fin 2 → Nat :=
  let c5_i32_103 : BitVec 32 := 5#32
  let v184 : Index := Scalar.indexCast c5_i32_103
  let c0_i32_96 : BitVec 32 := 0#32
  let c0_i32_61 : BitVec 32 := 0#32
  let c1_i32_63 : BitVec 32 := 1#32
  let arg19 : BitVec 32 := Scf.iv c0_i32_61 c1_i32_63 k1_t6
  let c1_i32_95 : BitVec 32 := 1#32
  let v136 : BitVec 32 := Scalar.muli arg19 c1_i32_95
  let v137 : BitVec 32 := Scalar.addi c0_i32_96 v136
  let c16_i32_97 : BitVec 32 := 16#32
  let v138 : BitVec 32 := Scalar.muli v137 c16_i32_97
  let v185 : Index := Scalar.indexCast v138
  ![5, v185.toNat]
def k1_off84 (k1_t6 : Fin k1_t6_loop.trips) : Fin 2 → Nat :=
  let c6_i32_104 : BitVec 32 := 6#32
  let v191 : Index := Scalar.indexCast c6_i32_104
  let c0_i32_96 : BitVec 32 := 0#32
  let c0_i32_61 : BitVec 32 := 0#32
  let c1_i32_63 : BitVec 32 := 1#32
  let arg19 : BitVec 32 := Scf.iv c0_i32_61 c1_i32_63 k1_t6
  let c1_i32_95 : BitVec 32 := 1#32
  let v136 : BitVec 32 := Scalar.muli arg19 c1_i32_95
  let v137 : BitVec 32 := Scalar.addi c0_i32_96 v136
  let c16_i32_97 : BitVec 32 := 16#32
  let v138 : BitVec 32 := Scalar.muli v137 c16_i32_97
  let v192 : Index := Scalar.indexCast v138
  ![6, v192.toNat]
def k1_off85 (k1_t6 : Fin k1_t6_loop.trips) : Fin 2 → Nat :=
  let c7_i32_105 : BitVec 32 := 7#32
  let v198 : Index := Scalar.indexCast c7_i32_105
  let c0_i32_96 : BitVec 32 := 0#32
  let c0_i32_61 : BitVec 32 := 0#32
  let c1_i32_63 : BitVec 32 := 1#32
  let arg19 : BitVec 32 := Scf.iv c0_i32_61 c1_i32_63 k1_t6
  let c1_i32_95 : BitVec 32 := 1#32
  let v136 : BitVec 32 := Scalar.muli arg19 c1_i32_95
  let v137 : BitVec 32 := Scalar.addi c0_i32_96 v136
  let c16_i32_97 : BitVec 32 := 16#32
  let v138 : BitVec 32 := Scalar.muli v137 c16_i32_97
  let v199 : Index := Scalar.indexCast v138
  ![7, v199.toNat]
def k1_off86 (k1_t6 : Fin k1_t6_loop.trips) : Fin 2 → Nat :=
  let c8_i32_106 : BitVec 32 := 8#32
  let v205 : Index := Scalar.indexCast c8_i32_106
  let c0_i32_96 : BitVec 32 := 0#32
  let c0_i32_61 : BitVec 32 := 0#32
  let c1_i32_63 : BitVec 32 := 1#32
  let arg19 : BitVec 32 := Scf.iv c0_i32_61 c1_i32_63 k1_t6
  let c1_i32_95 : BitVec 32 := 1#32
  let v136 : BitVec 32 := Scalar.muli arg19 c1_i32_95
  let v137 : BitVec 32 := Scalar.addi c0_i32_96 v136
  let c16_i32_97 : BitVec 32 := 16#32
  let v138 : BitVec 32 := Scalar.muli v137 c16_i32_97
  let v206 : Index := Scalar.indexCast v138
  ![8, v206.toNat]
def k1_off87 (k1_t6 : Fin k1_t6_loop.trips) : Fin 2 → Nat :=
  let c9_i32_107 : BitVec 32 := 9#32
  let v212 : Index := Scalar.indexCast c9_i32_107
  let c0_i32_96 : BitVec 32 := 0#32
  let c0_i32_61 : BitVec 32 := 0#32
  let c1_i32_63 : BitVec 32 := 1#32
  let arg19 : BitVec 32 := Scf.iv c0_i32_61 c1_i32_63 k1_t6
  let c1_i32_95 : BitVec 32 := 1#32
  let v136 : BitVec 32 := Scalar.muli arg19 c1_i32_95
  let v137 : BitVec 32 := Scalar.addi c0_i32_96 v136
  let c16_i32_97 : BitVec 32 := 16#32
  let v138 : BitVec 32 := Scalar.muli v137 c16_i32_97
  let v213 : Index := Scalar.indexCast v138
  ![9, v213.toNat]
def k1_off88 (k1_t6 : Fin k1_t6_loop.trips) : Fin 2 → Nat :=
  let c10_i32_108 : BitVec 32 := 10#32
  let v219 : Index := Scalar.indexCast c10_i32_108
  let c0_i32_96 : BitVec 32 := 0#32
  let c0_i32_61 : BitVec 32 := 0#32
  let c1_i32_63 : BitVec 32 := 1#32
  let arg19 : BitVec 32 := Scf.iv c0_i32_61 c1_i32_63 k1_t6
  let c1_i32_95 : BitVec 32 := 1#32
  let v136 : BitVec 32 := Scalar.muli arg19 c1_i32_95
  let v137 : BitVec 32 := Scalar.addi c0_i32_96 v136
  let c16_i32_97 : BitVec 32 := 16#32
  let v138 : BitVec 32 := Scalar.muli v137 c16_i32_97
  let v220 : Index := Scalar.indexCast v138
  ![10, v220.toNat]
def k1_off89 (k1_t6 : Fin k1_t6_loop.trips) : Fin 2 → Nat :=
  let c11_i32_109 : BitVec 32 := 11#32
  let v226 : Index := Scalar.indexCast c11_i32_109
  let c0_i32_96 : BitVec 32 := 0#32
  let c0_i32_61 : BitVec 32 := 0#32
  let c1_i32_63 : BitVec 32 := 1#32
  let arg19 : BitVec 32 := Scf.iv c0_i32_61 c1_i32_63 k1_t6
  let c1_i32_95 : BitVec 32 := 1#32
  let v136 : BitVec 32 := Scalar.muli arg19 c1_i32_95
  let v137 : BitVec 32 := Scalar.addi c0_i32_96 v136
  let c16_i32_97 : BitVec 32 := 16#32
  let v138 : BitVec 32 := Scalar.muli v137 c16_i32_97
  let v227 : Index := Scalar.indexCast v138
  ![11, v227.toNat]
def k1_off90 (k1_t6 : Fin k1_t6_loop.trips) : Fin 2 → Nat :=
  let c12_i32_110 : BitVec 32 := 12#32
  let v233 : Index := Scalar.indexCast c12_i32_110
  let c0_i32_96 : BitVec 32 := 0#32
  let c0_i32_61 : BitVec 32 := 0#32
  let c1_i32_63 : BitVec 32 := 1#32
  let arg19 : BitVec 32 := Scf.iv c0_i32_61 c1_i32_63 k1_t6
  let c1_i32_95 : BitVec 32 := 1#32
  let v136 : BitVec 32 := Scalar.muli arg19 c1_i32_95
  let v137 : BitVec 32 := Scalar.addi c0_i32_96 v136
  let c16_i32_97 : BitVec 32 := 16#32
  let v138 : BitVec 32 := Scalar.muli v137 c16_i32_97
  let v234 : Index := Scalar.indexCast v138
  ![12, v234.toNat]
def k1_off91 (k1_t6 : Fin k1_t6_loop.trips) : Fin 2 → Nat :=
  let c13_i32_111 : BitVec 32 := 13#32
  let v240 : Index := Scalar.indexCast c13_i32_111
  let c0_i32_96 : BitVec 32 := 0#32
  let c0_i32_61 : BitVec 32 := 0#32
  let c1_i32_63 : BitVec 32 := 1#32
  let arg19 : BitVec 32 := Scf.iv c0_i32_61 c1_i32_63 k1_t6
  let c1_i32_95 : BitVec 32 := 1#32
  let v136 : BitVec 32 := Scalar.muli arg19 c1_i32_95
  let v137 : BitVec 32 := Scalar.addi c0_i32_96 v136
  let c16_i32_97 : BitVec 32 := 16#32
  let v138 : BitVec 32 := Scalar.muli v137 c16_i32_97
  let v241 : Index := Scalar.indexCast v138
  ![13, v241.toNat]
def k1_off92 (k1_t6 : Fin k1_t6_loop.trips) : Fin 2 → Nat :=
  let c14_i32_112 : BitVec 32 := 14#32
  let v247 : Index := Scalar.indexCast c14_i32_112
  let c0_i32_96 : BitVec 32 := 0#32
  let c0_i32_61 : BitVec 32 := 0#32
  let c1_i32_63 : BitVec 32 := 1#32
  let arg19 : BitVec 32 := Scf.iv c0_i32_61 c1_i32_63 k1_t6
  let c1_i32_95 : BitVec 32 := 1#32
  let v136 : BitVec 32 := Scalar.muli arg19 c1_i32_95
  let v137 : BitVec 32 := Scalar.addi c0_i32_96 v136
  let c16_i32_97 : BitVec 32 := 16#32
  let v138 : BitVec 32 := Scalar.muli v137 c16_i32_97
  let v248 : Index := Scalar.indexCast v138
  ![14, v248.toNat]

def k1_chk8 (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v140 : IVec S16 32) : Prop :=
  (∀ a x, ((![v37, v140] : Fin 2 → IVec S16 32) a x).toNat < S16x2048.size a) ∧
  (∀ a x, ((![v38, v140] : Fin 2 → IVec S16 32) a x).toNat < S16x2048.size a) ∧
  (∀ a x, ((![v39, v140] : Fin 2 → IVec S16 32) a x).toNat < S16x2048.size a) ∧
  (∀ a x, ((![v40, v140] : Fin 2 → IVec S16 32) a x).toNat < S16x2048.size a) ∧
  (∀ a x, ((![v41, v140] : Fin 2 → IVec S16 32) a x).toNat < S16x2048.size a) ∧
  (∀ a x, ((![v42, v140] : Fin 2 → IVec S16 32) a x).toNat < S16x2048.size a) ∧
  (∀ a x, ((![v43, v140] : Fin 2 → IVec S16 32) a x).toNat < S16x2048.size a) ∧
  (∀ a x, ((![v44, v140] : Fin 2 → IVec S16 32) a x).toNat < S16x2048.size a) ∧
  (∀ a x, ((![v45, v140] : Fin 2 → IVec S16 32) a x).toNat < S16x2048.size a) ∧
  (∀ a x, ((![v46, v140] : Fin 2 → IVec S16 32) a x).toNat < S16x2048.size a) ∧
  (∀ a x, ((![v47, v140] : Fin 2 → IVec S16 32) a x).toNat < S16x2048.size a) ∧
  (∀ a x, ((![v48, v140] : Fin 2 → IVec S16 32) a x).toNat < S16x2048.size a) ∧
  (∀ a x, ((![v49, v140] : Fin 2 → IVec S16 32) a x).toNat < S16x2048.size a) ∧
  (∀ a x, ((![v50, v140] : Fin 2 → IVec S16 32) a x).toNat < S16x2048.size a) ∧
  (∀ a x, ((![v51, v140] : Fin 2 → IVec S16 32) a x).toNat < S16x2048.size a) ∧
  (∀ a x, ((![v52, v140] : Fin 2 → IVec S16 32) a x).toNat < S16x2048.size a)
theorem k1_idx98_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v140 : IVec S16 32) (k1_hw8 : k1_chk8 v37 v38 v39 v40 v41 v42 v43 v44 v45 v46 v47 v48 v49 v50 v51 v52 v140), ∀ a x, ((![v37, v140] : Fin 2 → IVec S16 32) a x).toNat < S16x2048.size a := fun v37 v38 v39 v40 v41 v42 v43 v44 v45 v46 v47 v48 v49 v50 v51 v52 v140 k1_hw8 => k1_hw8.1
theorem k1_idx100_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v140 : IVec S16 32) (k1_hw8 : k1_chk8 v37 v38 v39 v40 v41 v42 v43 v44 v45 v46 v47 v48 v49 v50 v51 v52 v140), ∀ a x, ((![v38, v140] : Fin 2 → IVec S16 32) a x).toNat < S16x2048.size a := fun v37 v38 v39 v40 v41 v42 v43 v44 v45 v46 v47 v48 v49 v50 v51 v52 v140 k1_hw8 => k1_hw8.2.1
theorem k1_idx102_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v140 : IVec S16 32) (k1_hw8 : k1_chk8 v37 v38 v39 v40 v41 v42 v43 v44 v45 v46 v47 v48 v49 v50 v51 v52 v140), ∀ a x, ((![v39, v140] : Fin 2 → IVec S16 32) a x).toNat < S16x2048.size a := fun v37 v38 v39 v40 v41 v42 v43 v44 v45 v46 v47 v48 v49 v50 v51 v52 v140 k1_hw8 => k1_hw8.2.2.1
theorem k1_idx104_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v140 : IVec S16 32) (k1_hw8 : k1_chk8 v37 v38 v39 v40 v41 v42 v43 v44 v45 v46 v47 v48 v49 v50 v51 v52 v140), ∀ a x, ((![v40, v140] : Fin 2 → IVec S16 32) a x).toNat < S16x2048.size a := fun v37 v38 v39 v40 v41 v42 v43 v44 v45 v46 v47 v48 v49 v50 v51 v52 v140 k1_hw8 => k1_hw8.2.2.2.1
theorem k1_idx106_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v140 : IVec S16 32) (k1_hw8 : k1_chk8 v37 v38 v39 v40 v41 v42 v43 v44 v45 v46 v47 v48 v49 v50 v51 v52 v140), ∀ a x, ((![v41, v140] : Fin 2 → IVec S16 32) a x).toNat < S16x2048.size a := fun v37 v38 v39 v40 v41 v42 v43 v44 v45 v46 v47 v48 v49 v50 v51 v52 v140 k1_hw8 => k1_hw8.2.2.2.2.1
theorem k1_idx108_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v140 : IVec S16 32) (k1_hw8 : k1_chk8 v37 v38 v39 v40 v41 v42 v43 v44 v45 v46 v47 v48 v49 v50 v51 v52 v140), ∀ a x, ((![v42, v140] : Fin 2 → IVec S16 32) a x).toNat < S16x2048.size a := fun v37 v38 v39 v40 v41 v42 v43 v44 v45 v46 v47 v48 v49 v50 v51 v52 v140 k1_hw8 => k1_hw8.2.2.2.2.2.1
theorem k1_idx110_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v140 : IVec S16 32) (k1_hw8 : k1_chk8 v37 v38 v39 v40 v41 v42 v43 v44 v45 v46 v47 v48 v49 v50 v51 v52 v140), ∀ a x, ((![v43, v140] : Fin 2 → IVec S16 32) a x).toNat < S16x2048.size a := fun v37 v38 v39 v40 v41 v42 v43 v44 v45 v46 v47 v48 v49 v50 v51 v52 v140 k1_hw8 => k1_hw8.2.2.2.2.2.2.1
theorem k1_idx112_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v140 : IVec S16 32) (k1_hw8 : k1_chk8 v37 v38 v39 v40 v41 v42 v43 v44 v45 v46 v47 v48 v49 v50 v51 v52 v140), ∀ a x, ((![v44, v140] : Fin 2 → IVec S16 32) a x).toNat < S16x2048.size a := fun v37 v38 v39 v40 v41 v42 v43 v44 v45 v46 v47 v48 v49 v50 v51 v52 v140 k1_hw8 => k1_hw8.2.2.2.2.2.2.2.1
theorem k1_idx114_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v140 : IVec S16 32) (k1_hw8 : k1_chk8 v37 v38 v39 v40 v41 v42 v43 v44 v45 v46 v47 v48 v49 v50 v51 v52 v140), ∀ a x, ((![v45, v140] : Fin 2 → IVec S16 32) a x).toNat < S16x2048.size a := fun v37 v38 v39 v40 v41 v42 v43 v44 v45 v46 v47 v48 v49 v50 v51 v52 v140 k1_hw8 => k1_hw8.2.2.2.2.2.2.2.2.1
theorem k1_idx116_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v140 : IVec S16 32) (k1_hw8 : k1_chk8 v37 v38 v39 v40 v41 v42 v43 v44 v45 v46 v47 v48 v49 v50 v51 v52 v140), ∀ a x, ((![v46, v140] : Fin 2 → IVec S16 32) a x).toNat < S16x2048.size a := fun v37 v38 v39 v40 v41 v42 v43 v44 v45 v46 v47 v48 v49 v50 v51 v52 v140 k1_hw8 => k1_hw8.2.2.2.2.2.2.2.2.2.1
theorem k1_idx118_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v140 : IVec S16 32) (k1_hw8 : k1_chk8 v37 v38 v39 v40 v41 v42 v43 v44 v45 v46 v47 v48 v49 v50 v51 v52 v140), ∀ a x, ((![v47, v140] : Fin 2 → IVec S16 32) a x).toNat < S16x2048.size a := fun v37 v38 v39 v40 v41 v42 v43 v44 v45 v46 v47 v48 v49 v50 v51 v52 v140 k1_hw8 => k1_hw8.2.2.2.2.2.2.2.2.2.2.1
theorem k1_idx120_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v140 : IVec S16 32) (k1_hw8 : k1_chk8 v37 v38 v39 v40 v41 v42 v43 v44 v45 v46 v47 v48 v49 v50 v51 v52 v140), ∀ a x, ((![v48, v140] : Fin 2 → IVec S16 32) a x).toNat < S16x2048.size a := fun v37 v38 v39 v40 v41 v42 v43 v44 v45 v46 v47 v48 v49 v50 v51 v52 v140 k1_hw8 => k1_hw8.2.2.2.2.2.2.2.2.2.2.2.1
theorem k1_idx122_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v140 : IVec S16 32) (k1_hw8 : k1_chk8 v37 v38 v39 v40 v41 v42 v43 v44 v45 v46 v47 v48 v49 v50 v51 v52 v140), ∀ a x, ((![v49, v140] : Fin 2 → IVec S16 32) a x).toNat < S16x2048.size a := fun v37 v38 v39 v40 v41 v42 v43 v44 v45 v46 v47 v48 v49 v50 v51 v52 v140 k1_hw8 => k1_hw8.2.2.2.2.2.2.2.2.2.2.2.2.1
theorem k1_idx124_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v140 : IVec S16 32) (k1_hw8 : k1_chk8 v37 v38 v39 v40 v41 v42 v43 v44 v45 v46 v47 v48 v49 v50 v51 v52 v140), ∀ a x, ((![v50, v140] : Fin 2 → IVec S16 32) a x).toNat < S16x2048.size a := fun v37 v38 v39 v40 v41 v42 v43 v44 v45 v46 v47 v48 v49 v50 v51 v52 v140 k1_hw8 => k1_hw8.2.2.2.2.2.2.2.2.2.2.2.2.2.1
theorem k1_idx126_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v140 : IVec S16 32) (k1_hw8 : k1_chk8 v37 v38 v39 v40 v41 v42 v43 v44 v45 v46 v47 v48 v49 v50 v51 v52 v140), ∀ a x, ((![v51, v140] : Fin 2 → IVec S16 32) a x).toNat < S16x2048.size a := fun v37 v38 v39 v40 v41 v42 v43 v44 v45 v46 v47 v48 v49 v50 v51 v52 v140 k1_hw8 => k1_hw8.2.2.2.2.2.2.2.2.2.2.2.2.2.2.1
theorem k1_idx128_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v140 : IVec S16 32) (k1_hw8 : k1_chk8 v37 v38 v39 v40 v41 v42 v43 v44 v45 v46 v47 v48 v49 v50 v51 v52 v140), ∀ a x, ((![v52, v140] : Fin 2 → IVec S16 32) a x).toNat < S16x2048.size a := fun v37 v38 v39 v40 v41 v42 v43 v44 v45 v46 v47 v48 v49 v50 v51 v52 v140 k1_hw8 => k1_hw8.2.2.2.2.2.2.2.2.2.2.2.2.2.2.2

def k1_chk9 (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v142 : IVec S16 32) : Prop :=
  (∀ a x, ((![v37, v142] : Fin 2 → IVec S16 32) a x).toNat < S16x2048.size a) ∧
  (∀ a x, ((![v38, v142] : Fin 2 → IVec S16 32) a x).toNat < S16x2048.size a) ∧
  (∀ a x, ((![v39, v142] : Fin 2 → IVec S16 32) a x).toNat < S16x2048.size a) ∧
  (∀ a x, ((![v40, v142] : Fin 2 → IVec S16 32) a x).toNat < S16x2048.size a) ∧
  (∀ a x, ((![v41, v142] : Fin 2 → IVec S16 32) a x).toNat < S16x2048.size a) ∧
  (∀ a x, ((![v42, v142] : Fin 2 → IVec S16 32) a x).toNat < S16x2048.size a) ∧
  (∀ a x, ((![v43, v142] : Fin 2 → IVec S16 32) a x).toNat < S16x2048.size a) ∧
  (∀ a x, ((![v44, v142] : Fin 2 → IVec S16 32) a x).toNat < S16x2048.size a) ∧
  (∀ a x, ((![v45, v142] : Fin 2 → IVec S16 32) a x).toNat < S16x2048.size a) ∧
  (∀ a x, ((![v46, v142] : Fin 2 → IVec S16 32) a x).toNat < S16x2048.size a) ∧
  (∀ a x, ((![v47, v142] : Fin 2 → IVec S16 32) a x).toNat < S16x2048.size a) ∧
  (∀ a x, ((![v48, v142] : Fin 2 → IVec S16 32) a x).toNat < S16x2048.size a) ∧
  (∀ a x, ((![v49, v142] : Fin 2 → IVec S16 32) a x).toNat < S16x2048.size a) ∧
  (∀ a x, ((![v50, v142] : Fin 2 → IVec S16 32) a x).toNat < S16x2048.size a) ∧
  (∀ a x, ((![v51, v142] : Fin 2 → IVec S16 32) a x).toNat < S16x2048.size a) ∧
  (∀ a x, ((![v52, v142] : Fin 2 → IVec S16 32) a x).toNat < S16x2048.size a)
theorem k1_idx99_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v142 : IVec S16 32) (k1_hw9 : k1_chk9 v37 v38 v39 v40 v41 v42 v43 v44 v45 v46 v47 v48 v49 v50 v51 v52 v142), ∀ a x, ((![v37, v142] : Fin 2 → IVec S16 32) a x).toNat < S16x2048.size a := fun v37 v38 v39 v40 v41 v42 v43 v44 v45 v46 v47 v48 v49 v50 v51 v52 v142 k1_hw9 => k1_hw9.1
theorem k1_idx101_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v142 : IVec S16 32) (k1_hw9 : k1_chk9 v37 v38 v39 v40 v41 v42 v43 v44 v45 v46 v47 v48 v49 v50 v51 v52 v142), ∀ a x, ((![v38, v142] : Fin 2 → IVec S16 32) a x).toNat < S16x2048.size a := fun v37 v38 v39 v40 v41 v42 v43 v44 v45 v46 v47 v48 v49 v50 v51 v52 v142 k1_hw9 => k1_hw9.2.1
theorem k1_idx103_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v142 : IVec S16 32) (k1_hw9 : k1_chk9 v37 v38 v39 v40 v41 v42 v43 v44 v45 v46 v47 v48 v49 v50 v51 v52 v142), ∀ a x, ((![v39, v142] : Fin 2 → IVec S16 32) a x).toNat < S16x2048.size a := fun v37 v38 v39 v40 v41 v42 v43 v44 v45 v46 v47 v48 v49 v50 v51 v52 v142 k1_hw9 => k1_hw9.2.2.1
theorem k1_idx105_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v142 : IVec S16 32) (k1_hw9 : k1_chk9 v37 v38 v39 v40 v41 v42 v43 v44 v45 v46 v47 v48 v49 v50 v51 v52 v142), ∀ a x, ((![v40, v142] : Fin 2 → IVec S16 32) a x).toNat < S16x2048.size a := fun v37 v38 v39 v40 v41 v42 v43 v44 v45 v46 v47 v48 v49 v50 v51 v52 v142 k1_hw9 => k1_hw9.2.2.2.1
theorem k1_idx107_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v142 : IVec S16 32) (k1_hw9 : k1_chk9 v37 v38 v39 v40 v41 v42 v43 v44 v45 v46 v47 v48 v49 v50 v51 v52 v142), ∀ a x, ((![v41, v142] : Fin 2 → IVec S16 32) a x).toNat < S16x2048.size a := fun v37 v38 v39 v40 v41 v42 v43 v44 v45 v46 v47 v48 v49 v50 v51 v52 v142 k1_hw9 => k1_hw9.2.2.2.2.1
theorem k1_idx109_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v142 : IVec S16 32) (k1_hw9 : k1_chk9 v37 v38 v39 v40 v41 v42 v43 v44 v45 v46 v47 v48 v49 v50 v51 v52 v142), ∀ a x, ((![v42, v142] : Fin 2 → IVec S16 32) a x).toNat < S16x2048.size a := fun v37 v38 v39 v40 v41 v42 v43 v44 v45 v46 v47 v48 v49 v50 v51 v52 v142 k1_hw9 => k1_hw9.2.2.2.2.2.1
theorem k1_idx111_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v142 : IVec S16 32) (k1_hw9 : k1_chk9 v37 v38 v39 v40 v41 v42 v43 v44 v45 v46 v47 v48 v49 v50 v51 v52 v142), ∀ a x, ((![v43, v142] : Fin 2 → IVec S16 32) a x).toNat < S16x2048.size a := fun v37 v38 v39 v40 v41 v42 v43 v44 v45 v46 v47 v48 v49 v50 v51 v52 v142 k1_hw9 => k1_hw9.2.2.2.2.2.2.1
theorem k1_idx113_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v142 : IVec S16 32) (k1_hw9 : k1_chk9 v37 v38 v39 v40 v41 v42 v43 v44 v45 v46 v47 v48 v49 v50 v51 v52 v142), ∀ a x, ((![v44, v142] : Fin 2 → IVec S16 32) a x).toNat < S16x2048.size a := fun v37 v38 v39 v40 v41 v42 v43 v44 v45 v46 v47 v48 v49 v50 v51 v52 v142 k1_hw9 => k1_hw9.2.2.2.2.2.2.2.1
theorem k1_idx115_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v142 : IVec S16 32) (k1_hw9 : k1_chk9 v37 v38 v39 v40 v41 v42 v43 v44 v45 v46 v47 v48 v49 v50 v51 v52 v142), ∀ a x, ((![v45, v142] : Fin 2 → IVec S16 32) a x).toNat < S16x2048.size a := fun v37 v38 v39 v40 v41 v42 v43 v44 v45 v46 v47 v48 v49 v50 v51 v52 v142 k1_hw9 => k1_hw9.2.2.2.2.2.2.2.2.1
theorem k1_idx117_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v142 : IVec S16 32) (k1_hw9 : k1_chk9 v37 v38 v39 v40 v41 v42 v43 v44 v45 v46 v47 v48 v49 v50 v51 v52 v142), ∀ a x, ((![v46, v142] : Fin 2 → IVec S16 32) a x).toNat < S16x2048.size a := fun v37 v38 v39 v40 v41 v42 v43 v44 v45 v46 v47 v48 v49 v50 v51 v52 v142 k1_hw9 => k1_hw9.2.2.2.2.2.2.2.2.2.1
theorem k1_idx119_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v142 : IVec S16 32) (k1_hw9 : k1_chk9 v37 v38 v39 v40 v41 v42 v43 v44 v45 v46 v47 v48 v49 v50 v51 v52 v142), ∀ a x, ((![v47, v142] : Fin 2 → IVec S16 32) a x).toNat < S16x2048.size a := fun v37 v38 v39 v40 v41 v42 v43 v44 v45 v46 v47 v48 v49 v50 v51 v52 v142 k1_hw9 => k1_hw9.2.2.2.2.2.2.2.2.2.2.1
theorem k1_idx121_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v142 : IVec S16 32) (k1_hw9 : k1_chk9 v37 v38 v39 v40 v41 v42 v43 v44 v45 v46 v47 v48 v49 v50 v51 v52 v142), ∀ a x, ((![v48, v142] : Fin 2 → IVec S16 32) a x).toNat < S16x2048.size a := fun v37 v38 v39 v40 v41 v42 v43 v44 v45 v46 v47 v48 v49 v50 v51 v52 v142 k1_hw9 => k1_hw9.2.2.2.2.2.2.2.2.2.2.2.1
theorem k1_idx123_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v142 : IVec S16 32) (k1_hw9 : k1_chk9 v37 v38 v39 v40 v41 v42 v43 v44 v45 v46 v47 v48 v49 v50 v51 v52 v142), ∀ a x, ((![v49, v142] : Fin 2 → IVec S16 32) a x).toNat < S16x2048.size a := fun v37 v38 v39 v40 v41 v42 v43 v44 v45 v46 v47 v48 v49 v50 v51 v52 v142 k1_hw9 => k1_hw9.2.2.2.2.2.2.2.2.2.2.2.2.1
theorem k1_idx125_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v142 : IVec S16 32) (k1_hw9 : k1_chk9 v37 v38 v39 v40 v41 v42 v43 v44 v45 v46 v47 v48 v49 v50 v51 v52 v142), ∀ a x, ((![v50, v142] : Fin 2 → IVec S16 32) a x).toNat < S16x2048.size a := fun v37 v38 v39 v40 v41 v42 v43 v44 v45 v46 v47 v48 v49 v50 v51 v52 v142 k1_hw9 => k1_hw9.2.2.2.2.2.2.2.2.2.2.2.2.2.1
theorem k1_idx127_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v142 : IVec S16 32) (k1_hw9 : k1_chk9 v37 v38 v39 v40 v41 v42 v43 v44 v45 v46 v47 v48 v49 v50 v51 v52 v142), ∀ a x, ((![v51, v142] : Fin 2 → IVec S16 32) a x).toNat < S16x2048.size a := fun v37 v38 v39 v40 v41 v42 v43 v44 v45 v46 v47 v48 v49 v50 v51 v52 v142 k1_hw9 => k1_hw9.2.2.2.2.2.2.2.2.2.2.2.2.2.2.1
theorem k1_idx129_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v142 : IVec S16 32) (k1_hw9 : k1_chk9 v37 v38 v39 v40 v41 v42 v43 v44 v45 v46 v47 v48 v49 v50 v51 v52 v142), ∀ a x, ((![v52, v142] : Fin 2 → IVec S16 32) a x).toNat < S16x2048.size a := fun v37 v38 v39 v40 v41 v42 v43 v44 v45 v46 v47 v48 v49 v50 v51 v52 v142 k1_hw9 => k1_hw9.2.2.2.2.2.2.2.2.2.2.2.2.2.2.2
def k1_off93 (k1_t6 : Fin k1_t6_loop.trips) : Fin 2 → Nat :=
  let c15_i32_113 : BitVec 32 := 15#32
  let v254 : Index := Scalar.indexCast c15_i32_113
  let c0_i32_96 : BitVec 32 := 0#32
  let c0_i32_61 : BitVec 32 := 0#32
  let c1_i32_63 : BitVec 32 := 1#32
  let arg19 : BitVec 32 := Scf.iv c0_i32_61 c1_i32_63 k1_t6
  let c1_i32_95 : BitVec 32 := 1#32
  let v136 : BitVec 32 := Scalar.muli arg19 c1_i32_95
  let v137 : BitVec 32 := Scalar.addi c0_i32_96 v136
  let c16_i32_97 : BitVec 32 := 16#32
  let v138 : BitVec 32 := Scalar.muli v137 c16_i32_97
  let v255 : Index := Scalar.indexCast v138
  ![15, v255.toNat]
@[reducible] def k1_t7_loop : Scf.Loop 32 :=
  let c0_i32_65 : BitVec 32 := 0#32
  let c64_i32_66 : BitVec 32 := 64#32
  let v103 : BitVec 32 := Scalar.addi c0_i32_65 c64_i32_66
  let c1_i32_67 : BitVec 32 := 1#32
  ⟨c0_i32_65, v103, c1_i32_67⟩
def k1_off94 (k1_t7 : Fin k1_t7_loop.trips) : Fin 1 → Nat :=
  let c32_i32_96 : BitVec 32 := 32#32
  let c0_i32_65 : BitVec 32 := 0#32
  let c1_i32_67 : BitVec 32 := 1#32
  let arg19 : BitVec 32 := Scf.iv c0_i32_65 c1_i32_67 k1_t7
  let c1_i32_95 : BitVec 32 := 1#32
  let v136 : BitVec 32 := Scalar.muli arg19 c1_i32_95
  let v137 : BitVec 32 := Scalar.addi c32_i32_96 v136
  let c16_i32_97 : BitVec 32 := 16#32
  let v138 : BitVec 32 := Scalar.muli v137 c16_i32_97
  let v139 : Index := Scalar.indexCast v138
  ![v139.toNat]
def k1_off95 (k1_t7 : Fin k1_t7_loop.trips) : Fin 2 → Nat :=
  let c0_i32_98 : BitVec 32 := 0#32
  let v142 : Index := Scalar.indexCast c0_i32_98
  let c32_i32_96 : BitVec 32 := 32#32
  let c0_i32_65 : BitVec 32 := 0#32
  let c1_i32_67 : BitVec 32 := 1#32
  let arg19 : BitVec 32 := Scf.iv c0_i32_65 c1_i32_67 k1_t7
  let c1_i32_95 : BitVec 32 := 1#32
  let v136 : BitVec 32 := Scalar.muli arg19 c1_i32_95
  let v137 : BitVec 32 := Scalar.addi c32_i32_96 v136
  let c16_i32_97 : BitVec 32 := 16#32
  let v138 : BitVec 32 := Scalar.muli v137 c16_i32_97
  let v143 : Index := Scalar.indexCast v138
  ![0, v143.toNat]
def k1_off96 (k1_t7 : Fin k1_t7_loop.trips) : Fin 2 → Nat :=
  let c1_i32_99 : BitVec 32 := 1#32
  let v146 : Index := Scalar.indexCast c1_i32_99
  let c32_i32_96 : BitVec 32 := 32#32
  let c0_i32_65 : BitVec 32 := 0#32
  let c1_i32_67 : BitVec 32 := 1#32
  let arg19 : BitVec 32 := Scf.iv c0_i32_65 c1_i32_67 k1_t7
  let c1_i32_95 : BitVec 32 := 1#32
  let v136 : BitVec 32 := Scalar.muli arg19 c1_i32_95
  let v137 : BitVec 32 := Scalar.addi c32_i32_96 v136
  let c16_i32_97 : BitVec 32 := 16#32
  let v138 : BitVec 32 := Scalar.muli v137 c16_i32_97
  let v147 : Index := Scalar.indexCast v138
  ![1, v147.toNat]
def k1_off97 (k1_t7 : Fin k1_t7_loop.trips) : Fin 2 → Nat :=
  let c2_i32_100 : BitVec 32 := 2#32
  let v150 : Index := Scalar.indexCast c2_i32_100
  let c32_i32_96 : BitVec 32 := 32#32
  let c0_i32_65 : BitVec 32 := 0#32
  let c1_i32_67 : BitVec 32 := 1#32
  let arg19 : BitVec 32 := Scf.iv c0_i32_65 c1_i32_67 k1_t7
  let c1_i32_95 : BitVec 32 := 1#32
  let v136 : BitVec 32 := Scalar.muli arg19 c1_i32_95
  let v137 : BitVec 32 := Scalar.addi c32_i32_96 v136
  let c16_i32_97 : BitVec 32 := 16#32
  let v138 : BitVec 32 := Scalar.muli v137 c16_i32_97
  let v151 : Index := Scalar.indexCast v138
  ![2, v151.toNat]
def k1_off98 (k1_t7 : Fin k1_t7_loop.trips) : Fin 2 → Nat :=
  let c3_i32_101 : BitVec 32 := 3#32
  let v154 : Index := Scalar.indexCast c3_i32_101
  let c32_i32_96 : BitVec 32 := 32#32
  let c0_i32_65 : BitVec 32 := 0#32
  let c1_i32_67 : BitVec 32 := 1#32
  let arg19 : BitVec 32 := Scf.iv c0_i32_65 c1_i32_67 k1_t7
  let c1_i32_95 : BitVec 32 := 1#32
  let v136 : BitVec 32 := Scalar.muli arg19 c1_i32_95
  let v137 : BitVec 32 := Scalar.addi c32_i32_96 v136
  let c16_i32_97 : BitVec 32 := 16#32
  let v138 : BitVec 32 := Scalar.muli v137 c16_i32_97
  let v155 : Index := Scalar.indexCast v138
  ![3, v155.toNat]
def k1_off99 (k1_t7 : Fin k1_t7_loop.trips) : Fin 2 → Nat :=
  let c4_i32_102 : BitVec 32 := 4#32
  let v158 : Index := Scalar.indexCast c4_i32_102
  let c32_i32_96 : BitVec 32 := 32#32
  let c0_i32_65 : BitVec 32 := 0#32
  let c1_i32_67 : BitVec 32 := 1#32
  let arg19 : BitVec 32 := Scf.iv c0_i32_65 c1_i32_67 k1_t7
  let c1_i32_95 : BitVec 32 := 1#32
  let v136 : BitVec 32 := Scalar.muli arg19 c1_i32_95
  let v137 : BitVec 32 := Scalar.addi c32_i32_96 v136
  let c16_i32_97 : BitVec 32 := 16#32
  let v138 : BitVec 32 := Scalar.muli v137 c16_i32_97
  let v159 : Index := Scalar.indexCast v138
  ![4, v159.toNat]
def k1_off100 (k1_t7 : Fin k1_t7_loop.trips) : Fin 2 → Nat :=
  let c5_i32_103 : BitVec 32 := 5#32
  let v162 : Index := Scalar.indexCast c5_i32_103
  let c32_i32_96 : BitVec 32 := 32#32
  let c0_i32_65 : BitVec 32 := 0#32
  let c1_i32_67 : BitVec 32 := 1#32
  let arg19 : BitVec 32 := Scf.iv c0_i32_65 c1_i32_67 k1_t7
  let c1_i32_95 : BitVec 32 := 1#32
  let v136 : BitVec 32 := Scalar.muli arg19 c1_i32_95
  let v137 : BitVec 32 := Scalar.addi c32_i32_96 v136
  let c16_i32_97 : BitVec 32 := 16#32
  let v138 : BitVec 32 := Scalar.muli v137 c16_i32_97
  let v163 : Index := Scalar.indexCast v138
  ![5, v163.toNat]
def k1_off101 (k1_t7 : Fin k1_t7_loop.trips) : Fin 2 → Nat :=
  let c6_i32_104 : BitVec 32 := 6#32
  let v166 : Index := Scalar.indexCast c6_i32_104
  let c32_i32_96 : BitVec 32 := 32#32
  let c0_i32_65 : BitVec 32 := 0#32
  let c1_i32_67 : BitVec 32 := 1#32
  let arg19 : BitVec 32 := Scf.iv c0_i32_65 c1_i32_67 k1_t7
  let c1_i32_95 : BitVec 32 := 1#32
  let v136 : BitVec 32 := Scalar.muli arg19 c1_i32_95
  let v137 : BitVec 32 := Scalar.addi c32_i32_96 v136
  let c16_i32_97 : BitVec 32 := 16#32
  let v138 : BitVec 32 := Scalar.muli v137 c16_i32_97
  let v167 : Index := Scalar.indexCast v138
  ![6, v167.toNat]
def k1_off102 (k1_t7 : Fin k1_t7_loop.trips) : Fin 2 → Nat :=
  let c7_i32_105 : BitVec 32 := 7#32
  let v170 : Index := Scalar.indexCast c7_i32_105
  let c32_i32_96 : BitVec 32 := 32#32
  let c0_i32_65 : BitVec 32 := 0#32
  let c1_i32_67 : BitVec 32 := 1#32
  let arg19 : BitVec 32 := Scf.iv c0_i32_65 c1_i32_67 k1_t7
  let c1_i32_95 : BitVec 32 := 1#32
  let v136 : BitVec 32 := Scalar.muli arg19 c1_i32_95
  let v137 : BitVec 32 := Scalar.addi c32_i32_96 v136
  let c16_i32_97 : BitVec 32 := 16#32
  let v138 : BitVec 32 := Scalar.muli v137 c16_i32_97
  let v171 : Index := Scalar.indexCast v138
  ![7, v171.toNat]
def k1_off103 (k1_t7 : Fin k1_t7_loop.trips) : Fin 2 → Nat :=
  let c8_i32_106 : BitVec 32 := 8#32
  let v174 : Index := Scalar.indexCast c8_i32_106
  let c32_i32_96 : BitVec 32 := 32#32
  let c0_i32_65 : BitVec 32 := 0#32
  let c1_i32_67 : BitVec 32 := 1#32
  let arg19 : BitVec 32 := Scf.iv c0_i32_65 c1_i32_67 k1_t7
  let c1_i32_95 : BitVec 32 := 1#32
  let v136 : BitVec 32 := Scalar.muli arg19 c1_i32_95
  let v137 : BitVec 32 := Scalar.addi c32_i32_96 v136
  let c16_i32_97 : BitVec 32 := 16#32
  let v138 : BitVec 32 := Scalar.muli v137 c16_i32_97
  let v175 : Index := Scalar.indexCast v138
  ![8, v175.toNat]
def k1_off104 (k1_t7 : Fin k1_t7_loop.trips) : Fin 2 → Nat :=
  let c9_i32_107 : BitVec 32 := 9#32
  let v178 : Index := Scalar.indexCast c9_i32_107
  let c32_i32_96 : BitVec 32 := 32#32
  let c0_i32_65 : BitVec 32 := 0#32
  let c1_i32_67 : BitVec 32 := 1#32
  let arg19 : BitVec 32 := Scf.iv c0_i32_65 c1_i32_67 k1_t7
  let c1_i32_95 : BitVec 32 := 1#32
  let v136 : BitVec 32 := Scalar.muli arg19 c1_i32_95
  let v137 : BitVec 32 := Scalar.addi c32_i32_96 v136
  let c16_i32_97 : BitVec 32 := 16#32
  let v138 : BitVec 32 := Scalar.muli v137 c16_i32_97
  let v179 : Index := Scalar.indexCast v138
  ![9, v179.toNat]
def k1_off105 (k1_t7 : Fin k1_t7_loop.trips) : Fin 2 → Nat :=
  let c10_i32_108 : BitVec 32 := 10#32
  let v182 : Index := Scalar.indexCast c10_i32_108
  let c32_i32_96 : BitVec 32 := 32#32
  let c0_i32_65 : BitVec 32 := 0#32
  let c1_i32_67 : BitVec 32 := 1#32
  let arg19 : BitVec 32 := Scf.iv c0_i32_65 c1_i32_67 k1_t7
  let c1_i32_95 : BitVec 32 := 1#32
  let v136 : BitVec 32 := Scalar.muli arg19 c1_i32_95
  let v137 : BitVec 32 := Scalar.addi c32_i32_96 v136
  let c16_i32_97 : BitVec 32 := 16#32
  let v138 : BitVec 32 := Scalar.muli v137 c16_i32_97
  let v183 : Index := Scalar.indexCast v138
  ![10, v183.toNat]
def k1_off106 (k1_t7 : Fin k1_t7_loop.trips) : Fin 2 → Nat :=
  let c11_i32_109 : BitVec 32 := 11#32
  let v186 : Index := Scalar.indexCast c11_i32_109
  let c32_i32_96 : BitVec 32 := 32#32
  let c0_i32_65 : BitVec 32 := 0#32
  let c1_i32_67 : BitVec 32 := 1#32
  let arg19 : BitVec 32 := Scf.iv c0_i32_65 c1_i32_67 k1_t7
  let c1_i32_95 : BitVec 32 := 1#32
  let v136 : BitVec 32 := Scalar.muli arg19 c1_i32_95
  let v137 : BitVec 32 := Scalar.addi c32_i32_96 v136
  let c16_i32_97 : BitVec 32 := 16#32
  let v138 : BitVec 32 := Scalar.muli v137 c16_i32_97
  let v187 : Index := Scalar.indexCast v138
  ![11, v187.toNat]
def k1_off107 (k1_t7 : Fin k1_t7_loop.trips) : Fin 2 → Nat :=
  let c12_i32_110 : BitVec 32 := 12#32
  let v190 : Index := Scalar.indexCast c12_i32_110
  let c32_i32_96 : BitVec 32 := 32#32
  let c0_i32_65 : BitVec 32 := 0#32
  let c1_i32_67 : BitVec 32 := 1#32
  let arg19 : BitVec 32 := Scf.iv c0_i32_65 c1_i32_67 k1_t7
  let c1_i32_95 : BitVec 32 := 1#32
  let v136 : BitVec 32 := Scalar.muli arg19 c1_i32_95
  let v137 : BitVec 32 := Scalar.addi c32_i32_96 v136
  let c16_i32_97 : BitVec 32 := 16#32
  let v138 : BitVec 32 := Scalar.muli v137 c16_i32_97
  let v191 : Index := Scalar.indexCast v138
  ![12, v191.toNat]
def k1_off108 (k1_t7 : Fin k1_t7_loop.trips) : Fin 2 → Nat :=
  let c13_i32_111 : BitVec 32 := 13#32
  let v194 : Index := Scalar.indexCast c13_i32_111
  let c32_i32_96 : BitVec 32 := 32#32
  let c0_i32_65 : BitVec 32 := 0#32
  let c1_i32_67 : BitVec 32 := 1#32
  let arg19 : BitVec 32 := Scf.iv c0_i32_65 c1_i32_67 k1_t7
  let c1_i32_95 : BitVec 32 := 1#32
  let v136 : BitVec 32 := Scalar.muli arg19 c1_i32_95
  let v137 : BitVec 32 := Scalar.addi c32_i32_96 v136
  let c16_i32_97 : BitVec 32 := 16#32
  let v138 : BitVec 32 := Scalar.muli v137 c16_i32_97
  let v195 : Index := Scalar.indexCast v138
  ![13, v195.toNat]
def k1_off109 (k1_t7 : Fin k1_t7_loop.trips) : Fin 2 → Nat :=
  let c14_i32_112 : BitVec 32 := 14#32
  let v198 : Index := Scalar.indexCast c14_i32_112
  let c32_i32_96 : BitVec 32 := 32#32
  let c0_i32_65 : BitVec 32 := 0#32
  let c1_i32_67 : BitVec 32 := 1#32
  let arg19 : BitVec 32 := Scf.iv c0_i32_65 c1_i32_67 k1_t7
  let c1_i32_95 : BitVec 32 := 1#32
  let v136 : BitVec 32 := Scalar.muli arg19 c1_i32_95
  let v137 : BitVec 32 := Scalar.addi c32_i32_96 v136
  let c16_i32_97 : BitVec 32 := 16#32
  let v138 : BitVec 32 := Scalar.muli v137 c16_i32_97
  let v199 : Index := Scalar.indexCast v138
  ![14, v199.toNat]

def k1_chk10 (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v140 : IVec S16 32) : Prop :=
  (∀ a x, ((![v37, v140] : Fin 2 → IVec S16 32) a x).toNat < S16x2048.size a) ∧
  (∀ a x, ((![v38, v140] : Fin 2 → IVec S16 32) a x).toNat < S16x2048.size a) ∧
  (∀ a x, ((![v39, v140] : Fin 2 → IVec S16 32) a x).toNat < S16x2048.size a) ∧
  (∀ a x, ((![v40, v140] : Fin 2 → IVec S16 32) a x).toNat < S16x2048.size a) ∧
  (∀ a x, ((![v41, v140] : Fin 2 → IVec S16 32) a x).toNat < S16x2048.size a) ∧
  (∀ a x, ((![v42, v140] : Fin 2 → IVec S16 32) a x).toNat < S16x2048.size a) ∧
  (∀ a x, ((![v43, v140] : Fin 2 → IVec S16 32) a x).toNat < S16x2048.size a) ∧
  (∀ a x, ((![v44, v140] : Fin 2 → IVec S16 32) a x).toNat < S16x2048.size a) ∧
  (∀ a x, ((![v45, v140] : Fin 2 → IVec S16 32) a x).toNat < S16x2048.size a) ∧
  (∀ a x, ((![v46, v140] : Fin 2 → IVec S16 32) a x).toNat < S16x2048.size a) ∧
  (∀ a x, ((![v47, v140] : Fin 2 → IVec S16 32) a x).toNat < S16x2048.size a) ∧
  (∀ a x, ((![v48, v140] : Fin 2 → IVec S16 32) a x).toNat < S16x2048.size a) ∧
  (∀ a x, ((![v49, v140] : Fin 2 → IVec S16 32) a x).toNat < S16x2048.size a) ∧
  (∀ a x, ((![v50, v140] : Fin 2 → IVec S16 32) a x).toNat < S16x2048.size a) ∧
  (∀ a x, ((![v51, v140] : Fin 2 → IVec S16 32) a x).toNat < S16x2048.size a) ∧
  (∀ a x, ((![v52, v140] : Fin 2 → IVec S16 32) a x).toNat < S16x2048.size a)
theorem k1_idx130_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v140 : IVec S16 32) (k1_hw10 : k1_chk10 v37 v38 v39 v40 v41 v42 v43 v44 v45 v46 v47 v48 v49 v50 v51 v52 v140), ∀ a x, ((![v37, v140] : Fin 2 → IVec S16 32) a x).toNat < S16x2048.size a := fun v37 v38 v39 v40 v41 v42 v43 v44 v45 v46 v47 v48 v49 v50 v51 v52 v140 k1_hw10 => k1_hw10.1
theorem k1_idx131_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v140 : IVec S16 32) (k1_hw10 : k1_chk10 v37 v38 v39 v40 v41 v42 v43 v44 v45 v46 v47 v48 v49 v50 v51 v52 v140), ∀ a x, ((![v38, v140] : Fin 2 → IVec S16 32) a x).toNat < S16x2048.size a := fun v37 v38 v39 v40 v41 v42 v43 v44 v45 v46 v47 v48 v49 v50 v51 v52 v140 k1_hw10 => k1_hw10.2.1
theorem k1_idx132_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v140 : IVec S16 32) (k1_hw10 : k1_chk10 v37 v38 v39 v40 v41 v42 v43 v44 v45 v46 v47 v48 v49 v50 v51 v52 v140), ∀ a x, ((![v39, v140] : Fin 2 → IVec S16 32) a x).toNat < S16x2048.size a := fun v37 v38 v39 v40 v41 v42 v43 v44 v45 v46 v47 v48 v49 v50 v51 v52 v140 k1_hw10 => k1_hw10.2.2.1
theorem k1_idx133_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v140 : IVec S16 32) (k1_hw10 : k1_chk10 v37 v38 v39 v40 v41 v42 v43 v44 v45 v46 v47 v48 v49 v50 v51 v52 v140), ∀ a x, ((![v40, v140] : Fin 2 → IVec S16 32) a x).toNat < S16x2048.size a := fun v37 v38 v39 v40 v41 v42 v43 v44 v45 v46 v47 v48 v49 v50 v51 v52 v140 k1_hw10 => k1_hw10.2.2.2.1
theorem k1_idx134_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v140 : IVec S16 32) (k1_hw10 : k1_chk10 v37 v38 v39 v40 v41 v42 v43 v44 v45 v46 v47 v48 v49 v50 v51 v52 v140), ∀ a x, ((![v41, v140] : Fin 2 → IVec S16 32) a x).toNat < S16x2048.size a := fun v37 v38 v39 v40 v41 v42 v43 v44 v45 v46 v47 v48 v49 v50 v51 v52 v140 k1_hw10 => k1_hw10.2.2.2.2.1
theorem k1_idx135_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v140 : IVec S16 32) (k1_hw10 : k1_chk10 v37 v38 v39 v40 v41 v42 v43 v44 v45 v46 v47 v48 v49 v50 v51 v52 v140), ∀ a x, ((![v42, v140] : Fin 2 → IVec S16 32) a x).toNat < S16x2048.size a := fun v37 v38 v39 v40 v41 v42 v43 v44 v45 v46 v47 v48 v49 v50 v51 v52 v140 k1_hw10 => k1_hw10.2.2.2.2.2.1
theorem k1_idx136_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v140 : IVec S16 32) (k1_hw10 : k1_chk10 v37 v38 v39 v40 v41 v42 v43 v44 v45 v46 v47 v48 v49 v50 v51 v52 v140), ∀ a x, ((![v43, v140] : Fin 2 → IVec S16 32) a x).toNat < S16x2048.size a := fun v37 v38 v39 v40 v41 v42 v43 v44 v45 v46 v47 v48 v49 v50 v51 v52 v140 k1_hw10 => k1_hw10.2.2.2.2.2.2.1
theorem k1_idx137_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v140 : IVec S16 32) (k1_hw10 : k1_chk10 v37 v38 v39 v40 v41 v42 v43 v44 v45 v46 v47 v48 v49 v50 v51 v52 v140), ∀ a x, ((![v44, v140] : Fin 2 → IVec S16 32) a x).toNat < S16x2048.size a := fun v37 v38 v39 v40 v41 v42 v43 v44 v45 v46 v47 v48 v49 v50 v51 v52 v140 k1_hw10 => k1_hw10.2.2.2.2.2.2.2.1
theorem k1_idx138_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v140 : IVec S16 32) (k1_hw10 : k1_chk10 v37 v38 v39 v40 v41 v42 v43 v44 v45 v46 v47 v48 v49 v50 v51 v52 v140), ∀ a x, ((![v45, v140] : Fin 2 → IVec S16 32) a x).toNat < S16x2048.size a := fun v37 v38 v39 v40 v41 v42 v43 v44 v45 v46 v47 v48 v49 v50 v51 v52 v140 k1_hw10 => k1_hw10.2.2.2.2.2.2.2.2.1
theorem k1_idx139_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v140 : IVec S16 32) (k1_hw10 : k1_chk10 v37 v38 v39 v40 v41 v42 v43 v44 v45 v46 v47 v48 v49 v50 v51 v52 v140), ∀ a x, ((![v46, v140] : Fin 2 → IVec S16 32) a x).toNat < S16x2048.size a := fun v37 v38 v39 v40 v41 v42 v43 v44 v45 v46 v47 v48 v49 v50 v51 v52 v140 k1_hw10 => k1_hw10.2.2.2.2.2.2.2.2.2.1
theorem k1_idx140_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v140 : IVec S16 32) (k1_hw10 : k1_chk10 v37 v38 v39 v40 v41 v42 v43 v44 v45 v46 v47 v48 v49 v50 v51 v52 v140), ∀ a x, ((![v47, v140] : Fin 2 → IVec S16 32) a x).toNat < S16x2048.size a := fun v37 v38 v39 v40 v41 v42 v43 v44 v45 v46 v47 v48 v49 v50 v51 v52 v140 k1_hw10 => k1_hw10.2.2.2.2.2.2.2.2.2.2.1
theorem k1_idx141_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v140 : IVec S16 32) (k1_hw10 : k1_chk10 v37 v38 v39 v40 v41 v42 v43 v44 v45 v46 v47 v48 v49 v50 v51 v52 v140), ∀ a x, ((![v48, v140] : Fin 2 → IVec S16 32) a x).toNat < S16x2048.size a := fun v37 v38 v39 v40 v41 v42 v43 v44 v45 v46 v47 v48 v49 v50 v51 v52 v140 k1_hw10 => k1_hw10.2.2.2.2.2.2.2.2.2.2.2.1
theorem k1_idx142_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v140 : IVec S16 32) (k1_hw10 : k1_chk10 v37 v38 v39 v40 v41 v42 v43 v44 v45 v46 v47 v48 v49 v50 v51 v52 v140), ∀ a x, ((![v49, v140] : Fin 2 → IVec S16 32) a x).toNat < S16x2048.size a := fun v37 v38 v39 v40 v41 v42 v43 v44 v45 v46 v47 v48 v49 v50 v51 v52 v140 k1_hw10 => k1_hw10.2.2.2.2.2.2.2.2.2.2.2.2.1
theorem k1_idx143_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v140 : IVec S16 32) (k1_hw10 : k1_chk10 v37 v38 v39 v40 v41 v42 v43 v44 v45 v46 v47 v48 v49 v50 v51 v52 v140), ∀ a x, ((![v50, v140] : Fin 2 → IVec S16 32) a x).toNat < S16x2048.size a := fun v37 v38 v39 v40 v41 v42 v43 v44 v45 v46 v47 v48 v49 v50 v51 v52 v140 k1_hw10 => k1_hw10.2.2.2.2.2.2.2.2.2.2.2.2.2.1
theorem k1_idx144_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v140 : IVec S16 32) (k1_hw10 : k1_chk10 v37 v38 v39 v40 v41 v42 v43 v44 v45 v46 v47 v48 v49 v50 v51 v52 v140), ∀ a x, ((![v51, v140] : Fin 2 → IVec S16 32) a x).toNat < S16x2048.size a := fun v37 v38 v39 v40 v41 v42 v43 v44 v45 v46 v47 v48 v49 v50 v51 v52 v140 k1_hw10 => k1_hw10.2.2.2.2.2.2.2.2.2.2.2.2.2.2.1
theorem k1_idx145_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v140 : IVec S16 32) (k1_hw10 : k1_chk10 v37 v38 v39 v40 v41 v42 v43 v44 v45 v46 v47 v48 v49 v50 v51 v52 v140), ∀ a x, ((![v52, v140] : Fin 2 → IVec S16 32) a x).toNat < S16x2048.size a := fun v37 v38 v39 v40 v41 v42 v43 v44 v45 v46 v47 v48 v49 v50 v51 v52 v140 k1_hw10 => k1_hw10.2.2.2.2.2.2.2.2.2.2.2.2.2.2.2
def k1_off110 (k1_t7 : Fin k1_t7_loop.trips) : Fin 2 → Nat :=
  let c15_i32_113 : BitVec 32 := 15#32
  let v202 : Index := Scalar.indexCast c15_i32_113
  let c32_i32_96 : BitVec 32 := 32#32
  let c0_i32_65 : BitVec 32 := 0#32
  let c1_i32_67 : BitVec 32 := 1#32
  let arg19 : BitVec 32 := Scf.iv c0_i32_65 c1_i32_67 k1_t7
  let c1_i32_95 : BitVec 32 := 1#32
  let v136 : BitVec 32 := Scalar.muli arg19 c1_i32_95
  let v137 : BitVec 32 := Scalar.addi c32_i32_96 v136
  let c16_i32_97 : BitVec 32 := 16#32
  let v138 : BitVec 32 := Scalar.muli v137 c16_i32_97
  let v203 : Index := Scalar.indexCast v138
  ![15, v203.toNat]
@[reducible] def k1_t8_loop : Scf.Loop 32 :=
  let c0_i32_78 : BitVec 32 := 0#32
  let c32_i32_79 : BitVec 32 := 32#32
  let v119 : BitVec 32 := Scalar.addi c0_i32_78 c32_i32_79
  let c1_i32_80 : BitVec 32 := 1#32
  ⟨c0_i32_78, v119, c1_i32_80⟩
def k1_off111 (k1_t8 : Fin k1_t8_loop.trips) : Fin 1 → Nat :=
  let c0_i32_96 : BitVec 32 := 0#32
  let c0_i32_78 : BitVec 32 := 0#32
  let c1_i32_80 : BitVec 32 := 1#32
  let arg19 : BitVec 32 := Scf.iv c0_i32_78 c1_i32_80 k1_t8
  let c1_i32_95 : BitVec 32 := 1#32
  let v136 : BitVec 32 := Scalar.muli arg19 c1_i32_95
  let v137 : BitVec 32 := Scalar.addi c0_i32_96 v136
  let c16_i32_97 : BitVec 32 := 16#32
  let v138 : BitVec 32 := Scalar.muli v137 c16_i32_97
  let v139 : Index := Scalar.indexCast v138
  ![v139.toNat]
def k1_off112 (k1_t8 : Fin k1_t8_loop.trips) : Fin 2 → Nat :=
  let c0_i32_98 : BitVec 32 := 0#32
  let v149 : Index := Scalar.indexCast c0_i32_98
  let c0_i32_96 : BitVec 32 := 0#32
  let c0_i32_78 : BitVec 32 := 0#32
  let c1_i32_80 : BitVec 32 := 1#32
  let arg19 : BitVec 32 := Scf.iv c0_i32_78 c1_i32_80 k1_t8
  let c1_i32_95 : BitVec 32 := 1#32
  let v136 : BitVec 32 := Scalar.muli arg19 c1_i32_95
  let v137 : BitVec 32 := Scalar.addi c0_i32_96 v136
  let c16_i32_97 : BitVec 32 := 16#32
  let v138 : BitVec 32 := Scalar.muli v137 c16_i32_97
  let v150 : Index := Scalar.indexCast v138
  ![0, v150.toNat]
def k1_off113 (k1_t8 : Fin k1_t8_loop.trips) : Fin 2 → Nat :=
  let c1_i32_99 : BitVec 32 := 1#32
  let v156 : Index := Scalar.indexCast c1_i32_99
  let c0_i32_96 : BitVec 32 := 0#32
  let c0_i32_78 : BitVec 32 := 0#32
  let c1_i32_80 : BitVec 32 := 1#32
  let arg19 : BitVec 32 := Scf.iv c0_i32_78 c1_i32_80 k1_t8
  let c1_i32_95 : BitVec 32 := 1#32
  let v136 : BitVec 32 := Scalar.muli arg19 c1_i32_95
  let v137 : BitVec 32 := Scalar.addi c0_i32_96 v136
  let c16_i32_97 : BitVec 32 := 16#32
  let v138 : BitVec 32 := Scalar.muli v137 c16_i32_97
  let v157 : Index := Scalar.indexCast v138
  ![1, v157.toNat]
def k1_off114 (k1_t8 : Fin k1_t8_loop.trips) : Fin 2 → Nat :=
  let c2_i32_100 : BitVec 32 := 2#32
  let v163 : Index := Scalar.indexCast c2_i32_100
  let c0_i32_96 : BitVec 32 := 0#32
  let c0_i32_78 : BitVec 32 := 0#32
  let c1_i32_80 : BitVec 32 := 1#32
  let arg19 : BitVec 32 := Scf.iv c0_i32_78 c1_i32_80 k1_t8
  let c1_i32_95 : BitVec 32 := 1#32
  let v136 : BitVec 32 := Scalar.muli arg19 c1_i32_95
  let v137 : BitVec 32 := Scalar.addi c0_i32_96 v136
  let c16_i32_97 : BitVec 32 := 16#32
  let v138 : BitVec 32 := Scalar.muli v137 c16_i32_97
  let v164 : Index := Scalar.indexCast v138
  ![2, v164.toNat]
def k1_off115 (k1_t8 : Fin k1_t8_loop.trips) : Fin 2 → Nat :=
  let c3_i32_101 : BitVec 32 := 3#32
  let v170 : Index := Scalar.indexCast c3_i32_101
  let c0_i32_96 : BitVec 32 := 0#32
  let c0_i32_78 : BitVec 32 := 0#32
  let c1_i32_80 : BitVec 32 := 1#32
  let arg19 : BitVec 32 := Scf.iv c0_i32_78 c1_i32_80 k1_t8
  let c1_i32_95 : BitVec 32 := 1#32
  let v136 : BitVec 32 := Scalar.muli arg19 c1_i32_95
  let v137 : BitVec 32 := Scalar.addi c0_i32_96 v136
  let c16_i32_97 : BitVec 32 := 16#32
  let v138 : BitVec 32 := Scalar.muli v137 c16_i32_97
  let v171 : Index := Scalar.indexCast v138
  ![3, v171.toNat]
def k1_off116 (k1_t8 : Fin k1_t8_loop.trips) : Fin 2 → Nat :=
  let c4_i32_102 : BitVec 32 := 4#32
  let v177 : Index := Scalar.indexCast c4_i32_102
  let c0_i32_96 : BitVec 32 := 0#32
  let c0_i32_78 : BitVec 32 := 0#32
  let c1_i32_80 : BitVec 32 := 1#32
  let arg19 : BitVec 32 := Scf.iv c0_i32_78 c1_i32_80 k1_t8
  let c1_i32_95 : BitVec 32 := 1#32
  let v136 : BitVec 32 := Scalar.muli arg19 c1_i32_95
  let v137 : BitVec 32 := Scalar.addi c0_i32_96 v136
  let c16_i32_97 : BitVec 32 := 16#32
  let v138 : BitVec 32 := Scalar.muli v137 c16_i32_97
  let v178 : Index := Scalar.indexCast v138
  ![4, v178.toNat]
def k1_off117 (k1_t8 : Fin k1_t8_loop.trips) : Fin 2 → Nat :=
  let c5_i32_103 : BitVec 32 := 5#32
  let v184 : Index := Scalar.indexCast c5_i32_103
  let c0_i32_96 : BitVec 32 := 0#32
  let c0_i32_78 : BitVec 32 := 0#32
  let c1_i32_80 : BitVec 32 := 1#32
  let arg19 : BitVec 32 := Scf.iv c0_i32_78 c1_i32_80 k1_t8
  let c1_i32_95 : BitVec 32 := 1#32
  let v136 : BitVec 32 := Scalar.muli arg19 c1_i32_95
  let v137 : BitVec 32 := Scalar.addi c0_i32_96 v136
  let c16_i32_97 : BitVec 32 := 16#32
  let v138 : BitVec 32 := Scalar.muli v137 c16_i32_97
  let v185 : Index := Scalar.indexCast v138
  ![5, v185.toNat]
def k1_off118 (k1_t8 : Fin k1_t8_loop.trips) : Fin 2 → Nat :=
  let c6_i32_104 : BitVec 32 := 6#32
  let v191 : Index := Scalar.indexCast c6_i32_104
  let c0_i32_96 : BitVec 32 := 0#32
  let c0_i32_78 : BitVec 32 := 0#32
  let c1_i32_80 : BitVec 32 := 1#32
  let arg19 : BitVec 32 := Scf.iv c0_i32_78 c1_i32_80 k1_t8
  let c1_i32_95 : BitVec 32 := 1#32
  let v136 : BitVec 32 := Scalar.muli arg19 c1_i32_95
  let v137 : BitVec 32 := Scalar.addi c0_i32_96 v136
  let c16_i32_97 : BitVec 32 := 16#32
  let v138 : BitVec 32 := Scalar.muli v137 c16_i32_97
  let v192 : Index := Scalar.indexCast v138
  ![6, v192.toNat]
def k1_off119 (k1_t8 : Fin k1_t8_loop.trips) : Fin 2 → Nat :=
  let c7_i32_105 : BitVec 32 := 7#32
  let v198 : Index := Scalar.indexCast c7_i32_105
  let c0_i32_96 : BitVec 32 := 0#32
  let c0_i32_78 : BitVec 32 := 0#32
  let c1_i32_80 : BitVec 32 := 1#32
  let arg19 : BitVec 32 := Scf.iv c0_i32_78 c1_i32_80 k1_t8
  let c1_i32_95 : BitVec 32 := 1#32
  let v136 : BitVec 32 := Scalar.muli arg19 c1_i32_95
  let v137 : BitVec 32 := Scalar.addi c0_i32_96 v136
  let c16_i32_97 : BitVec 32 := 16#32
  let v138 : BitVec 32 := Scalar.muli v137 c16_i32_97
  let v199 : Index := Scalar.indexCast v138
  ![7, v199.toNat]
def k1_off120 (k1_t8 : Fin k1_t8_loop.trips) : Fin 2 → Nat :=
  let c8_i32_106 : BitVec 32 := 8#32
  let v205 : Index := Scalar.indexCast c8_i32_106
  let c0_i32_96 : BitVec 32 := 0#32
  let c0_i32_78 : BitVec 32 := 0#32
  let c1_i32_80 : BitVec 32 := 1#32
  let arg19 : BitVec 32 := Scf.iv c0_i32_78 c1_i32_80 k1_t8
  let c1_i32_95 : BitVec 32 := 1#32
  let v136 : BitVec 32 := Scalar.muli arg19 c1_i32_95
  let v137 : BitVec 32 := Scalar.addi c0_i32_96 v136
  let c16_i32_97 : BitVec 32 := 16#32
  let v138 : BitVec 32 := Scalar.muli v137 c16_i32_97
  let v206 : Index := Scalar.indexCast v138
  ![8, v206.toNat]
def k1_off121 (k1_t8 : Fin k1_t8_loop.trips) : Fin 2 → Nat :=
  let c9_i32_107 : BitVec 32 := 9#32
  let v212 : Index := Scalar.indexCast c9_i32_107
  let c0_i32_96 : BitVec 32 := 0#32
  let c0_i32_78 : BitVec 32 := 0#32
  let c1_i32_80 : BitVec 32 := 1#32
  let arg19 : BitVec 32 := Scf.iv c0_i32_78 c1_i32_80 k1_t8
  let c1_i32_95 : BitVec 32 := 1#32
  let v136 : BitVec 32 := Scalar.muli arg19 c1_i32_95
  let v137 : BitVec 32 := Scalar.addi c0_i32_96 v136
  let c16_i32_97 : BitVec 32 := 16#32
  let v138 : BitVec 32 := Scalar.muli v137 c16_i32_97
  let v213 : Index := Scalar.indexCast v138
  ![9, v213.toNat]
def k1_off122 (k1_t8 : Fin k1_t8_loop.trips) : Fin 2 → Nat :=
  let c10_i32_108 : BitVec 32 := 10#32
  let v219 : Index := Scalar.indexCast c10_i32_108
  let c0_i32_96 : BitVec 32 := 0#32
  let c0_i32_78 : BitVec 32 := 0#32
  let c1_i32_80 : BitVec 32 := 1#32
  let arg19 : BitVec 32 := Scf.iv c0_i32_78 c1_i32_80 k1_t8
  let c1_i32_95 : BitVec 32 := 1#32
  let v136 : BitVec 32 := Scalar.muli arg19 c1_i32_95
  let v137 : BitVec 32 := Scalar.addi c0_i32_96 v136
  let c16_i32_97 : BitVec 32 := 16#32
  let v138 : BitVec 32 := Scalar.muli v137 c16_i32_97
  let v220 : Index := Scalar.indexCast v138
  ![10, v220.toNat]
def k1_off123 (k1_t8 : Fin k1_t8_loop.trips) : Fin 2 → Nat :=
  let c11_i32_109 : BitVec 32 := 11#32
  let v226 : Index := Scalar.indexCast c11_i32_109
  let c0_i32_96 : BitVec 32 := 0#32
  let c0_i32_78 : BitVec 32 := 0#32
  let c1_i32_80 : BitVec 32 := 1#32
  let arg19 : BitVec 32 := Scf.iv c0_i32_78 c1_i32_80 k1_t8
  let c1_i32_95 : BitVec 32 := 1#32
  let v136 : BitVec 32 := Scalar.muli arg19 c1_i32_95
  let v137 : BitVec 32 := Scalar.addi c0_i32_96 v136
  let c16_i32_97 : BitVec 32 := 16#32
  let v138 : BitVec 32 := Scalar.muli v137 c16_i32_97
  let v227 : Index := Scalar.indexCast v138
  ![11, v227.toNat]
def k1_off124 (k1_t8 : Fin k1_t8_loop.trips) : Fin 2 → Nat :=
  let c12_i32_110 : BitVec 32 := 12#32
  let v233 : Index := Scalar.indexCast c12_i32_110
  let c0_i32_96 : BitVec 32 := 0#32
  let c0_i32_78 : BitVec 32 := 0#32
  let c1_i32_80 : BitVec 32 := 1#32
  let arg19 : BitVec 32 := Scf.iv c0_i32_78 c1_i32_80 k1_t8
  let c1_i32_95 : BitVec 32 := 1#32
  let v136 : BitVec 32 := Scalar.muli arg19 c1_i32_95
  let v137 : BitVec 32 := Scalar.addi c0_i32_96 v136
  let c16_i32_97 : BitVec 32 := 16#32
  let v138 : BitVec 32 := Scalar.muli v137 c16_i32_97
  let v234 : Index := Scalar.indexCast v138
  ![12, v234.toNat]
def k1_off125 (k1_t8 : Fin k1_t8_loop.trips) : Fin 2 → Nat :=
  let c13_i32_111 : BitVec 32 := 13#32
  let v240 : Index := Scalar.indexCast c13_i32_111
  let c0_i32_96 : BitVec 32 := 0#32
  let c0_i32_78 : BitVec 32 := 0#32
  let c1_i32_80 : BitVec 32 := 1#32
  let arg19 : BitVec 32 := Scf.iv c0_i32_78 c1_i32_80 k1_t8
  let c1_i32_95 : BitVec 32 := 1#32
  let v136 : BitVec 32 := Scalar.muli arg19 c1_i32_95
  let v137 : BitVec 32 := Scalar.addi c0_i32_96 v136
  let c16_i32_97 : BitVec 32 := 16#32
  let v138 : BitVec 32 := Scalar.muli v137 c16_i32_97
  let v241 : Index := Scalar.indexCast v138
  ![13, v241.toNat]
def k1_off126 (k1_t8 : Fin k1_t8_loop.trips) : Fin 2 → Nat :=
  let c14_i32_112 : BitVec 32 := 14#32
  let v247 : Index := Scalar.indexCast c14_i32_112
  let c0_i32_96 : BitVec 32 := 0#32
  let c0_i32_78 : BitVec 32 := 0#32
  let c1_i32_80 : BitVec 32 := 1#32
  let arg19 : BitVec 32 := Scf.iv c0_i32_78 c1_i32_80 k1_t8
  let c1_i32_95 : BitVec 32 := 1#32
  let v136 : BitVec 32 := Scalar.muli arg19 c1_i32_95
  let v137 : BitVec 32 := Scalar.addi c0_i32_96 v136
  let c16_i32_97 : BitVec 32 := 16#32
  let v138 : BitVec 32 := Scalar.muli v137 c16_i32_97
  let v248 : Index := Scalar.indexCast v138
  ![14, v248.toNat]

def k1_chk11 (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v140 : IVec S16 32) : Prop :=
  (∀ a x, ((![v37, v140] : Fin 2 → IVec S16 32) a x).toNat < S16x2048.size a) ∧
  (∀ a x, ((![v38, v140] : Fin 2 → IVec S16 32) a x).toNat < S16x2048.size a) ∧
  (∀ a x, ((![v39, v140] : Fin 2 → IVec S16 32) a x).toNat < S16x2048.size a) ∧
  (∀ a x, ((![v40, v140] : Fin 2 → IVec S16 32) a x).toNat < S16x2048.size a) ∧
  (∀ a x, ((![v41, v140] : Fin 2 → IVec S16 32) a x).toNat < S16x2048.size a) ∧
  (∀ a x, ((![v42, v140] : Fin 2 → IVec S16 32) a x).toNat < S16x2048.size a) ∧
  (∀ a x, ((![v43, v140] : Fin 2 → IVec S16 32) a x).toNat < S16x2048.size a) ∧
  (∀ a x, ((![v44, v140] : Fin 2 → IVec S16 32) a x).toNat < S16x2048.size a) ∧
  (∀ a x, ((![v45, v140] : Fin 2 → IVec S16 32) a x).toNat < S16x2048.size a) ∧
  (∀ a x, ((![v46, v140] : Fin 2 → IVec S16 32) a x).toNat < S16x2048.size a) ∧
  (∀ a x, ((![v47, v140] : Fin 2 → IVec S16 32) a x).toNat < S16x2048.size a) ∧
  (∀ a x, ((![v48, v140] : Fin 2 → IVec S16 32) a x).toNat < S16x2048.size a) ∧
  (∀ a x, ((![v49, v140] : Fin 2 → IVec S16 32) a x).toNat < S16x2048.size a) ∧
  (∀ a x, ((![v50, v140] : Fin 2 → IVec S16 32) a x).toNat < S16x2048.size a) ∧
  (∀ a x, ((![v51, v140] : Fin 2 → IVec S16 32) a x).toNat < S16x2048.size a) ∧
  (∀ a x, ((![v52, v140] : Fin 2 → IVec S16 32) a x).toNat < S16x2048.size a)
theorem k1_idx146_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v140 : IVec S16 32) (k1_hw11 : k1_chk11 v37 v38 v39 v40 v41 v42 v43 v44 v45 v46 v47 v48 v49 v50 v51 v52 v140), ∀ a x, ((![v37, v140] : Fin 2 → IVec S16 32) a x).toNat < S16x2048.size a := fun v37 v38 v39 v40 v41 v42 v43 v44 v45 v46 v47 v48 v49 v50 v51 v52 v140 k1_hw11 => k1_hw11.1
theorem k1_idx148_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v140 : IVec S16 32) (k1_hw11 : k1_chk11 v37 v38 v39 v40 v41 v42 v43 v44 v45 v46 v47 v48 v49 v50 v51 v52 v140), ∀ a x, ((![v38, v140] : Fin 2 → IVec S16 32) a x).toNat < S16x2048.size a := fun v37 v38 v39 v40 v41 v42 v43 v44 v45 v46 v47 v48 v49 v50 v51 v52 v140 k1_hw11 => k1_hw11.2.1
theorem k1_idx150_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v140 : IVec S16 32) (k1_hw11 : k1_chk11 v37 v38 v39 v40 v41 v42 v43 v44 v45 v46 v47 v48 v49 v50 v51 v52 v140), ∀ a x, ((![v39, v140] : Fin 2 → IVec S16 32) a x).toNat < S16x2048.size a := fun v37 v38 v39 v40 v41 v42 v43 v44 v45 v46 v47 v48 v49 v50 v51 v52 v140 k1_hw11 => k1_hw11.2.2.1
theorem k1_idx152_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v140 : IVec S16 32) (k1_hw11 : k1_chk11 v37 v38 v39 v40 v41 v42 v43 v44 v45 v46 v47 v48 v49 v50 v51 v52 v140), ∀ a x, ((![v40, v140] : Fin 2 → IVec S16 32) a x).toNat < S16x2048.size a := fun v37 v38 v39 v40 v41 v42 v43 v44 v45 v46 v47 v48 v49 v50 v51 v52 v140 k1_hw11 => k1_hw11.2.2.2.1
theorem k1_idx154_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v140 : IVec S16 32) (k1_hw11 : k1_chk11 v37 v38 v39 v40 v41 v42 v43 v44 v45 v46 v47 v48 v49 v50 v51 v52 v140), ∀ a x, ((![v41, v140] : Fin 2 → IVec S16 32) a x).toNat < S16x2048.size a := fun v37 v38 v39 v40 v41 v42 v43 v44 v45 v46 v47 v48 v49 v50 v51 v52 v140 k1_hw11 => k1_hw11.2.2.2.2.1
theorem k1_idx156_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v140 : IVec S16 32) (k1_hw11 : k1_chk11 v37 v38 v39 v40 v41 v42 v43 v44 v45 v46 v47 v48 v49 v50 v51 v52 v140), ∀ a x, ((![v42, v140] : Fin 2 → IVec S16 32) a x).toNat < S16x2048.size a := fun v37 v38 v39 v40 v41 v42 v43 v44 v45 v46 v47 v48 v49 v50 v51 v52 v140 k1_hw11 => k1_hw11.2.2.2.2.2.1
theorem k1_idx158_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v140 : IVec S16 32) (k1_hw11 : k1_chk11 v37 v38 v39 v40 v41 v42 v43 v44 v45 v46 v47 v48 v49 v50 v51 v52 v140), ∀ a x, ((![v43, v140] : Fin 2 → IVec S16 32) a x).toNat < S16x2048.size a := fun v37 v38 v39 v40 v41 v42 v43 v44 v45 v46 v47 v48 v49 v50 v51 v52 v140 k1_hw11 => k1_hw11.2.2.2.2.2.2.1
theorem k1_idx160_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v140 : IVec S16 32) (k1_hw11 : k1_chk11 v37 v38 v39 v40 v41 v42 v43 v44 v45 v46 v47 v48 v49 v50 v51 v52 v140), ∀ a x, ((![v44, v140] : Fin 2 → IVec S16 32) a x).toNat < S16x2048.size a := fun v37 v38 v39 v40 v41 v42 v43 v44 v45 v46 v47 v48 v49 v50 v51 v52 v140 k1_hw11 => k1_hw11.2.2.2.2.2.2.2.1
theorem k1_idx162_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v140 : IVec S16 32) (k1_hw11 : k1_chk11 v37 v38 v39 v40 v41 v42 v43 v44 v45 v46 v47 v48 v49 v50 v51 v52 v140), ∀ a x, ((![v45, v140] : Fin 2 → IVec S16 32) a x).toNat < S16x2048.size a := fun v37 v38 v39 v40 v41 v42 v43 v44 v45 v46 v47 v48 v49 v50 v51 v52 v140 k1_hw11 => k1_hw11.2.2.2.2.2.2.2.2.1
theorem k1_idx164_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v140 : IVec S16 32) (k1_hw11 : k1_chk11 v37 v38 v39 v40 v41 v42 v43 v44 v45 v46 v47 v48 v49 v50 v51 v52 v140), ∀ a x, ((![v46, v140] : Fin 2 → IVec S16 32) a x).toNat < S16x2048.size a := fun v37 v38 v39 v40 v41 v42 v43 v44 v45 v46 v47 v48 v49 v50 v51 v52 v140 k1_hw11 => k1_hw11.2.2.2.2.2.2.2.2.2.1
theorem k1_idx166_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v140 : IVec S16 32) (k1_hw11 : k1_chk11 v37 v38 v39 v40 v41 v42 v43 v44 v45 v46 v47 v48 v49 v50 v51 v52 v140), ∀ a x, ((![v47, v140] : Fin 2 → IVec S16 32) a x).toNat < S16x2048.size a := fun v37 v38 v39 v40 v41 v42 v43 v44 v45 v46 v47 v48 v49 v50 v51 v52 v140 k1_hw11 => k1_hw11.2.2.2.2.2.2.2.2.2.2.1
theorem k1_idx168_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v140 : IVec S16 32) (k1_hw11 : k1_chk11 v37 v38 v39 v40 v41 v42 v43 v44 v45 v46 v47 v48 v49 v50 v51 v52 v140), ∀ a x, ((![v48, v140] : Fin 2 → IVec S16 32) a x).toNat < S16x2048.size a := fun v37 v38 v39 v40 v41 v42 v43 v44 v45 v46 v47 v48 v49 v50 v51 v52 v140 k1_hw11 => k1_hw11.2.2.2.2.2.2.2.2.2.2.2.1
theorem k1_idx170_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v140 : IVec S16 32) (k1_hw11 : k1_chk11 v37 v38 v39 v40 v41 v42 v43 v44 v45 v46 v47 v48 v49 v50 v51 v52 v140), ∀ a x, ((![v49, v140] : Fin 2 → IVec S16 32) a x).toNat < S16x2048.size a := fun v37 v38 v39 v40 v41 v42 v43 v44 v45 v46 v47 v48 v49 v50 v51 v52 v140 k1_hw11 => k1_hw11.2.2.2.2.2.2.2.2.2.2.2.2.1
theorem k1_idx172_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v140 : IVec S16 32) (k1_hw11 : k1_chk11 v37 v38 v39 v40 v41 v42 v43 v44 v45 v46 v47 v48 v49 v50 v51 v52 v140), ∀ a x, ((![v50, v140] : Fin 2 → IVec S16 32) a x).toNat < S16x2048.size a := fun v37 v38 v39 v40 v41 v42 v43 v44 v45 v46 v47 v48 v49 v50 v51 v52 v140 k1_hw11 => k1_hw11.2.2.2.2.2.2.2.2.2.2.2.2.2.1
theorem k1_idx174_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v140 : IVec S16 32) (k1_hw11 : k1_chk11 v37 v38 v39 v40 v41 v42 v43 v44 v45 v46 v47 v48 v49 v50 v51 v52 v140), ∀ a x, ((![v51, v140] : Fin 2 → IVec S16 32) a x).toNat < S16x2048.size a := fun v37 v38 v39 v40 v41 v42 v43 v44 v45 v46 v47 v48 v49 v50 v51 v52 v140 k1_hw11 => k1_hw11.2.2.2.2.2.2.2.2.2.2.2.2.2.2.1
theorem k1_idx176_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v140 : IVec S16 32) (k1_hw11 : k1_chk11 v37 v38 v39 v40 v41 v42 v43 v44 v45 v46 v47 v48 v49 v50 v51 v52 v140), ∀ a x, ((![v52, v140] : Fin 2 → IVec S16 32) a x).toNat < S16x2048.size a := fun v37 v38 v39 v40 v41 v42 v43 v44 v45 v46 v47 v48 v49 v50 v51 v52 v140 k1_hw11 => k1_hw11.2.2.2.2.2.2.2.2.2.2.2.2.2.2.2

def k1_chk12 (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v142 : IVec S16 32) : Prop :=
  (∀ a x, ((![v37, v142] : Fin 2 → IVec S16 32) a x).toNat < S16x2048.size a) ∧
  (∀ a x, ((![v38, v142] : Fin 2 → IVec S16 32) a x).toNat < S16x2048.size a) ∧
  (∀ a x, ((![v39, v142] : Fin 2 → IVec S16 32) a x).toNat < S16x2048.size a) ∧
  (∀ a x, ((![v40, v142] : Fin 2 → IVec S16 32) a x).toNat < S16x2048.size a) ∧
  (∀ a x, ((![v41, v142] : Fin 2 → IVec S16 32) a x).toNat < S16x2048.size a) ∧
  (∀ a x, ((![v42, v142] : Fin 2 → IVec S16 32) a x).toNat < S16x2048.size a) ∧
  (∀ a x, ((![v43, v142] : Fin 2 → IVec S16 32) a x).toNat < S16x2048.size a) ∧
  (∀ a x, ((![v44, v142] : Fin 2 → IVec S16 32) a x).toNat < S16x2048.size a) ∧
  (∀ a x, ((![v45, v142] : Fin 2 → IVec S16 32) a x).toNat < S16x2048.size a) ∧
  (∀ a x, ((![v46, v142] : Fin 2 → IVec S16 32) a x).toNat < S16x2048.size a) ∧
  (∀ a x, ((![v47, v142] : Fin 2 → IVec S16 32) a x).toNat < S16x2048.size a) ∧
  (∀ a x, ((![v48, v142] : Fin 2 → IVec S16 32) a x).toNat < S16x2048.size a) ∧
  (∀ a x, ((![v49, v142] : Fin 2 → IVec S16 32) a x).toNat < S16x2048.size a) ∧
  (∀ a x, ((![v50, v142] : Fin 2 → IVec S16 32) a x).toNat < S16x2048.size a) ∧
  (∀ a x, ((![v51, v142] : Fin 2 → IVec S16 32) a x).toNat < S16x2048.size a) ∧
  (∀ a x, ((![v52, v142] : Fin 2 → IVec S16 32) a x).toNat < S16x2048.size a)
theorem k1_idx147_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v142 : IVec S16 32) (k1_hw12 : k1_chk12 v37 v38 v39 v40 v41 v42 v43 v44 v45 v46 v47 v48 v49 v50 v51 v52 v142), ∀ a x, ((![v37, v142] : Fin 2 → IVec S16 32) a x).toNat < S16x2048.size a := fun v37 v38 v39 v40 v41 v42 v43 v44 v45 v46 v47 v48 v49 v50 v51 v52 v142 k1_hw12 => k1_hw12.1
theorem k1_idx149_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v142 : IVec S16 32) (k1_hw12 : k1_chk12 v37 v38 v39 v40 v41 v42 v43 v44 v45 v46 v47 v48 v49 v50 v51 v52 v142), ∀ a x, ((![v38, v142] : Fin 2 → IVec S16 32) a x).toNat < S16x2048.size a := fun v37 v38 v39 v40 v41 v42 v43 v44 v45 v46 v47 v48 v49 v50 v51 v52 v142 k1_hw12 => k1_hw12.2.1
theorem k1_idx151_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v142 : IVec S16 32) (k1_hw12 : k1_chk12 v37 v38 v39 v40 v41 v42 v43 v44 v45 v46 v47 v48 v49 v50 v51 v52 v142), ∀ a x, ((![v39, v142] : Fin 2 → IVec S16 32) a x).toNat < S16x2048.size a := fun v37 v38 v39 v40 v41 v42 v43 v44 v45 v46 v47 v48 v49 v50 v51 v52 v142 k1_hw12 => k1_hw12.2.2.1
theorem k1_idx153_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v142 : IVec S16 32) (k1_hw12 : k1_chk12 v37 v38 v39 v40 v41 v42 v43 v44 v45 v46 v47 v48 v49 v50 v51 v52 v142), ∀ a x, ((![v40, v142] : Fin 2 → IVec S16 32) a x).toNat < S16x2048.size a := fun v37 v38 v39 v40 v41 v42 v43 v44 v45 v46 v47 v48 v49 v50 v51 v52 v142 k1_hw12 => k1_hw12.2.2.2.1
theorem k1_idx155_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v142 : IVec S16 32) (k1_hw12 : k1_chk12 v37 v38 v39 v40 v41 v42 v43 v44 v45 v46 v47 v48 v49 v50 v51 v52 v142), ∀ a x, ((![v41, v142] : Fin 2 → IVec S16 32) a x).toNat < S16x2048.size a := fun v37 v38 v39 v40 v41 v42 v43 v44 v45 v46 v47 v48 v49 v50 v51 v52 v142 k1_hw12 => k1_hw12.2.2.2.2.1
theorem k1_idx157_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v142 : IVec S16 32) (k1_hw12 : k1_chk12 v37 v38 v39 v40 v41 v42 v43 v44 v45 v46 v47 v48 v49 v50 v51 v52 v142), ∀ a x, ((![v42, v142] : Fin 2 → IVec S16 32) a x).toNat < S16x2048.size a := fun v37 v38 v39 v40 v41 v42 v43 v44 v45 v46 v47 v48 v49 v50 v51 v52 v142 k1_hw12 => k1_hw12.2.2.2.2.2.1
theorem k1_idx159_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v142 : IVec S16 32) (k1_hw12 : k1_chk12 v37 v38 v39 v40 v41 v42 v43 v44 v45 v46 v47 v48 v49 v50 v51 v52 v142), ∀ a x, ((![v43, v142] : Fin 2 → IVec S16 32) a x).toNat < S16x2048.size a := fun v37 v38 v39 v40 v41 v42 v43 v44 v45 v46 v47 v48 v49 v50 v51 v52 v142 k1_hw12 => k1_hw12.2.2.2.2.2.2.1
theorem k1_idx161_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v142 : IVec S16 32) (k1_hw12 : k1_chk12 v37 v38 v39 v40 v41 v42 v43 v44 v45 v46 v47 v48 v49 v50 v51 v52 v142), ∀ a x, ((![v44, v142] : Fin 2 → IVec S16 32) a x).toNat < S16x2048.size a := fun v37 v38 v39 v40 v41 v42 v43 v44 v45 v46 v47 v48 v49 v50 v51 v52 v142 k1_hw12 => k1_hw12.2.2.2.2.2.2.2.1
theorem k1_idx163_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v142 : IVec S16 32) (k1_hw12 : k1_chk12 v37 v38 v39 v40 v41 v42 v43 v44 v45 v46 v47 v48 v49 v50 v51 v52 v142), ∀ a x, ((![v45, v142] : Fin 2 → IVec S16 32) a x).toNat < S16x2048.size a := fun v37 v38 v39 v40 v41 v42 v43 v44 v45 v46 v47 v48 v49 v50 v51 v52 v142 k1_hw12 => k1_hw12.2.2.2.2.2.2.2.2.1
theorem k1_idx165_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v142 : IVec S16 32) (k1_hw12 : k1_chk12 v37 v38 v39 v40 v41 v42 v43 v44 v45 v46 v47 v48 v49 v50 v51 v52 v142), ∀ a x, ((![v46, v142] : Fin 2 → IVec S16 32) a x).toNat < S16x2048.size a := fun v37 v38 v39 v40 v41 v42 v43 v44 v45 v46 v47 v48 v49 v50 v51 v52 v142 k1_hw12 => k1_hw12.2.2.2.2.2.2.2.2.2.1
theorem k1_idx167_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v142 : IVec S16 32) (k1_hw12 : k1_chk12 v37 v38 v39 v40 v41 v42 v43 v44 v45 v46 v47 v48 v49 v50 v51 v52 v142), ∀ a x, ((![v47, v142] : Fin 2 → IVec S16 32) a x).toNat < S16x2048.size a := fun v37 v38 v39 v40 v41 v42 v43 v44 v45 v46 v47 v48 v49 v50 v51 v52 v142 k1_hw12 => k1_hw12.2.2.2.2.2.2.2.2.2.2.1
theorem k1_idx169_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v142 : IVec S16 32) (k1_hw12 : k1_chk12 v37 v38 v39 v40 v41 v42 v43 v44 v45 v46 v47 v48 v49 v50 v51 v52 v142), ∀ a x, ((![v48, v142] : Fin 2 → IVec S16 32) a x).toNat < S16x2048.size a := fun v37 v38 v39 v40 v41 v42 v43 v44 v45 v46 v47 v48 v49 v50 v51 v52 v142 k1_hw12 => k1_hw12.2.2.2.2.2.2.2.2.2.2.2.1
theorem k1_idx171_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v142 : IVec S16 32) (k1_hw12 : k1_chk12 v37 v38 v39 v40 v41 v42 v43 v44 v45 v46 v47 v48 v49 v50 v51 v52 v142), ∀ a x, ((![v49, v142] : Fin 2 → IVec S16 32) a x).toNat < S16x2048.size a := fun v37 v38 v39 v40 v41 v42 v43 v44 v45 v46 v47 v48 v49 v50 v51 v52 v142 k1_hw12 => k1_hw12.2.2.2.2.2.2.2.2.2.2.2.2.1
theorem k1_idx173_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v142 : IVec S16 32) (k1_hw12 : k1_chk12 v37 v38 v39 v40 v41 v42 v43 v44 v45 v46 v47 v48 v49 v50 v51 v52 v142), ∀ a x, ((![v50, v142] : Fin 2 → IVec S16 32) a x).toNat < S16x2048.size a := fun v37 v38 v39 v40 v41 v42 v43 v44 v45 v46 v47 v48 v49 v50 v51 v52 v142 k1_hw12 => k1_hw12.2.2.2.2.2.2.2.2.2.2.2.2.2.1
theorem k1_idx175_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v142 : IVec S16 32) (k1_hw12 : k1_chk12 v37 v38 v39 v40 v41 v42 v43 v44 v45 v46 v47 v48 v49 v50 v51 v52 v142), ∀ a x, ((![v51, v142] : Fin 2 → IVec S16 32) a x).toNat < S16x2048.size a := fun v37 v38 v39 v40 v41 v42 v43 v44 v45 v46 v47 v48 v49 v50 v51 v52 v142 k1_hw12 => k1_hw12.2.2.2.2.2.2.2.2.2.2.2.2.2.2.1
theorem k1_idx177_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v142 : IVec S16 32) (k1_hw12 : k1_chk12 v37 v38 v39 v40 v41 v42 v43 v44 v45 v46 v47 v48 v49 v50 v51 v52 v142), ∀ a x, ((![v52, v142] : Fin 2 → IVec S16 32) a x).toNat < S16x2048.size a := fun v37 v38 v39 v40 v41 v42 v43 v44 v45 v46 v47 v48 v49 v50 v51 v52 v142 k1_hw12 => k1_hw12.2.2.2.2.2.2.2.2.2.2.2.2.2.2.2
def k1_off127 (k1_t8 : Fin k1_t8_loop.trips) : Fin 2 → Nat :=
  let c15_i32_113 : BitVec 32 := 15#32
  let v254 : Index := Scalar.indexCast c15_i32_113
  let c0_i32_96 : BitVec 32 := 0#32
  let c0_i32_78 : BitVec 32 := 0#32
  let c1_i32_80 : BitVec 32 := 1#32
  let arg19 : BitVec 32 := Scf.iv c0_i32_78 c1_i32_80 k1_t8
  let c1_i32_95 : BitVec 32 := 1#32
  let v136 : BitVec 32 := Scalar.muli arg19 c1_i32_95
  let v137 : BitVec 32 := Scalar.addi c0_i32_96 v136
  let c16_i32_97 : BitVec 32 := 16#32
  let v138 : BitVec 32 := Scalar.muli v137 c16_i32_97
  let v255 : Index := Scalar.indexCast v138
  ![15, v255.toNat]
@[reducible] def k1_t9_loop : Scf.Loop 32 :=
  let c0_i32_82 : BitVec 32 := 0#32
  let c64_i32_83 : BitVec 32 := 64#32
  let v120 : BitVec 32 := Scalar.addi c0_i32_82 c64_i32_83
  let c1_i32_84 : BitVec 32 := 1#32
  ⟨c0_i32_82, v120, c1_i32_84⟩
def k1_off128 (k1_t9 : Fin k1_t9_loop.trips) : Fin 1 → Nat :=
  let c32_i32_96 : BitVec 32 := 32#32
  let c0_i32_82 : BitVec 32 := 0#32
  let c1_i32_84 : BitVec 32 := 1#32
  let arg19 : BitVec 32 := Scf.iv c0_i32_82 c1_i32_84 k1_t9
  let c1_i32_95 : BitVec 32 := 1#32
  let v136 : BitVec 32 := Scalar.muli arg19 c1_i32_95
  let v137 : BitVec 32 := Scalar.addi c32_i32_96 v136
  let c16_i32_97 : BitVec 32 := 16#32
  let v138 : BitVec 32 := Scalar.muli v137 c16_i32_97
  let v139 : Index := Scalar.indexCast v138
  ![v139.toNat]
def k1_off129 (k1_t9 : Fin k1_t9_loop.trips) : Fin 2 → Nat :=
  let c0_i32_98 : BitVec 32 := 0#32
  let v142 : Index := Scalar.indexCast c0_i32_98
  let c32_i32_96 : BitVec 32 := 32#32
  let c0_i32_82 : BitVec 32 := 0#32
  let c1_i32_84 : BitVec 32 := 1#32
  let arg19 : BitVec 32 := Scf.iv c0_i32_82 c1_i32_84 k1_t9
  let c1_i32_95 : BitVec 32 := 1#32
  let v136 : BitVec 32 := Scalar.muli arg19 c1_i32_95
  let v137 : BitVec 32 := Scalar.addi c32_i32_96 v136
  let c16_i32_97 : BitVec 32 := 16#32
  let v138 : BitVec 32 := Scalar.muli v137 c16_i32_97
  let v143 : Index := Scalar.indexCast v138
  ![0, v143.toNat]
def k1_off130 (k1_t9 : Fin k1_t9_loop.trips) : Fin 2 → Nat :=
  let c1_i32_99 : BitVec 32 := 1#32
  let v146 : Index := Scalar.indexCast c1_i32_99
  let c32_i32_96 : BitVec 32 := 32#32
  let c0_i32_82 : BitVec 32 := 0#32
  let c1_i32_84 : BitVec 32 := 1#32
  let arg19 : BitVec 32 := Scf.iv c0_i32_82 c1_i32_84 k1_t9
  let c1_i32_95 : BitVec 32 := 1#32
  let v136 : BitVec 32 := Scalar.muli arg19 c1_i32_95
  let v137 : BitVec 32 := Scalar.addi c32_i32_96 v136
  let c16_i32_97 : BitVec 32 := 16#32
  let v138 : BitVec 32 := Scalar.muli v137 c16_i32_97
  let v147 : Index := Scalar.indexCast v138
  ![1, v147.toNat]
def k1_off131 (k1_t9 : Fin k1_t9_loop.trips) : Fin 2 → Nat :=
  let c2_i32_100 : BitVec 32 := 2#32
  let v150 : Index := Scalar.indexCast c2_i32_100
  let c32_i32_96 : BitVec 32 := 32#32
  let c0_i32_82 : BitVec 32 := 0#32
  let c1_i32_84 : BitVec 32 := 1#32
  let arg19 : BitVec 32 := Scf.iv c0_i32_82 c1_i32_84 k1_t9
  let c1_i32_95 : BitVec 32 := 1#32
  let v136 : BitVec 32 := Scalar.muli arg19 c1_i32_95
  let v137 : BitVec 32 := Scalar.addi c32_i32_96 v136
  let c16_i32_97 : BitVec 32 := 16#32
  let v138 : BitVec 32 := Scalar.muli v137 c16_i32_97
  let v151 : Index := Scalar.indexCast v138
  ![2, v151.toNat]
def k1_off132 (k1_t9 : Fin k1_t9_loop.trips) : Fin 2 → Nat :=
  let c3_i32_101 : BitVec 32 := 3#32
  let v154 : Index := Scalar.indexCast c3_i32_101
  let c32_i32_96 : BitVec 32 := 32#32
  let c0_i32_82 : BitVec 32 := 0#32
  let c1_i32_84 : BitVec 32 := 1#32
  let arg19 : BitVec 32 := Scf.iv c0_i32_82 c1_i32_84 k1_t9
  let c1_i32_95 : BitVec 32 := 1#32
  let v136 : BitVec 32 := Scalar.muli arg19 c1_i32_95
  let v137 : BitVec 32 := Scalar.addi c32_i32_96 v136
  let c16_i32_97 : BitVec 32 := 16#32
  let v138 : BitVec 32 := Scalar.muli v137 c16_i32_97
  let v155 : Index := Scalar.indexCast v138
  ![3, v155.toNat]
def k1_off133 (k1_t9 : Fin k1_t9_loop.trips) : Fin 2 → Nat :=
  let c4_i32_102 : BitVec 32 := 4#32
  let v158 : Index := Scalar.indexCast c4_i32_102
  let c32_i32_96 : BitVec 32 := 32#32
  let c0_i32_82 : BitVec 32 := 0#32
  let c1_i32_84 : BitVec 32 := 1#32
  let arg19 : BitVec 32 := Scf.iv c0_i32_82 c1_i32_84 k1_t9
  let c1_i32_95 : BitVec 32 := 1#32
  let v136 : BitVec 32 := Scalar.muli arg19 c1_i32_95
  let v137 : BitVec 32 := Scalar.addi c32_i32_96 v136
  let c16_i32_97 : BitVec 32 := 16#32
  let v138 : BitVec 32 := Scalar.muli v137 c16_i32_97
  let v159 : Index := Scalar.indexCast v138
  ![4, v159.toNat]
def k1_off134 (k1_t9 : Fin k1_t9_loop.trips) : Fin 2 → Nat :=
  let c5_i32_103 : BitVec 32 := 5#32
  let v162 : Index := Scalar.indexCast c5_i32_103
  let c32_i32_96 : BitVec 32 := 32#32
  let c0_i32_82 : BitVec 32 := 0#32
  let c1_i32_84 : BitVec 32 := 1#32
  let arg19 : BitVec 32 := Scf.iv c0_i32_82 c1_i32_84 k1_t9
  let c1_i32_95 : BitVec 32 := 1#32
  let v136 : BitVec 32 := Scalar.muli arg19 c1_i32_95
  let v137 : BitVec 32 := Scalar.addi c32_i32_96 v136
  let c16_i32_97 : BitVec 32 := 16#32
  let v138 : BitVec 32 := Scalar.muli v137 c16_i32_97
  let v163 : Index := Scalar.indexCast v138
  ![5, v163.toNat]
def k1_off135 (k1_t9 : Fin k1_t9_loop.trips) : Fin 2 → Nat :=
  let c6_i32_104 : BitVec 32 := 6#32
  let v166 : Index := Scalar.indexCast c6_i32_104
  let c32_i32_96 : BitVec 32 := 32#32
  let c0_i32_82 : BitVec 32 := 0#32
  let c1_i32_84 : BitVec 32 := 1#32
  let arg19 : BitVec 32 := Scf.iv c0_i32_82 c1_i32_84 k1_t9
  let c1_i32_95 : BitVec 32 := 1#32
  let v136 : BitVec 32 := Scalar.muli arg19 c1_i32_95
  let v137 : BitVec 32 := Scalar.addi c32_i32_96 v136
  let c16_i32_97 : BitVec 32 := 16#32
  let v138 : BitVec 32 := Scalar.muli v137 c16_i32_97
  let v167 : Index := Scalar.indexCast v138
  ![6, v167.toNat]
def k1_off136 (k1_t9 : Fin k1_t9_loop.trips) : Fin 2 → Nat :=
  let c7_i32_105 : BitVec 32 := 7#32
  let v170 : Index := Scalar.indexCast c7_i32_105
  let c32_i32_96 : BitVec 32 := 32#32
  let c0_i32_82 : BitVec 32 := 0#32
  let c1_i32_84 : BitVec 32 := 1#32
  let arg19 : BitVec 32 := Scf.iv c0_i32_82 c1_i32_84 k1_t9
  let c1_i32_95 : BitVec 32 := 1#32
  let v136 : BitVec 32 := Scalar.muli arg19 c1_i32_95
  let v137 : BitVec 32 := Scalar.addi c32_i32_96 v136
  let c16_i32_97 : BitVec 32 := 16#32
  let v138 : BitVec 32 := Scalar.muli v137 c16_i32_97
  let v171 : Index := Scalar.indexCast v138
  ![7, v171.toNat]
def k1_off137 (k1_t9 : Fin k1_t9_loop.trips) : Fin 2 → Nat :=
  let c8_i32_106 : BitVec 32 := 8#32
  let v174 : Index := Scalar.indexCast c8_i32_106
  let c32_i32_96 : BitVec 32 := 32#32
  let c0_i32_82 : BitVec 32 := 0#32
  let c1_i32_84 : BitVec 32 := 1#32
  let arg19 : BitVec 32 := Scf.iv c0_i32_82 c1_i32_84 k1_t9
  let c1_i32_95 : BitVec 32 := 1#32
  let v136 : BitVec 32 := Scalar.muli arg19 c1_i32_95
  let v137 : BitVec 32 := Scalar.addi c32_i32_96 v136
  let c16_i32_97 : BitVec 32 := 16#32
  let v138 : BitVec 32 := Scalar.muli v137 c16_i32_97
  let v175 : Index := Scalar.indexCast v138
  ![8, v175.toNat]
def k1_off138 (k1_t9 : Fin k1_t9_loop.trips) : Fin 2 → Nat :=
  let c9_i32_107 : BitVec 32 := 9#32
  let v178 : Index := Scalar.indexCast c9_i32_107
  let c32_i32_96 : BitVec 32 := 32#32
  let c0_i32_82 : BitVec 32 := 0#32
  let c1_i32_84 : BitVec 32 := 1#32
  let arg19 : BitVec 32 := Scf.iv c0_i32_82 c1_i32_84 k1_t9
  let c1_i32_95 : BitVec 32 := 1#32
  let v136 : BitVec 32 := Scalar.muli arg19 c1_i32_95
  let v137 : BitVec 32 := Scalar.addi c32_i32_96 v136
  let c16_i32_97 : BitVec 32 := 16#32
  let v138 : BitVec 32 := Scalar.muli v137 c16_i32_97
  let v179 : Index := Scalar.indexCast v138
  ![9, v179.toNat]
def k1_off139 (k1_t9 : Fin k1_t9_loop.trips) : Fin 2 → Nat :=
  let c10_i32_108 : BitVec 32 := 10#32
  let v182 : Index := Scalar.indexCast c10_i32_108
  let c32_i32_96 : BitVec 32 := 32#32
  let c0_i32_82 : BitVec 32 := 0#32
  let c1_i32_84 : BitVec 32 := 1#32
  let arg19 : BitVec 32 := Scf.iv c0_i32_82 c1_i32_84 k1_t9
  let c1_i32_95 : BitVec 32 := 1#32
  let v136 : BitVec 32 := Scalar.muli arg19 c1_i32_95
  let v137 : BitVec 32 := Scalar.addi c32_i32_96 v136
  let c16_i32_97 : BitVec 32 := 16#32
  let v138 : BitVec 32 := Scalar.muli v137 c16_i32_97
  let v183 : Index := Scalar.indexCast v138
  ![10, v183.toNat]
def k1_off140 (k1_t9 : Fin k1_t9_loop.trips) : Fin 2 → Nat :=
  let c11_i32_109 : BitVec 32 := 11#32
  let v186 : Index := Scalar.indexCast c11_i32_109
  let c32_i32_96 : BitVec 32 := 32#32
  let c0_i32_82 : BitVec 32 := 0#32
  let c1_i32_84 : BitVec 32 := 1#32
  let arg19 : BitVec 32 := Scf.iv c0_i32_82 c1_i32_84 k1_t9
  let c1_i32_95 : BitVec 32 := 1#32
  let v136 : BitVec 32 := Scalar.muli arg19 c1_i32_95
  let v137 : BitVec 32 := Scalar.addi c32_i32_96 v136
  let c16_i32_97 : BitVec 32 := 16#32
  let v138 : BitVec 32 := Scalar.muli v137 c16_i32_97
  let v187 : Index := Scalar.indexCast v138
  ![11, v187.toNat]
def k1_off141 (k1_t9 : Fin k1_t9_loop.trips) : Fin 2 → Nat :=
  let c12_i32_110 : BitVec 32 := 12#32
  let v190 : Index := Scalar.indexCast c12_i32_110
  let c32_i32_96 : BitVec 32 := 32#32
  let c0_i32_82 : BitVec 32 := 0#32
  let c1_i32_84 : BitVec 32 := 1#32
  let arg19 : BitVec 32 := Scf.iv c0_i32_82 c1_i32_84 k1_t9
  let c1_i32_95 : BitVec 32 := 1#32
  let v136 : BitVec 32 := Scalar.muli arg19 c1_i32_95
  let v137 : BitVec 32 := Scalar.addi c32_i32_96 v136
  let c16_i32_97 : BitVec 32 := 16#32
  let v138 : BitVec 32 := Scalar.muli v137 c16_i32_97
  let v191 : Index := Scalar.indexCast v138
  ![12, v191.toNat]
def k1_off142 (k1_t9 : Fin k1_t9_loop.trips) : Fin 2 → Nat :=
  let c13_i32_111 : BitVec 32 := 13#32
  let v194 : Index := Scalar.indexCast c13_i32_111
  let c32_i32_96 : BitVec 32 := 32#32
  let c0_i32_82 : BitVec 32 := 0#32
  let c1_i32_84 : BitVec 32 := 1#32
  let arg19 : BitVec 32 := Scf.iv c0_i32_82 c1_i32_84 k1_t9
  let c1_i32_95 : BitVec 32 := 1#32
  let v136 : BitVec 32 := Scalar.muli arg19 c1_i32_95
  let v137 : BitVec 32 := Scalar.addi c32_i32_96 v136
  let c16_i32_97 : BitVec 32 := 16#32
  let v138 : BitVec 32 := Scalar.muli v137 c16_i32_97
  let v195 : Index := Scalar.indexCast v138
  ![13, v195.toNat]
def k1_off143 (k1_t9 : Fin k1_t9_loop.trips) : Fin 2 → Nat :=
  let c14_i32_112 : BitVec 32 := 14#32
  let v198 : Index := Scalar.indexCast c14_i32_112
  let c32_i32_96 : BitVec 32 := 32#32
  let c0_i32_82 : BitVec 32 := 0#32
  let c1_i32_84 : BitVec 32 := 1#32
  let arg19 : BitVec 32 := Scf.iv c0_i32_82 c1_i32_84 k1_t9
  let c1_i32_95 : BitVec 32 := 1#32
  let v136 : BitVec 32 := Scalar.muli arg19 c1_i32_95
  let v137 : BitVec 32 := Scalar.addi c32_i32_96 v136
  let c16_i32_97 : BitVec 32 := 16#32
  let v138 : BitVec 32 := Scalar.muli v137 c16_i32_97
  let v199 : Index := Scalar.indexCast v138
  ![14, v199.toNat]

def k1_chk13 (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v140 : IVec S16 32) : Prop :=
  (∀ a x, ((![v37, v140] : Fin 2 → IVec S16 32) a x).toNat < S16x2048.size a) ∧
  (∀ a x, ((![v38, v140] : Fin 2 → IVec S16 32) a x).toNat < S16x2048.size a) ∧
  (∀ a x, ((![v39, v140] : Fin 2 → IVec S16 32) a x).toNat < S16x2048.size a) ∧
  (∀ a x, ((![v40, v140] : Fin 2 → IVec S16 32) a x).toNat < S16x2048.size a) ∧
  (∀ a x, ((![v41, v140] : Fin 2 → IVec S16 32) a x).toNat < S16x2048.size a) ∧
  (∀ a x, ((![v42, v140] : Fin 2 → IVec S16 32) a x).toNat < S16x2048.size a) ∧
  (∀ a x, ((![v43, v140] : Fin 2 → IVec S16 32) a x).toNat < S16x2048.size a) ∧
  (∀ a x, ((![v44, v140] : Fin 2 → IVec S16 32) a x).toNat < S16x2048.size a) ∧
  (∀ a x, ((![v45, v140] : Fin 2 → IVec S16 32) a x).toNat < S16x2048.size a) ∧
  (∀ a x, ((![v46, v140] : Fin 2 → IVec S16 32) a x).toNat < S16x2048.size a) ∧
  (∀ a x, ((![v47, v140] : Fin 2 → IVec S16 32) a x).toNat < S16x2048.size a) ∧
  (∀ a x, ((![v48, v140] : Fin 2 → IVec S16 32) a x).toNat < S16x2048.size a) ∧
  (∀ a x, ((![v49, v140] : Fin 2 → IVec S16 32) a x).toNat < S16x2048.size a) ∧
  (∀ a x, ((![v50, v140] : Fin 2 → IVec S16 32) a x).toNat < S16x2048.size a) ∧
  (∀ a x, ((![v51, v140] : Fin 2 → IVec S16 32) a x).toNat < S16x2048.size a) ∧
  (∀ a x, ((![v52, v140] : Fin 2 → IVec S16 32) a x).toNat < S16x2048.size a)
theorem k1_idx178_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v140 : IVec S16 32) (k1_hw13 : k1_chk13 v37 v38 v39 v40 v41 v42 v43 v44 v45 v46 v47 v48 v49 v50 v51 v52 v140), ∀ a x, ((![v37, v140] : Fin 2 → IVec S16 32) a x).toNat < S16x2048.size a := fun v37 v38 v39 v40 v41 v42 v43 v44 v45 v46 v47 v48 v49 v50 v51 v52 v140 k1_hw13 => k1_hw13.1
theorem k1_idx179_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v140 : IVec S16 32) (k1_hw13 : k1_chk13 v37 v38 v39 v40 v41 v42 v43 v44 v45 v46 v47 v48 v49 v50 v51 v52 v140), ∀ a x, ((![v38, v140] : Fin 2 → IVec S16 32) a x).toNat < S16x2048.size a := fun v37 v38 v39 v40 v41 v42 v43 v44 v45 v46 v47 v48 v49 v50 v51 v52 v140 k1_hw13 => k1_hw13.2.1
theorem k1_idx180_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v140 : IVec S16 32) (k1_hw13 : k1_chk13 v37 v38 v39 v40 v41 v42 v43 v44 v45 v46 v47 v48 v49 v50 v51 v52 v140), ∀ a x, ((![v39, v140] : Fin 2 → IVec S16 32) a x).toNat < S16x2048.size a := fun v37 v38 v39 v40 v41 v42 v43 v44 v45 v46 v47 v48 v49 v50 v51 v52 v140 k1_hw13 => k1_hw13.2.2.1
theorem k1_idx181_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v140 : IVec S16 32) (k1_hw13 : k1_chk13 v37 v38 v39 v40 v41 v42 v43 v44 v45 v46 v47 v48 v49 v50 v51 v52 v140), ∀ a x, ((![v40, v140] : Fin 2 → IVec S16 32) a x).toNat < S16x2048.size a := fun v37 v38 v39 v40 v41 v42 v43 v44 v45 v46 v47 v48 v49 v50 v51 v52 v140 k1_hw13 => k1_hw13.2.2.2.1
theorem k1_idx182_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v140 : IVec S16 32) (k1_hw13 : k1_chk13 v37 v38 v39 v40 v41 v42 v43 v44 v45 v46 v47 v48 v49 v50 v51 v52 v140), ∀ a x, ((![v41, v140] : Fin 2 → IVec S16 32) a x).toNat < S16x2048.size a := fun v37 v38 v39 v40 v41 v42 v43 v44 v45 v46 v47 v48 v49 v50 v51 v52 v140 k1_hw13 => k1_hw13.2.2.2.2.1
theorem k1_idx183_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v140 : IVec S16 32) (k1_hw13 : k1_chk13 v37 v38 v39 v40 v41 v42 v43 v44 v45 v46 v47 v48 v49 v50 v51 v52 v140), ∀ a x, ((![v42, v140] : Fin 2 → IVec S16 32) a x).toNat < S16x2048.size a := fun v37 v38 v39 v40 v41 v42 v43 v44 v45 v46 v47 v48 v49 v50 v51 v52 v140 k1_hw13 => k1_hw13.2.2.2.2.2.1
theorem k1_idx184_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v140 : IVec S16 32) (k1_hw13 : k1_chk13 v37 v38 v39 v40 v41 v42 v43 v44 v45 v46 v47 v48 v49 v50 v51 v52 v140), ∀ a x, ((![v43, v140] : Fin 2 → IVec S16 32) a x).toNat < S16x2048.size a := fun v37 v38 v39 v40 v41 v42 v43 v44 v45 v46 v47 v48 v49 v50 v51 v52 v140 k1_hw13 => k1_hw13.2.2.2.2.2.2.1
theorem k1_idx185_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v140 : IVec S16 32) (k1_hw13 : k1_chk13 v37 v38 v39 v40 v41 v42 v43 v44 v45 v46 v47 v48 v49 v50 v51 v52 v140), ∀ a x, ((![v44, v140] : Fin 2 → IVec S16 32) a x).toNat < S16x2048.size a := fun v37 v38 v39 v40 v41 v42 v43 v44 v45 v46 v47 v48 v49 v50 v51 v52 v140 k1_hw13 => k1_hw13.2.2.2.2.2.2.2.1
theorem k1_idx186_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v140 : IVec S16 32) (k1_hw13 : k1_chk13 v37 v38 v39 v40 v41 v42 v43 v44 v45 v46 v47 v48 v49 v50 v51 v52 v140), ∀ a x, ((![v45, v140] : Fin 2 → IVec S16 32) a x).toNat < S16x2048.size a := fun v37 v38 v39 v40 v41 v42 v43 v44 v45 v46 v47 v48 v49 v50 v51 v52 v140 k1_hw13 => k1_hw13.2.2.2.2.2.2.2.2.1
theorem k1_idx187_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v140 : IVec S16 32) (k1_hw13 : k1_chk13 v37 v38 v39 v40 v41 v42 v43 v44 v45 v46 v47 v48 v49 v50 v51 v52 v140), ∀ a x, ((![v46, v140] : Fin 2 → IVec S16 32) a x).toNat < S16x2048.size a := fun v37 v38 v39 v40 v41 v42 v43 v44 v45 v46 v47 v48 v49 v50 v51 v52 v140 k1_hw13 => k1_hw13.2.2.2.2.2.2.2.2.2.1
theorem k1_idx188_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v140 : IVec S16 32) (k1_hw13 : k1_chk13 v37 v38 v39 v40 v41 v42 v43 v44 v45 v46 v47 v48 v49 v50 v51 v52 v140), ∀ a x, ((![v47, v140] : Fin 2 → IVec S16 32) a x).toNat < S16x2048.size a := fun v37 v38 v39 v40 v41 v42 v43 v44 v45 v46 v47 v48 v49 v50 v51 v52 v140 k1_hw13 => k1_hw13.2.2.2.2.2.2.2.2.2.2.1
theorem k1_idx189_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v140 : IVec S16 32) (k1_hw13 : k1_chk13 v37 v38 v39 v40 v41 v42 v43 v44 v45 v46 v47 v48 v49 v50 v51 v52 v140), ∀ a x, ((![v48, v140] : Fin 2 → IVec S16 32) a x).toNat < S16x2048.size a := fun v37 v38 v39 v40 v41 v42 v43 v44 v45 v46 v47 v48 v49 v50 v51 v52 v140 k1_hw13 => k1_hw13.2.2.2.2.2.2.2.2.2.2.2.1
theorem k1_idx190_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v140 : IVec S16 32) (k1_hw13 : k1_chk13 v37 v38 v39 v40 v41 v42 v43 v44 v45 v46 v47 v48 v49 v50 v51 v52 v140), ∀ a x, ((![v49, v140] : Fin 2 → IVec S16 32) a x).toNat < S16x2048.size a := fun v37 v38 v39 v40 v41 v42 v43 v44 v45 v46 v47 v48 v49 v50 v51 v52 v140 k1_hw13 => k1_hw13.2.2.2.2.2.2.2.2.2.2.2.2.1
theorem k1_idx191_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v140 : IVec S16 32) (k1_hw13 : k1_chk13 v37 v38 v39 v40 v41 v42 v43 v44 v45 v46 v47 v48 v49 v50 v51 v52 v140), ∀ a x, ((![v50, v140] : Fin 2 → IVec S16 32) a x).toNat < S16x2048.size a := fun v37 v38 v39 v40 v41 v42 v43 v44 v45 v46 v47 v48 v49 v50 v51 v52 v140 k1_hw13 => k1_hw13.2.2.2.2.2.2.2.2.2.2.2.2.2.1
theorem k1_idx192_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v140 : IVec S16 32) (k1_hw13 : k1_chk13 v37 v38 v39 v40 v41 v42 v43 v44 v45 v46 v47 v48 v49 v50 v51 v52 v140), ∀ a x, ((![v51, v140] : Fin 2 → IVec S16 32) a x).toNat < S16x2048.size a := fun v37 v38 v39 v40 v41 v42 v43 v44 v45 v46 v47 v48 v49 v50 v51 v52 v140 k1_hw13 => k1_hw13.2.2.2.2.2.2.2.2.2.2.2.2.2.2.1
theorem k1_idx193_inb : ∀ (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v140 : IVec S16 32) (k1_hw13 : k1_chk13 v37 v38 v39 v40 v41 v42 v43 v44 v45 v46 v47 v48 v49 v50 v51 v52 v140), ∀ a x, ((![v52, v140] : Fin 2 → IVec S16 32) a x).toNat < S16x2048.size a := fun v37 v38 v39 v40 v41 v42 v43 v44 v45 v46 v47 v48 v49 v50 v51 v52 v140 k1_hw13 => k1_hw13.2.2.2.2.2.2.2.2.2.2.2.2.2.2.2
def k1_off144 (k1_t9 : Fin k1_t9_loop.trips) : Fin 2 → Nat :=
  let c15_i32_113 : BitVec 32 := 15#32
  let v202 : Index := Scalar.indexCast c15_i32_113
  let c32_i32_96 : BitVec 32 := 32#32
  let c0_i32_82 : BitVec 32 := 0#32
  let c1_i32_84 : BitVec 32 := 1#32
  let arg19 : BitVec 32 := Scf.iv c0_i32_82 c1_i32_84 k1_t9
  let c1_i32_95 : BitVec 32 := 1#32
  let v136 : BitVec 32 := Scalar.muli arg19 c1_i32_95
  let v137 : BitVec 32 := Scalar.addi c32_i32_96 v136
  let c16_i32_97 : BitVec 32 := 16#32
  let v138 : BitVec 32 := Scalar.muli v137 c16_i32_97
  let v203 : Index := Scalar.indexCast v138
  ![15, v203.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S8x256x2048 : Shape := ⟨3, ![8, 256, 2048]⟩
abbrev S8 : Shape := ⟨1, ![8]⟩
abbrev S_ : Shape := ⟨0, ![]⟩
abbrev S8x2048 : Shape := ⟨2, ![8, 2048]⟩
abbrev S2048 : Shape := ⟨1, ![2048]⟩
abbrev S1x2048 : Shape := ⟨2, ![1, 2048]⟩
abbrev S8x1 : Shape := ⟨2, ![8, 1]⟩
abbrev S8x2048x1 : Shape := ⟨3, ![8, 2048, 1]⟩
abbrev S1 : Shape := ⟨1, ![1]⟩
abbrev S1x1x1 : Shape := ⟨3, ![1, 1, 1]⟩
abbrev S8x2048x256 : Shape := ⟨3, ![8, 2048, 256]⟩
abbrev S8x2048x2 : Shape := ⟨3, ![8, 2048, 2]⟩
abbrev S1536 : Shape := ⟨1, ![1536]⟩
abbrev S1x1536 : Shape := ⟨2, ![1, 1536]⟩
abbrev S8x1536 : Shape := ⟨2, ![8, 1536]⟩
abbrev S8x1536x1 : Shape := ⟨3, ![8, 1536, 1]⟩
abbrev S8x1x1536 : Shape := ⟨3, ![8, 1, 1536]⟩
abbrev S8x256x1536 : Shape := ⟨3, ![8, 256, 1536]⟩
abbrev S8x256x1536x1 : Shape := ⟨4, ![8, 256, 1536, 1]⟩
abbrev S1x1x1x1 : Shape := ⟨4, ![1, 1, 1, 1]⟩

abbrev nBuf : Space → Nat
  | .hbm => 171
  | .vmem => 0
  | .smem => 0
  | _ => 0

abbrev hbmTy0_0 (i : Nat) : BufTy := match i % 128 with
  | 0 => ⟨S8x256x2048, .f32⟩
  | 1 => ⟨S8, .i32⟩
  | 2 => ⟨S8x256x2048, .f32⟩
  | 3 => ⟨S_, .f32⟩
  | 4 => ⟨S8x2048, .f32⟩
  | 5 => ⟨S2048, .i32⟩
  | 6 => ⟨S1x2048, .i32⟩
  | 7 => ⟨S8x1, .i32⟩
  | 8 => ⟨S8x2048, .i32⟩
  | 9 => ⟨S8x2048, .i32⟩
  | 10 => ⟨S8x2048, .i1⟩
  | 11 => ⟨S_, .f32⟩
  | 12 => ⟨S_, .f32⟩
  | 13 => ⟨S8x2048, .f32⟩
  | 14 => ⟨S8x2048, .f32⟩
  | 15 => ⟨S8x2048, .i32⟩
  | 16 => ⟨S8x2048, .f32⟩
  | 17 => ⟨S8x2048, .i32⟩
  | 18 => ⟨S8x2048, .i32⟩
  | 19 => ⟨S8x2048, .i32⟩
  | 20 => ⟨S8x2048, .i32⟩
  | 21 => ⟨S_, .i32⟩
  | 22 => ⟨S8, .i32⟩
  | 23 => ⟨S8, .i32⟩
  | 24 => ⟨S_, .i32⟩
  | 25 => ⟨S_, .i32⟩
  | 26 => ⟨S8, .i32⟩
  | 27 => ⟨S8, .i32⟩
  | 28 => ⟨S8x1, .i32⟩
  | 29 => ⟨S8x2048, .i32⟩
  | 30 => ⟨S8x2048, .i1⟩
  | 31 => ⟨S8x1, .i32⟩
  | 32 => ⟨S_, .i32⟩
  | 33 => ⟨S_, .i32⟩
  | 34 => ⟨S_, .i32⟩
  | 35 => ⟨S_, .i1⟩
  | 36 => ⟨S_, .i32⟩
  | 37 => ⟨S_, .i32⟩
  | 38 => ⟨S8x2048, .i32⟩
  | 39 => ⟨S8x2048, .i32⟩
  | 40 => ⟨S_, .i32⟩
  | 41 => ⟨S8x2048, .i32⟩
  | 42 => ⟨S8x2048, .i1⟩
  | 43 => ⟨S_, .i32⟩
  | 44 => ⟨S8x2048, .i32⟩
  | 45 => ⟨S8x2048, .i1⟩
  | 46 => ⟨S_, .i32⟩
  | 47 => ⟨S_, .i1⟩
  | 48 => ⟨S8x2048, .i1⟩
  | 49 => ⟨S8x2048, .i1⟩
  | 50 => ⟨S8x2048, .i1⟩
  | 51 => ⟨S8x2048, .i32⟩
  | 52 => ⟨S8x2048, .i32⟩
  | 53 => ⟨S8x2048, .i32⟩
  | 54 => ⟨S8x2048, .i32⟩
  | 55 => ⟨S8x2048, .i32⟩
  | 56 => ⟨S_, .i32⟩
  | 57 => ⟨S8x2048, .i32⟩
  | 58 => ⟨S8x2048, .i1⟩
  | 59 => ⟨S_, .i32⟩
  | 60 => ⟨S8x2048, .i32⟩
  | 61 => ⟨S8x2048, .i32⟩
  | 62 => ⟨S8x2048, .i32⟩
  | 63 => ⟨S8x2048x1, .i32⟩
  | 64 => ⟨S1, .i32⟩
  | 65 => ⟨S_, .i32⟩
  | 66 => ⟨S8x2048x1, .i32⟩
  | 67 => ⟨S8x2048x1, .i1⟩
  | 68 => ⟨S1x1x1, .i32⟩
  | 69 => ⟨S8x2048x1, .i32⟩
  | 70 => ⟨S8x2048x1, .i1⟩
  | 71 => ⟨S8x2048x1, .i1⟩
  | 72 => ⟨S_, .i1⟩
  | 73 => ⟨S8x2048, .i1⟩
  | 74 => ⟨S8x2048, .i32⟩
  | 75 => ⟨S_, .i32⟩
  | 76 => ⟨S8x2048, .i32⟩
  | 77 => ⟨S8x2048, .i32⟩
  | 78 => ⟨S2048, .i32⟩
  | 79 => ⟨S1x2048, .i32⟩
  | 80 => ⟨S8x2048, .i32⟩
  | 81 => ⟨S8x2048, .i32⟩
  | 82 => ⟨S_, .f32⟩
  | 83 => ⟨S8x256x2048, .f32⟩
  | 84 => ⟨S8, .i32⟩
  | 85 => ⟨S8x1, .i32⟩
  | 86 => ⟨S8x2048x256, .f32⟩
  | 87 => ⟨S_, .i32⟩
  | 88 => ⟨S8x1, .i32⟩
  | 89 => ⟨S8x1, .i1⟩
  | 90 => ⟨S_, .i32⟩
  | 91 => ⟨S8x1, .i32⟩
  | 92 => ⟨S8x1, .i32⟩
  | 93 => ⟨S8x1, .i32⟩
  | 94 => ⟨S_, .i32⟩
  | 95 => ⟨S8x2048, .i32⟩
  | 96 => ⟨S8x2048, .i1⟩
  | 97 => ⟨S_, .i32⟩
  | 98 => ⟨S8x2048, .i32⟩
  | 99 => ⟨S8x2048, .i32⟩
  | 100 => ⟨S8x2048, .i32⟩
  | 101 => ⟨S8x2048, .i32⟩
  | 102 => ⟨S8x2048x1, .i32⟩
  | 103 => ⟨S8x2048x1, .i32⟩
  | 104 => ⟨S8x2048x2, .i32⟩
  | 105 => ⟨S8x256x2048, .f32⟩
  | 106 => ⟨S8x1, .i32⟩
  | 107 => ⟨S1536, .i32⟩
  | 108 => ⟨S1x1536, .i32⟩
  | 109 => ⟨S8x1536, .i32⟩
  | 110 => ⟨S8x1536, .i32⟩
  | 111 => ⟨S8x1536, .i32⟩
  | 112 => ⟨S_, .i32⟩
  | 113 => ⟨S8x1536, .i32⟩
  | 114 => ⟨S8x1536, .i1⟩
  | 115 => ⟨S_, .i32⟩
  | 116 => ⟨S8x1536, .i32⟩
  | 117 => ⟨S8x1536, .i32⟩
  | 118 => ⟨S8x1536, .i32⟩
  | 119 => ⟨S8x1536x1, .i32⟩
  | 120 => ⟨S1, .i32⟩
  | 121 => ⟨S_, .i32⟩
  | 122 => ⟨S8x1536x1, .i32⟩
  | 123 => ⟨S8x1536x1, .i1⟩
  | 124 => ⟨S1x1x1, .i32⟩
  | 125 => ⟨S8x1536x1, .i32⟩
  | 126 => ⟨S8x1536x1, .i1⟩
  | 127 => ⟨S8x1536x1, .i1⟩
  | _ => ⟨S8x256x2048, .f32⟩

abbrev hbmTy0_1 (i : Nat) : BufTy := match i % 128 with
  | 0 => ⟨S_, .i1⟩
  | 1 => ⟨S8x1536, .i1⟩
  | 2 => ⟨S8x1536, .i32⟩
  | 3 => ⟨S_, .i32⟩
  | 4 => ⟨S8x1536, .i32⟩
  | 5 => ⟨S8x1536, .i32⟩
  | 6 => ⟨S8x1x1536, .i32⟩
  | 7 => ⟨S8x256x1536, .i32⟩
  | 8 => ⟨S_, .i32⟩
  | 9 => ⟨S8x256x1536, .i32⟩
  | 10 => ⟨S8x256x1536, .i1⟩
  | 11 => ⟨S_, .i32⟩
  | 12 => ⟨S8x256x1536, .i32⟩
  | 13 => ⟨S8x256x1536, .i32⟩
  | 14 => ⟨S8x256x1536, .i32⟩
  | 15 => ⟨S8x256x1536x1, .i32⟩
  | 16 => ⟨S1, .i32⟩
  | 17 => ⟨S_, .i32⟩
  | 18 => ⟨S8x256x1536x1, .i32⟩
  | 19 => ⟨S8x256x1536x1, .i1⟩
  | 20 => ⟨S1x1x1x1, .i32⟩
  | 21 => ⟨S8x256x1536x1, .i32⟩
  | 22 => ⟨S8x256x1536x1, .i1⟩
  | 23 => ⟨S8x256x1536x1, .i1⟩
  | 24 => ⟨S_, .i1⟩
  | 25 => ⟨S8x256x1536, .i1⟩
  | 26 => ⟨S8x256x1536, .f32⟩
  | 27 => ⟨S_, .f32⟩
  | 28 => ⟨S8x256x1536, .f32⟩
  | 29 => ⟨S8x256x1536, .f32⟩
  | 30 => ⟨S1536, .i32⟩
  | 31 => ⟨S1x1536, .i32⟩
  | 32 => ⟨S_, .i32⟩
  | 33 => ⟨S8, .i32⟩
  | 34 => ⟨S8, .i32⟩
  | 35 => ⟨S8x1, .i32⟩
  | 36 => ⟨S8x1536, .i32⟩
  | 37 => ⟨S8x1536, .i32⟩
  | 38 => ⟨S8x1536, .i1⟩
  | 39 => ⟨S8x1536, .f32⟩
  | 40 => ⟨S8x1x1536, .f32⟩
  | 41 => ⟨S8x256x1536, .f32⟩
  | 42 => ⟨S8x256x1536, .f32⟩
  | _ => ⟨S8x256x2048, .f32⟩

abbrev hbmTy (i : Nat) : BufTy := match i / 128 with
  | 0 => hbmTy0_0 i
  | 1 => hbmTy0_1 i
  | _ => ⟨S8x256x2048, .f32⟩

abbrev bufTy : (tb : Table) → Fin (tcTables nBuf tb) → BufTy
  | .hbm, ⟨i, _⟩ => hbmTy i
  | _, _ => ⟨S8x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_call0_v0 : Ref sig .tc := ⟨.hbm, 12, rfl⟩
abbrev main_call0_v1 : Ref sig .tc := ⟨.hbm, 13, rfl⟩
abbrev main_v8 : Ref sig .tc := ⟨.hbm, 14, rfl⟩
abbrev main_call1_v0 : Ref sig .tc := ⟨.hbm, 15, rfl⟩
abbrev main_call1_v1_0 : Ref sig .tc := ⟨.hbm, 16, rfl⟩
abbrev main_v9 : Ref sig .tc := ⟨.hbm, 17, rfl⟩
abbrev main_call2_v0 : Ref sig .tc := ⟨.hbm, 18, rfl⟩
abbrev main_call2_v1_0 : Ref sig .tc := ⟨.hbm, 19, rfl⟩
abbrev main_v10 : Ref sig .tc := ⟨.hbm, 20, rfl⟩
abbrev main_c : Ref sig .tc := ⟨.hbm, 21, rfl⟩
abbrev main_v11 : Ref sig .tc := ⟨.hbm, 22, rfl⟩
abbrev main_v12 : Ref sig .tc := ⟨.hbm, 23, rfl⟩
abbrev main_c_1 : Ref sig .tc := ⟨.hbm, 24, rfl⟩
abbrev main_call3_v0 : Ref sig .tc := ⟨.hbm, 25, rfl⟩
abbrev main_call3_v1 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_c_2 : Ref sig .tc := ⟨.hbm, 32, rfl⟩
abbrev main_call4_v0 : Ref sig .tc := ⟨.hbm, 33, rfl⟩
abbrev main_call4_c : Ref sig .tc := ⟨.hbm, 34, rfl⟩
abbrev main_call4_v1 : Ref sig .tc := ⟨.hbm, 35, rfl⟩
abbrev main_call4_c_0 : Ref sig .tc := ⟨.hbm, 36, rfl⟩
abbrev main_call4_v2 : Ref sig .tc := ⟨.hbm, 37, rfl⟩
abbrev main_call4_v3 : Ref sig .tc := ⟨.hbm, 38, rfl⟩
abbrev main_call4_v4 : Ref sig .tc := ⟨.hbm, 39, rfl⟩
abbrev main_call4_c_1 : Ref sig .tc := ⟨.hbm, 40, rfl⟩
abbrev main_call4_v5 : Ref sig .tc := ⟨.hbm, 41, rfl⟩
abbrev main_call4_v6 : Ref sig .tc := ⟨.hbm, 42, rfl⟩
abbrev main_call4_c_2 : Ref sig .tc := ⟨.hbm, 43, rfl⟩
abbrev main_call4_v7 : Ref sig .tc := ⟨.hbm, 44, rfl⟩
abbrev main_call4_v8 : Ref sig .tc := ⟨.hbm, 45, rfl⟩
abbrev main_call4_c_3 : Ref sig .tc := ⟨.hbm, 46, rfl⟩
abbrev main_call4_v9 : Ref sig .tc := ⟨.hbm, 47, rfl⟩
abbrev main_call4_v10 : Ref sig .tc := ⟨.hbm, 48, rfl⟩
abbrev main_call4_v11 : Ref sig .tc := ⟨.hbm, 49, rfl⟩
abbrev main_call4_v12 : Ref sig .tc := ⟨.hbm, 50, rfl⟩
abbrev main_call4_v13 : Ref sig .tc := ⟨.hbm, 51, rfl⟩
abbrev main_call4_v14 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_call5_c : Ref sig .tc := ⟨.hbm, 56, rfl⟩
abbrev main_call5_v0 : Ref sig .tc := ⟨.hbm, 57, rfl⟩
abbrev main_call5_v1 : Ref sig .tc := ⟨.hbm, 58, rfl⟩
abbrev main_call5_c_0 : Ref sig .tc := ⟨.hbm, 59, rfl⟩
abbrev main_call5_v2 : Ref sig .tc := ⟨.hbm, 60, rfl⟩
abbrev main_call5_v3 : Ref sig .tc := ⟨.hbm, 61, rfl⟩
abbrev main_call5_v4 : Ref sig .tc := ⟨.hbm, 62, rfl⟩
abbrev main_call5_v5 : Ref sig .tc := ⟨.hbm, 63, rfl⟩
abbrev main_call5_c_1 : Ref sig .tc := ⟨.hbm, 64, rfl⟩
abbrev main_call5_c_2 : Ref sig .tc := ⟨.hbm, 65, rfl⟩
abbrev main_call5_v6 : Ref sig .tc := ⟨.hbm, 66, rfl⟩
abbrev main_call5_v7 : Ref sig .tc := ⟨.hbm, 67, rfl⟩
abbrev main_call5_v8 : Ref sig .tc := ⟨.hbm, 68, rfl⟩
abbrev main_call5_v9 : Ref sig .tc := ⟨.hbm, 69, rfl⟩
abbrev main_call5_v10 : Ref sig .tc := ⟨.hbm, 70, rfl⟩
abbrev main_call5_v11 : Ref sig .tc := ⟨.hbm, 71, rfl⟩
abbrev main_call5_c_3 : Ref sig .tc := ⟨.hbm, 72, rfl⟩
abbrev main_call5_v12 : Ref sig .tc := ⟨.hbm, 73, rfl⟩
abbrev main_call5_v13 : Ref sig .tc := ⟨.hbm, 74, rfl⟩
abbrev main_call5_c_4 : Ref sig .tc := ⟨.hbm, 75, rfl⟩
abbrev main_call5_v14 : Ref sig .tc := ⟨.hbm, 76, rfl⟩
abbrev main_v21 : Ref sig .tc := ⟨.hbm, 77, rfl⟩
abbrev main_v22 : Ref sig .tc := ⟨.hbm, 78, rfl⟩
abbrev main_v23 : Ref sig .tc := ⟨.hbm, 79, rfl⟩
abbrev main_call6_v0 : Ref sig .tc := ⟨.hbm, 80, rfl⟩
abbrev main_v24 : Ref sig .tc := ⟨.hbm, 81, rfl⟩
abbrev main_cst_3 : Ref sig .tc := ⟨.hbm, 82, rfl⟩
abbrev main_v25 : Ref sig .tc := ⟨.hbm, 83, rfl⟩
abbrev main_v26 : Ref sig .tc := ⟨.hbm, 84, rfl⟩
abbrev main_v27 : Ref sig .tc := ⟨.hbm, 85, rfl⟩
abbrev main_v28 : Ref sig .tc := ⟨.hbm, 86, rfl⟩
abbrev main_c_4 : Ref sig .tc := ⟨.hbm, 87, rfl⟩
abbrev main_v29 : Ref sig .tc := ⟨.hbm, 88, rfl⟩
abbrev main_v30 : Ref sig .tc := ⟨.hbm, 89, rfl⟩
abbrev main_c_5 : Ref sig .tc := ⟨.hbm, 90, rfl⟩
abbrev main_v31 : Ref sig .tc := ⟨.hbm, 91, rfl⟩
abbrev main_v32 : Ref sig .tc := ⟨.hbm, 92, rfl⟩
abbrev main_v33 : Ref sig .tc := ⟨.hbm, 93, rfl⟩
abbrev main_c_6 : Ref sig .tc := ⟨.hbm, 94, rfl⟩
abbrev main_v34 : Ref sig .tc := ⟨.hbm, 95, rfl⟩
abbrev main_v35 : Ref sig .tc := ⟨.hbm, 96, rfl⟩
abbrev main_c_7 : Ref sig .tc := ⟨.hbm, 97, rfl⟩
abbrev main_v36 : Ref sig .tc := ⟨.hbm, 98, rfl⟩
abbrev main_v37 : Ref sig .tc := ⟨.hbm, 99, rfl⟩
abbrev main_v38 : Ref sig .tc := ⟨.hbm, 100, rfl⟩
abbrev main_v39 : Ref sig .tc := ⟨.hbm, 101, rfl⟩
abbrev main_v40 : Ref sig .tc := ⟨.hbm, 102, rfl⟩
abbrev main_v41 : Ref sig .tc := ⟨.hbm, 103, rfl⟩
abbrev main_v42 : Ref sig .tc := ⟨.hbm, 104, rfl⟩
abbrev main_v43 : Ref sig .tc := ⟨.hbm, 105, rfl⟩
abbrev main_v44 : Ref sig .tc := ⟨.hbm, 106, rfl⟩
abbrev main_v45 : Ref sig .tc := ⟨.hbm, 107, rfl⟩
abbrev main_v46 : Ref sig .tc := ⟨.hbm, 108, rfl⟩
abbrev main_v47 : Ref sig .tc := ⟨.hbm, 109, rfl⟩
abbrev main_v48 : Ref sig .tc := ⟨.hbm, 110, rfl⟩
abbrev main_v49 : Ref sig .tc := ⟨.hbm, 111, rfl⟩
abbrev main_call7_c : Ref sig .tc := ⟨.hbm, 112, rfl⟩
abbrev main_call7_v0 : Ref sig .tc := ⟨.hbm, 113, rfl⟩
abbrev main_call7_v1 : Ref sig .tc := ⟨.hbm, 114, rfl⟩
abbrev main_call7_c_0 : Ref sig .tc := ⟨.hbm, 115, rfl⟩
abbrev main_call7_v2 : Ref sig .tc := ⟨.hbm, 116, rfl⟩
abbrev main_call7_v3 : Ref sig .tc := ⟨.hbm, 117, rfl⟩
abbrev main_call7_v4 : Ref sig .tc := ⟨.hbm, 118, rfl⟩
abbrev main_call7_v5 : Ref sig .tc := ⟨.hbm, 119, rfl⟩
abbrev main_call7_c_1 : Ref sig .tc := ⟨.hbm, 120, rfl⟩
abbrev main_call7_c_2 : Ref sig .tc := ⟨.hbm, 121, rfl⟩
abbrev main_call7_v6 : Ref sig .tc := ⟨.hbm, 122, rfl⟩
abbrev main_call7_v7 : Ref sig .tc := ⟨.hbm, 123, rfl⟩
abbrev main_call7_v8 : Ref sig .tc := ⟨.hbm, 124, rfl⟩
abbrev main_call7_v9 : Ref sig .tc := ⟨.hbm, 125, rfl⟩
abbrev main_call7_v10 : Ref sig .tc := ⟨.hbm, 126, rfl⟩
abbrev main_call7_v11 : Ref sig .tc := ⟨.hbm, 127, rfl⟩
abbrev main_call7_c_3 : Ref sig .tc := ⟨.hbm, 128, rfl⟩
abbrev main_call7_v12 : Ref sig .tc := ⟨.hbm, 129, rfl⟩
abbrev main_call7_v13 : Ref sig .tc := ⟨.hbm, 130, rfl⟩
abbrev main_call7_c_4 : Ref sig .tc := ⟨.hbm, 131, rfl⟩
abbrev main_call7_v14 : Ref sig .tc := ⟨.hbm, 132, rfl⟩
abbrev main_v50 : Ref sig .tc := ⟨.hbm, 133, rfl⟩
abbrev main_v51 : Ref sig .tc := ⟨.hbm, 134, rfl⟩
abbrev main_v52 : Ref sig .tc := ⟨.hbm, 135, rfl⟩
abbrev main_call8_c : Ref sig .tc := ⟨.hbm, 136, rfl⟩
abbrev main_call8_v0 : Ref sig .tc := ⟨.hbm, 137, rfl⟩
abbrev main_call8_v1 : Ref sig .tc := ⟨.hbm, 138, rfl⟩
abbrev main_call8_c_0 : Ref sig .tc := ⟨.hbm, 139, rfl⟩
abbrev main_call8_v2 : Ref sig .tc := ⟨.hbm, 140, rfl⟩
abbrev main_call8_v3 : Ref sig .tc := ⟨.hbm, 141, rfl⟩
abbrev main_call8_v4 : Ref sig .tc := ⟨.hbm, 142, rfl⟩
abbrev main_call8_v5 : Ref sig .tc := ⟨.hbm, 143, rfl⟩
abbrev main_call8_c_1 : Ref sig .tc := ⟨.hbm, 144, rfl⟩
abbrev main_call8_c_2 : Ref sig .tc := ⟨.hbm, 145, rfl⟩
abbrev main_call8_v6 : Ref sig .tc := ⟨.hbm, 146, rfl⟩
abbrev main_call8_v7 : Ref sig .tc := ⟨.hbm, 147, rfl⟩
abbrev main_call8_v8 : Ref sig .tc := ⟨.hbm, 148, rfl⟩
abbrev main_call8_v9 : Ref sig .tc := ⟨.hbm, 149, rfl⟩
abbrev main_call8_v10 : Ref sig .tc := ⟨.hbm, 150, rfl⟩
abbrev main_call8_v11 : Ref sig .tc := ⟨.hbm, 151, rfl⟩
abbrev main_call8_c_3 : Ref sig .tc := ⟨.hbm, 152, rfl⟩
abbrev main_call8_v12 : Ref sig .tc := ⟨.hbm, 153, rfl⟩
abbrev main_call8_v13 : Ref sig .tc := ⟨.hbm, 154, rfl⟩
abbrev main_call8_cst : Ref sig .tc := ⟨.hbm, 155, rfl⟩
abbrev main_call8_v14 : Ref sig .tc := ⟨.hbm, 156, rfl⟩
abbrev main_v53 : Ref sig .tc := ⟨.hbm, 157, rfl⟩
abbrev main_v54 : Ref sig .tc := ⟨.hbm, 158, rfl⟩
abbrev main_v55 : Ref sig .tc := ⟨.hbm, 159, rfl⟩
abbrev main_c_8 : Ref sig .tc := ⟨.hbm, 160, rfl⟩
abbrev main_v56 : Ref sig .tc := ⟨.hbm, 161, rfl⟩
abbrev main_v57 : Ref sig .tc := ⟨.hbm, 162, rfl⟩
abbrev main_v58 : Ref sig .tc := ⟨.hbm, 163, rfl⟩
abbrev main_v59 : Ref sig .tc := ⟨.hbm, 164, rfl⟩
abbrev main_v60 : Ref sig .tc := ⟨.hbm, 165, rfl⟩
abbrev main_v61 : Ref sig .tc := ⟨.hbm, 166, rfl⟩
abbrev main_v62 : Ref sig .tc := ⟨.hbm, 167, rfl⟩
abbrev main_v63 : Ref sig .tc := ⟨.hbm, 168, rfl⟩
abbrev main_v64 : Ref sig .tc := ⟨.hbm, 169, rfl⟩
abbrev main_v65 : Ref sig .tc := ⟨.hbm, 170, rfl⟩

abbrev nD : Nat := 1
abbrev τ : Topo := Topo.v7x

variable {F : FTy → Type} [FloatOps F]
-- ==== Proof.TileProg.lean ====
module

public import proofs.«01_k».proof.KernelIdeal
public import proofs.«01_k».proof.Proof.Gen.KernelIdeal

@[expose] public section

noncomputable section

namespace Cert.Proof.Tile

open Cert.KernelIdeal Cert.KernelIdeal.Gen
open Idealize.ShloMosaic
open Idealize.SL.Sem

variable {F : FTy → Type} [FloatOps F]

/-- The row index of one gather: the same row at every lane. -/
abbrev rowv (r : Nat) : IVec S16 32 := broadcast S16 (BitVec.ofNat 32 r)

/-- The first lane of trip `t` of a loop that starts `base` trips in. -/
def colAt (base : BitVec 32) (t : Nat) : Nat :=
  (Scalar.indexCast (Scalar.muli (Scalar.addi base (Scalar.muli (Scf.iv 0#32 1#32 t) 1#32)) 16#32)).toNat

/-- The columns `a` are all in the row. -/
def Cols (a : IVec S16 32) : Prop := k1_chk2 (rowv 0) (rowv 1) (rowv 2) (rowv 3) (rowv 4) (rowv 5) (rowv 6) (rowv 7) (rowv 8) (rowv 9) (rowv 10) (rowv 11) (rowv 12) (rowv 13) (rowv 14) (rowv 15) a

/-- A row and columns in range lie in the buffer. -/
theorem Cols.row {a : IVec S16 32} (h : Cols a) : ∀ r : Fin 16, ∀ b x, ((![rowv r.val, a] : Fin 2 → IVec S16 32) b x).toNat < S16x2048.size b := by
  obtain ⟨h0, h1, h2, h3, h4, h5, h6, h7, h8, h9, h10, h11, h12, h13, h14, h15⟩ := h
  intro r
  fin_cases r <;> assumption

/-- Columns below 2048 are in range. -/
theorem cols_of {a : IVec S16 32} (h : ∀ x, (a x).toNat < 2048) : Cols a := by
  have k : ∀ r : Fin 16, ∀ b x, ((![rowv r.val, a] : Fin 2 → IVec S16 32) b x).toNat < S16x2048.size b := by
    intro r b x
    fin_cases b
    · show (BitVec.ofNat 32 r.val).toNat < 16; have := r.isLt; rw [BitVec.toNat_ofNat]; omega
    · exact h x
  exact ⟨k 0, k 1, k 2, k 3, k 4, k 5, k 6, k 7, k 8, k 9, k 10, k 11, k 12, k 13, k 14, k 15⟩

/-- Sixteen lanes of a row at a trip's column lie in the buffer. -/
theorem inb_row (base : BitVec 32) (n : Nat) (h : ∀ t : Fin n, colAt base t.val + 16 ≤ 1536) (r : Fin 16) (t : Fin n) :
    ∀ a, (![r.val, colAt base t.val] : Fin 2 → Nat) a + S1x16.size a ≤ S16x1536.size a := by
  intro a
  fin_cases a
  · have := r.isLt; show r.val + 1 ≤ 16; omega
  · exact h t

/-- Sixteen lanes at a trip's column lie in the buffer. -/
theorem inb_lane (base : BitVec 32) (n : Nat) (h : ∀ t : Fin n, colAt base t.val + 16 ≤ 1536) (t : Fin n) :
    ∀ a, (![colAt base t.val] : Fin 1 → Nat) a + S16.size a ≤ S1536.size a := by
  intro a
  fin_cases a
  exact h t

/-- The column of a trip of the pair loop. -/
theorem colAt_lo : ∀ t : Fin 96, colAt 0#32 t.val = 16 * t.val := by decide +kernel
/-- The column of a trip of the solo loop. -/
theorem colAt_hi : ∀ t : Fin 64, colAt 32#32 t.val = 16 * t.val + 512 := by decide +kernel

/-- The pair loop's columns lie in the row. -/
theorem fits_pair (t : Fin k1_t2_loop.trips) : colAt 0#32 t.val + 16 ≤ 1536 := by
  have h := t.isLt; have h' : k1_t2_loop.trips = 32 := by decide +kernel
  rw [colAt_lo ⟨t.val, by omega⟩]; show 16 * t.val + 16 ≤ 1536; omega
/-- The index loop's columns lie in the row. -/
theorem fits_idx (t : Fin k1_t1_loop.trips) : colAt 0#32 t.val + 16 ≤ 1536 := by
  have h := t.isLt; have h' : k1_t1_loop.trips = 96 := by decide +kernel
  rw [colAt_lo ⟨t.val, by omega⟩]; show 16 * t.val + 16 ≤ 1536; omega
/-- The solo loop's columns lie in the row. -/
theorem fits_solo (t : Fin k1_t3_loop.trips) : colAt 32#32 t.val + 16 ≤ 1536 := by
  have h := t.isLt; have h' : k1_t3_loop.trips = 64 := by decide +kernel
  rw [colAt_hi ⟨t.val, by omega⟩]; show 16 * t.val + 512 + 16 ≤ 1536; omega

section Trips
variable {c : Fin τ.nSC} {s : Fin τ.nSub}
variable (inb : Memref sig .scVector .vmem S16x2048 .f32) (out : Memref sig .scVector .vmem S16x1536 .f32)
  (ix1 ix2 : Memref sig .scVector .vmem S1536 .i32) (wt : Memref sig .scVector .vmem S1536 .f32)

/-- The programs of a tile. -/
abbrev TProg (F : FTy → Type) (c : Fin τ.nSC) (s : Fin τ.nSub) : Type → Type 1 := Prog (TpuEff nD τ sig (Elt F) Λ₀ (.scVector c s))

/-- Store one vector of sixteen lanes at row `r`, lanes from `colAt base t`. -/
def putRow (base : BitVec 32) (n : Nat) (hn : ∀ t : Fin n, colAt base t.val + 16 ≤ 1536) (r : Fin 16) (t : Fin n) (v : FVec F S16 .f32) : TProg F c s PUnit := do
  let _ : Vec F S1x16 .f32 ← Prog.lift (.load out (Rect.unit (s := S16x1536) ![r.val, colAt base t.val] S1x16.size (inb_row base n hn r t)).toLoadRect (View.loadsAt_vmem h_S1x16))
  Prog.lift (.store out (Rect.unit (s := S16x1536) ![r.val, colAt base t.val] S1x16.size (inb_row base n hn r t)) (shapeCast S1x16 v shapeCasts_S16_S1x16) Finset.univ (View.stores_vmem_bits_univ h_S1x16 rfl) (.inl rfl))

/-- The rows of one trip where two edges may be pooled. -/
def pairRows (t : Fin k1_t2_loop.trips) (a b : IVec S16 32) (w : FVec F S16 .f32) (ha : Cols a) (hb : Cols b) : List (Fin 16) → TProg F c s PUnit
  | [] => pure ⟨⟩
  | r :: rs => do
    let x : Vec F S16 .f32 ← SparseCore.vectorLoadIdx inb ![rowv r.val, a] (ha.row r) (View.loads_vmem h_S16x2048)
    let y : Vec F S16 .f32 ← SparseCore.vectorLoadIdx inb ![rowv r.val, b] (hb.row r) (View.loads_vmem h_S16x2048)
    putRow out 0#32 _ fits_pair r t (addf x (mulf w y))
    pairRows t a b w ha hb rs

/-- The rows of a trip of the solo loop: gather and store. -/
def soloRows (t : Fin k1_t3_loop.trips) (a : IVec S16 32) (ha : Cols a) : List (Fin 16) → TProg F c s PUnit
  | [] => pure ⟨⟩
  | r :: rs => do
    let x : Vec F S16 .f32 ← SparseCore.vectorLoadIdx inb ![rowv r.val, a] (ha.row r) (View.loads_vmem h_S16x2048)
    putRow out 32#32 _ fits_solo r t x
    soloRows t a ha rs

/-- The sixteen rows. -/
def allRows : List (Fin 16) := [0, 1, 2, 3, 4, 5, 6, 7, 8, 9, 10, 11, 12, 13, 14, 15]

/-- Whether columns are in range is decidable. -/
instance decCols (a : IVec S16 32) : Decidable (Cols a) := k1_chk2.dec _ _ _ _ _ _ _ _ _ _ _ _ _ _ _ _ a

/-- A trip of the pair loop. -/
def pairTrip (t : Fin k1_t2_loop.trips) : TProg F c s PUnit := do
  let a : Vec F S16 .i32 ← Prog.lift (.load ix1 (Rect.unit (s := S1536) ![colAt 0#32 t.val] S16.size (inb_lane _ _ fits_pair t)).toLoadRect (View.loadsAt_vmem h_S16))
  have ha : Cols a := (← Prog.lift (TpuEff.assume (Cols a) (decCols a))).down
  let b : Vec F S16 .i32 ← Prog.lift (.load ix2 (Rect.unit (s := S1536) ![colAt 0#32 t.val] S16.size (inb_lane _ _ fits_pair t)).toLoadRect (View.loadsAt_vmem h_S16))
  have hb : Cols b := (← Prog.lift (TpuEff.assume (Cols b) (decCols b))).down
  let w : Vec F S16 .f32 ← Prog.lift (.load wt (Rect.unit (s := S1536) ![colAt 0#32 t.val] S16.size (inb_lane _ _ fits_pair t)).toLoadRect (View.loadsAt_vmem h_S16))
  pairRows inb out t a b w ha hb allRows

/-- A trip of the solo loop. -/
def soloTrip (t : Fin k1_t3_loop.trips) : TProg F c s PUnit := do
  let a : Vec F S16 .i32 ← Prog.lift (.load ix1 (Rect.unit (s := S1536) ![colAt 32#32 t.val] S16.size (inb_lane _ _ fits_solo t)).toLoadRect (View.loadsAt_vmem h_S16))
  have ha : Cols a := (← Prog.lift (TpuEff.assume (Cols a) (decCols a))).down
  soloRows inb out t a ha allRows

/-- One chunk's compute: the lanes that may hold two edges, then the rest. -/
def chunk : TProg F c s PUnit := do
  Scf.Loop.for k1_t2_loop k1_t2_ok ⟨⟩ fun t _ => pairTrip inb out ix1 ix2 wt t
  Scf.Loop.for k1_t3_loop k1_t3_ok ⟨⟩ fun t _ => soloTrip inb out ix1 t

/-- One trip of the index loop: the two source edges of sixteen outputs, and the second one's weight. -/
def idxTrip (ord : Memref sig .scVector .vmem S2048 .i32) (k : IVec S16 32) (t : Fin k1_t1_loop.trips) : TProg F c s PUnit := do
  let lane : IVec S16 32 := addi (iota .scVector S16 32 [0] iota_S16_d0_w32_scVector) (broadcast S16 (Scalar.muli (Scalar.addi 0#32 (Scalar.muli (Scf.iv 0#32 1#32 t) 1#32)) 16#32))
  have hw : k1_chk1 (addi lane k) := (← Prog.lift (TpuEff.assume (k1_chk1 (addi lane k)) (k1_chk1.dec (addi lane k)))).down
  let x : Vec F S16 .i32 ← SparseCore.vectorLoadIdx ord ![addi lane k] (k1_idx1_inb _ hw) (View.loads_vmem h_S2048)
  let _ : Vec F S16 .i32 ← Prog.lift (.load ix1 (Rect.unit (s := S1536) (k1_off4 t) S16.size (k1_off4_inb t)).toLoadRect (View.loadsAt_vmem h_S16))
  Prog.lift (.store ix1 (Rect.unit (s := S1536) (k1_off4 t) S16.size (k1_off4_inb t)) x Finset.univ (View.stores_vmem_bits_univ h_S16 rfl) (.inl rfl))
  let y : Vec F S16 .i32 ← Prog.lift (.load ord (Rect.unit (s := S2048) (k1_off5 t) S16.size (k1_off5_inb t)).toLoadRect (View.loadsAt_vmem h_S16))
  let _ : Vec F S16 .i32 ← Prog.lift (.load ix2 (Rect.unit (s := S1536) (k1_off4 t) S16.size (k1_off4_inb t)).toLoadRect (View.loadsAt_vmem h_S16))
  Prog.lift (.store ix2 (Rect.unit (s := S1536) (k1_off4 t) S16.size (k1_off4_inb t)) y Finset.univ (View.stores_vmem_bits_univ h_S16 rfl) (.inl rfl))
  let _ : Vec F S16 .f32 ← Prog.lift (.load wt (Rect.unit (s := S1536) (k1_off4 t) S16.size (k1_off4_inb t)).toLoadRect (View.loadsAt_vmem h_S16))
  Prog.lift (.store wt (Rect.unit (s := S1536) (k1_off4 t) S16.size (k1_off4_inb t)) (select (cmpi .slt lane k) (broadcast S16 (Scalar.ofBits .f32 0x3F800000#32)) (broadcast S16 (Scalar.ofBits .f32 0x00000000#32)) : FVec F S16 .f32) Finset.univ (View.stores_vmem_bits_univ h_S16 rfl) (.inl rfl))

end Trips

section Body
variable (i : grid1.Coords) (arg2 : Memref sig .scVector .hbm S8x256x2048 .f32) (harg2 : arg2.IsWhole) (arg3 : Memref sig .scVector .hbm S8x1x2048 .i32) (harg3 : arg3.IsWhole) (arg4 : Memref sig .scVector .hbm S8x1x16 .i32) (harg4 : arg4.IsWhole) (arg5 : Memref sig .scVector .hbm S8x256x1536 .f32) (harg5 : arg5.IsWhole) (arg6 : Memref sig .scVector .vmem S16 .i32) (harg6 : arg6.IsWhole) (arg7 : Memref sig .scVector .vmem S2048 .i32) (harg7 : arg7.IsWhole) (arg8 : Memref sig .scVector .vmem S1536 .i32) (harg8 : arg8.IsWhole) (arg9 : Memref sig .scVector .vmem S1536 .i32) (harg9 : arg9.IsWhole) (arg10 : Memref sig .scVector .vmem S1536 .f32) (harg10 : arg10.IsWhole) (arg11 : Memref sig .scVector .vmem S16x2048 .f32) (harg11 : arg11.IsWhole) (arg12 : Memref sig .scVector .vmem S16x2048 .f32) (harg12 : arg12.IsWhole) (arg13 : Memref sig .scVector .vmem S16x1536 .f32) (harg13 : arg13.IsWhole) (arg14 : Memref sig .scVector .vmem S16x1536 .f32) (harg14 : arg14.IsWhole) (arg15 : DmaSems sig S_) (arg16 : DmaSems sig S_) (arg17 : DmaSems sig S_) (arg18 : DmaSems sig S_) (v136_r0 : DmaSems sig S_) (v136_r1 : DmaSems sig S_)

/-- The sixteen input rows of chunk `r` (first numbered as the kernel first names them). -/
abbrev inSl (off : Fin 3 → Nat) (h : ∀ a, off a + S1x16x2048.size a ≤ S8x256x2048.size a) : Memref sig .scVector .hbm S16x2048 .f32 :=
  (arg2.slice (Rect.unit (s := S8x256x2048) off S1x16x2048.size h) (fun _ => rfl)).squeeze S16x2048 squeezes_S1x16x2048_S16x2048
/-- The tile's output slab. -/
abbrev outSl (r : Fin 4) : Memref sig .scVector .hbm S16x1536 .f32 :=
  (arg5.slice (Rect.unit (s := S8x256x1536) (k1_off41 i (BitVec.ofNat 32 (16 * r.val))) S1x16x1536.size (k1_off41_inb i r)) (fun _ => rfl)).squeeze S16x1536 squeezes_S1x16x1536_S16x1536
/-- The tile's offsets. -/
abbrev kbSl : Memref sig .scVector .hbm S16 .i32 :=
  (arg4.slice (Rect.unit (s := S8x1x16) (k1_off2 i) S1x1x16.size (k1_off2_inb i)) (fun _ => rfl)).squeeze S16 squeezes_S1x1x16_S16
/-- The tile's row of the order. -/
abbrev ordSl : Memref sig .scVector .hbm S2048 .i32 :=
  (arg3.slice (Rect.unit (s := S8x1x2048) (k1_off3 i) S1x1x2048.size (k1_off3_inb i)) (fun _ => rfl)).squeeze S2048 squeezes_S1x1x2048_S2048

/-- The tile's whole body. -/
def tileProg : TProg F ((i 0).castLE hcore1) ((i 1).castLE hsub1) PUnit := do
  Prog.lift (.enqueueDma (inSl arg2 (k1_off1 i) (k1_off1_inb i)) (.here arg11) (.dma arg15.sem) ((View.wordExact_bits rfl).reshape _ _) harg11.wordExact ⟨Or.inl rfl, trivial⟩)
  Prog.lift (.enqueueDma (kbSl i arg4) (.here arg6) (.dma v136_r0.sem) ((View.wordExact_bits rfl).reshape _ _) harg6.wordExact ⟨Or.inl rfl, trivial⟩)
  Prog.lift (.waitDma2 v136_r0.sem (kbSl i arg4) arg6 ((View.wordExact_bits rfl).reshape _ _) harg6.wordExact)
  let k : Vec F S16 .i32 ← Prog.lift (.load arg6 (Rect.unit (s := S16) ![0] S16.size inb_S16_S16_0).toLoadRect (View.loadsAt_vmem h_S16))
  Prog.lift (.enqueueDma (ordSl i arg3) (.here arg7) (.dma v136_r1.sem) ((View.wordExact_bits rfl).reshape _ _) harg7.wordExact ⟨Or.inl rfl, trivial⟩)
  Prog.lift (.waitDma2 v136_r1.sem (ordSl i arg3) arg7 ((View.wordExact_bits rfl).reshape _ _) harg7.wordExact)
  Scf.Loop.for k1_t1_loop k1_t1_ok ⟨⟩ fun t _ => idxTrip arg8 arg9 arg10 arg7 k t
  -- chunk 0
  Prog.lift (.enqueueDma (inSl arg2 (k1_off6 i 16#32) (k1_off6_inb i 1)) (.here arg12) (.dma arg16.sem) ((View.wordExact_bits rfl).reshape _ _) harg12.wordExact ⟨Or.inl rfl, trivial⟩)
  Prog.lift (.waitDma2 arg15.sem (inSl arg2 (k1_off6 i 0#32) (k1_off6_inb i 0)) arg11 ((View.wordExact_bits rfl).reshape _ _) harg11.wordExact)
  chunk arg11 arg13 arg8 arg9 arg10
  Prog.lift (.enqueueDma arg13 (.here (outSl i arg5 0)) (.dma arg17.sem) harg13.wordExact ((View.wordExact_bits rfl).reshape _ _) ⟨Or.inl rfl, trivial⟩)
  -- chunk 1
  Prog.lift (.enqueueDma (inSl arg2 (k1_off42 i 32#32) (k1_off42_inb i 1)) (.here arg11) (.dma arg15.sem) ((View.wordExact_bits rfl).reshape _ _) harg11.wordExact ⟨Or.inl rfl, trivial⟩)
  Prog.lift (.waitDma2 arg16.sem (inSl arg2 (k1_off42 i 16#32) (k1_off42_inb i 0)) arg12 ((View.wordExact_bits rfl).reshape _ _) harg12.wordExact)
  chunk arg12 arg14 arg8 arg9 arg10
  Prog.lift (.enqueueDma arg14 (.here (outSl i arg5 1)) (.dma arg18.sem) harg14.wordExact ((View.wordExact_bits rfl).reshape _ _) ⟨Or.inl rfl, trivial⟩)
  -- chunk 2
  Prog.lift (.enqueueDma (inSl arg2 (k1_off42 i 48#32) (k1_off42_inb i 2)) (.here arg12) (.dma arg16.sem) ((View.wordExact_bits rfl).reshape _ _) harg12.wordExact ⟨Or.inl rfl, trivial⟩)
  Prog.lift (.waitDma2 arg15.sem (inSl arg2 (k1_off42 i 32#32) (k1_off42_inb i 1)) arg11 ((View.wordExact_bits rfl).reshape _ _) harg11.wordExact)
  Prog.lift (.waitDma2 arg17.sem arg13 (outSl i arg5 0) harg13.wordExact ((View.wordExact_bits rfl).reshape _ _))
  chunk arg11 arg13 arg8 arg9 arg10
  Prog.lift (.enqueueDma arg13 (.here (outSl i arg5 2)) (.dma arg17.sem) harg13.wordExact ((View.wordExact_bits rfl).reshape _ _) ⟨Or.inl rfl, trivial⟩)
  -- chunk 3
  Prog.lift (.waitDma2 arg16.sem (inSl arg2 (k1_off42 i 48#32) (k1_off42_inb i 2)) arg12 ((View.wordExact_bits rfl).reshape _ _) harg12.wordExact)
  Prog.lift (.waitDma2 arg18.sem arg14 (outSl i arg5 1) harg14.wordExact ((View.wordExact_bits rfl).reshape _ _))
  chunk arg12 arg14 arg8 arg9 arg10
  Prog.lift (.enqueueDma arg14 (.here (outSl i arg5 3)) (.dma arg18.sem) harg14.wordExact ((View.wordExact_bits rfl).reshape _ _) ⟨Or.inl rfl, trivial⟩)
  Prog.lift (.waitDma2 arg17.sem arg13 (outSl i arg5 2) harg13.wordExact ((View.wordExact_bits rfl).reshape _ _))
  Prog.lift (.waitDma2 arg18.sem arg14 (outSl i arg5 3) harg14.wordExact ((View.wordExact_bits rfl).reshape _ _))

end Body

end Cert.Proof.Tile
-- ==== Proof.Owned.lean ====
module

public import Idealize.ShloMosaic.Lib.SparseCore.Ops
public import Idealize.ShloMosaic.Lib.Transfers
public import Idealize.ShloMosaic.Lib.Memref
public import Idealize.ShloMosaic.Lib.Scf
public import Idealize.ShloMosaic.Lib.Tactic

@[expose] public section

noncomputable section

namespace Cert.Proof.Owned

open Idealize.ShloMosaic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Ix : Type} [DecidableEq Ix]
variable {F : FTy → Type} [FloatOps F] {Name : Type} [DecidableEq Name]
variable {U : Type} [URA U] {Lvl : Type} [Preorder Lvl] {Λ : Labels}
variable {defs : Defs nD τ sig (Elt F) Λ} (𝒱 : Variants) (c : Thread nD τ) (bd : Option 𝒱.V) (E : Set Name)
variable {sp : Space} {s₀ s t : Shape} {e : EltTy} {α : Type} {Q : α → sProp (MT nD τ sig Ix (Elt F) Name U Lvl)}

local notation "𝕄" => MT nD τ sig Ix (Elt F) Name U Lvl

/-- A load of a unit rectangle of an owned memref reads the owned function there. -/
theorem ld {cs : CoreSpace} {m : Memref sig c.2.kind cs s e} {r : Rect s} {hl : m.view.LoadsAt r.toLoadRect}
    {k : (r.toLoadRect.shape.Idx → Elt F e) → Prog (TpuEff nD τ sig (Elt F) Λ c.2) α} {q : PosShare TreeShare} {X : s.Idx → Elt F e} :
    (owns c m q X : sProp 𝕄)
      ⊢ iprop((owns c m q X -∗ wp frame (wpE defs 𝒱 c bd) E (k (fun x => X (r.emb x))) Q)
          -∗ wp frame (wpE defs 𝒱 c bd) E (.op (.load m r.toLoadRect hl) k) Q) := by
  unfold owns
  iintro ⟨%f, %hf, H⟩ Hk
  iapply (wp_load_rect 𝒱 c bd E (m := m) (r := r) (S := m.view.set) (View.set_slice_subset _ _)) $$ H
  iintro H
  have e1 : (m.access r).read (Elt F) f = fun x => X (r.emb x) := by rw [← hf]; rfl
  rw [e1]
  iapply Hk
  iexists f
  isplitr
  · ipureintro; exact hf
  · iexact H

/-- A store of a unit rectangle of an owned memref lays the stored vector over the owned function. -/
theorem st {cs : CoreSpace} {m : Memref sig c.2.kind cs s e} {r : Rect s} {w : r.shape.Idx → Elt F e}
    {hx : (m.access r).Stores Finset.univ} {hm : (Finset.univ : Finset r.shape.Idx) = Finset.univ ∨ ∀ a, r.stride a = 1}
    {k : PUnit → Prog (TpuEff nD τ sig (Elt F) Λ c.2) α} {X : s.Idx → Elt F e} :
    (owns c m fullShare X : sProp 𝕄)
      ⊢ iprop((owns c m fullShare (r.overlay X w) -∗ wp frame (wpE defs 𝒱 c bd) E (k ⟨⟩) Q)
          -∗ wp frame (wpE defs 𝒱 c bd) E (.op (.store m r w Finset.univ hx hm) k) Q) := by
  unfold owns
  iintro ⟨%f, %hf, H⟩ Hk
  iapply (wp_store 𝒱 c bd E (m := m) (r := r) (S := m.view.set) (by
    refine (View.setOn_subset_set _ _).trans (View.set_slice_subset _ _))) $$ H
  iintro H
  iapply Hk
  iexists (m.access r).write (Elt F) f w Finset.univ
  isplitr
  · ipureintro
    funext y
    by_cases hy : y ∈ r.set
    · rw [← Rect.map_emb_univ, Finset.mem_map] at hy
      obtain ⟨x, -, rfl⟩ := hy
      rw [Rect.overlay_emb]
      exact View.read_slice_write_emb r f w (Finset.mem_univ x)
    · rw [Rect.overlay_of_not_mem _ _ _ hy, ← hf]
      exact View.read_slice_write_of_not_mem r f w _ (by rwa [Rect.map_emb_univ])
  · iexact H

/-- A gather from an owned memref reads the owned function at the indices. -/
theorem gather {base : Memref sig c.2.kind .vmem s e} {idxs : Fin s.rank → IVec t 32}
    {h : ∀ a x, (idxs a x).toNat < s.size a} {hl : base.view.Loads} {k : Vec F t e → Prog (TpuEff nD τ sig (Elt F) Λ c.2) α}
    {q : PosShare TreeShare} {X : s.Idx → Elt F e} :
    (owns c base q X : sProp 𝕄)
      ⊢ iprop((owns c base q X -∗ wp frame (wpE defs 𝒱 c bd) E (k (loadIdx X idxs h)) Q)
          -∗ wp frame (wpE defs 𝒱 c bd) E (SparseCore.vectorLoadIdx base idxs h hl >>= k) Q) := by
  rw [SparseCore.vectorLoadIdx_bind]
  have h2 := ld (defs := defs) (Q := Q) 𝒱 c bd E (m := base) (r := Rect.whole s) (hl := View.loadsAt_whole hl) (q := q) (X := X) (k := fun f => k (loadIdx f idxs h))
  have e1 : (fun x => X ((Rect.whole s).emb x)) = X := funext fun x => congrArg X (Rect.emb_whole_apply s x)
  rw [e1] at h2
  exact h2

/-- A load of a whole owned memref reads the owned function. -/
theorem ldWhole {cs : CoreSpace} {m : Memref sig c.2.kind cs s e} {hl : m.view.LoadsAt (Rect.whole s).toLoadRect}
    {k : (s.Idx → Elt F e) → Prog (TpuEff nD τ sig (Elt F) Λ c.2) α} {q : PosShare TreeShare} {X : s.Idx → Elt F e} :
    (owns c m q X : sProp 𝕄)
      ⊢ iprop((owns c m q X -∗ wp frame (wpE defs 𝒱 c bd) E (k X) Q)
          -∗ wp frame (wpE defs 𝒱 c bd) E (.op (.load m (Rect.whole s).toLoadRect hl) k) Q) := by
  have h2 := ld (defs := defs) (Q := Q) 𝒱 c bd E (m := m) (r := Rect.whole s) (hl := hl) (q := q) (X := X) (k := k)
  have e1 : (fun x => X ((Rect.whole s).emb x)) = X := funext fun x => congrArg X (Rect.emb_whole_apply s x)
  rw [e1] at h2
  exact h2

section Copy
variable [Infinite Name] (EC : UEmb Counters (MT nD τ sig Ix (Elt F) Name U Lvl)) [EC.LandsIn (upEmb : UEmb _ (MT nD τ sig Ix (Elt F) Name U Lvl))]

/-- A local copy from an owned memref to another: its flight delivers the destination owning what the source owns. -/
theorem copy {sp sp' : Space} {src : Memref sig c.2.kind sp s e} {dst : Memref sig c.2.kind sp' s e} {sm : SemLoc sig}
    {hsrc : src.view.WordExact} {hdst : dst.view.WordExact} {hsem : DmaTarget.Typed (nD := nD) sp sm (.here dst)}
    {k : PUnit → Prog (TpuEff nD τ sig (Elt F) Λ c.2) α} {q : PosShare TreeShare} {X Y : s.Idx → Elt F e}
    (ι : Ix) (N : ℕ) (hN : dst.view.amount sm = N) (hN0 : 0 < N) :
    iprop(owns c src q X ∗ owns c dst fullShare Y ∗ semVal (c, sm) 0)
      ⊢ iprop((Transfers.Flight EC c sm ι N iprop(owns c dst fullShare X ∗ owns c src q X)
              -∗ wp frame (wpE defs 𝒱 c bd) Set.univ (k ⟨⟩) Q)
          -∗ wp frame (wpE defs 𝒱 c bd) Set.univ (.op (.enqueueDma src (.here dst) sm hsrc hdst hsem) k) Q) := by
  unfold owns
  iintro ⟨⟨%f, %hf, Hs⟩, ⟨%g, %hg, Hd⟩, Hv⟩ Hk
  iapply (Transfers.wp_dmaLocal EC 𝒱 c bd ι N hN hN0 (Finset.Subset.refl _)) $$ [Hs Hd Hv]
  · isplitl [Hs]; · iexact Hs
    isplitl [Hd] <;> iassumption
  iintro Hfl
  iapply Hk
  iapply (Transfers.Flight_mono EC c ?_) $$ Hfl
  iintro ⟨Hd, Hs⟩
  isplitl [Hd]
  · iexists _
    isplitr
    rotate_left
    · iexact Hd
    · ipureintro
      rw [View.read_write_univ]
      exact hf
  · iexists f
    isplitr
    · ipureintro; exact hf
    · iexact Hs
end Copy

end Cert.Proof.Owned
-- ==== Proof.TileRun.lean ====
module

public import proofs.«01_k».proof.Proof.TileProg
public import proofs.«01_k».proof.Proof.Owned
public import Idealize.ShloMosaic.Lib.ValueIdxCore
public import Idealize.ShloMosaic.Lib.Pipeline.Value

@[expose] public section

noncomputable section

namespace Cert.Proof.Tile

open Cert.KernelIdeal Cert.KernelIdeal.Gen
open Idealize.ShloMosaic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## What one chunk's compute writes, as functions of what it reads -/

/-- Element `n` of row `r` of sixteen rows of 2048. -/
def at2 {α : Type} (X : S16x2048.Idx → α) (r : Fin 16) (n : Nat) : α := X (ix2 r ⟨n % 2048, Nat.mod_lt _ (by decide)⟩)

/-- The pooled value of two source edges: the first plus the weighted second. -/
def pairVal (X : S16x2048.Idx → F .f32) (A B : S1536.Idx → BitVec 32) (W : S1536.Idx → F .f32) : S16x1536.Idx → F .f32 :=
  fun y => FloatOps.addf (at2 X (y 0) (A (ix1 (y 1))).toNat) (FloatOps.mulf (W (ix1 (y 1))) (at2 X (y 0) (B (ix1 (y 1))).toNat))

/-- The value of the one source edge. -/
def soloVal (X : S16x2048.Idx → F .f32) (A : S1536.Idx → BitVec 32) : S16x1536.Idx → F .f32 :=
  fun y => at2 X (y 0) (A (ix1 (y 1))).toNat

/-- A chunk's sixteen output rows. -/
def chunkVal (X : S16x2048.Idx → F .f32) (A B : S1536.Idx → BitVec 32) (W : S1536.Idx → F .f32) : S16x1536.Idx → F .f32 :=
  fun y => if (y 1).val < 512 then pairVal X A B W y else soloVal X A y

/-- `V` on the sixteen lanes from `C` of the rows `rs`, `Y` elsewhere. -/
def laid (rs : List (Fin 16)) (C : Nat) (V Y : S16x1536.Idx → F .f32) : S16x1536.Idx → F .f32 :=
  fun y => if (show Fin 16 from y 0) ∈ rs ∧ C ≤ (y 1).val ∧ (y 1).val < C + 16 then V y else Y y

/-- No row laid changes nothing. -/
theorem laid_nil (C : Nat) (V Y : S16x1536.Idx → F .f32) : laid [] C V Y = Y := by
  funext y; unfold laid; rw [if_neg]; rintro ⟨h, -⟩; exact absurd h List.not_mem_nil

/-- A row laid after the others. -/
theorem laid_cons (r : Fin 16) (rs : List (Fin 16)) (C : Nat) (V Y : S16x1536.Idx → F .f32) :
    laid rs C V (laid [r] C V Y) = laid (r :: rs) C V Y := by
  funext y
  have e : ((show Fin 16 from y 0) ∈ r :: rs) ↔ ((show Fin 16 from y 0) ∈ [r] ∨ (show Fin 16 from y 0) ∈ rs) :=
    List.mem_cons.trans (or_congr List.mem_singleton.symm Iff.rfl)
  unfold laid
  split_ifs with h1 h2 h3 h4 h5
  · rfl
  · exact absurd ⟨e.mpr (Or.inr h1.1), h1.2⟩ h2
  · rfl
  · exact absurd ⟨e.mpr (Or.inl h3.1), h3.2⟩ h4
  · exact absurd h5 fun h5 => (e.mp h5.1).elim (fun h => h3 ⟨h, h5.2⟩) (fun h => h1 ⟨h, h5.2⟩)
  · rfl

/-- Every row is among the sixteen. -/
theorem mem_allRows : ∀ r : Fin 16, r ∈ allRows := by decide

/-- Storing a vector at row `r` lays `V` there, where the vector holds `V`'s lanes. -/
theorem overlay_row (C : Nat) (hC : C + 16 ≤ 1536) (r : Fin 16) (h : ∀ a, (![r.val, C] : Fin 2 → Nat) a + S1x16.size a ≤ S16x1536.size a)
    (v : S16.Idx → F .f32) (V Y : S16x1536.Idx → F .f32) (hv : ∀ l : Fin 16, v (ix1 l) = V (ix2 r ⟨C + l.val, by omega⟩)) :
    (Rect.unit (s := S16x1536) ![r.val, C] S1x16.size h).overlay Y (shapeCast S1x16 v shapeCasts_S16_S1x16) = laid [r] C V Y := by
  funext y
  by_cases hy : y ∈ (Rect.unit (s := S16x1536) ![r.val, C] S1x16.size h).set
  · have hy' := Rect.mem_set_unit.mp hy
    have h0 : r.val ≤ (y 0).val ∧ (y 0).val < r.val + 1 := hy' 0
    have h1 : C ≤ (y 1).val ∧ (y 1).val < C + 16 := hy' 1
    have hl : (y 1).val - C < 16 := by omega
    have hemb : y = (Rect.unit (s := S16x1536) ![r.val, C] S1x16.size h).emb (ix2 (0 : Fin 1) (⟨(y 1).val - C, hl⟩ : Fin 16)) := by
      refine funext fun a => Fin.ext ?_
      match a with
      | ⟨0, _⟩ => show (y 0).val = r.val + 1 * 0; omega
      | ⟨1, _⟩ => show (y 1).val = C + 1 * ((y 1).val - C); omega
    have hz : y = ix2 r ⟨C + ((y 1).val - C), by have : (y 1).val < 1536 := (y 1).isLt; omega⟩ := by
      refine funext fun a => Fin.ext ?_
      match a with
      | ⟨0, _⟩ => show (y 0).val = r.val; omega
      | ⟨1, _⟩ => show (y 1).val = C + ((y 1).val - C); omega
    have e1 : (Rect.unit (s := S16x1536) ![r.val, C] S1x16.size h).overlay Y (shapeCast S1x16 v shapeCasts_S16_S1x16) y
        = shapeCast S1x16 v shapeCasts_S16_S1x16 (ix2 (0 : Fin 1) (⟨(y 1).val - C, hl⟩ : Fin 16)) := by
      conv_lhs => rw [hemb]
      exact Rect.overlay_emb _ _ _ _
    rw [e1, shapeCast_apply v shapeCasts_S16_S1x16 (ix2 (0 : Fin 1) (⟨(y 1).val - C, hl⟩ : Fin 16)) (ix1 ⟨(y 1).val - C, hl⟩) (by
      rw [Shape.rowMajor_val_two, Shape.rowMajor_val_one]; show (y 1).val - C = 0 * 16 + ((y 1).val - C); omega), hv]
    unfold laid
    rw [if_pos ⟨List.mem_singleton.mpr (Fin.ext (by show (y 0).val = r.val; omega)), h1⟩]
    exact congrArg V hz.symm
  · rw [Rect.overlay_of_not_mem _ _ _ hy]
    unfold laid
    rw [if_neg]
    rintro ⟨h0, h1⟩
    refine hy (Rect.mem_set_unit.mpr fun a => ?_)
    have h0 : (y 0 : Fin 16) = r := List.mem_singleton.mp h0
    match a with
    | ⟨0, _⟩ => show r.val ≤ (y 0).val ∧ (y 0).val < r.val + 1; rw [← h0]; constructor <;> omega
    | ⟨1, _⟩ => exact h1

/-- Lane `l` of the sixteen from `C` of a row of 1536. -/
theorem lane_emb (C : Nat) (h : ∀ a, (![C] : Fin 1 → Nat) a + S16.size a ≤ S1536.size a) (l : Fin 16) :
    (Rect.unit (s := S1536) ![C] S16.size h).emb (ix1 l) = ix1 (⟨C + l.val, by have : C + 16 ≤ 1536 := h 0; omega⟩ : Fin 1536) := by
  refine funext fun a => Fin.ext ?_
  match a with
  | ⟨0, _⟩ => show C + 1 * l.val = C + l.val; omega

/-- A gather of row `r` at columns in range reads the row at each column. -/
theorem loadIdx_row (X : S16x2048.Idx → F .f32) (r : Fin 16) (a : IVec S16 32)
    (h : ∀ b x, ((![rowv r.val, a] : Fin 2 → IVec S16 32) b x).toNat < S16x2048.size b) (l : S16.Idx) :
    loadIdx (F := F) (e := .f32) X ![rowv r.val, a] h l = at2 X r (a l).toNat := by
  unfold loadIdx at2
  refine congrArg X (funext fun b => Fin.ext ?_)
  match b with
  | ⟨0, _⟩ => show (BitVec.ofNat 32 r.val).toNat = r.val; have := r.isLt; rw [BitVec.toNat_ofNat]; omega
  | ⟨1, _⟩ => show (a l).toNat = (a l).toNat % 2048; exact (Nat.mod_eq_of_lt (h 1 l)).symm

section Wp
variable {Ix : Type} [DecidableEq Ix] {Name : Type} [DecidableEq Name] {U : Type} [URA U] {Lvl : Type} [Preorder Lvl]
variable {defs : Defs nD τ sig (Elt F) Λ₀} (𝒱 : Variants) (d : Dev nD) {c : Fin τ.nSC} {s : Fin τ.nSub} (bd : Option 𝒱.V)

local notation "𝕄" => MT nD τ sig Ix (Elt F) Name U Lvl

/-- The thread of a tile. -/
abbrev thr (d : Dev nD) (c : Fin τ.nSC) (s : Fin τ.nSub) : Thread nD τ := (d, .scVector c s)

variable {Q : PUnit → sProp (MT nD τ sig Ix (Elt F) Name U Lvl)}
variable (inb : Memref sig .scVector .vmem S16x2048 .f32) (out : Memref sig .scVector .vmem S16x1536 .f32)
  (ix1' ix2' : Memref sig .scVector .vmem S1536 .i32) (wt : Memref sig .scVector .vmem S1536 .f32)

/-- A program that has returned is done where its postcondition holds. -/
theorem ret {Λ : Labels} {defs : Defs nD τ sig (Elt F) Λ} (thr : Thread nD τ) (bd : Option 𝒱.V) {α : Type} (a : α)
    (Q : α → sProp (MT nD τ sig Ix (Elt F) Name U Lvl)) :
    Q a ⊢ wp frame (wpE defs 𝒱 thr bd) Set.univ (.ret a) Q := by
  rw [wp_ret]; exact fupd_intro

/-- Storing sixteen lanes of a row. -/
theorem wp_putRow (base : BitVec 32) (n : Nat) (hn : ∀ t : Fin n, colAt base t.val + 16 ≤ 1536) (r : Fin 16) (t : Fin n) (v : FVec F S16 .f32)
    (V Y : S16x1536.Idx → F .f32) (hv : ∀ l : Fin 16, v (ix1 l) = V (ix2 r ⟨colAt base t.val + l.val, by have := hn t; omega⟩)) :
    (owns (thr d c s) out fullShare Y : sProp 𝕄)
      ⊢ iprop((owns (thr d c s) out fullShare (laid [r] (colAt base t.val) V Y) -∗ Q ⟨⟩)
        -∗ wp frame (wpE defs 𝒱 (thr d c s) bd) Set.univ (putRow (c := c) (s := s) out base n hn r t v) Q) := by
  iintro H Hk
  iapply (Owned.ld 𝒱 (thr d c s) bd Set.univ) $$ H
  iintro H
  iapply (Owned.st 𝒱 (thr d c s) bd Set.univ) $$ H
  iintro H
  rw [overlay_row (colAt base t.val) (hn t) r (inb_row base n hn r t) v V Y hv]
  iapply (ret 𝒱 (thr d c s) bd _ _)
  iapply Hk $$ H

/-- The rows of a trip of the pair loop leave the pair's values. -/
theorem wp_pairRows (t : Fin k1_t2_loop.trips) (a b : IVec S16 32) (w : FVec F S16 .f32) (ha : Cols a) (hb : Cols b)
    (q : PosShare TreeShare) (X : S16x2048.Idx → F .f32) (V : S16x1536.Idx → F .f32)
    (hV : ∀ (r l : Fin 16), FloatOps.addf (at2 X r (a (ix1 l)).toNat) (FloatOps.mulf (w (ix1 l)) (at2 X r (b (ix1 l)).toNat))
      = V (ix2 r ⟨colAt 0#32 t.val + l.val, by have := fits_pair t; omega⟩)) (rs : List (Fin 16)) : ∀ (Y : S16x1536.Idx → F .f32) (Q : PUnit → sProp (MT nD τ sig Ix (Elt F) Name U Lvl)),
    (iprop(owns (thr d c s) inb q X ∗ owns (thr d c s) out fullShare Y) : sProp 𝕄)
      ⊢ iprop((iprop(owns (thr d c s) inb q X ∗ owns (thr d c s) out fullShare (laid rs (colAt 0#32 t.val) V Y)) -∗ Q ⟨⟩)
        -∗ wp frame (wpE defs 𝒱 (thr d c s) bd) Set.univ (pairRows (c := c) (s := s) inb out t a b w ha hb rs) Q) := by
  induction rs with
  | nil =>
    intro Y Q
    rw [laid_nil]
    iintro H Hk
    iapply (ret 𝒱 (thr d c s) bd _ _)
    iapply Hk $$ H
  | cons r rs ih =>
    intro Y Q
    iintro ⟨Hi, Ho⟩ Hk
    iapply (Owned.gather 𝒱 (thr d c s) bd Set.univ) $$ Hi
    iintro Hi
    iapply (Owned.gather 𝒱 (thr d c s) bd Set.univ) $$ Hi
    iintro Hi
    rw [wp_bind]
    iapply (wp_putRow 𝒱 d bd out 0#32 _ fits_pair r t _ V Y (fun l => by
      rw [← hV r l]
      show FloatOps.addf _ (FloatOps.mulf _ _) = _
      rw [loadIdx_row, loadIdx_row])) $$ Ho
    iintro Ho
    iapply (ih _ _) $$ [Hi Ho]
    · isplitl [Hi] <;> iassumption
    rw [laid_cons]
    iexact Hk

/-- The rows of a trip of the solo loop leave the kept edges' values. -/
theorem wp_soloRows (t : Fin k1_t3_loop.trips) (a : IVec S16 32) (ha : Cols a)
    (q : PosShare TreeShare) (X : S16x2048.Idx → F .f32) (V : S16x1536.Idx → F .f32)
    (hV : ∀ (r l : Fin 16), at2 X r (a (ix1 l)).toNat
      = V (ix2 r ⟨colAt 32#32 t.val + l.val, by have := fits_solo t; omega⟩)) (rs : List (Fin 16)) : ∀ (Y : S16x1536.Idx → F .f32) (Q : PUnit → sProp (MT nD τ sig Ix (Elt F) Name U Lvl)),
    (iprop(owns (thr d c s) inb q X ∗ owns (thr d c s) out fullShare Y) : sProp 𝕄)
      ⊢ iprop((iprop(owns (thr d c s) inb q X ∗ owns (thr d c s) out fullShare (laid rs (colAt 32#32 t.val) V Y)) -∗ Q ⟨⟩)
        -∗ wp frame (wpE defs 𝒱 (thr d c s) bd) Set.univ (soloRows (c := c) (s := s) inb out t a ha rs) Q) := by
  induction rs with
  | nil =>
    intro Y Q
    rw [laid_nil]
    iintro H Hk
    iapply (ret 𝒱 (thr d c s) bd _ _)
    iapply Hk $$ H
  | cons r rs ih =>
    intro Y Q
    iintro ⟨Hi, Ho⟩ Hk
    iapply (Owned.gather 𝒱 (thr d c s) bd Set.univ) $$ Hi
    iintro Hi
    rw [wp_bind]
    iapply (wp_putRow 𝒱 d bd out 32#32 _ fits_solo r t _ V Y (fun l => by
      rw [← hV r l, loadIdx_row])) $$ Ho
    iintro Ho
    iapply (ih _ _) $$ [Hi Ho]
    · isplitl [Hi] <;> iassumption
    rw [laid_cons]
    iexact Hk

end Wp
end Cert.Proof.Tile
-- ==== Proof.TileLoops.lean ====
module

public import proofs.«01_k».proof.Proof.TileRun

@[expose] public section

noncomputable section

namespace Cert.Proof.Tile

open Cert.KernelIdeal Cert.KernelIdeal.Gen
open Idealize.ShloMosaic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The index lists, as functions of the order and the number of pairs -/

/-- `V` on the lanes below `n`, `Y` from there on. -/
def upTo (n : Nat) (V Y : S16x1536.Idx → F .f32) : S16x1536.Idx → F .f32 := fun y => if (y 1).val < n then V y else Y y
/-- `V` on the entries below `n`, `Y` from there on. -/
def upTo1 {α : Type} (n : Nat) (V Y : S1536.Idx → α) : S1536.Idx → α := fun y => if (y 0).val < n then V y else Y y

/-- The first source edge of each output. -/
def srcA (ord : S2048.Idx → BitVec 32) (kk : BitVec 32) : S1536.Idx → BitVec 32 :=
  fun j => ord (ix1 ⟨((j 0).val + kk.toNat) % 2048, Nat.mod_lt _ (by decide)⟩)
/-- The second source edge of each output. -/
def srcB (ord : S2048.Idx → BitVec 32) : S1536.Idx → BitVec 32 :=
  fun j => ord (ix1 ⟨(j 0).val % 2048, Nat.mod_lt _ (by decide)⟩)
/-- The second source edge's weight: one on the first `kk` outputs, zero on the others. -/
def srcW (kk : BitVec 32) : S1536.Idx → F .f32 :=
  fun j => if (j 0).val < kk.toNat then (Scalar.ofBits .f32 0x3F800000#32 : F .f32) else (Scalar.ofBits .f32 0x00000000#32 : F .f32)

/-- All sixteen rows laid at a column extend what is done by sixteen columns. -/
theorem laid_all (n : Nat) (V Y : S16x1536.Idx → F .f32) : laid allRows n V (upTo n V Y) = upTo (n + 16) V Y := by
  funext y
  unfold laid upTo
  have hm := mem_allRows (y 0)
  split_ifs with h1 h2 h3 h4 h5
  · rfl
  · omega
  · rfl
  · omega
  · exact absurd ⟨hm, by omega, by omega⟩ h1
  · rfl

/-- Sixteen lanes stored at a place, read at an index. -/
theorem overlay_lanes {α : Type} (n : Nat) (off : Fin 1 → Nat) (hoff : off = ![n]) (h : ∀ a, off a + S16.size a ≤ S1536.size a)
    (v : S16.Idx → α) (V Y : S1536.Idx → α) (hv : ∀ l : Fin 16, v (ix1 l) = V (ix1 ⟨n + l.val, by subst hoff; have : n + 16 ≤ 1536 := h 0; omega⟩)) :
    (Rect.unit (s := S1536) off S16.size h).overlay (upTo1 n V Y) v = upTo1 (n + 16) V Y := by
  subst hoff
  funext y
  by_cases hy : y ∈ (Rect.unit (s := S1536) ![n] S16.size h).set
  · have h1 : n ≤ (y 0).val ∧ (y 0).val < n + 16 := Rect.mem_set_unit.mp hy 0
    have hl : (y 0).val - n < 16 := by omega
    have hemb : y = (Rect.unit (s := S1536) ![n] S16.size h).emb (ix1 (⟨(y 0).val - n, hl⟩ : Fin 16)) := by
      refine funext fun a => Fin.ext ?_
      match a with
      | ⟨0, _⟩ => show (y 0).val = n + 1 * ((y 0).val - n); omega
    have e1 : (Rect.unit (s := S1536) ![n] S16.size h).overlay (upTo1 n V Y) v y = v (ix1 (⟨(y 0).val - n, hl⟩ : Fin 16)) := by
      conv_lhs => rw [hemb]
      exact Rect.overlay_emb _ _ _ _
    rw [e1, hv]
    unfold upTo1
    rw [if_pos h1.2]
    refine congrArg V (funext fun a => Fin.ext ?_)
    match a with
    | ⟨0, _⟩ => show n + ((y 0).val - n) = (y 0).val; omega
  · rw [Rect.overlay_of_not_mem _ _ _ hy]
    unfold upTo1
    have hn : ¬ (n ≤ (y 0).val ∧ (y 0).val < n + 16) := fun h1 => hy (Rect.mem_set_unit.mpr fun a => by
      match a with
      | ⟨0, _⟩ => exact h1)
    split_ifs with h1 h2 h3
    · rfl
    · omega
    · exact absurd ⟨by omega, h3⟩ hn
    · rfl

/-- The lane numbers of trip `t`. -/
def lanes (t : Fin k1_t1_loop.trips) : IVec S16 32 :=
  addi (iota .scVector S16 32 [0] iota_S16_d0_w32_scVector) (broadcast S16 (Scalar.muli (Scalar.addi 0#32 (Scalar.muli (Scf.iv 0#32 1#32 t) 1#32)) 16#32))

/-- The lane numbers of a trip. -/
theorem lanes_at : ∀ (t : Fin k1_t1_loop.trips) (l : Fin 16), lanes t (ix1 l) = BitVec.ofNat 32 (16 * t.val + l.val) := by
  decide +kernel

/-- The index loop makes 96 trips. -/
theorem trips1 : k1_t1_loop.trips = 96 := by decide +kernel
/-- The pair loop makes 32 trips. -/
theorem trips2 : k1_t2_loop.trips = 32 := by decide +kernel
/-- The solo loop makes 64 trips. -/
theorem trips3 : k1_t3_loop.trips = 64 := by decide +kernel

/-- The lane numbers of a trip, as numbers. -/
theorem lanes_toNat (t : Fin k1_t1_loop.trips) (l : Fin 16) : (lanes t (ix1 l)).toNat = 16 * t.val + l.val := by
  have := t.isLt; have := trips1
  rw [lanes_at, BitVec.toNat_ofNat]; omega

/-- The lane numbers plus the offset do not overflow. -/
theorem lanes_add (t : Fin k1_t1_loop.trips) (l : Fin 16) (kk : BitVec 32) (hk : kk.toNat ≤ 512) :
    (lanes t (ix1 l) + kk).toNat = 16 * t.val + l.val + kk.toNat := by
  have := t.isLt; have := trips1
  rw [BitVec.toNat_add, lanes_toNat]; omega

section Wp
variable {Ix : Type} [DecidableEq Ix] {Name : Type} [DecidableEq Name] {U : Type} [URA U] {Lvl : Type} [Preorder Lvl]
variable {defs : Defs nD τ sig (Elt F) Λ₀} (𝒱 : Variants) (d : Dev nD) {c : Fin τ.nSC} {s : Fin τ.nSub} (bd : Option 𝒱.V)

local notation "𝕄" => MT nD τ sig Ix (Elt F) Name U Lvl

variable {Q : PUnit → sProp (MT nD τ sig Ix (Elt F) Name U Lvl)}
variable (inb : Memref sig .scVector .vmem S16x2048 .f32) (out : Memref sig .scVector .vmem S16x1536 .f32)
  (i1 i2 : Memref sig .scVector .vmem S1536 .i32) (wt : Memref sig .scVector .vmem S1536 .f32)

/-- One trip over lanes that may hold two edges. -/
theorem wp_pairTrip (t : Fin k1_t2_loop.trips) (q : PosShare TreeShare) (X : S16x2048.Idx → F .f32) (A B : S1536.Idx → BitVec 32)
    (W : S1536.Idx → F .f32) (hA : ∀ j, (A j).toNat < 2048) (hB : ∀ j, (B j).toNat < 2048) (Y : S16x1536.Idx → F .f32) :
    (iprop(owns (thr d c s) inb q X ∗ owns (thr d c s) i1 q A ∗ owns (thr d c s) i2 q B ∗ owns (thr d c s) wt q W
        ∗ owns (thr d c s) out fullShare (upTo (16 * t.val) (chunkVal X A B W) Y)) : sProp 𝕄)
      ⊢ wp frame (wpE defs 𝒱 (thr d c s) bd) Set.univ (pairTrip (c := c) (s := s) inb out i1 i2 wt t) fun _ =>
        iprop(owns (thr d c s) inb q X ∗ owns (thr d c s) i1 q A ∗ owns (thr d c s) i2 q B ∗ owns (thr d c s) wt q W
        ∗ owns (thr d c s) out fullShare (upTo (16 * (t.val + 1)) (chunkVal X A B W) Y)) := by
  have ht := t.isLt
  have htr := trips2
  have hcol : colAt 0#32 t.val = 16 * t.val := colAt_lo ⟨t.val, by omega⟩
  iintro ⟨Hi, H1, H2, Hw, Ho⟩
  iapply (Owned.ld 𝒱 (thr d c s) bd Set.univ) $$ H1
  iintro H1
  iapply (wp_assume 𝒱 (thr d c s) bd Set.univ (cols_of fun x => hA _))
  iapply (Owned.ld 𝒱 (thr d c s) bd Set.univ) $$ H2
  iintro H2
  iapply (wp_assume 𝒱 (thr d c s) bd Set.univ (cols_of fun x => hB _))
  iapply (Owned.ld 𝒱 (thr d c s) bd Set.univ) $$ Hw
  iintro Hw
  iapply (wp_pairRows 𝒱 d bd inb out t _ _ _ _ _ q X (chunkVal X A B W) (by
    intro r l
    have e := lane_emb (colAt 0#32 t.val) (inb_lane _ _ fits_pair t) l
    show FloatOps.addf (at2 X r (A ((Rect.unit (s := S1536) ![colAt 0#32 t.val] S16.size (inb_lane _ _ fits_pair t)).emb (ix1 l))).toNat)
      (FloatOps.mulf (W ((Rect.unit (s := S1536) ![colAt 0#32 t.val] S16.size (inb_lane _ _ fits_pair t)).emb (ix1 l)))
        (at2 X r (B ((Rect.unit (s := S1536) ![colAt 0#32 t.val] S16.size (inb_lane _ _ fits_pair t)).emb (ix1 l))).toNat)) = _
    rw [e]
    unfold chunkVal
    rw [if_pos (show colAt 0#32 t.val + l.val < 512 by omega)]
    rfl) allRows _ _) $$ [Hi Ho]
  · isplitl [Hi] <;> iassumption
  rw [hcol, laid_all, show 16 * t.val + 16 = 16 * (t.val + 1) by omega]
  iintro ⟨Hi, Ho⟩
  isplitl [Hi]; · iexact Hi
  isplitl [H1]; · iexact H1
  isplitl [H2]; · iexact H2
  isplitl [Hw]; · iexact Hw
  iexact Ho

/-- One trip over lanes that hold one edge. -/
theorem wp_soloTrip (t : Fin k1_t3_loop.trips) (q : PosShare TreeShare) (X : S16x2048.Idx → F .f32) (A B : S1536.Idx → BitVec 32)
    (W : S1536.Idx → F .f32) (hA : ∀ j, (A j).toNat < 2048) (Y : S16x1536.Idx → F .f32) :
    (iprop(owns (thr d c s) inb q X ∗ owns (thr d c s) i1 q A
        ∗ owns (thr d c s) out fullShare (upTo (512 + 16 * t.val) (chunkVal X A B W) Y)) : sProp 𝕄)
      ⊢ wp frame (wpE defs 𝒱 (thr d c s) bd) Set.univ (soloTrip (c := c) (s := s) inb out i1 t) fun _ =>
        iprop(owns (thr d c s) inb q X ∗ owns (thr d c s) i1 q A
        ∗ owns (thr d c s) out fullShare (upTo (512 + 16 * (t.val + 1)) (chunkVal X A B W) Y)) := by
  have ht := t.isLt
  have htr := trips3
  have hcol : colAt 32#32 t.val = 512 + 16 * t.val := (colAt_hi ⟨t.val, by omega⟩).trans (by show 16 * t.val + 512 = _; omega)
  iintro ⟨Hi, H1, Ho⟩
  iapply (Owned.ld 𝒱 (thr d c s) bd Set.univ) $$ H1
  iintro H1
  iapply (wp_assume 𝒱 (thr d c s) bd Set.univ (cols_of fun x => hA _))
  iapply (wp_soloRows 𝒱 d bd inb out t _ _ q X (chunkVal X A B W) (by
    intro r l
    have e := lane_emb (colAt 32#32 t.val) (inb_lane _ _ fits_solo t) l
    show at2 X r (A ((Rect.unit (s := S1536) ![colAt 32#32 t.val] S16.size (inb_lane _ _ fits_solo t)).emb (ix1 l))).toNat = _
    rw [e]
    unfold chunkVal
    rw [if_neg (show ¬ colAt 32#32 t.val + l.val < 512 by omega)]
    rfl) allRows _ _) $$ [Hi Ho]
  · isplitl [Hi] <;> iassumption
  rw [hcol, laid_all, show 512 + 16 * t.val + 16 = 512 + 16 * (t.val + 1) by omega]
  iintro ⟨Hi, Ho⟩
  isplitl [Hi]; · iexact Hi
  isplitl [H1]; · iexact H1
  iexact Ho

/-- Before the first trip nothing is done. -/
theorem upTo_zero (V Y : S16x1536.Idx → F .f32) : upTo (16 * 0) V Y = Y := by
  funext y; unfold upTo; rw [if_neg]; omega
/-- After the last trip all is done. -/
theorem upTo_full (V Y : S16x1536.Idx → F .f32) : upTo (512 + 16 * k1_t3_loop.trips) V Y = V := by
  funext y; unfold upTo; rw [trips3, if_pos]; exact (y 1).isLt
/-- Before the first trip of the index loop nothing is done. -/
theorem upTo1_zero {α : Type} (V Y : S1536.Idx → α) : upTo1 (16 * 0) V Y = Y := by
  funext y; unfold upTo1; rw [if_neg]; omega
/-- After the last trip of the index loop all is done. -/
theorem upTo1_full {α : Type} (V Y : S1536.Idx → α) : upTo1 (16 * k1_t1_loop.trips) V Y = V := by
  funext y; unfold upTo1; rw [trips1, if_pos]; exact (y 0).isLt

/-- A chunk's compute writes the chunk's values into its output buffer. -/
theorem wp_chunk (q : PosShare TreeShare) (X : S16x2048.Idx → F .f32) (A B : S1536.Idx → BitVec 32)
    (W : S1536.Idx → F .f32) (hA : ∀ j, (A j).toNat < 2048) (hB : ∀ j, (B j).toNat < 2048) (Y : S16x1536.Idx → F .f32)
    (k : PUnit → TProg F c s PUnit) :
    (iprop(owns (thr d c s) inb q X ∗ owns (thr d c s) i1 q A ∗ owns (thr d c s) i2 q B ∗ owns (thr d c s) wt q W
        ∗ owns (thr d c s) out fullShare Y) : sProp 𝕄)
      ⊢ iprop((iprop(owns (thr d c s) inb q X ∗ owns (thr d c s) i1 q A ∗ owns (thr d c s) i2 q B ∗ owns (thr d c s) wt q W
        ∗ owns (thr d c s) out fullShare (chunkVal X A B W)) -∗ wp frame (wpE defs 𝒱 (thr d c s) bd) Set.univ (k ⟨⟩) Q)
        -∗ wp frame (wpE defs 𝒱 (thr d c s) bd) Set.univ (chunk (c := c) (s := s) inb out i1 i2 wt >>= k) Q) := by
  unfold chunk
  rw [bind_assoc]
  iintro ⟨Hi, H1, H2, Hw, Ho⟩ Hk
  iapply (Scf.wp_for_bind frame (wpE defs 𝒱 (thr d c s) bd) Set.univ _ _ _ _ _ _
    (fun t _ => iprop(owns (thr d c s) inb q X ∗ owns (thr d c s) i1 q A ∗ owns (thr d c s) i2 q B ∗ owns (thr d c s) wt q W
        ∗ owns (thr d c s) out fullShare (upTo (16 * t) (chunkVal X A B W) Y)))
    (fun t _ => wp_pairTrip 𝒱 d bd inb out i1 i2 wt t q X A B W hA hB Y)) $$ [Hi H1 H2 Hw Ho]
  · rw [upTo_zero]
    isplitl [Hi]; · iexact Hi
    isplitl [H1]; · iexact H1
    isplitl [H2]; · iexact H2
    isplitl [Hw]; · iexact Hw
    iexact Ho
  iintro %acc ⟨Hi, H1, H2, Hw, Ho⟩
  iapply (Scf.wp_for_bind frame (wpE defs 𝒱 (thr d c s) bd) Set.univ _ _ _ _ _ _
    (fun t _ => iprop(owns (thr d c s) inb q X ∗ owns (thr d c s) i1 q A
        ∗ owns (thr d c s) out fullShare (upTo (512 + 16 * t) (chunkVal X A B W) Y)))
    (fun t _ => wp_soloTrip 𝒱 d bd inb out i1 t q X A B W hA Y)) $$ [Hi H1 Ho]
  · isplitl [Hi]; · iexact Hi
    isplitl [H1]; · iexact H1
    rw [show 512 + 16 * 0 = 16 * k1_t2_loop.trips by rw [trips2]]
    iexact Ho
  iintro %acc' ⟨Hi, H1, Ho⟩
  iapply Hk
  isplitl [Hi]; · iexact Hi
  isplitl [H1]; · iexact H1
  isplitl [H2]; · iexact H2
  isplitl [Hw]; · iexact Hw
  iapply (Entails.of_eq (congrArg (owns (thr d c s) out fullShare) (upTo_full (chunkVal X A B W) Y))) $$ Ho

/-- One trip of the index loop. -/
theorem wp_idxTrip (ord : Memref sig .scVector .vmem S2048 .i32) (kk : BitVec 32) (hk : kk.toNat ≤ 512)
    (t : Fin k1_t1_loop.trips) (q : PosShare TreeShare) (O : S2048.Idx → BitVec 32) (Y1 Y2 : S1536.Idx → BitVec 32) (Y3 : S1536.Idx → F .f32) :
    (iprop(owns (thr d c s) ord q O ∗ owns (thr d c s) i1 fullShare (upTo1 (16 * t.val) (srcA O kk) Y1)
        ∗ owns (thr d c s) i2 fullShare (upTo1 (16 * t.val) (srcB O) Y2) ∗ owns (thr d c s) wt fullShare (upTo1 (16 * t.val) (srcW kk) Y3)) : sProp 𝕄)
      ⊢ wp frame (wpE defs 𝒱 (thr d c s) bd) Set.univ (idxTrip (c := c) (s := s) i1 i2 wt ord (fun _ => kk) t) fun _ =>
        iprop(owns (thr d c s) ord q O ∗ owns (thr d c s) i1 fullShare (upTo1 (16 * (t.val + 1)) (srcA O kk) Y1)
        ∗ owns (thr d c s) i2 fullShare (upTo1 (16 * (t.val + 1)) (srcB O) Y2) ∗ owns (thr d c s) wt fullShare (upTo1 (16 * (t.val + 1)) (srcW kk) Y3)) := by
  have ht := t.isLt
  have htr := trips1
  have hadd : ∀ l : Fin 16, (addi (lanes t) (fun _ => kk) (ix1 l)).toNat = 16 * t.val + l.val + kk.toNat := fun l => lanes_add t l kk hk
  have hchk : k1_chk1 (addi (lanes t) (fun _ => kk)) := by
    intro a x
    match a with
    | ⟨0, _⟩ =>
      obtain ⟨l, rfl⟩ : ∃ l : Fin 16, x = ix1 l := ⟨_, eq_ix1 x⟩
      show (addi (lanes t) (fun _ => kk) (ix1 l)).toNat < 2048
      rw [hadd]; omega
  iintro ⟨Hd, H1, H2, Hw⟩
  iapply (wp_assume 𝒱 (thr d c s) bd Set.univ hchk)
  iapply (Owned.ldWhole 𝒱 (thr d c s) bd Set.univ) $$ Hd
  iintro Hd
  iapply (Owned.ld 𝒱 (thr d c s) bd Set.univ) $$ H1
  iintro H1
  iapply (Owned.st 𝒱 (thr d c s) bd Set.univ) $$ H1
  iintro H1
  iapply (Owned.ld 𝒱 (thr d c s) bd Set.univ) $$ Hd
  iintro Hd
  iapply (Owned.ld 𝒱 (thr d c s) bd Set.univ) $$ H2
  iintro H2
  iapply (Owned.st 𝒱 (thr d c s) bd Set.univ) $$ H2
  iintro H2
  iapply (Owned.ld 𝒱 (thr d c s) bd Set.univ) $$ Hw
  iintro Hw
  iapply (Owned.st 𝒱 (thr d c s) bd Set.univ) $$ Hw
  iintro Hw
  iapply (ret 𝒱 (thr d c s) bd _ _)
  rw [show 16 * (t.val + 1) = 16 * t.val + 16 by omega]
  isplitl [Hd]; · iexact Hd
  isplitl [H1]
  · rw [← overlay_lanes (16 * t.val) (k1_off4 t) (k1_off4_eq t) (k1_off4_inb t) (loadIdx (F := F) (e := .i32) O ![addi (lanes t) (fun _ => kk)] (k1_idx1_inb _ hchk)) (srcA O kk) Y1 (by
      intro l
      unfold loadIdx srcA
      refine congrArg O (funext fun b => Fin.ext ?_)
      match b with
      | ⟨0, _⟩ =>
        show (addi (lanes t) (fun _ => kk) (ix1 l)).toNat = (16 * t.val + l.val + kk.toNat) % 2048
        rw [hadd]; omega)]
    iexact H1
  isplitl [H2]
  · rw [← overlay_lanes (16 * t.val) (k1_off4 t) (k1_off4_eq t) (k1_off4_inb t) (fun x => O ((Rect.unit (s := S2048) (k1_off5 t) S16.size (k1_off5_inb t)).emb x)) (srcB O) Y2 (by
      intro l
      unfold srcB
      refine congrArg O (funext fun b => Fin.ext ?_)
      match b with
      | ⟨0, _⟩ =>
        show k1_off5 t 0 + 1 * l.val = (16 * t.val + l.val) % 2048
        rw [k1_off5_eq]; show 16 * t.val + 1 * l.val = _; omega)]
    iexact H2
  · rw [← overlay_lanes (16 * t.val) (k1_off4 t) (k1_off4_eq t) (k1_off4_inb t) (select (cmpi .slt (lanes t) (fun _ => kk)) (broadcast S16 (Scalar.ofBits .f32 0x3F800000#32)) (broadcast S16 (Scalar.ofBits .f32 0x00000000#32)) : FVec F S16 .f32) (srcW kk) Y3 (by
      intro l
      show Scalar.select (IntOp.cmpi .slt (lanes t (ix1 l)) kk) _ _ = if 16 * t.val + l.val < kk.toNat then _ else _
      have e : IntOp.cmpi .slt (lanes t (ix1 l)) kk = BitVec.ofBool ((lanes t (ix1 l)).slt kk) := rfl
      have e2 : (lanes t (ix1 l)).slt kk = decide (16 * t.val + l.val < kk.toNat) := by
        rw [BitVec.slt_eq_decide, BitVec.toInt_eq_toNat_of_lt (by rw [lanes_toNat]; omega), BitVec.toInt_eq_toNat_of_lt (by omega), lanes_toNat]
        exact decide_eq_decide.mpr (by omega)
      rw [e, e2]
      by_cases h : 16 * t.val + l.val < kk.toNat
      · rw [if_pos h, decide_eq_true h]; rfl
      · rw [if_neg h, decide_eq_false h]; rfl)]
    iexact Hw

/-- The index loop fills the three lists. -/
theorem wp_idxLoop (ord : Memref sig .scVector .vmem S2048 .i32) (kk : BitVec 32) (hk : kk.toNat ≤ 512)
    (q : PosShare TreeShare) (O : S2048.Idx → BitVec 32) (Y1 Y2 : S1536.Idx → BitVec 32) (Y3 : S1536.Idx → F .f32)
    (k : PUnit → TProg F c s PUnit) :
    (iprop(owns (thr d c s) ord q O ∗ owns (thr d c s) i1 fullShare Y1 ∗ owns (thr d c s) i2 fullShare Y2 ∗ owns (thr d c s) wt fullShare Y3) : sProp 𝕄)
      ⊢ iprop((iprop(owns (thr d c s) ord q O ∗ owns (thr d c s) i1 fullShare (srcA O kk)
        ∗ owns (thr d c s) i2 fullShare (srcB O) ∗ owns (thr d c s) wt fullShare (srcW kk)) -∗ wp frame (wpE defs 𝒱 (thr d c s) bd) Set.univ (k ⟨⟩) Q)
        -∗ wp frame (wpE defs 𝒱 (thr d c s) bd) Set.univ ((Scf.Loop.for k1_t1_loop k1_t1_ok ⟨⟩ fun t _ => idxTrip (c := c) (s := s) i1 i2 wt ord (fun _ => kk) t) >>= k) Q) := by
  iintro ⟨Hd, H1, H2, Hw⟩ Hk
  iapply (Scf.wp_for_bind frame (wpE defs 𝒱 (thr d c s) bd) Set.univ _ _ _ _ _ _
    (fun t _ => iprop(owns (thr d c s) ord q O ∗ owns (thr d c s) i1 fullShare (upTo1 (16 * t) (srcA O kk) Y1)
        ∗ owns (thr d c s) i2 fullShare (upTo1 (16 * t) (srcB O) Y2) ∗ owns (thr d c s) wt fullShare (upTo1 (16 * t) (srcW kk) Y3)))
    (fun t _ => wp_idxTrip 𝒱 d bd i1 i2 wt ord kk hk t q O Y1 Y2 Y3)) $$ [Hd H1 H2 Hw]
  · rw [upTo1_zero, upTo1_zero, upTo1_zero]
    isplitl [Hd]; · iexact Hd
    isplitl [H1]; · iexact H1
    isplitl [H2]; · iexact H2
    iexact Hw
  iintro %acc ⟨Hd, H1, H2, Hw⟩
  iapply Hk
  isplitl [Hd]; · iexact Hd
  isplitl [H1]; · iapply (Entails.of_eq (congrArg (owns (thr d c s) i1 fullShare) (upTo1_full (srcA O kk) Y1))) $$ H1
  isplitl [H2]; · iapply (Entails.of_eq (congrArg (owns (thr d c s) i2 fullShare) (upTo1_full (srcB O) Y2))) $$ H2
  iapply (Entails.of_eq (congrArg (owns (thr d c s) wt fullShare) (upTo1_full (srcW kk) Y3))) $$ Hw

end Wp
end Cert.Proof.Tile
-- ==== Proof.TileWp.lean ====
module

public import proofs.«01_k».proof.Proof.TileLoops

@[expose] public section

noncomputable section

namespace Cert.Proof.Tile

open Cert.KernelIdeal Cert.KernelIdeal.Gen
open Idealize.ShloMosaic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]
variable {Ix : Type} [DecidableEq Ix] {Name : Type} [DecidableEq Name] [Infinite Name] {U : Type} [URA U] [CountersIn U]
variable {Lvl : Type} [Preorder Lvl]
variable {defs : Defs nD τ sig (Elt F) Λ₀} (𝒱 : Variants) (d : Dev nD) (bd : Option 𝒱.V)

local notation "𝕄" => MT nD τ sig Ix (Elt F) Name U Lvl

variable (i : grid1.Coords) (arg2 : Memref sig .scVector .hbm S8x256x2048 .f32) (arg3 : Memref sig .scVector .hbm S8x1x2048 .i32) (arg4 : Memref sig .scVector .hbm S8x1x16 .i32) (arg5 : Memref sig .scVector .hbm S8x256x1536 .f32) (arg6 : Memref sig .scVector .vmem S16 .i32) (harg6 : arg6.IsWhole) (arg7 : Memref sig .scVector .vmem S2048 .i32) (harg7 : arg7.IsWhole) (arg8 arg9 : Memref sig .scVector .vmem S1536 .i32) (arg10 : Memref sig .scVector .vmem S1536 .f32) (arg11 : Memref sig .scVector .vmem S16x2048 .f32) (harg11 : arg11.IsWhole) (arg12 : Memref sig .scVector .vmem S16x2048 .f32) (harg12 : arg12.IsWhole) (arg13 : Memref sig .scVector .vmem S16x1536 .f32) (harg13 : arg13.IsWhole) (arg14 : Memref sig .scVector .vmem S16x1536 .f32) (harg14 : arg14.IsWhole) (arg15 arg16 arg17 arg18 v136_r0 v136_r1 : DmaSems sig S_)

/-- The tile that runs grid point `i`. -/
abbrev at_ (d : Dev nD) (i : grid1.Coords) : Thread nD τ := thr d ((i 0).castLE hcore1) ((i 1).castLE hsub1)

/-- The four input slabs a tile reads, and the four output slabs it writes. -/
abbrev slab0 : Memref sig .scVector .hbm S16x2048 .f32 := inSl arg2 (k1_off1 i) (k1_off1_inb i)
/-- The second slab read. -/
abbrev slab1 : Memref sig .scVector .hbm S16x2048 .f32 := inSl arg2 (k1_off6 i 16#32) (k1_off6_inb i 1)
/-- The third slab read. -/
abbrev slab2 : Memref sig .scVector .hbm S16x2048 .f32 := inSl arg2 (k1_off42 i 32#32) (k1_off42_inb i 1)
/-- The fourth slab read. -/
abbrev slab3 : Memref sig .scVector .hbm S16x2048 .f32 := inSl arg2 (k1_off42 i 48#32) (k1_off42_inb i 2)

/-- What a tile's scratch buffers and semaphores are between tasks: each buffer at some contents, each counter at zero. -/
def scratch : sProp (MT nD τ sig Ix (Elt F) Name U Lvl) :=
  iprop((∃ f, owns (at_ d i) arg6 fullShare f) ∗ (∃ f, owns (at_ d i) arg7 fullShare f) ∗ (∃ f, owns (at_ d i) arg8 fullShare f)
    ∗ (∃ f, owns (at_ d i) arg9 fullShare f) ∗ (∃ f, owns (at_ d i) arg10 fullShare f) ∗ (∃ f, owns (at_ d i) arg11 fullShare f)
    ∗ (∃ f, owns (at_ d i) arg12 fullShare f) ∗ (∃ f, owns (at_ d i) arg13 fullShare f) ∗ (∃ f, owns (at_ d i) arg14 fullShare f)
    ∗ semVal (at_ d i, .dma arg15.sem) 0 ∗ semVal (at_ d i, .dma arg16.sem) 0 ∗ semVal (at_ d i, .dma arg17.sem) 0
    ∗ semVal (at_ d i, .dma arg18.sem) 0 ∗ semVal (at_ d i, .dma v136_r0.sem) 0 ∗ semVal (at_ d i, .dma v136_r1.sem) 0)

/-- The inputs a tile reads: its four slabs, its row of the order, and its count. -/
def reads (q qo qk : PosShare TreeShare) (X : Fin 4 → S16x2048.Idx → F .f32) (O : S2048.Idx → BitVec 32) (kk : BitVec 32) :
    sProp (MT nD τ sig Ix (Elt F) Name U Lvl) :=
  iprop(owns (at_ d i) (slab0 i arg2) q (X 0) ∗ owns (at_ d i) (slab1 i arg2) q (X 1) ∗ owns (at_ d i) (slab2 i arg2) q (X 2)
    ∗ owns (at_ d i) (slab3 i arg2) q (X 3) ∗ owns (at_ d i) (ordSl i arg3) qo O ∗ owns (at_ d i) (kbSl i arg4) qk (fun _ => kk))

/-- The four output slabs at given contents. -/
def outs (Y : Fin 4 → S16x1536.Idx → F .f32) : sProp (MT nD τ sig Ix (Elt F) Name U Lvl) :=
  iprop(owns (at_ d i) (outSl i arg5 0) fullShare (Y 0) ∗ owns (at_ d i) (outSl i arg5 1) fullShare (Y 1)
    ∗ owns (at_ d i) (outSl i arg5 2) fullShare (Y 2) ∗ owns (at_ d i) (outSl i arg5 3) fullShare (Y 3))

set_option maxHeartbeats 4000000 in
/-- A tile's task: from its inputs, its output slabs and its scratch, it ends with each output slab at its chunk's
    values, the inputs unchanged. -/
theorem wp_tileProg (q qo qk : PosShare TreeShare) (X : Fin 4 → S16x2048.Idx → F .f32) (O : S2048.Idx → BitVec 32) (kk : BitVec 32)
    (hk : kk.toNat ≤ 512) (hO : ∀ j, (O j).toNat < 2048) (Y : Fin 4 → S16x1536.Idx → F .f32)
    (ι : Ix) (Ow : CellTallies nD τ sig Ix) (W : Waits sig Ix) :
    (iprop(Transfers.MayWaits (at_ d i) ι Ow ∗ reads d i arg2 arg3 arg4 q qo qk X O kk ∗ outs d i arg5 Y
        ∗ scratch d i arg6 arg7 arg8 arg9 arg10 arg11 arg12 arg13 arg14 arg15 arg16 arg17 arg18 v136_r0 v136_r1
        ∗ owes (at_ d i) Ow W) : sProp 𝕄)
      ⊢ wp frame (wpE defs 𝒱 (at_ d i) bd) Set.univ
          (tileProg i arg2 arg3 arg4 arg5 arg6 harg6 arg7 harg7 arg8 arg9 arg10 arg11 harg11 arg12 harg12 arg13 harg13 arg14 harg14 arg15 arg16 arg17 arg18 v136_r0 v136_r1) fun _ =>
        iprop(reads d i arg2 arg3 arg4 q qo qk X O kk ∗ outs d i arg5 (fun r => chunkVal (X r) (srcA O kk) (srcB O) (srcW kk))
        ∗ scratch d i arg6 arg7 arg8 arg9 arg10 arg11 arg12 arg13 arg14 arg15 arg16 arg17 arg18 v136_r0 v136_r1
        ∗ ∃ W', ⌜∀ p ∈ W', p ∈ W ∨ p.2 = ι⌝ ∗ owes (at_ d i) Ow W') := by
  have hA : ∀ j, (srcA O kk j).toNat < 2048 := fun j => hO _
  have hB : ∀ j, (srcB O j).toNat < 2048 := fun j => hO _
  unfold reads outs scratch
  iintro ⟨#Hmw, ⟨HX0, HX1, HX2, HX3, HOr, HKb⟩, ⟨HY0, HY1, HY2, HY3⟩, ⟨⟨%f6, H6⟩, ⟨%f7, H7⟩, ⟨%f8, H8⟩, ⟨%f9, H9⟩, ⟨%f10, H10⟩, ⟨%f11, H11⟩, ⟨%f12, H12⟩, ⟨%f13, H13⟩, ⟨%f14, H14⟩, S15, S16, S17, S18, SA, SB⟩, HO⟩
  unfold tileProg
  iapply (Owned.copy 𝒱 (at_ d i) bd (countersEmb) ι _ rfl (View.amount_pos _ _ (by decide))) $$ [HX0 H11 S15]
  · isplitl [HX0]; · iexact HX0
    isplitl [H11] <;> iassumption
  iintro F15
  iapply (Owned.copy 𝒱 (at_ d i) bd (countersEmb) ι _ rfl (View.amount_pos _ _ (by decide))) $$ [HKb H6 SA]
  · isplitl [HKb]; · iexact HKb
    isplitl [H6] <;> iassumption
  iintro FA
  ihave Hm1 := (Transfers.MayWaits.elim (SemLoc.dma v136_r0.sem)) $$ Hmw
  iapply (Transfers.wp_waitLocalO (countersEmb) 𝒱 (at_ d i) bd ι rfl) $$ [FA HO Hm1]
  · isplitl [FA]; · iexact FA
    isplitl [HO] <;> iassumption
  iintro ⟨⟨H6, HKb⟩, SA, HO⟩
  iapply (Owned.ld 𝒱 (at_ d i) bd Set.univ) $$ H6
  iintro H6
  iapply (Owned.copy 𝒱 (at_ d i) bd (countersEmb) ι _ rfl (View.amount_pos _ _ (by decide))) $$ [HOr H7 SB]
  · isplitl [HOr]; · iexact HOr
    isplitl [H7] <;> iassumption
  iintro FB
  ihave Hm1 := (Transfers.MayWaits.elim (SemLoc.dma v136_r1.sem)) $$ Hmw
  iapply (Transfers.wp_waitLocalO (countersEmb) 𝒱 (at_ d i) bd ι rfl) $$ [FB HO Hm1]
  · isplitl [FB]; · iexact FB
    isplitl [HO] <;> iassumption
  iintro ⟨⟨H7, HOr⟩, SB, HO⟩
  iapply (wp_idxLoop 𝒱 d bd arg8 arg9 arg10 arg7 kk hk fullShare O f8 f9 f10 _) $$ [H7 H8 H9 H10]
  · isplitl [H7]; · iexact H7
    isplitl [H8]; · iexact H8
    isplitl [H9] <;> iassumption
  iintro ⟨H7, H8, H9, H10⟩
  iapply (Owned.copy 𝒱 (at_ d i) bd (countersEmb) ι _ rfl (View.amount_pos _ _ (by decide))) $$ [HX1 H12 S16]
  · isplitl [HX1]; · iexact HX1
    isplitl [H12] <;> iassumption
  iintro F16
  ihave Hm1 := (Transfers.MayWaits.elim (SemLoc.dma arg15.sem)) $$ Hmw
  iapply (Transfers.wp_waitLocalO (countersEmb) 𝒱 (at_ d i) bd ι rfl) $$ [F15 HO Hm1]
  · isplitl [F15]; · iexact F15
    isplitl [HO] <;> iassumption
  iintro ⟨⟨H11, HX0⟩, S15, HO⟩
  iapply (wp_chunk 𝒱 d bd arg11 arg13 arg8 arg9 arg10 fullShare (X 0) _ _ _ hA hB _ _) $$ [H11 H8 H9 H10 H13]
  · isplitl [H11]; · iexact H11
    isplitl [H8]; · iexact H8
    isplitl [H9]; · iexact H9
    isplitl [H10]; · iexact H10
    iexact H13
  iintro ⟨H11, H8, H9, H10, H13⟩
  iapply (Owned.copy 𝒱 (at_ d i) bd (countersEmb) ι _ rfl (View.amount_pos _ _ (by decide))) $$ [H13 HY0 S17]
  · isplitl [H13]; · iexact H13
    isplitl [HY0] <;> iassumption
  iintro F17
  iapply (Owned.copy 𝒱 (at_ d i) bd (countersEmb) ι _ rfl (View.amount_pos _ _ (by decide))) $$ [HX2 H11 S15]
  · isplitl [HX2]; · iexact HX2
    isplitl [H11] <;> iassumption
  iintro F15
  ihave Hm1 := (Transfers.MayWaits.elim (SemLoc.dma arg16.sem)) $$ Hmw
  iapply (Transfers.wp_waitLocalO (countersEmb) 𝒱 (at_ d i) bd ι rfl) $$ [F16 HO Hm1]
  · isplitl [F16]; · iexact F16
    isplitl [HO] <;> iassumption
  iintro ⟨⟨H12, HX1⟩, S16, HO⟩
  iapply (wp_chunk 𝒱 d bd arg12 arg14 arg8 arg9 arg10 fullShare (X 1) _ _ _ hA hB _ _) $$ [H12 H8 H9 H10 H14]
  · isplitl [H12]; · iexact H12
    isplitl [H8]; · iexact H8
    isplitl [H9]; · iexact H9
    isplitl [H10]; · iexact H10
    iexact H14
  iintro ⟨H12, H8, H9, H10, H14⟩
  iapply (Owned.copy 𝒱 (at_ d i) bd (countersEmb) ι _ rfl (View.amount_pos _ _ (by decide))) $$ [H14 HY1 S18]
  · isplitl [H14]; · iexact H14
    isplitl [HY1] <;> iassumption
  iintro F18
  iapply (Owned.copy 𝒱 (at_ d i) bd (countersEmb) ι _ rfl (View.amount_pos _ _ (by decide))) $$ [HX3 H12 S16]
  · isplitl [HX3]; · iexact HX3
    isplitl [H12] <;> iassumption
  iintro F16
  ihave Hm1 := (Transfers.MayWaits.elim (SemLoc.dma arg15.sem)) $$ Hmw
  iapply (Transfers.wp_waitLocalO (countersEmb) 𝒱 (at_ d i) bd ι rfl) $$ [F15 HO Hm1]
  · isplitl [F15]; · iexact F15
    isplitl [HO] <;> iassumption
  iintro ⟨⟨H11, HX2⟩, S15, HO⟩
  ihave Hm1 := (Transfers.MayWaits.elim (SemLoc.dma arg17.sem)) $$ Hmw
  iapply (Transfers.wp_waitLocalO (countersEmb) 𝒱 (at_ d i) bd ι rfl) $$ [F17 HO Hm1]
  · isplitl [F17]; · iexact F17
    isplitl [HO] <;> iassumption
  iintro ⟨⟨HY0, H13⟩, S17, HO⟩
  iapply (wp_chunk 𝒱 d bd arg11 arg13 arg8 arg9 arg10 fullShare (X 2) _ _ _ hA hB _ _) $$ [H11 H8 H9 H10 H13]
  · isplitl [H11]; · iexact H11
    isplitl [H8]; · iexact H8
    isplitl [H9]; · iexact H9
    isplitl [H10]; · iexact H10
    iexact H13
  iintro ⟨H11, H8, H9, H10, H13⟩
  iapply (Owned.copy 𝒱 (at_ d i) bd (countersEmb) ι _ rfl (View.amount_pos _ _ (by decide))) $$ [H13 HY2 S17]
  · isplitl [H13]; · iexact H13
    isplitl [HY2] <;> iassumption
  iintro F17
  ihave Hm1 := (Transfers.MayWaits.elim (SemLoc.dma arg16.sem)) $$ Hmw
  iapply (Transfers.wp_waitLocalO (countersEmb) 𝒱 (at_ d i) bd ι rfl) $$ [F16 HO Hm1]
  · isplitl [F16]; · iexact F16
    isplitl [HO] <;> iassumption
  iintro ⟨⟨H12, HX3⟩, S16, HO⟩
  ihave Hm1 := (Transfers.MayWaits.elim (SemLoc.dma arg18.sem)) $$ Hmw
  iapply (Transfers.wp_waitLocalO (countersEmb) 𝒱 (at_ d i) bd ι rfl) $$ [F18 HO Hm1]
  · isplitl [F18]; · iexact F18
    isplitl [HO] <;> iassumption
  iintro ⟨⟨HY1, H14⟩, S18, HO⟩
  iapply (wp_chunk 𝒱 d bd arg12 arg14 arg8 arg9 arg10 fullShare (X 3) _ _ _ hA hB _ _) $$ [H12 H8 H9 H10 H14]
  · isplitl [H12]; · iexact H12
    isplitl [H8]; · iexact H8
    isplitl [H9]; · iexact H9
    isplitl [H10]; · iexact H10
    iexact H14
  iintro ⟨H12, H8, H9, H10, H14⟩
  iapply (Owned.copy 𝒱 (at_ d i) bd (countersEmb) ι _ rfl (View.amount_pos _ _ (by decide))) $$ [H14 HY3 S18]
  · isplitl [H14]; · iexact H14
    isplitl [HY3] <;> iassumption
  iintro F18
  ihave Hm1 := (Transfers.MayWaits.elim (SemLoc.dma arg17.sem)) $$ Hmw
  iapply (Transfers.wp_waitLocalO (countersEmb) 𝒱 (at_ d i) bd ι rfl) $$ [F17 HO Hm1]
  · isplitl [F17]; · iexact F17
    isplitl [HO] <;> iassumption
  iintro ⟨⟨HY2, H13⟩, S17, HO⟩
  ihave Hm1 := (Transfers.MayWaits.elim (SemLoc.dma arg18.sem)) $$ Hmw
  iapply (Transfers.wp_waitLocalO (countersEmb) 𝒱 (at_ d i) bd ι rfl) $$ [F18 HO Hm1]
  · isplitl [F18]; · iexact F18
    isplitl [HO] <;> iassumption
  iintro ⟨⟨HY3, H14⟩, S18, HO⟩
  iapply (ret 𝒱 (at_ d i) bd _ _)
  isplitl [HX0 HX1 HX2 HX3 HOr HKb]
  · isplitl [HX0]; · iexact HX0
    isplitl [HX1]; · iexact HX1
    isplitl [HX2]; · iexact HX2
    isplitl [HX3]; · iexact HX3
    isplitl [HOr] <;> iassumption
  isplitl [HY0 HY1 HY2 HY3]
  · isplitl [HY0]; · iexact HY0
    isplitl [HY1]; · iexact HY1
    isplitl [HY2] <;> iassumption
  isplitl [H6 H7 H8 H9 H10 H11 H12 H13 H14 S15 S16 S17 S18 SA SB]
  · isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [S15]; · iexact S15
    isplitl [S16]; · iexact S16
    isplitl [S17]; · iexact S17
    isplitl [S18]; · iexact S18
    isplitl [SA] <;> iassumption
  iexists _
  isplitr
  rotate_left
  · iexact HO
  · ipureintro
    intro p hp
    simp only [Finset.mem_insert] at hp
    rcases hp with h | h | h | h | h | h | h | h | h | h | h <;> first | exact Or.inl h | exact Or.inr (h ▸ rfl)

end Cert.Proof.Tile
-- ==== Proof.Split.lean ====
module

public import proofs.«01_k».proof.Proof.TileWp
public import proofs.«01_k».proof.Proof.Gen.KernelIdeal.Launch
public import Idealize.ShloMosaic.Lib.ShareLeaves

@[expose] public section

noncomputable section

namespace Cert.Proof.Tile

open Cert.KernelIdeal Cert.KernelIdeal.Gen
open Idealize.ShloMosaic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type}
variable {Ix : Type} [DecidableEq Ix] {Name : Type} [DecidableEq Name] {U : Type} [URA U]
variable {Lvl : Type}

local notation "𝕄" => MT nD τ sig Ix (Elt F) Name U Lvl

/-! ## The grid point of a tile, and where its slabs lie -/

/-- The grid point of tile `s` of SparseCore `c`. -/
def cv (c : Fin 2) (s : Fin 16) : grid1.Coords :=
  fun | 0 => c | 1 => s | ⟨_ + 2, h⟩ => absurd h (Nat.not_lt.2 (Nat.le_add_left _ _))

/-- A tile's number. -/
abbrev wid (x : Fin 2 × Fin 16) : ℕ := 16 * x.1.val + x.2.val

/-- The first corner of slab `j` of a tile. -/
abbrev corner (x : Fin 2 × Fin 16) (j : Fin 4) : Fin 3 → ℕ := ![wid x / 4, wid x % 4 * 64 + 16 * j.val, 0]

/-- The first slab read starts at its corner. -/
theorem off1_eq : ∀ c s, k1_off1 (cv c s) = corner (c, s) 0 := by decide +kernel
/-- The second slab read starts at its corner. -/
theorem off6_eq : ∀ c s, k1_off6 (cv c s) 16#32 = corner (c, s) 1 := by decide +kernel
/-- The third slab read starts at its corner. -/
theorem off42_eq2 : ∀ c s, k1_off42 (cv c s) 32#32 = corner (c, s) 2 := by decide +kernel
/-- The fourth slab read starts at its corner. -/
theorem off42_eq3 : ∀ c s, k1_off42 (cv c s) 48#32 = corner (c, s) 3 := by decide +kernel
/-- Each slab written starts at its corner. -/
theorem off41_eq : ∀ c s, ∀ j : Fin 4, k1_off41 (cv c s) (BitVec.ofNat 32 (16 * j.val)) = corner (c, s) j := by decide +kernel
/-- The offsets are read at the tile's row. -/
theorem off2_eq : ∀ c s, k1_off2 (cv c s) = ![wid (c, s) / 4, 0, 0] := by decide +kernel
/-- The order is read at the tile's row. -/
theorem off3_eq : ∀ c s, k1_off3 (cv c s) = ![wid (c, s) / 4, 0, 0] := by decide +kernel

/-- A slab at its corner lies in the array. -/
theorem corner_inb (n : ℕ) (x : Fin 2 × Fin 16) (j : Fin 4) : ∀ a, corner x j a + (![1, 16, n] : Fin 3 → ℕ) a ≤ (![8, 256, n] : Fin 3 → ℕ) a := by
  have h1 := x.1.isLt
  have h2 := x.2.isLt
  have h3 := j.isLt
  intro a
  match a with
  | ⟨0, _⟩ => show wid x / 4 + 1 ≤ 8; unfold wid; omega
  | ⟨1, _⟩ => show wid x % 4 * 64 + 16 * j.val + 16 ≤ 256; unfold wid; omega
  | ⟨2, _⟩ => show 0 + n ≤ n; omega

/-- Slab `j` of a tile, in an array of 8 by 256 rows of `n`. -/
abbrev slabRect (n : ℕ) (t : (Fin 2 × Fin 16) × Fin 4) : Rect (⟨3, ![8, 256, n]⟩ : Shape) :=
  Rect.unit (s := ⟨3, ![8, 256, n]⟩) (corner t.1 t.2) ![1, 16, n] (corner_inb n t.1 t.2)

/-- An index lies in a slab exactly if its row and channel do. -/
theorem mem_slab {n : ℕ} {t : (Fin 2 × Fin 16) × Fin 4} {y : (⟨3, ![8, 256, n]⟩ : Shape).Idx} :
    y ∈ (slabRect n t).set ↔ (y 0).val = wid t.1 / 4 ∧ (y 1).val / 16 = wid t.1 % 4 * 4 + t.2.val := by
  have h3 := t.2.isLt
  rw [Rect.mem_set_unit]
  constructor
  · intro h
    have h0 : wid t.1 / 4 ≤ (y 0).val ∧ (y 0).val < wid t.1 / 4 + 1 := h 0
    have h1 : wid t.1 % 4 * 64 + 16 * t.2.val ≤ (y 1).val ∧ (y 1).val < wid t.1 % 4 * 64 + 16 * t.2.val + 16 := h 1
    constructor <;> omega
  · rintro ⟨h0, h1⟩ a
    match a with
    | ⟨0, _⟩ => show wid t.1 / 4 ≤ (y 0).val ∧ (y 0).val < wid t.1 / 4 + 1; omega
    | ⟨1, _⟩ => show wid t.1 % 4 * 64 + 16 * t.2.val ≤ (y 1).val ∧ (y 1).val < wid t.1 % 4 * 64 + 16 * t.2.val + 16; omega
    | ⟨2, _⟩ => exact ⟨Nat.zero_le _, by have := (y 2).isLt; exact lt_of_lt_of_le this (by show n ≤ 0 + n; omega)⟩

/-- Different slabs have no index in common. -/
theorem slabs_disjoint (n : ℕ) : ∀ t ∈ (Finset.univ : Finset ((Fin 2 × Fin 16) × Fin 4)), ∀ t' ∈ (Finset.univ : Finset ((Fin 2 × Fin 16) × Fin 4)),
    t ≠ t' → Disjoint (slabRect n t).set (slabRect n t').set := by
  intro t _ t' _ hne
  refine Finset.disjoint_left.mpr fun y hy hy' => hne ?_
  obtain ⟨a, b⟩ := mem_slab.mp hy
  obtain ⟨a', b'⟩ := mem_slab.mp hy'
  obtain ⟨⟨c, s⟩, j⟩ := t
  obtain ⟨⟨c', s'⟩, j'⟩ := t'
  have := c.isLt; have := s.isLt; have := j.isLt; have := c'.isLt; have := s'.isLt; have := j'.isLt
  simp only [wid] at a b a' b'
  have hc : c = c' := Fin.ext (by omega)
  have hs : s = s' := Fin.ext (by omega)
  have hj : j = j' := Fin.ext (by omega)
  rw [hc, hs, hj]

/-- The slabs cover the array. -/
theorem slabs_cover (n : ℕ) : (Finset.univ : Finset ((Fin 2 × Fin 16) × Fin 4)).biUnion (fun t => (slabRect n t).set) = Finset.univ := by
  refine Finset.eq_univ_iff_forall.mpr fun y => Finset.mem_biUnion.mpr ?_
  have h0 : (y 0).val < 8 := (y 0).isLt
  have h1 : (y 1).val < 256 := (y 1).isLt
  refine ⟨((⟨(4 * (y 0).val + (y 1).val / 64) / 16, by omega⟩, ⟨(4 * (y 0).val + (y 1).val / 64) % 16, by omega⟩), ⟨(y 1).val / 16 % 4, by omega⟩),
    Finset.mem_univ _, mem_slab.mpr ?_⟩
  simp only [wid]
  constructor <;> omega

/-! ## Owning a memref at what it reads of its buffer -/

/-- A memref owned at what it reads of `g` is its elements' points-to at `g`. -/
theorem owns_read (c : Thread nD τ) {sp : Space} {sh : Shape} {e : EltTy} (mm : Memref sig c.2.kind sp sh e) (q : PosShare TreeShare)
    (g : mm.view.ty.Contents (Elt F)) : (owns c mm q (mm.view.read (Elt F) g) : sProp 𝕄) = (mm.view.loc c ↦[mm.view.set]{q} g) := by
  have h : (owns c mm q (mm.view.read (Elt F) g) : sProp 𝕄) ⊢ (mm.view.loc c ↦[mm.view.set]{q} g) := by
    unfold owns
    iintro ⟨%f, %hf, H⟩
    iapply (Entails.of_eq (pointsTo_congr (f := f) (g := g) fun i hi => ?_)) $$ H
    rw [View.set, Finset.mem_map] at hi
    obtain ⟨x, -, rfl⟩ := hi
    have := congrFun hf x
    rw [View.read_apply, View.read_apply] at this
    exact (cast_bijective _).injective this
  exact BI.equiv_iff.mp ⟨h, owns_intro c mm q g⟩

/-! ## The four arrays as the tiles address them -/

/-- The features, as the tiles see them. -/
abbrev feM : Memref sig .scVector .hbm S8x256x2048 .f32 := Memref.whole main_arg0_scv
/-- The order, as the tiles see it. -/
abbrev ordM : Memref sig .scVector .hbm S8x1x2048 .i32 := Memref.whole main_v0_0_scv
/-- The offsets, as the tiles see them. -/
abbrev kbM : Memref sig .scVector .hbm S8x1x16 .i32 := Memref.whole main_v0_1_scv
/-- The result, as the tiles see it. -/
abbrev outM : Memref sig .scVector .hbm S8x256x1536 .f32 := Memref.whole main_v1_scv

/-- Where the features lie. -/
abbrev feLoc (d : Dev nD) : Loc nD τ sig := (SparseCore.T d).loc main_arg0
/-- Where the lengths lie. -/
abbrev lenLoc (d : Dev nD) : Loc nD τ sig := (SparseCore.T d).loc main_arg1
/-- Where the order lies. -/
abbrev ordLoc (d : Dev nD) : Loc nD τ sig := (SparseCore.T d).loc main_v0_0
/-- Where the offsets lie. -/
abbrev kbLoc (d : Dev nD) : Loc nD τ sig := (SparseCore.T d).loc main_v0_1
/-- Where the result lies. -/
abbrev outLoc (d : Dev nD) : Loc nD τ sig := (SparseCore.T d).loc main_v1

/-- The indices of an input slab. -/
theorem set_inSl (off : Fin 3 → ℕ) (h : ∀ a, off a + S1x16x2048.size a ≤ S8x256x2048.size a) (t : (Fin 2 × Fin 16) × Fin 4)
    (e : off = corner t.1 t.2) : (inSl feM off h).view.set = (slabRect 2048 t).set := by
  subst e
  show (((View.whole main_arg0_scv).slice (Rect.unit (s := S8x256x2048) (corner t.1 t.2) S1x16x2048.size h)).reshape S16x2048 squeezes_S1x16x2048_S16x2048.numel_eq).set = _
  rw [View.set_reshape, View.set_slice_whole]

/-- The indices of an output slab. -/
theorem set_outSl (c : Fin 2) (s : Fin 16) (j : Fin 4) : (outSl (cv c s) outM j).view.set = (slabRect 1536 ((c, s), j)).set := by
  show (((View.whole main_v1_scv).slice (Rect.unit (s := S8x256x1536) (k1_off41 (cv c s) (BitVec.ofNat 32 (16 * j.val))) S1x16x1536.size (k1_off41_inb (cv c s) j))).reshape S16x1536 squeezes_S1x16x1536_S16x1536.numel_eq).set = _
  rw [View.set_reshape, View.set_slice_whole]
  have key : ∀ (off : Fin 3 → ℕ) (h : ∀ a, off a + S1x16x1536.size a ≤ S8x256x1536.size a), off = corner (c, s) j →
      (Rect.unit (s := S8x256x1536) off S1x16x1536.size h).set = (slabRect 1536 ((c, s), j)).set := by
    intro off h e; subst e; rfl
  exact key _ _ (off41_eq c s j)

/-- The tile-by-tile, slab-by-slab pieces of one points-to. -/
theorem bigSep_tiles (Φ : (Fin 2 × Fin 16) × Fin 4 → sProp 𝕄) :
    bigSep Finset.univ Φ = bigSep Finset.univ fun c : Fin 2 => bigSep Finset.univ fun s : Fin 16 =>
      iprop(Φ ((c, s), 0) ∗ Φ ((c, s), 1) ∗ Φ ((c, s), 2) ∗ Φ ((c, s), 3)) := by
  rw [BI.bigSep_univ_prod, BI.bigSep_univ_prod]
  exact BI.bigSep_congr fun c _ => BI.bigSep_congr fun s _ => bigSep_W0 _

/-- The edge features, dealt to the tiles: each its four slabs. -/
theorem fe_tiles (d : Dev nD) (q : PosShare TreeShare) (f : Buf (Elt F) (feLoc d)) :
    (feLoc d ↦{q} f : sProp 𝕄) = bigSep Finset.univ fun c : Fin 2 => bigSep Finset.univ fun s : Fin 16 =>
      iprop(owns (at_ d (cv c s)) (slab0 (cv c s) feM) q ((slab0 (cv c s) feM).view.read (Elt F) f)
        ∗ owns (at_ d (cv c s)) (slab1 (cv c s) feM) q ((slab1 (cv c s) feM).view.read (Elt F) f)
        ∗ owns (at_ d (cv c s)) (slab2 (cv c s) feM) q ((slab2 (cv c s) feM).view.read (Elt F) f)
        ∗ owns (at_ d (cv c s)) (slab3 (cv c s) feM) q ((slab3 (cv c s) feM).view.read (Elt F) f)) := by
  have e := pointsTo_biUnion (Ix := Ix) (Val := Elt F) (Name := Name) (U := U) (Lvl := Lvl) Finset.univ (ℓ := feLoc d) (q := q) (f := f) (fun t => (slabRect 2048 t).set) (slabs_disjoint 2048)
  rw [slabs_cover] at e
  rw [e, bigSep_tiles]
  refine BI.bigSep_congr fun c _ => BI.bigSep_congr fun s _ => ?_
  rw [owns_read, owns_read, owns_read, owns_read, set_inSl _ _ ((c, s), 0) (off1_eq c s), set_inSl _ _ ((c, s), 1) (off6_eq c s),
    set_inSl _ _ ((c, s), 2) (off42_eq2 c s), set_inSl _ _ ((c, s), 3) (off42_eq3 c s)]

/-- The result's buffer, dealt to the tiles: each its four slabs. -/
theorem out_tiles (d : Dev nD) (f : Buf (Elt F) (outLoc d)) :
    (outLoc d ↦{fullShare} f : sProp 𝕄) = bigSep Finset.univ fun c : Fin 2 => bigSep Finset.univ fun s : Fin 16 =>
      outs d (cv c s) outM fun j => (outSl (cv c s) outM j).view.read (Elt F) f := by
  have e := pointsTo_biUnion (Ix := Ix) (Val := Elt F) (Name := Name) (U := U) (Lvl := Lvl) Finset.univ (ℓ := outLoc d) (q := fullShare) (f := f) (fun t => (slabRect 1536 t).set) (slabs_disjoint 1536)
  rw [slabs_cover] at e
  rw [e, bigSep_tiles]
  refine BI.bigSep_congr fun c _ => BI.bigSep_congr fun s _ => ?_
  unfold outs
  rw [owns_read, owns_read, owns_read, owns_read, set_outSl, set_outSl, set_outSl, set_outSl]

/-- The share of the order and of the offsets a tile reads. -/
abbrev qt (c : Fin 2) (s : Fin 16) : PosShare TreeShare := ShareLeaves.leaf 5 fullShare ((finProdFinEquiv : Fin 2 × Fin 16 ≃ Fin (2 ^ 5)) (c, s))

/-- A whole buffer is dealt to the tiles, a share each. -/
theorem deal_tiles (ℓ : Loc nD τ sig) (f : Buf (Elt F) ℓ) :
    (ℓ ↦{fullShare} f : sProp 𝕄) = bigSep Finset.univ fun c : Fin 2 => bigSep Finset.univ fun s : Fin 16 => ℓ ↦{qt c s} f := by
  rw [ShareLeaves.pointsTo_leaves Finset.univ f 5 fullShare,
    BI.bigSep_univ_equiv (finProdFinEquiv : Fin 2 × Fin 16 ≃ Fin (2 ^ 5)), BI.bigSep_univ_prod]

/-- The order, dealt to the tiles: each a share of its row. -/
theorem ord_tiles (d : Dev nD) (f : Buf (Elt F) (ordLoc d)) :
    (ordLoc d ↦{fullShare} f : sProp 𝕄) ⊢ bigSep Finset.univ fun c : Fin 2 => bigSep Finset.univ fun s : Fin 16 =>
      owns (at_ d (cv c s)) (ordSl (cv c s) ordM) (qt c s) ((ordSl (cv c s) ordM).view.read (Elt F) f) := by
  rw [deal_tiles]
  refine BI.bigSep_mono fun c _ => BI.bigSep_mono fun s _ => ?_
  rw [owns_read]
  exact (pointsTo_split_subset (Finset.subset_univ _)).1.trans sep_elim_left

/-- The offsets, dealt to the tiles: each a share of its row. -/
theorem kb_tiles (d : Dev nD) (f : Buf (Elt F) (kbLoc d)) :
    (kbLoc d ↦{fullShare} f : sProp 𝕄) ⊢ bigSep Finset.univ fun c : Fin 2 => bigSep Finset.univ fun s : Fin 16 =>
      owns (at_ d (cv c s)) (kbSl (cv c s) kbM) (qt c s) ((kbSl (cv c s) kbM).view.read (Elt F) f) := by
  rw [deal_tiles]
  refine BI.bigSep_mono fun c _ => BI.bigSep_mono fun s _ => ?_
  rw [owns_read]
  exact (pointsTo_split_subset (Finset.subset_univ _)).1.trans sep_elim_left

end Cert.Proof.Tile

end
-- ==== Proof.SortProg.lean ====
module

public import proofs.«01_k».proof.KernelIdeal
public import proofs.«01_k».proof.Proof.Gen.KernelIdeal

@[expose] public section

noncomputable section

namespace Cert.Proof.Sort

open Cert.KernelIdeal Cert.KernelIdeal.Gen
open Idealize.ShloMosaic
open Idealize.SL.Sem

variable {F : FTy → Type} [FloatOps F]

/-- One half of the sorted row: its keys and its ids. -/
abbrev Half (F : FTy → Type) : Type := FVec F S8x1024 .f32 × IVec S8x1024 32

/-- Eight rows of `n` lanes. -/
abbrev Wd (n : Nat) : Shape := ⟨2, ![8, n]⟩

/-- The lanes from a distance up lie in the row. -/
theorem sl_hi (s : Fin 10) : S8x1024.Slices ![0, 2 ^ s.val] (Wd (1024 - 2 ^ s.val)) := by decide +revert
/-- The lanes below a distance lie in the row. -/
theorem sl_lo (s : Fin 10) : S8x1024.Slices ![0, 0] (Wd (2 ^ s.val)) := by decide +revert
/-- The last lanes, as many as the distance, lie in the row. -/
theorem sl_hi' (s : Fin 10) : S8x1024.Slices ![0, 1024 - 2 ^ s.val] (Wd (2 ^ s.val)) := by decide +revert
/-- The lanes but the last, as many as the distance, lie in the row. -/
theorem sl_lo' (s : Fin 10) : S8x1024.Slices ![0, 0] (Wd (1024 - 2 ^ s.val)) := by decide +revert
/-- The two pieces of the roll down make up the row. -/
theorem cat_m (s : Fin 10) : Shape.Concatenates [Wd (1024 - 2 ^ s.val), Wd (2 ^ s.val)] S8x1024 1 := by decide +revert
/-- The two pieces of the roll up make up the row. -/
theorem cat_p (s : Fin 10) : Shape.Concatenates [Wd (2 ^ s.val), Wd (1024 - 2 ^ s.val)] S8x1024 1 := by decide +revert

/-- The two pieces of the lanes, put together the other way round. -/
def rollG {α : Type} {A B : Shape} {o1 : Fin S8x1024.rank → Nat} {o2 : Fin S8x1024.rank → Nat} (h1 : S8x1024.Slices o1 A) (h2 : S8x1024.Slices o2 B)
    (hc : Shape.Concatenates [A, B] S8x1024 1) (x : S8x1024.Idx → α) : S8x1024.Idx → α :=
  concatenate S8x1024 1 [⟨A, extractStridedSlice A o1 x h1⟩, ⟨B, extractStridedSlice B o2 x h2⟩] hc

/-- The lanes whose bit at the distance is clear. -/
def lowMask (d : BitVec 32) (L : IVec S1x1024 32) : IVec S1x1024 1 :=
  cmpi .eq (andi L (broadcast S1x1024 d)) (broadcast S1x1024 0#32)
/-- The lanes whose phase sorts ascending. -/
def ascMask (e : BitVec 32) (L : IVec S1x1024 32) : IVec S1x1024 1 :=
  cmpi .eq (andi (shrsi L (broadcast S1x1024 e)) (broadcast S1x1024 1#32)) (broadcast S1x1024 0#32)

/-- Where the second pair comes before the first: a smaller key, or an equal key and a smaller number. -/
def before (k k' : FVec F S8x1024 .f32) (i i' : IVec S8x1024 32) : IVec S8x1024 1 :=
  ori (cmpf .olt k k') (andi (cmpf .oeq k k') (cmpi .slt i i'))

section Stage
variable {A B : Shape} {o1 o2 o3 o4 : Fin S8x1024.rank → Nat} (h1 : S8x1024.Slices o1 A) (h2 : S8x1024.Slices o2 B) (h3 : S8x1024.Slices o3 B) (h4 : S8x1024.Slices o4 A)
  (hAB : Shape.Concatenates [A, B] S8x1024 1) (hBA : Shape.Concatenates [B, A] S8x1024 1) (d e : BitVec 32) (L : IVec S1x1024 32)

/-- Each lane's partner: the lane `d` above where bit `d` of the lane is clear, the lane `d` below elsewhere. -/
def partnerG {α : Type} (x : S8x1024.Idx → α) : S8x1024.Idx → α :=
  select (broadcastTo S8x1024 (shapeCast S1x1024 (lowMask d L) shapeCasts_S1x1024_S1x1024) broadcasts_S1x1024_S8x1024)
    (rollG h1 h2 hAB x) (rollG h3 h4 hBA x)

/-- The lanes that take their partner's entry. -/
def takeG (x : Half F) : IVec S8x1024 1 :=
  xori (xori (before (partnerG h1 h2 h3 h4 hAB hBA d L x.1) x.1 (partnerG h1 h2 h3 h4 hAB hBA d L x.2) x.2)
      (broadcastTo S8x1024 (lowMask d L) broadcasts_S1x1024_S8x1024))
    (broadcastTo S8x1024 (ascMask e L) broadcasts_S1x1024_S8x1024)

/-- One compare-exchange stage on one half, the rolls cut as given. -/
def stageG (x : Half F) : Half F :=
  (select (takeG h1 h2 h3 h4 hAB hBA d e L x) (partnerG h1 h2 h3 h4 hAB hBA d L x.1) x.1,
   select (takeG h1 h2 h3 h4 hAB hBA d e L x) (partnerG h1 h2 h3 h4 hAB hBA d L x.2) x.2)

end Stage

/-- One compare-exchange stage of distance `2 ^ s` on one half, ascending where bit `p + 1` of the lane is clear. -/
def halfStage (p : Nat) (s : Fin 10) (L : IVec S1x1024 32) (x : Half F) : Half F :=
  stageG (sl_hi s) (sl_lo s) (sl_hi' s) (sl_lo' s) (cat_m s) (cat_p s) (BitVec.ofNat 32 (2 ^ s.val)) (BitVec.ofNat 32 (p + 1)) L x

/-- The lower half's lane numbers. -/
def lane0 : IVec S1x1024 32 := iota .tc S1x1024 32 [1] iota_S1x1024_d1_w32
/-- The upper half's lane numbers. -/
def lane1 : IVec S1x1024 32 := addi lane0 (broadcast S1x1024 1024#32)

/-- The stage of distance 1024: the halves against one another, lane by lane. -/
def crossStage (x : Half F × Half F) : Half F × Half F :=
  ((select (before x.2.1 x.1.1 x.2.2 x.1.2) x.2.1 x.1.1, select (before x.2.1 x.1.1 x.2.2 x.1.2) x.2.2 x.1.2),
   (select (before x.2.1 x.1.1 x.2.2 x.1.2) x.1.1 x.2.1, select (before x.2.1 x.1.1 x.2.2 x.1.2) x.1.2 x.2.2))

/-- One stage of the network on both halves. -/
def stageBoth (p : Nat) (s : Nat) (x : Half F × Half F) : Half F × Half F :=
  if h : s < 10 then (halfStage p ⟨s, h⟩ lane0 x.1, halfStage p ⟨s, h⟩ lane1 x.2) else crossStage x

/-- Stages `s, s - 1, …, 0` of phase `p`. -/
def phaseFrom (p : Nat) : Nat → Half F × Half F → Half F × Half F
  | 0, x => stageBoth p 0 x
  | s + 1, x => phaseFrom p s (stageBoth p (s + 1) x)

/-- Phases `0, …, n - 1`. -/
def phases : Nat → Half F × Half F → Half F × Half F
  | 0, x => x
  | n + 1, x => phaseFrom n n (phases n x)

/-- One row's scores: the sum of squares down the channels at the lanes below the length, infinity elsewhere. -/
def scoreRow (n : BitVec 32) (x : Vec F S1x256x2048 .f32) : FVec F S1x2048 .f32 :=
  select (cmpi .slt (iota .tc S1x2048 32 [1] iota_S1x2048_d1_w32) (broadcast S1x2048 n))
    (shapeCast S1x2048 (multiReduction .add [0] S2048
      (mulf (shapeCast S256x2048 x shapeCasts_S1x256x2048_S256x2048 : FVec F S256x2048 .f32) (shapeCast S256x2048 x shapeCasts_S1x256x2048_S256x2048))
      0x00000000#32 reduces_S256x2048_S2048 (.inl rfl) rfl) shapeCasts_S2048_S1x2048)
    (broadcast S1x2048 (Scalar.ofBits .f32 0x7F800000#32))

/-- The keys and ids the network starts from. -/
def start (keys : FVec F S8x2048 .f32) : Half F × Half F :=
  let ids : IVec S8x2048 32 := broadcastTo S8x2048 (shapeCast S1x2048 (iota .tc S1x2048 32 [1] iota_S1x2048_d1_w32) shapeCasts_S1x2048_S1x2048) broadcasts_S1x2048_S8x2048
  ((extractStridedSlice S8x1024 ![0, 0] keys slices_S8x2048_o0_0_S8x1024, extractStridedSlice S8x1024 ![0, 0] ids slices_S8x2048_o0_0_S8x1024),
   (extractStridedSlice S8x1024 ![0, 1024] keys slices_S8x2048_o0_1024_S8x1024, extractStridedSlice S8x1024 ![0, 1024] ids slices_S8x2048_o0_1024_S8x1024))

/-- The order: the numbers after all phases, the halves side by side. -/
def orderOf (keys : FVec F S8x2048 .f32) : IVec S8x1x2048 32 :=
  shapeCast S8x1x2048 (concatenate S8x2048 1 [⟨S8x1024, (phases 11 (start keys)).1.2⟩, ⟨S8x1024, (phases 11 (start keys)).2.2⟩] concatenates_S8x1024_S8x1024_S8x2048_d1) shapeCasts_S8x2048_S8x1x2048

/-- Eight rows of scores, one below another. -/
def keysOf (r : Fin 8 → FVec F S1x2048 .f32) : FVec F S8x2048 .f32 :=
  concatenate S8x2048 0 [⟨S1x2048, r 0⟩, ⟨S1x2048, r 1⟩, ⟨S1x2048, r 2⟩, ⟨S1x2048, r 3⟩, ⟨S1x2048, r 4⟩, ⟨S1x2048, r 5⟩, ⟨S1x2048, r 6⟩, ⟨S1x2048, r 7⟩]
    concatenates_S1x2048_S1x2048_S1x2048_S1x2048_S1x2048_S1x2048_S1x2048_S1x2048_S8x2048_d0

/-- A row's length lies in the lengths. -/
theorem inb_len (b : Fin 8) : ∀ a, (![b.val] : Fin 1 → Nat) a + S1.size a ≤ S8.size a := by decide +revert
/-- A row's offsets lie in the offsets. -/
theorem inb_kb (b : Fin 8) : ∀ a, (![b.val, 0, 0] : Fin 3 → Nat) a + S1x1x16.size a ≤ S8x1x16.size a := by decide +revert
/-- A row's features lie in the features. -/
theorem inb_fe (b : Fin 8) : ∀ a, (![b.val, 0, 0] : Fin 3 → Nat) a + S1x256x2048.size a ≤ S8x256x2048.size a := by
  revert b; intro b a; fin_cases b <;> fin_cases a <;> decide

section Body
variable (arg0 : Memref sig .tc .smem S8 .i32) (arg1 : Memref sig .tc .vmem S8x256x2048 .f32)
  (arg2 : Memref sig .tc .vmem S8x1x2048 .i32) (arg3 : Memref sig .tc .vmem S8x1x16 .i32)

/-- Row `b`: store the offset `length - 1536`, read the row and score it. -/
def rowStep (b : Fin 8) : Prog (TpuEff nD τ sig (Elt F) Λ₀ .tc) (FVec F S1x2048 .f32) := do
  let n : Elt F .i32 ← smemLoad arg0 (Rect.unit (s := S8) ![b.val] S1.size (inb_len b)) numel1_S1 rfl
  let _ : Vec F S1x1x16 .i32 ← Prog.lift (.load arg3 (Rect.unit (s := S8x1x16) ![b.val, 0, 0] S1x1x16.size (inb_kb b)).toLoadRect (View.loadsAt_vmem h_S1x1x16))
  Prog.lift (.store arg3 (Rect.unit (s := S8x1x16) ![b.val, 0, 0] S1x1x16.size (inb_kb b))
    (shapeCast S1x1x16 (broadcast S1x16 (Scalar.subi n 1536#32)) shapeCasts_S1x16_S1x1x16) Finset.univ (View.stores_vmem_bits_univ h_S1x1x16 rfl) (.inl rfl))
  let x : Vec F S1x256x2048 .f32 ← Prog.lift (.load arg1 (Rect.unit (s := S8x256x2048) ![b.val, 0, 0] S1x256x2048.size (inb_fe b)).toLoadRect (View.loadsAt_vmem h_S1x256x2048))
  pure (scoreRow n x)

/-- The sorting call's body: eight rows, then the network on all eight at once. -/
def sortProg : Prog (TpuEff nD τ sig (Elt F) Λ₀ .tc) PUnit := do
  let r0 ← rowStep arg0 arg1 arg3 0
  let r1 ← rowStep arg0 arg1 arg3 1
  let r2 ← rowStep arg0 arg1 arg3 2
  let r3 ← rowStep arg0 arg1 arg3 3
  let r4 ← rowStep arg0 arg1 arg3 4
  let r5 ← rowStep arg0 arg1 arg3 5
  let r6 ← rowStep arg0 arg1 arg3 6
  let r7 ← rowStep arg0 arg1 arg3 7
  let _ : Vec F S8x1x2048 .i32 ← Prog.lift (.load arg2 (Rect.unit (s := S8x1x2048) ![0, 0, 0] S8x1x2048.size inb_S8x1x2048_S8x1x2048_0_0_0).toLoadRect (View.loadsAt_vmem h_S8x1x2048))
  Prog.lift (.store arg2 (Rect.unit (s := S8x1x2048) ![0, 0, 0] S8x1x2048.size inb_S8x1x2048_S8x1x2048_0_0_0) (orderOf (keysOf ![r0, r1, r2, r3, r4, r5, r6, r7])) Finset.univ (View.stores_vmem_bits_univ h_S8x1x2048 rfl) (.inl rfl))
  pure ⟨⟩

end Body

end Cert.Proof.Sort
-- ==== Proof.SortWp.lean ====
module

public import proofs.«01_k».proof.Proof.SortProg
public import proofs.«01_k».proof.Proof.TileRun

@[expose] public section

noncomputable section

namespace Cert.Proof.Sort

open Cert.KernelIdeal Cert.KernelIdeal.Gen
open Idealize.ShloMosaic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## What the sorting call leaves -/

/-- Row `b` of the edge features. -/
def feRow (b : Fin 8) (fe : S8x256x2048.Idx → F .f32) : S1x256x2048.Idx → F .f32 :=
  fun x => fe ((Rect.unit (s := S8x256x2048) ![b.val, 0, 0] S1x256x2048.size (inb_fe b)).emb x)

/-- The scores of all eight rows. -/
def scores (fe : S8x256x2048.Idx → F .f32) (len : S8.Idx → BitVec 32) : FVec F S8x2048 .f32 :=
  keysOf fun b => scoreRow (len (ix1 b)) (feRow b fe)

/-- The order the call leaves. -/
def ordVal (fe : S8x256x2048.Idx → F .f32) (len : S8.Idx → BitVec 32) : S8x1x2048.Idx → BitVec 32 := orderOf (scores fe len)

/-- The offsets the call leaves: each row the row's length less 1536, sixteen times. -/
def kbVal (len : S8.Idx → BitVec 32) : S8x1x16.Idx → BitVec 32 := fun z => len (ix1 (z 0)) - 1536#32

/-- The contents with the rows before `n` already offsets. -/
def kbUpTo (len : S8.Idx → BitVec 32) (n : ℕ) (Y : S8x1x16.Idx → BitVec 32) : S8x1x16.Idx → BitVec 32 :=
  fun z => if (z 0).val < n then kbVal len z else Y z

/-- Storing a row's offsets over the earlier ones. -/
theorem overlay_kb (len : S8.Idx → BitVec 32) (b : Fin 8) (Y : S8x1x16.Idx → BitVec 32) :
    (Rect.unit (s := S8x1x16) ![b.val, 0, 0] S1x1x16.size (inb_kb b)).overlay (kbUpTo len b.val Y)
        (shapeCast S1x1x16 (broadcast S1x16 (Scalar.subi (len (ix1 b)) 1536#32)) shapeCasts_S1x16_S1x1x16)
      = kbUpTo len (b.val + 1) Y := by
  funext z
  by_cases hz : z ∈ (Rect.unit (s := S8x1x16) ![b.val, 0, 0] S1x1x16.size (inb_kb b)).set
  · have h0 : b.val ≤ (z 0).val ∧ (z 0).val < b.val + 1 := Rect.mem_set_unit.mp hz 0
    have hb : z 0 = b := Fin.ext (by omega)
    rw [← Rect.map_emb_univ, Finset.mem_map] at hz
    obtain ⟨x, -, rfl⟩ := hz
    rw [Rect.overlay_emb]
    unfold kbUpTo kbVal
    rw [if_pos (by omega), hb]
    rfl
  · rw [Rect.overlay_of_not_mem _ _ _ hz]
    unfold kbUpTo
    have h0 : (z 0).val ≠ b.val := by
      intro e
      refine hz (Rect.mem_set_unit.mpr fun a => ?_)
      match a with
      | ⟨0, _⟩ => show b.val ≤ (z 0).val ∧ (z 0).val < b.val + 1; omega
      | ⟨1, _⟩ => exact ⟨Nat.zero_le _, (z 1).isLt⟩
      | ⟨2, _⟩ => exact ⟨Nat.zero_le _, (z 2).isLt⟩
    by_cases h : (z 0).val < b.val
    · rw [if_pos h, if_pos (by omega)]
    · rw [if_neg h, if_neg (by omega)]

section Wp

variable {Ix : Type} [DecidableEq Ix] {Name : Type} [DecidableEq Name] {U : Type} [URA U]
variable {Lvl : Type} [Preorder Lvl]
variable {defs : Defs nD τ sig (Elt F) Λ₀} (𝒱 : Variants) (d : Dev nD) (bd : Option 𝒱.V)

local notation "𝕄" => MT nD τ sig Ix (Elt F) Name U Lvl

variable (arg0 : Memref sig .tc .smem S8 .i32) (arg1 : Memref sig .tc .vmem S8x256x2048 .f32)
  (arg2 : Memref sig .tc .vmem S8x1x2048 .i32) (arg3 : Memref sig .tc .vmem S8x1x16 .i32)

/-- What the sorting call's body holds between its rows: the lengths, the edge features, and the offsets so far. -/
def held (len : S8.Idx → BitVec 32) (fe : S8x256x2048.Idx → F .f32) (Y : S8x1x16.Idx → BitVec 32) : sProp (MT nD τ sig Ix (Elt F) Name U Lvl) :=
  iprop(owns (d.tc : Thread nD τ) arg0 fullShare len ∗ owns (d.tc : Thread nD τ) arg1 fullShare fe ∗ owns (d.tc : Thread nD τ) arg3 fullShare Y)

/-- One row: its offset stored, its scores returned. -/
theorem wp_rowStep (b : Fin 8) (n n' : ℕ) (hn : b.val = n) (hn' : n + 1 = n') (len : S8.Idx → BitVec 32) (fe : S8x256x2048.Idx → F .f32) (Y : S8x1x16.Idx → BitVec 32)
    {Q : FVec F S1x2048 .f32 → sProp (MT nD τ sig Ix (Elt F) Name U Lvl)} :
    (held d arg0 arg1 arg3 len fe (kbUpTo len n Y) : sProp 𝕄)
      ⊢ iprop((held d arg0 arg1 arg3 len fe (kbUpTo len n' Y) -∗ Q (scoreRow (len (ix1 b)) (feRow b fe)))
          -∗ wp frame (wpE defs 𝒱 (d.tc : Thread nD τ) bd) Set.univ (rowStep arg0 arg1 arg3 b) Q) := by
  subst hn hn'
  unfold held rowStep smemLoad smemLoadElt
  iintro ⟨H0, H1, H3⟩ HQ
  iapply (Owned.ld 𝒱 (d.tc : Thread nD τ) bd Set.univ (X := len)) $$ H0
  iintro H0
  iapply (Owned.ld 𝒱 (d.tc : Thread nD τ) bd Set.univ) $$ H3
  iintro H3
  have e : (fun x => len ((Rect.unit (s := S8) ![b.val] S1.size (inb_len b)).emb x)) (Shape.Idx.first (numel1_S1.symm ▸ Nat.one_pos)) = len (ix1 b) := by
    refine congrArg len (funext fun a => Fin.ext ?_)
    match a with
    | ⟨0, _⟩ => rfl
  iapply (Owned.st 𝒱 (d.tc : Thread nD τ) bd Set.univ) $$ H3
  iintro H3
  iapply (Owned.ld 𝒱 (d.tc : Thread nD τ) bd Set.univ) $$ H1
  iintro H1
  iapply (Tile.ret 𝒱)
  rw [e, overlay_kb, show (fun x => fe ((Rect.unit (s := S8x256x2048) ![b.val, 0, 0] S1x256x2048.size (inb_fe b)).emb x)) = feRow b fe from rfl]
  iapply HQ
  isplitl [H0]; · iexact H0
  isplitl [H1] <;> iassumption

set_option maxHeartbeats 1000000 in
/-- The sorting call's body, from the lengths and the edge features: the order and the offsets. -/
theorem wp_sortProg (len : S8.Idx → BitVec 32) (fe : S8x256x2048.Idx → F .f32) (Z : S8x1x2048.Idx → BitVec 32) (Y : S8x1x16.Idx → BitVec 32)
    {Q : PUnit → sProp (MT nD τ sig Ix (Elt F) Name U Lvl)} :
    (iprop(owns (d.tc : Thread nD τ) arg0 fullShare len ∗ owns (d.tc : Thread nD τ) arg1 fullShare fe
        ∗ owns (d.tc : Thread nD τ) arg2 fullShare Z ∗ owns (d.tc : Thread nD τ) arg3 fullShare Y) : sProp 𝕄)
      ⊢ iprop((iprop(owns (d.tc : Thread nD τ) arg0 fullShare len ∗ owns (d.tc : Thread nD τ) arg1 fullShare fe
          ∗ owns (d.tc : Thread nD τ) arg2 fullShare (ordVal fe len) ∗ owns (d.tc : Thread nD τ) arg3 fullShare (kbVal len)) -∗ Q ⟨⟩)
          -∗ wp frame (wpE defs 𝒱 (d.tc : Thread nD τ) bd) Set.univ (sortProg arg0 arg1 arg2 arg3) Q) := by
  iintro ⟨H0, H1, H2, H3⟩ HQ
  ihave H := (show iprop(owns (d.tc : Thread nD τ) arg0 fullShare len ∗ owns (d.tc : Thread nD τ) arg1 fullShare fe ∗ owns (d.tc : Thread nD τ) arg3 fullShare Y)
      ⊢ (held d arg0 arg1 arg3 len fe (kbUpTo len 0 Y) : sProp 𝕄) from .rfl) $$ [H0 H1 H3]
  · isplitl [H0]; · iexact H0
    isplitl [H1] <;> iassumption
  unfold sortProg
  rw [wp_bind]; iapply (wp_rowStep 𝒱 d bd arg0 arg1 arg3 0 0 1 rfl rfl len fe Y) $$ H; iintro H
  rw [wp_bind]; iapply (wp_rowStep 𝒱 d bd arg0 arg1 arg3 1 1 2 rfl rfl len fe Y) $$ H; iintro H
  rw [wp_bind]; iapply (wp_rowStep 𝒱 d bd arg0 arg1 arg3 2 2 3 rfl rfl len fe Y) $$ H; iintro H
  rw [wp_bind]; iapply (wp_rowStep 𝒱 d bd arg0 arg1 arg3 3 3 4 rfl rfl len fe Y) $$ H; iintro H
  rw [wp_bind]; iapply (wp_rowStep 𝒱 d bd arg0 arg1 arg3 4 4 5 rfl rfl len fe Y) $$ H; iintro H
  rw [wp_bind]; iapply (wp_rowStep 𝒱 d bd arg0 arg1 arg3 5 5 6 rfl rfl len fe Y) $$ H; iintro H
  rw [wp_bind]; iapply (wp_rowStep 𝒱 d bd arg0 arg1 arg3 6 6 7 rfl rfl len fe Y) $$ H; iintro H
  rw [wp_bind]; iapply (wp_rowStep 𝒱 d bd arg0 arg1 arg3 7 7 8 rfl rfl len fe Y) $$ H; iintro H
  iapply (Owned.ld 𝒱 (d.tc : Thread nD τ) bd Set.univ) $$ H2
  iintro H2
  iapply (Owned.st 𝒱 (d.tc : Thread nD τ) bd Set.univ) $$ H2
  iintro H2
  iapply (Tile.ret 𝒱)
  unfold held
  icases H with ⟨H0, H1, H3⟩
  iapply HQ
  isplitl [H0]; · iexact H0
  isplitl [H1]; · iexact H1
  isplitl [H2]
  · have e : (Rect.unit (s := S8x1x2048) ![0, 0, 0] S8x1x2048.size inb_S8x1x2048_S8x1x2048_0_0_0).overlay Z
        (orderOf (keysOf ![scoreRow (len (ix1 0)) (feRow 0 fe), scoreRow (len (ix1 1)) (feRow 1 fe), scoreRow (len (ix1 2)) (feRow 2 fe),
          scoreRow (len (ix1 3)) (feRow 3 fe), scoreRow (len (ix1 4)) (feRow 4 fe), scoreRow (len (ix1 5)) (feRow 5 fe),
          scoreRow (len (ix1 6)) (feRow 6 fe), scoreRow (len (ix1 7)) (feRow 7 fe)])) = ordVal fe len := by
      funext z
      have hz : z = (Rect.unit (s := S8x1x2048) ![0, 0, 0] S8x1x2048.size inb_S8x1x2048_S8x1x2048_0_0_0).emb z := by
        refine funext fun a => Fin.ext ?_
        rw [Rect.emb_apply]
        match a with
        | ⟨0, _⟩ => show (z 0).val = 0 + 1 * (z 0).val; omega
        | ⟨1, _⟩ => show (z 1).val = 0 + 1 * (z 1).val; omega
        | ⟨2, _⟩ => show (z 2).val = 0 + 1 * (z 2).val; omega
      conv_lhs => rw [hz]
      rw [Rect.overlay_emb]
      rfl
    iapply (Entails.of_eq (congrArg (owns (d.tc : Thread nD τ) arg2 fullShare) e)) $$ H2
  · have e : kbUpTo len 8 Y = kbVal len := funext fun z => if_pos (z 0).isLt
    iapply (Entails.of_eq (congrArg (owns (d.tc : Thread nD τ) arg3 fullShare) e)) $$ H3

end Wp

end Cert.Proof.Sort

end
-- ==== Proof.Values.lean ====
module

public import proofs.«01_k».proof.Proof.Split
public import proofs.«01_k».proof.Proof.SortWp

@[expose] public section

noncomputable section

namespace Cert.Proof.Tile

open Cert.KernelIdeal Cert.KernelIdeal.Gen
open Idealize.ShloMosaic Idealize.ShloMosaic.ValueIdx

variable {F : FTy → Type} [FloatOps F]

/-! ## What the tiles read, in coordinates -/

/-- The row an array's tile works on, and the first of its sixteen channels in slab `j`. -/
def bOf (x : Fin 2 × Fin 16) : Fin 8 := ⟨wid x / 4, by have := x.1.isLt; have := x.2.isLt; unfold wid; omega⟩
/-- The channel of a row of a tile's slab. -/
def chOf (x : Fin 2 × Fin 16) (j : Fin 4) (r : Fin 16) : Fin 256 :=
  ⟨wid x % 4 * 64 + 16 * j.val + r.val, by have := x.1.isLt; have := x.2.isLt; have := j.isLt; have := r.isLt; omega⟩

/-- An input slab reads its sixteen channels of its row. -/
theorem read_inSl (off : Fin 3 → ℕ) (h : ∀ a, off a + S1x16x2048.size a ≤ S8x256x2048.size a) (x : Fin 2 × Fin 16) (j : Fin 4)
    (e : off = corner x j) (f : S8x256x2048.Idx → F .f32) :
    (inSl feM off h).view.read (Elt F) f = fun y => f (ix3 (bOf x) (chOf x j (y 0)) (y 1)) := by
  subst e
  funext y
  show f ((Rect.unit (s := S8x256x2048) (corner x j) S1x16x2048.size h).emb (Shape.reshapeEquiv squeezes_S1x16x2048_S16x2048.numel_eq y)) = _
  rw [Shape.reshapeEquiv_eq_of_rowMajor squeezes_S1x16x2048_S16x2048.numel_eq (x := y) (y := ix3 (0 : Fin 1) (y 0) (y 1))
    (by rw [Shape.rowMajor_val_two, Shape.rowMajor_val_three]; show ((0 * 16 + (y 0).val) * 2048 + (y 1).val) = (y 0).val * 2048 + (y 1).val; omega)]
  refine congrArg f (funext fun a => Fin.ext ?_)
  match a with
  | ⟨0, _⟩ => show wid x / 4 + 1 * 0 = wid x / 4; omega
  | ⟨1, _⟩ => show wid x % 4 * 64 + 16 * j.val + 1 * (y 0).val = wid x % 4 * 64 + 16 * j.val + (y 0).val; omega
  | ⟨2, _⟩ => show 0 + 1 * (y 1).val = (y 1).val; omega

/-- An output slab reads its sixteen channels of its row. -/
theorem read_outSl (c : Fin 2) (s : Fin 16) (j : Fin 4) (f : S8x256x1536.Idx → F .f32) :
    (outSl (cv c s) outM j).view.read (Elt F) f = fun y => f (ix3 (bOf (c, s)) (chOf (c, s) j (y 0)) (y 1)) := by
  have key : ∀ (off : Fin 3 → ℕ) (h : ∀ a, off a + S1x16x1536.size a ≤ S8x256x1536.size a), off = corner (c, s) j →
      (fun y => f ((Rect.unit (s := S8x256x1536) off S1x16x1536.size h).emb (Shape.reshapeEquiv squeezes_S1x16x1536_S16x1536.numel_eq y)))
        = fun y => f (ix3 (bOf (c, s)) (chOf (c, s) j (y 0)) (y 1)) := by
    intro off h e
    subst e
    funext y
    rw [Shape.reshapeEquiv_eq_of_rowMajor squeezes_S1x16x1536_S16x1536.numel_eq (x := y) (y := ix3 (0 : Fin 1) (y 0) (y 1))
      (by rw [Shape.rowMajor_val_two, Shape.rowMajor_val_three]; show ((0 * 16 + (y 0).val) * 1536 + (y 1).val) = (y 0).val * 1536 + (y 1).val; omega)]
    refine congrArg f (funext fun a => Fin.ext ?_)
    match a with
    | ⟨0, _⟩ => show wid (c, s) / 4 + 1 * 0 = wid (c, s) / 4; omega
    | ⟨1, _⟩ => show wid (c, s) % 4 * 64 + 16 * j.val + 1 * (y 0).val = wid (c, s) % 4 * 64 + 16 * j.val + (y 0).val; omega
    | ⟨2, _⟩ => show 0 + 1 * (y 1).val = (y 1).val; omega
  exact key _ (k1_off41_inb (cv c s) j) (off41_eq c s j)

/-- A tile's row of the order. -/
theorem read_ordSl (c : Fin 2) (s : Fin 16) (f : S8x1x2048.Idx → BitVec 32) :
    (ordSl (cv c s) ordM).view.read (Elt F) f = fun y => f (ix3 (bOf (c, s)) (0 : Fin 1) (y 0)) := by
  have key : ∀ (off : Fin 3 → ℕ) (h : ∀ a, off a + S1x1x2048.size a ≤ S8x1x2048.size a), off = ![wid (c, s) / 4, 0, 0] →
      (fun y => f ((Rect.unit (s := S8x1x2048) off S1x1x2048.size h).emb (Shape.reshapeEquiv squeezes_S1x1x2048_S2048.numel_eq y)))
        = fun y => f (ix3 (bOf (c, s)) (0 : Fin 1) (y 0)) := by
    intro off h e
    subst e
    funext y
    rw [Shape.reshapeEquiv_eq_of_rowMajor squeezes_S1x1x2048_S2048.numel_eq (x := y) (y := ix3 (0 : Fin 1) (0 : Fin 1) (y 0))
      (by rw [Shape.rowMajor_val_one, Shape.rowMajor_val_three]; show ((0 * 1 + 0) * 2048 + (y 0).val) = (y 0).val; omega)]
    refine congrArg f (funext fun a => Fin.ext ?_)
    match a with
    | ⟨0, _⟩ => show wid (c, s) / 4 + 1 * 0 = wid (c, s) / 4; omega
    | ⟨1, _⟩ => rfl
    | ⟨2, _⟩ => show 0 + 1 * (y 0).val = (y 0).val; omega
  exact key _ (k1_off3_inb (cv c s)) (off3_eq c s)

/-- A tile's row of the offsets. -/
theorem read_kbSl (c : Fin 2) (s : Fin 16) (len : S8.Idx → BitVec 32) :
    (kbSl (cv c s) kbM).view.read (Elt F) (Sort.kbVal len) = fun _ => len (ix1 (bOf (c, s))) - 1536#32 := by
  have key : ∀ (off : Fin 3 → ℕ) (h : ∀ a, off a + S1x1x16.size a ≤ S8x1x16.size a), off = ![wid (c, s) / 4, 0, 0] →
      (fun y => Sort.kbVal len ((Rect.unit (s := S8x1x16) off S1x1x16.size h).emb (Shape.reshapeEquiv squeezes_S1x1x16_S16.numel_eq y)))
        = fun _ => len (ix1 (bOf (c, s))) - 1536#32 := by
    intro off h e
    subst e
    funext y
    rw [Shape.reshapeEquiv_eq_of_rowMajor squeezes_S1x1x16_S16.numel_eq (x := y) (y := ix3 (0 : Fin 1) (0 : Fin 1) (y 0))
      (by rw [Shape.rowMajor_val_one, Shape.rowMajor_val_three]; show ((0 * 1 + 0) * 16 + (y 0).val) = (y 0).val; omega)]
    unfold Sort.kbVal
    refine congrArg (fun b => len (ix1 b) - 1536#32) (Fin.ext ?_)
    show wid (c, s) / 4 + 1 * 0 = wid (c, s) / 4
    omega
  exact key _ (k1_off2_inb (cv c s)) (off2_eq c s)

/-! ## The result -/

/-- Row `b` of the order. -/
def ordRow (ord : S8x1x2048.Idx → BitVec 32) (b : Fin 8) : S2048.Idx → BitVec 32 := fun j => ord (ix3 b (0 : Fin 1) (j 0))

/-- How many edges row `b` merges. -/
def kkOf (len : S8.Idx → BitVec 32) (b : Fin 8) : BitVec 32 := len (ix1 b) - 1536#32

/-- The result the tiles write, as a function of the edge features, the order and the lengths. -/
def outOf (fe : S8x256x2048.Idx → F .f32) (ord : S8x1x2048.Idx → BitVec 32) (len : S8.Idx → BitVec 32) : S8x256x1536.Idx → F .f32 := fun z =>
  chunkVal (fun y => fe (ix3 (z 0) (⟨(z 1).val / 16 * 16 + (y 0).val, by have h1 : (z 1).val < 256 := (z 1).isLt; have h2 : (y 0).val < 16 := (y 0).isLt; omega⟩ : Fin 256) (y 1)))
    (srcA (ordRow ord (z 0)) (kkOf len (z 0))) (srcB (ordRow ord (z 0))) (srcW (kkOf len (z 0)))
    (ix2 (⟨(z 1).val % 16, Nat.mod_lt _ (by decide)⟩ : Fin 16) (z 2))

/-- The result the kernel computes from the edge features and the lengths. -/
def outVal (fe : S8x256x2048.Idx → F .f32) (len : S8.Idx → BitVec 32) : S8x256x1536.Idx → F .f32 := outOf fe (Sort.ordVal fe len) len

/-- On a tile's slab the result is the chunk the tile computes. -/
theorem outOf_slab (c : Fin 2) (s : Fin 16) (j : Fin 4) (off : Fin 3 → ℕ) (h : ∀ a, off a + S1x16x2048.size a ≤ S8x256x2048.size a)
    (e : off = corner (c, s) j) (fe : S8x256x2048.Idx → F .f32) (ord : S8x1x2048.Idx → BitVec 32) (len : S8.Idx → BitVec 32) :
    chunkVal ((inSl feM off h).view.read (Elt F) fe) (srcA ((ordSl (cv c s) ordM).view.read (Elt F) ord) (kkOf len (bOf (c, s))))
        (srcB ((ordSl (cv c s) ordM).view.read (Elt F) ord)) (srcW (kkOf len (bOf (c, s))))
      = (outSl (cv c s) outM j).view.read (Elt F) (outOf fe ord len) := by
  rw [read_inSl off h (c, s) j e, read_ordSl, read_outSl]
  funext y
  have hj := j.isLt
  have hy : (y 0).val < 16 := (y 0).isLt
  have e0 : (⟨(chOf (c, s) j (y 0)).val % 16, Nat.mod_lt _ (by decide)⟩ : Fin 16) = y 0 :=
    Fin.ext (by show (wid (c, s) % 4 * 64 + 16 * j.val + (y 0).val) % 16 = (y 0).val; omega)
  have ey : ix2 (⟨(chOf (c, s) j (y 0)).val % 16, Nat.mod_lt _ (by decide)⟩ : Fin 16) (y 1) = y := by
    rw [e0]; exact (eq_ix2 y).symm
  have eX : (fun y' : S16x2048.Idx => fe (ix3 (bOf (c, s)) (chOf (c, s) j (y' 0)) (y' 1)))
      = fun y' => fe (ix3 (bOf (c, s)) (⟨(chOf (c, s) j (y 0)).val / 16 * 16 + (y' 0).val, by
          have h1 : (chOf (c, s) j (y 0)).val < 256 := (chOf (c, s) j (y 0)).isLt; have h2 : (y' 0).val < 16 := (y' 0).isLt; omega⟩ : Fin 256) (y' 1)) := by
    funext y'
    refine congrArg (fun k => fe (ix3 (bOf (c, s)) k (y' 1))) (Fin.ext ?_)
    show wid (c, s) % 4 * 64 + 16 * j.val + (y' 0).val = (wid (c, s) % 4 * 64 + 16 * j.val + (y 0).val) / 16 * 16 + (y' 0).val
    omega
  rw [eX]
  unfold outOf
  exact congrArg _ ey.symm

end Cert.Proof.Tile

end
-- ==== Proof.TileEq.lean ====
module

public import proofs.«01_k».proof.Proof.TileProg

@[expose] public section

noncomputable section

namespace Cert.Proof.Tile

open Cert.KernelIdeal Cert.KernelIdeal.Gen
open Idealize.ShloMosaic
open Idealize.SL.Sem

variable {F : FTy → Type} [FloatOps F]
variable (i : grid1.Coords) (arg2 : Memref sig .scVector .hbm S8x256x2048 .f32) (harg2 : arg2.IsWhole) (arg3 : Memref sig .scVector .hbm S8x1x2048 .i32) (harg3 : arg3.IsWhole) (arg4 : Memref sig .scVector .hbm S8x1x16 .i32) (harg4 : arg4.IsWhole) (arg5 : Memref sig .scVector .hbm S8x256x1536 .f32) (harg5 : arg5.IsWhole) (arg6 : Memref sig .scVector .vmem S16 .i32) (harg6 : arg6.IsWhole) (arg7 : Memref sig .scVector .vmem S2048 .i32) (harg7 : arg7.IsWhole) (arg8 : Memref sig .scVector .vmem S1536 .i32) (harg8 : arg8.IsWhole) (arg9 : Memref sig .scVector .vmem S1536 .i32) (harg9 : arg9.IsWhole) (arg10 : Memref sig .scVector .vmem S1536 .f32) (harg10 : arg10.IsWhole) (arg11 : Memref sig .scVector .vmem S16x2048 .f32) (harg11 : arg11.IsWhole) (arg12 : Memref sig .scVector .vmem S16x2048 .f32) (harg12 : arg12.IsWhole) (arg13 : Memref sig .scVector .vmem S16x1536 .f32) (harg13 : arg13.IsWhole) (arg14 : Memref sig .scVector .vmem S16x1536 .f32) (harg14 : arg14.IsWhole) (arg15 : DmaSems sig S_) (arg16 : DmaSems sig S_) (arg17 : DmaSems sig S_) (arg18 : DmaSems sig S_) (v136_r0 : DmaSems sig S_) (v136_r1 : DmaSems sig S_)

set_option maxRecDepth 100000
set_option maxHeartbeats 4000000

/-- The first part of the printed body reads the offset and starts the copies. -/
theorem p17 : ∃ v, k1_part17 (F := F) i arg2 harg2 arg3 harg3 arg4 harg4 arg5 harg5 arg6 harg6 arg7 harg7 arg8 harg8 arg9 harg9 arg10 harg10 arg11 harg11 arg12 harg12 arg13 harg13 arg14 harg14 arg15 arg16 arg17 arg18 v136_r0 v136_r1 = (do
  Prog.lift (.enqueueDma (inSl arg2 (k1_off1 i) (k1_off1_inb i)) (.here arg11) (.dma arg15.sem) ((View.wordExact_bits rfl).reshape _ _) harg11.wordExact ⟨Or.inl rfl, trivial⟩)
  pure ⟨v, iota .scVector S16 32 [0] iota_S16_d0_w32_scVector⟩) := ⟨_, rfl⟩

/-- The printed body's part 18, as the short program's part. -/
theorem p18 : (k1_part18 (F := F) i arg2 harg2 arg3 harg3 arg4 harg4 arg5 harg5 arg6 harg6 arg7 harg7 arg8 harg8 arg9 harg9 arg10 harg10 arg11 harg11 arg12 harg12 arg13 harg13 arg14 harg14 arg15 arg16 arg17 arg18 v136_r0 v136_r1 (iota .scVector S16 32 [0] iota_S16_d0_w32_scVector))
    = (do
  Prog.lift (.enqueueDma (kbSl i arg4) (.here arg6) (.dma v136_r0.sem) ((View.wordExact_bits rfl).reshape _ _) harg6.wordExact ⟨Or.inl rfl, trivial⟩)
  Prog.lift (.waitDma2 v136_r0.sem (kbSl i arg4) arg6 ((View.wordExact_bits rfl).reshape _ _) harg6.wordExact)
  let k : Vec F S16 .i32 ← Prog.lift (.load arg6 (Rect.unit (s := S16) ![0] S16.size inb_S16_S16_0).toLoadRect (View.loadsAt_vmem h_S16))
  Prog.lift (.enqueueDma (ordSl i arg3) (.here arg7) (.dma v136_r1.sem) ((View.wordExact_bits rfl).reshape _ _) harg7.wordExact ⟨Or.inl rfl, trivial⟩)
  Prog.lift (.waitDma2 v136_r1.sem (ordSl i arg3) arg7 ((View.wordExact_bits rfl).reshape _ _) harg7.wordExact)
  Scf.Loop.for k1_t1_loop k1_t1_ok ⟨⟩ fun t _ => idxTrip arg8 arg9 arg10 arg7 k t
  pure ⟨rowv 0, rowv 1, rowv 2, rowv 3, rowv 4, rowv 5, rowv 6, rowv 7, rowv 8, rowv 9, rowv 10, rowv 11, rowv 12, 13#32⟩) := rfl

/-- The printed body's part 19, as the short program's part. -/
theorem p19 (v : BitVec 32) : (k1_part19 (F := F) i arg2 harg2 arg3 harg3 arg4 harg4 arg5 harg5 arg6 harg6 arg7 harg7 arg8 harg8 arg9 harg9 arg10 harg10 arg11 harg11 arg12 harg12 arg13 harg13 arg14 harg14 arg15 arg16 arg17 arg18 v136_r0 v136_r1 v (rowv 0) (rowv 1) (rowv 2) (rowv 3) (rowv 4) (rowv 5) (rowv 6) (rowv 7) (rowv 8) (rowv 9) (rowv 10) (rowv 11) (rowv 12) 13#32)
    = (do
  Prog.lift (.enqueueDma (inSl arg2 (k1_off6 i 16#32) (k1_off6_inb i 1)) (.here arg12) (.dma arg16.sem) ((View.wordExact_bits rfl).reshape _ _) harg12.wordExact ⟨Or.inl rfl, trivial⟩)
  Prog.lift (.waitDma2 arg15.sem (inSl arg2 (k1_off6 i 0#32) (k1_off6_inb i 0)) arg11 ((View.wordExact_bits rfl).reshape _ _) harg11.wordExact)
  Scf.Loop.for k1_t2_loop k1_t2_ok ⟨⟩ fun t _ => pairTrip arg11 arg13 arg8 arg9 arg10 t
  Scf.Loop.for k1_t3_loop k1_t3_ok ⟨⟩ fun t _ => soloTrip arg11 arg13 arg8 t
  Prog.lift (.enqueueDma arg13 (.here (outSl i arg5 0)) (.dma arg17.sem) harg13.wordExact ((View.wordExact_bits rfl).reshape _ _) ⟨Or.inl rfl, trivial⟩)
  Prog.lift (.enqueueDma (inSl arg2 (k1_off42 i 32#32) (k1_off42_inb i 1)) (.here arg11) (.dma arg15.sem) ((View.wordExact_bits rfl).reshape _ _) harg11.wordExact ⟨Or.inl rfl, trivial⟩)
  pure ⟨rowv 13, rowv 14, rowv 15⟩) := rfl

/-- The printed body's part 20, as the short program's part. -/
theorem p20 (v : BitVec 32) : (k1_part20 (F := F) i arg2 harg2 arg3 harg3 arg4 harg4 arg5 harg5 arg6 harg6 arg7 harg7 arg8 harg8 arg9 harg9 arg10 harg10 arg11 harg11 arg12 harg12 arg13 harg13 arg14 harg14 arg15 arg16 arg17 arg18 v136_r0 v136_r1 v (rowv 0) (rowv 1) (rowv 2) (rowv 3) (rowv 4) (rowv 5) (rowv 6) (rowv 7) (rowv 8) (rowv 9) (rowv 10) (rowv 11) (rowv 12) (rowv 13) (rowv 14) (rowv 15))
    = (do
  Prog.lift (.waitDma2 arg16.sem (inSl arg2 (k1_off42 i 16#32) (k1_off42_inb i 0)) arg12 ((View.wordExact_bits rfl).reshape _ _) harg12.wordExact)
  Scf.Loop.for k1_t2_loop k1_t2_ok ⟨⟩ fun t _ => pairTrip arg12 arg14 arg8 arg9 arg10 t
  Scf.Loop.for k1_t3_loop k1_t3_ok ⟨⟩ fun t _ => soloTrip arg12 arg14 arg8 t
  Prog.lift (.enqueueDma arg14 (.here (outSl i arg5 1)) (.dma arg18.sem) harg14.wordExact ((View.wordExact_bits rfl).reshape _ _) ⟨Or.inl rfl, trivial⟩)
  Prog.lift (.enqueueDma (inSl arg2 (k1_off42 i 48#32) (k1_off42_inb i 2)) (.here arg12) (.dma arg16.sem) ((View.wordExact_bits rfl).reshape _ _) harg12.wordExact ⟨Or.inl rfl, trivial⟩)
  Prog.lift (.waitDma2 arg15.sem (inSl arg2 (k1_off42 i 32#32) (k1_off42_inb i 1)) arg11 ((View.wordExact_bits rfl).reshape _ _) harg11.wordExact)
  Prog.lift (.waitDma2 arg17.sem arg13 (outSl i arg5 0) harg13.wordExact ((View.wordExact_bits rfl).reshape _ _))
  Scf.Loop.for k1_t2_loop k1_t2_ok ⟨⟩ fun t _ => pairTrip arg11 arg13 arg8 arg9 arg10 t
  pure ⟨0#32, 1#32⟩) := rfl

/-- The printed body's part 21, as the short program's part. -/
theorem p21 (v : BitVec 32) : (k1_part21 (F := F) i arg2 harg2 arg3 harg3 arg4 harg4 arg5 harg5 arg6 harg6 arg7 harg7 arg8 harg8 arg9 harg9 arg10 harg10 arg11 harg11 arg12 harg12 arg13 harg13 arg14 harg14 arg15 arg16 arg17 arg18 v136_r0 v136_r1 v (rowv 0) (rowv 1) (rowv 2) (rowv 3) (rowv 4) (rowv 5) (rowv 6) (rowv 7) (rowv 8) (rowv 9) (rowv 10) (rowv 11) (rowv 12) (rowv 13) (rowv 14) (rowv 15) 0#32 1#32)
    = (do
  Scf.Loop.for k1_t3_loop k1_t3_ok ⟨⟩ fun t _ => soloTrip arg11 arg13 arg8 t
  Prog.lift (.enqueueDma arg13 (.here (outSl i arg5 2)) (.dma arg17.sem) harg13.wordExact ((View.wordExact_bits rfl).reshape _ _) ⟨Or.inl rfl, trivial⟩)
  Prog.lift (.waitDma2 arg16.sem (inSl arg2 (k1_off42 i 48#32) (k1_off42_inb i 2)) arg12 ((View.wordExact_bits rfl).reshape _ _) harg12.wordExact)
  Prog.lift (.waitDma2 arg18.sem arg14 (outSl i arg5 1) harg14.wordExact ((View.wordExact_bits rfl).reshape _ _))
  Scf.Loop.for k1_t2_loop k1_t2_ok ⟨⟩ fun t _ => pairTrip arg12 arg14 arg8 arg9 arg10 t
  Scf.Loop.for k1_t3_loop k1_t3_ok ⟨⟩ fun t _ => soloTrip arg12 arg14 arg8 t
  Prog.lift (.enqueueDma arg14 (.here (outSl i arg5 3)) (.dma arg18.sem) harg14.wordExact ((View.wordExact_bits rfl).reshape _ _) ⟨Or.inl rfl, trivial⟩)
  Prog.lift (.waitDma2 arg17.sem arg13 (outSl i arg5 2) harg13.wordExact ((View.wordExact_bits rfl).reshape _ _))
  pure 48#32) := rfl

/-- The printed body of a tile is the program above. -/
theorem body_eq : cc1__sc_apply_body (F := F) i arg2 harg2 arg3 harg3 arg4 harg4 arg5 harg5 arg6 harg6 arg7 harg7 arg8 harg8 arg9 harg9 arg10 harg10 arg11 harg11 arg12 harg12 arg13 harg13 arg14 harg14 arg15 arg16 arg17 arg18 v136_r0 v136_r1
    = tileProg i arg2 arg3 arg4 arg5 arg6 harg6 arg7 harg7 arg8 arg9 arg10 arg11 harg11 arg12 harg12 arg13 harg13 arg14 harg14 arg15 arg16 arg17 arg18 v136_r0 v136_r1 := by
  unfold cc1__sc_apply_body tileProg
  obtain ⟨v, h17⟩ := p17 (F := F) i arg2 harg2 arg3 harg3 arg4 harg4 arg5 harg5 arg6 harg6 arg7 harg7 arg8 harg8 arg9 harg9 arg10 harg10 arg11 harg11 arg12 harg12 arg13 harg13 arg14 harg14 arg15 arg16 arg17 arg18 v136_r0 v136_r1
  rw [h17]
  simp only [bind_assoc, pure_bind, chunk]
  rw [p18]
  simp only [bind_assoc, pure_bind]
  rw [p19]
  simp only [bind_assoc, pure_bind]
  rw [p20]
  simp only [bind_assoc, pure_bind]
  rw [p21]
  simp only [bind_assoc, pure_bind]
  rfl

end Cert.Proof.Tile
-- ==== Proof.Task.lean ====
module

public import proofs.«01_k».proof.Proof.Values
public import proofs.«01_k».proof.Proof.TileEq
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic

@[expose] public section

noncomputable section

namespace Cert.Proof.Launch

open Cert.KernelIdeal Cert.KernelIdeal.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Tile

variable {F : FTy → Type} [FloatOps F]

/-! ## The program as the launch theorem sees it -/

/-- The labels of the program with its pipeline. -/
abbrev ΛP : Labels := Pipeline.Sig Λ₀ (Fin 1) fun p => (pcfgs (F := F) p).Adm
/-- The SparseCore launch's configuration. -/
abbrev K : SparseCore.Cfg τ sig (ΛP (F := F)) 1 := sc (F := F)
/-- The launch uses sixteen tiles of each SparseCore. -/
theorem nSub_zero : (K (F := F)).nSub 0 = 16 := rfl
/-- The launch uses two SparseCores. -/
theorem nCore_zero : (K (F := F)).nCore 0 = 2 := rfl
/-- The bodies of the program with its pipeline. -/
abbrev D : Defs nD τ sig (Elt F) (ΛP (F := F)) := Pipeline.defs pcfgs defs₀
/-- No loop variants are needed. -/
abbrev 𝒱₀ : Variants := Variants.none
/-- The variants, lifted to the launch. -/
abbrev 𝒱 : Variants := 𝒱₀.lift
/-- The variant of the launch. -/
abbrev v₀ : 𝒱.V := Sum.inl none

/-- The launch's configuration is well formed. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the launches' rounds, the TensorCore call's, the transfers' counters -/

/-- The launch's handshake ghost state. -/
abbrev UH : Type := URounds (GSem nD τ sig) ℕ
/-- The whole ghost state. -/
abbrev UU : Type := UH × (UR sig nD τ × Counters)

local notation "𝕄" => MT nD τ sig (HIx 1) (Elt F) ℕ UU ℕ

/-- Where the handshake's ghost state lies in the whole. -/
abbrev EH : Emb UH (MT nD τ sig (HIx 1) (Elt F) ℕ UU ℕ) := embL

/-! ## A tile's scratch -/

/-- A tile's scratch buffers, in order. -/
def bufs : Fin 9 → Ref sig .scVector :=
  ![cc1_scratch0, cc1_scratch1, cc1_scratch2, cc1_scratch3, cc1_scratch4, cc1_scratch5, cc1_scratch6, cc1_scratch7, cc1_scratch8]
/-- The tile's scratch buffers are different. -/
theorem bufs_inj : Function.Injective bufs := by decide
/-- A tile's transfer semaphores, in order. -/
def cells : Fin 6 → SemLoc sig :=
  ![.dma cc1_scratch9.sem, .dma cc1_scratch10.sem, .dma cc1_scratch11.sem, .dma cc1_scratch12.sem, .dma cc1_scoped0.sem, .dma cc1_scoped1.sem]
/-- The tile's semaphores are different. -/
theorem cells_inj : Function.Injective cells := by decide
/-- The tile's semaphores are scoped. -/
theorem cells_scoped : ∀ k, (cells k).isScoped .scVector = true := by decide

/-- The tile's scratch buffers on the device. -/
def bufEmb (c : Fin τ.nSC) (s : Fin τ.nSub) : Fin 9 ↪ DevRef τ sig :=
  ⟨fun k => (Proc.scVector c s).devRef (bufs k), fun _ _ h => bufs_inj (Proc.devRef_injective _ h)⟩
/-- The tile's semaphores on the device. -/
def cellEmb (thr : Thread nD τ) : Fin 6 ↪ GSem nD τ sig := ⟨fun k => (thr, cells k), fun _ _ h => cells_inj (Prod.mk.inj h).2⟩

/-- What a tile owns beyond the scratch the task uses. -/
def spare (d : Dev nD) (c : Fin τ.nSC) (s : Fin τ.nSub) : sProp (MT nD τ sig (HIx 1) (Elt F) ℕ UU ℕ) :=
  iprop((bigSep (ownRefs (.scVector c s) \ Finset.univ.map (bufEmb c s)) fun b => iprop(∃ f, ((d, b) : Loc nD τ sig) ↦{fullShare} f))
    ∗ bigSep (ownCells (V d c s) \ Finset.univ.map (cellEmb (V d c s))) fun g => semVal g 0)

/-- Each scratch buffer belongs to its tile. -/
theorem bufs_owner (c : Fin τ.nSC) (s : Fin τ.nSub) : ∀ k, ((Proc.scVector c s).devRef (bufs k)).owner = .proc (.scVector c s)
  | 0 => rfl | 1 => rfl | 2 => rfl | 3 => rfl | 4 => rfl | 5 => rfl | 6 => rfl | 7 => rfl | 8 => rfl

/-- A tile's own buffers, one by one. -/
theorem ownBufs_eq (d : Dev nD) (c : Fin τ.nSC) (s : Fin τ.nSub) :
    (ownBufs (V d c s) : sProp 𝕄) = iprop((bigSep Finset.univ fun k : Fin 9 => iprop(∃ f, ((V d c s).loc (bufs k)) ↦{fullShare} f))
      ∗ bigSep (ownRefs (.scVector c s) \ Finset.univ.map (bufEmb c s)) fun b => iprop(∃ f, ((d, b) : Loc nD τ sig) ↦{fullShare} f)) := by
  unfold SparseCore.Cfg.ownBufs
  rw [SparseCore.bigSep_sdiff_split' (t := Finset.univ.map (bufEmb c s)) (fun b hb => by
    obtain ⟨k, -, rfl⟩ := Finset.mem_map.mp hb
    exact SparseCore.Cfg.mem_ownRefs_of_owner (bufs_owner c s k)), SparseCore.bigSep_map]
  rfl

/-- A tile's own semaphores at zero, one by one. -/
theorem ownSems0_eq (thr : Thread nD τ) (h : thr.2.kind = .scVector) :
    (ownSems0 thr : sProp 𝕄) = iprop((bigSep Finset.univ fun k : Fin 6 => semVal (thr, cells k) 0)
      ∗ bigSep (ownCells thr \ Finset.univ.map (cellEmb thr)) fun g => semVal g 0) := by
  unfold SparseCore.Cfg.ownSems0
  rw [SparseCore.bigSep_sdiff_split' (t := Finset.univ.map (cellEmb thr)) (fun b hb => by
    obtain ⟨k, -, rfl⟩ := Finset.mem_map.mp hb
    refine mem_ownCells.mpr ⟨rfl, ?_⟩
    show (cells k).isScoped thr.2.kind = true
    rw [h]; exact cells_scoped k), SparseCore.bigSep_map]
  rfl

/-- The scratch of a tile's task, as its program names it. -/
abbrev scr (d : Dev nD) (i : grid1.Coords) : sProp (MT nD τ sig (HIx 1) (Elt F) ℕ UU ℕ) :=
  scratch d i (Memref.whole cc1_scratch0) (Memref.whole cc1_scratch1) (Memref.whole cc1_scratch2) (Memref.whole cc1_scratch3) (Memref.whole cc1_scratch4)
    (Memref.whole cc1_scratch5) (Memref.whole cc1_scratch6) (Memref.whole cc1_scratch7) (Memref.whole cc1_scratch8)
    cc1_scratch9 cc1_scratch10 cc1_scratch11 cc1_scratch12 cc1_scoped0 cc1_scoped1

/-- A whole buffer owned at some contents, as its location holds them. -/
theorem any_whole (d : Dev nD) (i : grid1.Coords) (b : Ref sig .scVector) :
    (iprop(∃ X, owns (at_ d i) (Memref.whole b) fullShare X) : sProp 𝕄) = iprop(∃ f, (at_ d i).loc b ↦{fullShare} f) := by
  have h₁ : (iprop(∃ X, owns (at_ d i) (Memref.whole b) fullShare X) : sProp 𝕄) ⊢ iprop(∃ f, (at_ d i).loc b ↦{fullShare} f) := by
    iintro ⟨%X, H⟩
    ihave H := (Entails.of_eq (owns_whole_eq (at_ d i) b fullShare X)) $$ H
    icases H with ⟨%f, -, H⟩
    iexists f; iexact H
  have h₂ : (iprop(∃ f, (at_ d i).loc b ↦{fullShare} f) : sProp 𝕄) ⊢ iprop(∃ X, owns (at_ d i) (Memref.whole b) fullShare X) := by
    iintro ⟨%f, H⟩
    iexists f
    iapply (Entails.of_eq (owns_whole_eq (at_ d i) b fullShare f).symm)
    iexists f; isplitr; · ipureintro; rfl
    iexact H
  exact BI.equiv_iff.mp ⟨h₁, h₂⟩

/-- Regrouping three conjuncts. -/
theorem assoc_eq (A B C : sProp 𝕄) : (iprop((A ∗ B) ∗ C) : sProp 𝕄) = iprop(A ∗ B ∗ C) := BI.equiv_iff.mp ⟨BI.sep_assoc, BI.sep_assoc'⟩

/-- Regrouping the scratch buffers' conjuncts. -/
theorem chain_eq (A₀ A₁ A₂ A₃ A₄ A₅ A₆ A₇ A₈ B : sProp 𝕄) :
    (iprop((A₀ ∗ A₁ ∗ A₂ ∗ A₃ ∗ A₄ ∗ A₅ ∗ A₆ ∗ A₇ ∗ A₈) ∗ B) : sProp 𝕄) = iprop(A₀ ∗ A₁ ∗ A₂ ∗ A₃ ∗ A₄ ∗ A₅ ∗ A₆ ∗ A₇ ∗ A₈ ∗ B) := by
  simp only [assoc_eq]

/-- Exchanging the middle conjuncts. -/
theorem swap_mid (A B C D : sProp 𝕄) : (iprop((A ∗ B) ∗ C ∗ D) : sProp 𝕄) = iprop((A ∗ C) ∗ B ∗ D) := by
  have h (A B C D : sProp 𝕄) : (iprop((A ∗ B) ∗ C ∗ D) : sProp 𝕄) ⊢ iprop((A ∗ C) ∗ B ∗ D) := by
    iintro ⟨⟨HA, HB⟩, HC, HD⟩
    isplitl [HA HC]
    · isplitl [HA] <;> iassumption
    · isplitl [HB] <;> iassumption
  exact BI.equiv_iff.mp ⟨h A B C D, h A C B D⟩

/-- A tile's own buffers and semaphores are its scratch. -/
theorem scratch_eq (hF : (K (F := F)).Facts) (d : Dev nD) (i : grid1.Coords) :
    (iprop(scopedBufs (at_ d i) ∗ scopedSems0 (at_ d i)) : sProp 𝕄)
      = iprop(scr d i ∗ spare d ((i 0).castLE hcore1) ((i 1).castLE hsub1)) := by
  have e : (scr (F := F) d i) = iprop((bigSep Finset.univ fun k : Fin 9 => iprop(∃ f, ((V d ((i 0).castLE hcore1) ((i 1).castLE hsub1)).loc (bufs k)) ↦{fullShare} f))
      ∗ bigSep Finset.univ fun k : Fin 6 => semVal (V d ((i 0).castLE hcore1) ((i 1).castLE hsub1), cells k) 0) := by
    unfold scr scratch
    rw [bigSep_univ_eq_bigSepL [(0 : Fin 9), 1, 2, 3, 4, 5, 6, 7, 8] (by decide) (by decide),
      bigSep_univ_eq_bigSepL [(0 : Fin 6), 1, 2, 3, 4, 5] (by decide) (by decide)]
    simp only [bigSepL_cons_cons, bigSepL_singleton]
    refine Eq.trans ?_ (chain_eq _ _ _ _ _ _ _ _ _ _).symm
    exact (congrArg₂ BI.sep (any_whole d i cc1_scratch0) (congrArg₂ BI.sep (any_whole d i cc1_scratch1) (congrArg₂ BI.sep (any_whole d i cc1_scratch2) (congrArg₂ BI.sep (any_whole d i cc1_scratch3) (congrArg₂ BI.sep (any_whole d i cc1_scratch4) (congrArg₂ BI.sep (any_whole d i cc1_scratch5) (congrArg₂ BI.sep (any_whole d i cc1_scratch6) (congrArg₂ BI.sep (any_whole d i cc1_scratch7) (congrArg₂ BI.sep (any_whole d i cc1_scratch8) rfl)))))))))
  show (iprop(scopedBufs (V d ((i 0).castLE hcore1) ((i 1).castLE hsub1)) ∗ scopedSems0 (V d ((i 0).castLE hcore1) ((i 1).castLE hsub1))) : sProp 𝕄) = _
  rw [(K (F := F)).scopedBufs_V hF, SparseCore.Cfg.scopedSems0_V, ownBufs_eq, ownSems0_eq _ rfl, e]
  unfold spare
  exact swap_mid _ _ _ _

/-! ## What a tile is handed and what it hands back -/

variable (m : (ℓ : Loc nD τ sig) → Buf (Elt F) ℓ)

/-- The features at launch. -/
abbrev feV (d : Dev nD) : S8x256x2048.Idx → F .f32 := m (feLoc d)
/-- The lengths at launch. -/
abbrev lenV (d : Dev nD) : S8.Idx → BitVec 32 := m (lenLoc d)

/-- The four slabs of the input a tile reads. -/
def slabs (fe : S8x256x2048.Idx → F .f32) (i : grid1.Coords) : Fin 4 → S16x2048.Idx → F .f32
  | 0 => (slab0 i feM).view.read (Elt F) fe
  | 1 => (slab1 i feM).view.read (Elt F) fe
  | 2 => (slab2 i feM).view.read (Elt F) fe
  | 3 => (slab3 i feM).view.read (Elt F) fe

/-- What a tile reads, at the contents the sort left. -/
abbrev ins (d : Dev nD) (c : Fin 2) (s : Fin 16) : sProp (MT nD τ sig (HIx 1) (Elt F) ℕ UU ℕ) :=
  reads d (cv c s) feM ordM kbM fullShare (qt c s) (qt c s) (slabs (feV m d) (cv c s))
    ((ordSl (cv c s) ordM).view.read (Elt F) (Sort.ordVal (feV m d) (lenV m d))) (kkOf (lenV m d) (bOf (c, s)))

/-- A tile's output slabs, at the contents `f` of the result. -/
abbrev resAt (d : Dev nD) (c : Fin 2) (s : Fin 16) (f : S8x256x1536.Idx → F .f32) : sProp (MT nD τ sig (HIx 1) (Elt F) ℕ UU ℕ) :=
  outs d (cv c s) outM fun j => (outSl (cv c s) outM j).view.read (Elt F) f

/-- What a tile is handed: what it reads, and its output slabs as launched. -/
def goP (d : Dev nD) (c : Fin 2) (s : Fin 16) : sProp (MT nD τ sig (HIx 1) (Elt F) ℕ UU ℕ) := iprop(ins m d c s ∗ resAt d c s (m (outLoc d)))
/-- What a tile hands back: what it reads, and its output slabs at the result. -/
def tdP (d : Dev nD) (c : Fin 2) (s : Fin 16) : sProp (MT nD τ sig (HIx 1) (Elt F) ℕ UU ℕ) := iprop(ins m d c s ∗ resAt d c s (outVal (feV m d) (lenV m d)))

/-- The launch memory is one the kernel is claimed for: each row's length lies in its range. -/
def Ok : Prop := ∀ d b, 1536 ≤ (lenV m d (ix1 b)).toNat ∧ (lenV m d (ix1 b)).toNat ≤ 2048

/-- Every identifier the sort leaves is one of the row's. -/
def OrdOk : Prop := ∀ d j, (Sort.ordVal (feV m d) (lenV m d) j).toNat < 2048

/-- A row drops at most 512 edges. -/
theorem kk_le (h : Ok m) (d : Dev nD) (b : Fin 8) : (kkOf (lenV m d) b).toNat ≤ 512 := by
  have := h d b
  unfold kkOf
  rw [BitVec.toNat_sub]
  simp only [BitVec.toNat_ofNat]
  omega

/-- A tile's chunk is the kernel's value on its slab. -/
theorem chunk_eq (d : Dev nD) (c : Fin 2) (s : Fin 16) (r : Fin 4) :
    chunkVal (slabs (feV m d) (cv c s) r) (srcA ((ordSl (cv c s) ordM).view.read (Elt F) (Sort.ordVal (feV m d) (lenV m d))) (kkOf (lenV m d) (bOf (c, s))))
        (srcB ((ordSl (cv c s) ordM).view.read (Elt F) (Sort.ordVal (feV m d) (lenV m d)))) (srcW (kkOf (lenV m d) (bOf (c, s))))
      = (outSl (cv c s) outM r).view.read (Elt F) (outVal (feV m d) (lenV m d)) :=
  match r with
  | 0 => outOf_slab (F := F) c s 0 (k1_off1 (cv c s)) (k1_off1_inb (cv c s)) (off1_eq c s) (feV m d) (Sort.ordVal (feV m d) (lenV m d)) (lenV m d)
  | 1 => outOf_slab (F := F) c s 1 (k1_off6 (cv c s) 16#32) (k1_off6_inb (cv c s) 1) (off6_eq c s) (feV m d) (Sort.ordVal (feV m d) (lenV m d)) (lenV m d)
  | 2 => outOf_slab (F := F) c s 2 (k1_off42 (cv c s) 32#32) (k1_off42_inb (cv c s) 1) (off42_eq2 c s) (feV m d) (Sort.ordVal (feV m d) (lenV m d)) (lenV m d)
  | 3 => outOf_slab (F := F) c s 3 (k1_off42 (cv c s) 48#32) (k1_off42_inb (cv c s) 2) (off42_eq3 c s) (feV m d) (Sort.ordVal (feV m d) (lenV m d)) (lenV m d)

/-- A tile's task, from what it is handed to what it hands back. -/
theorem tile_body (hF : (K (F := F)).Facts) (hok : Ok m) (hord : OrdOk m) (d : Dev nD) (c : Fin 2) (s : Fin 16)
    (O : CellTallies nD τ sig (HIx 1)) (W : Waits sig (HIx 1)) (hO : ∀ g, O g none = 0) :
    (iprop(levAts (K (F := F)).L (K (F := F)).lev ∗ emp ∗ goP m d c s ∗ scopedBufs (at_ d (cv c s)) ∗ scopedSems0 (at_ d (cv c s)) ∗ owes (at_ d (cv c s)) O W) : sProp 𝕄)
      ⊢ wp frame (wpE (defs₀ (F := F)) 𝒱₀ (at_ d (cv c s)) none) Set.univ
          (cc1__sc_apply_body (cv c s) feM (Memref.isWhole_whole _) ordM (Memref.isWhole_whole _) kbM (Memref.isWhole_whole _) outM (Memref.isWhole_whole _)
            (Memref.whole cc1_scratch0) (Memref.isWhole_whole _) (Memref.whole cc1_scratch1) (Memref.isWhole_whole _) (Memref.whole cc1_scratch2) (Memref.isWhole_whole _)
            (Memref.whole cc1_scratch3) (Memref.isWhole_whole _) (Memref.whole cc1_scratch4) (Memref.isWhole_whole _) (Memref.whole cc1_scratch5) (Memref.isWhole_whole _)
            (Memref.whole cc1_scratch6) (Memref.isWhole_whole _) (Memref.whole cc1_scratch7) (Memref.isWhole_whole _) (Memref.whole cc1_scratch8) (Memref.isWhole_whole _)
            cc1_scratch9 cc1_scratch10 cc1_scratch11 cc1_scratch12 cc1_scoped0 cc1_scoped1)
          fun _ => iprop(tdP m d c s ∗ scopedBufs (at_ d (cv c s)) ∗ scopedSems0 (at_ d (cv c s))
            ∗ ∃ W', ⌜∀ p ∈ W', p ∈ W ∨ p.2 = none⌝ ∗ owes (at_ d (cv c s)) O W') := by
  rw [body_eq]
  unfold goP tdP
  iintro ⟨Hlv, -, ⟨Hin, Hout⟩, Hb, Hs, HO⟩
  ihave Hmw := ((K (F := F)).mayWaits_none (thr := at_ d (cv c s)) hO) $$ Hlv
  ihave Hscr := (Entails.of_eq (scratch_eq hF d (cv c s))) $$ [Hb Hs]
  · isplitl [Hb] <;> iassumption
  icases Hscr with ⟨Hscr, Hsp⟩
  ihave Hwp := (wp_tileProg (defs := defs₀ (F := F)) 𝒱₀ d none (cv c s) feM ordM kbM outM (Memref.whole cc1_scratch0) (Memref.isWhole_whole _) (Memref.whole cc1_scratch1) (Memref.isWhole_whole _)
    (Memref.whole cc1_scratch2) (Memref.whole cc1_scratch3) (Memref.whole cc1_scratch4) (Memref.whole cc1_scratch5) (Memref.isWhole_whole _)
    (Memref.whole cc1_scratch6) (Memref.isWhole_whole _) (Memref.whole cc1_scratch7) (Memref.isWhole_whole _) (Memref.whole cc1_scratch8) (Memref.isWhole_whole _)
    cc1_scratch9 cc1_scratch10 cc1_scratch11 cc1_scratch12 cc1_scoped0 cc1_scoped1
    fullShare (qt c s) (qt c s) (slabs (feV m d) (cv c s)) ((ordSl (cv c s) ordM).view.read (Elt F) (Sort.ordVal (feV m d) (lenV m d))) (kkOf (lenV m d) (bOf (c, s)))
    (kk_le m hok d _) (fun j => by rw [read_ordSl]; exact hord d _) (fun j => (outSl (cv c s) outM j).view.read (Elt F) (m (outLoc d))) none O W) $$ [Hmw Hin Hout Hscr HO]
  · isplitl [Hmw]; · iexact Hmw
    isplitl [Hin]; · iexact Hin
    isplitl [Hout]; · iexact Hout
    isplitl [Hscr] <;> iassumption
  iapply (wp_wand_r frame (wpE (defs₀ (F := F)) 𝒱₀ (at_ d (cv c s)) none) Set.univ)
  isplitl [Hwp]; · iexact Hwp
  iintro %_ ⟨Hin, Hout, Hscr, HO⟩
  ihave Hbs := (Entails.of_eq (scratch_eq hF d (cv c s)).symm) $$ [Hscr Hsp]
  · isplitl [Hscr] <;> iassumption
  icases Hbs with ⟨Hb, Hs⟩
  isplitl [Hin Hout]
  · isplitl [Hin]; · iexact Hin
    iapply (Entails.of_eq (congrArg (outs d (cv c s) outM) (funext fun r => chunk_eq m d c s r))) $$ Hout
  isplitl [Hb]; · iexact Hb
  isplitl [Hs]; · iexact Hs
  iexact HO

/-! ## What the launch passes between the processors -/

/-- A tile's number is kept by the cast. -/
theorem go_cast (i : Fin ((K (F := F)).nSub 0)) : (Fin.cast nSub_zero i).val = i.val := rfl

/-- What a launch passes: to a SparseCore its tiles' inputs and output slabs, and back the same with the slabs at the
    result; to a tile its own. -/
def P : (K (F := F)).Pay (nD := nD) (Val := Elt F) (Name := ℕ) (U := UU) where
  st := fun q d c => match q with | 0 => iprop(bigSep Finset.univ fun s : Fin 16 => goP m d (Fin.cast nCore_zero c) s)
  dn := fun q d c => match q with | 0 => iprop(bigSep Finset.univ fun s : Fin 16 => tdP m d (Fin.cast nCore_zero c) s)
  go := fun q d c i => match q with | 0 => goP m d (Fin.cast nCore_zero c) (Fin.cast nSub_zero i)
  td := fun q d c i => match q with | 0 => tdP m d (Fin.cast nCore_zero c) (Fin.cast nSub_zero i)
  x := fun _ _ => iprop(emp)

/-- What a tile reads can be handed over. -/
instance reads_storable (d : Dev nD) (i : grid1.Coords) (q qo qk : PosShare TreeShare) (X : Fin 4 → S16x2048.Idx → F .f32) (O : S2048.Idx → BitVec 32) (kk : BitVec 32) :
    BI.Storable (upEmb : UEmb _ 𝕄) (reads d i feM ordM kbM q qo qk X O kk) := by unfold reads; infer_instance
/-- What a tile writes can be handed over. -/
instance outs_storable (d : Dev nD) (i : grid1.Coords) (Y : Fin 4 → S16x1536.Idx → F .f32) :
    BI.Storable (upEmb : UEmb _ 𝕄) (outs d i outM Y) := by unfold outs; infer_instance
/-- What a tile is handed can be handed over. -/
instance goP_storable (d : Dev nD) (c : Fin 2) (s : Fin 16) : BI.Storable (upEmb : UEmb _ 𝕄) (goP m d c s) := by unfold goP; infer_instance
/-- What a tile hands back can be handed over. -/
instance tdP_storable (d : Dev nD) (c : Fin 2) (s : Fin 16) : BI.Storable (upEmb : UEmb _ 𝕄) (tdP m d c s) := by unfold tdP; infer_instance

attribute [local irreducible] goP tdP

/-- All that the launch hands over can be handed over. -/
instance P_storable : (P m).IsStorable where
  st q d c := match q with | 0 => (inferInstance : BI.Storable (upEmb : UEmb _ 𝕄) iprop(bigSep Finset.univ fun s : Fin 16 => goP m d (Fin.cast nCore_zero c) s))
  dn q d c := match q with | 0 => (inferInstance : BI.Storable (upEmb : UEmb _ 𝕄) iprop(bigSep Finset.univ fun s : Fin 16 => tdP m d (Fin.cast nCore_zero c) s))
  go q d c i := match q with | 0 => (inferInstance : BI.Storable (upEmb : UEmb _ 𝕄) (goP m d (Fin.cast nCore_zero c) (Fin.cast nSub_zero i)))
  td q d c i := match q with | 0 => (inferInstance : BI.Storable (upEmb : UEmb _ 𝕄) (tdP m d (Fin.cast nCore_zero c) (Fin.cast nSub_zero i)))

/-- A conjunction over a SparseCore's tiles, by their numbers. -/
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- What a SparseCore is handed splits among its tiles, and theirs make up what it hands back. -/
theorem vecSplit : (K (F := F)).VecSplit' (P m) 0 := by
  intro d c
  show (bigSep Finset.univ fun s : Fin 16 => goP m d (Fin.cast nCore_zero c) s) ⊢ |={Set.univ}=> iprop(
      (bigSep Finset.univ fun i : Fin ((K (F := F)).nSub 0) => goP m d (Fin.cast nCore_zero c) (Fin.cast nSub_zero i))
      ∗ ((bigSep Finset.univ fun i : Fin ((K (F := F)).nSub 0) => tdP m d (Fin.cast nCore_zero c) (Fin.cast nSub_zero i))
          -∗ (bigSep Finset.univ fun s : Fin 16 => tdP m d (Fin.cast nCore_zero c) s)))
  have e₁ := bigSep_tasks (F := F) (fun s => goP m d (Fin.cast nCore_zero c) s)
  have e₂ := bigSep_tasks (F := F) (fun s => tdP m d (Fin.cast nCore_zero c) s)
  rw [e₁, e₂]
  iintro H
  imodintro
  isplitl [H]; · iexact H
  iintro H; iexact H

/-- A tile's body at its label is the printed body. -/
theorem defs₀_vector (c : Fin τ.nSC) (s : Fin τ.nSub) : defs₀ (F := F) (.scVector c s) 1 () =
    SparseCore.onTile hcore1 hsub1 (fun c s => cc1__sc_apply_body (cv c s) feM (Memref.isWhole_whole _) ordM (Memref.isWhole_whole _) kbM (Memref.isWhole_whole _) outM (Memref.isWhole_whole _)
            (Memref.whole cc1_scratch0) (Memref.isWhole_whole _) (Memref.whole cc1_scratch1) (Memref.isWhole_whole _) (Memref.whole cc1_scratch2) (Memref.isWhole_whole _)
            (Memref.whole cc1_scratch3) (Memref.isWhole_whole _) (Memref.whole cc1_scratch4) (Memref.isWhole_whole _) (Memref.whole cc1_scratch5) (Memref.isWhole_whole _)
            (Memref.whole cc1_scratch6) (Memref.isWhole_whole _) (Memref.whole cc1_scratch7) (Memref.isWhole_whole _) (Memref.whole cc1_scratch8) (Memref.isWhole_whole _)
            cc1_scratch9 cc1_scratch10 cc1_scratch11 cc1_scratch12 cc1_scoped0 cc1_scoped1) ⟨⟩ c s := rfl

/-- A postcondition regrouped with the tile's obligations. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Every tile's task does what the launch asks of it. -/
theorem tileObl (hF : (K (F := F)).Facts) (hok : Ok m) (hord : OrdOk m) : (K (F := F)).TileObl (D (F := F)) 𝒱 (P m) v₀ 0 := by
  intro d c i O W hO _ _
  simp only [show (P m).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m hF hok hord d ⟨_, hci.1⟩ ⟨_, hci.2⟩ O W hO).trans (wp_mono frame _ _ fun _ => obl_post)

end Cert.Proof.Launch

end
-- ==== Proof.SortFold.lean ====
module

public import proofs.«01_k».proof.Proof.SortProg

@[expose] public section
noncomputable section
namespace Cert.Proof.Sort
open Cert.KernelIdeal Cert.KernelIdeal.Gen
open Idealize.ShloMosaic
open Idealize.SL.Sem
variable {F : FTy → Type} [FloatOps F]

/-- A half's keys. -/
def kOf (x : Half F) : FVec F S8x1024 .f32 := x.1
/-- A half's ids. -/
def iOf (x : Half F) : IVec S8x1024 32 := x.2
/-- The half of given keys and ids. -/
def mkH (K : FVec F S8x1024 .f32) (I : IVec S8x1024 32) : Half F := (K, I)
/-- A half is its keys and its numbers. -/
theorem mkH_eta (x : Half F) : mkH (kOf x) (iOf x) = x := rfl
/-- The lower half after the stage of distance 1024. -/
def crossA (x y : Half F) : Half F := (crossStage (x, y)).1
/-- The upper half after the stage of distance 1024. -/
def crossB (x y : Half F) : Half F := (crossStage (x, y)).2

section Fold
variable {A B : Shape} {o1 o2 o3 o4 : Fin S8x1024.rank → Nat} (h1 : S8x1024.Slices o1 A) (h2 : S8x1024.Slices o2 B) (h3 : S8x1024.Slices o3 B) (h4 : S8x1024.Slices o4 A)
  (hAB : Shape.Concatenates [A, B] S8x1024 1) (hBA : Shape.Concatenates [B, A] S8x1024 1) (d e : BitVec 32) (L : IVec S1x1024 32) (K K' : FVec F S8x1024 .f32) (I I' : IVec S8x1024 32)

/-- A stage's keys as the kernel writes them. -/
theorem fold_keys : select (xori (xori (ori (cmpf .olt (select (broadcastTo S8x1024 (shapeCast S1x1024 (cmpi .eq (andi L (broadcast S1x1024 d)) (broadcast S1x1024 0#32) : IVec S1x1024 1) shapeCasts_S1x1024_S1x1024) broadcasts_S1x1024_S8x1024) (concatenate S8x1024 1 [⟨A, extractStridedSlice A o1 K h1⟩, ⟨B, extractStridedSlice B o2 K h2⟩] hAB) (concatenate S8x1024 1 [⟨B, extractStridedSlice B o3 K h3⟩, ⟨A, extractStridedSlice A o4 K h4⟩] hBA)) K) (andi (cmpf .oeq (select (broadcastTo S8x1024 (shapeCast S1x1024 (cmpi .eq (andi L (broadcast S1x1024 d)) (broadcast S1x1024 0#32) : IVec S1x1024 1) shapeCasts_S1x1024_S1x1024) broadcasts_S1x1024_S8x1024) (concatenate S8x1024 1 [⟨A, extractStridedSlice A o1 K h1⟩, ⟨B, extractStridedSlice B o2 K h2⟩] hAB) (concatenate S8x1024 1 [⟨B, extractStridedSlice B o3 K h3⟩, ⟨A, extractStridedSlice A o4 K h4⟩] hBA)) K) (cmpi .slt (select (broadcastTo S8x1024 (shapeCast S1x1024 (cmpi .eq (andi L (broadcast S1x1024 d)) (broadcast S1x1024 0#32) : IVec S1x1024 1) shapeCasts_S1x1024_S1x1024) broadcasts_S1x1024_S8x1024) (concatenate S8x1024 1 [⟨A, extractStridedSlice A o1 I h1⟩, ⟨B, extractStridedSlice B o2 I h2⟩] hAB) (concatenate S8x1024 1 [⟨B, extractStridedSlice B o3 I h3⟩, ⟨A, extractStridedSlice A o4 I h4⟩] hBA)) I))) (broadcastTo S8x1024 (cmpi .eq (andi L (broadcast S1x1024 d)) (broadcast S1x1024 0#32) : IVec S1x1024 1) broadcasts_S1x1024_S8x1024)) (broadcastTo S8x1024 (cmpi .eq (andi (shrsi L (broadcast S1x1024 e)) (broadcast S1x1024 1#32)) (broadcast S1x1024 0#32) : IVec S1x1024 1) broadcasts_S1x1024_S8x1024)) (select (broadcastTo S8x1024 (shapeCast S1x1024 (cmpi .eq (andi L (broadcast S1x1024 d)) (broadcast S1x1024 0#32) : IVec S1x1024 1) shapeCasts_S1x1024_S1x1024) broadcasts_S1x1024_S8x1024) (concatenate S8x1024 1 [⟨A, extractStridedSlice A o1 K h1⟩, ⟨B, extractStridedSlice B o2 K h2⟩] hAB) (concatenate S8x1024 1 [⟨B, extractStridedSlice B o3 K h3⟩, ⟨A, extractStridedSlice A o4 K h4⟩] hBA)) K = kOf (stageG h1 h2 h3 h4 hAB hBA d e L (mkH K I)) := rfl

/-- A stage's ids as the kernel writes them. -/
theorem fold_ids : select (xori (xori (ori (cmpf .olt (select (broadcastTo S8x1024 (shapeCast S1x1024 (cmpi .eq (andi L (broadcast S1x1024 d)) (broadcast S1x1024 0#32) : IVec S1x1024 1) shapeCasts_S1x1024_S1x1024) broadcasts_S1x1024_S8x1024) (concatenate S8x1024 1 [⟨A, extractStridedSlice A o1 K h1⟩, ⟨B, extractStridedSlice B o2 K h2⟩] hAB) (concatenate S8x1024 1 [⟨B, extractStridedSlice B o3 K h3⟩, ⟨A, extractStridedSlice A o4 K h4⟩] hBA)) K) (andi (cmpf .oeq (select (broadcastTo S8x1024 (shapeCast S1x1024 (cmpi .eq (andi L (broadcast S1x1024 d)) (broadcast S1x1024 0#32) : IVec S1x1024 1) shapeCasts_S1x1024_S1x1024) broadcasts_S1x1024_S8x1024) (concatenate S8x1024 1 [⟨A, extractStridedSlice A o1 K h1⟩, ⟨B, extractStridedSlice B o2 K h2⟩] hAB) (concatenate S8x1024 1 [⟨B, extractStridedSlice B o3 K h3⟩, ⟨A, extractStridedSlice A o4 K h4⟩] hBA)) K) (cmpi .slt (select (broadcastTo S8x1024 (shapeCast S1x1024 (cmpi .eq (andi L (broadcast S1x1024 d)) (broadcast S1x1024 0#32) : IVec S1x1024 1) shapeCasts_S1x1024_S1x1024) broadcasts_S1x1024_S8x1024) (concatenate S8x1024 1 [⟨A, extractStridedSlice A o1 I h1⟩, ⟨B, extractStridedSlice B o2 I h2⟩] hAB) (concatenate S8x1024 1 [⟨B, extractStridedSlice B o3 I h3⟩, ⟨A, extractStridedSlice A o4 I h4⟩] hBA)) I))) (broadcastTo S8x1024 (cmpi .eq (andi L (broadcast S1x1024 d)) (broadcast S1x1024 0#32) : IVec S1x1024 1) broadcasts_S1x1024_S8x1024)) (broadcastTo S8x1024 (cmpi .eq (andi (shrsi L (broadcast S1x1024 e)) (broadcast S1x1024 1#32)) (broadcast S1x1024 0#32) : IVec S1x1024 1) broadcasts_S1x1024_S8x1024)) (select (broadcastTo S8x1024 (shapeCast S1x1024 (cmpi .eq (andi L (broadcast S1x1024 d)) (broadcast S1x1024 0#32) : IVec S1x1024 1) shapeCasts_S1x1024_S1x1024) broadcasts_S1x1024_S8x1024) (concatenate S8x1024 1 [⟨A, extractStridedSlice A o1 I h1⟩, ⟨B, extractStridedSlice B o2 I h2⟩] hAB) (concatenate S8x1024 1 [⟨B, extractStridedSlice B o3 I h3⟩, ⟨A, extractStridedSlice A o4 I h4⟩] hBA)) I = iOf (stageG h1 h2 h3 h4 hAB hBA d e L (mkH K I)) := rfl

/-- The keys that the stage across leaves in the lower half. -/
theorem fold_cross_k0 : select (ori (cmpf .olt K' K) (andi (cmpf .oeq K' K) (cmpi .slt I' I))) K' K = kOf (crossA (mkH K I) (mkH K' I')) := rfl
/-- The keys that the stage across leaves in the upper half. -/
theorem fold_cross_k1 : select (ori (cmpf .olt K' K) (andi (cmpf .oeq K' K) (cmpi .slt I' I))) K K' = kOf (crossB (mkH K I) (mkH K' I')) := rfl
/-- The numbers that the stage across leaves in the lower half. -/
theorem fold_cross_i0 : select (ori (cmpf .olt K' K) (andi (cmpf .oeq K' K) (cmpi .slt I' I))) I' I = iOf (crossA (mkH K I) (mkH K' I')) := rfl
/-- The numbers that the stage across leaves in the upper half. -/
theorem fold_cross_i1 : select (ori (cmpf .olt K' K) (andi (cmpf .oeq K' K) (cmpi .slt I' I))) I I' = iOf (crossB (mkH K I) (mkH K' I')) := rfl

end Fold

theorem op_congr.{v} {E : Type → Type v} {α β : Type} {o : E β} {k k' : β → Prog E α} (h : ∀ x, k x = k' x) : Prog.op o k = Prog.op o k' := congrArg _ (funext h)

end Cert.Proof.Sort
-- ==== Proof.SortEq.lean ====
module

public import proofs.«01_k».proof.Proof.SortFold

@[expose] public section
noncomputable section
namespace Cert.Proof.Sort
open Cert.KernelIdeal Cert.KernelIdeal.Gen
open Idealize.ShloMosaic
open Idealize.SL.Sem
variable {F : FTy → Type} [FloatOps F]

set_option maxRecDepth 100000
set_option maxHeartbeats 400000

/-- The printed sorting body is the short program. -/
theorem sort_body_eq (arg0 : Memref sig .tc .smem S8 .i32) (harg0 : arg0.IsWhole) (arg1 : Memref sig .tc .vmem S8x256x2048 .f32) (harg1 : arg1.IsWhole) (arg2 : Memref sig .tc .vmem S8x1x2048 .i32) (harg2 : arg2.IsWhole) (arg3 : Memref sig .tc .vmem S8x1x16 .i32) (harg3 : arg3.IsWhole) :
    cc0__sort_body (F := F) arg0 harg0 arg1 harg1 arg2 harg2 arg3 harg3 = sortProg arg0 arg1 arg2 arg3 := by
  iterate 32
    conv_lhs => whnf
    conv_rhs => whnf
    refine op_congr fun _ => ?_
  conv_lhs => whnf
  conv_rhs => whnf
  refine op_congr fun _ => ?_
  conv_lhs => whnf
  conv_rhs => whnf
  simp only [fold_keys, fold_ids, fold_cross_k0, fold_cross_k1, fold_cross_i0, fold_cross_i1, mkH_eta]
  simp only [orderOf, phases, phaseFrom, stageBoth, halfStage, Nat.reduceAdd, Nat.reduceLT, Nat.lt_irrefl, dite_true, dite_false, Nat.reduceLT, Nat.one_lt_ofNat, ↓reduceDIte]
  refine congr (congrArg _ ?_) rfl
  rfl

end Cert.Proof.Sort
-- ==== Proof.Region.lean ====
module

public import proofs.«01_k».proof.Proof.Task
public import proofs.«01_k».proof.Proof.SortEq
public import proofs.«01_k».proof.Proof.Gen.KernelIdeal.Points

@[expose] public section

noncomputable section

namespace Cert.Proof.Launch

open Cert.KernelIdeal Cert.KernelIdeal.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Idealize.ShloMosaic.Tactic
open Cert.Proof.Tile

variable {F : FTy → Type} [FloatOps F]

local notation "𝕄" => MT nD τ sig (HIx 1) (Elt F) ℕ UU ℕ

variable (m : (ℓ : Loc nD τ sig) → Buf (Elt F) ℓ)

/-- The pipeline's ghost state lies in the second component of the algebra. -/
abbrev EP : Emb (UR sig nD τ) (MT nD τ sig (HIx 1) (Elt F) ℕ UU ℕ) :=
  (Emb.inl : Emb (UR sig nD τ) (UR sig nD τ × Counters)).trans embR

/-- What each device's buffers hold at launch. -/
abbrev V₀ (d : Dev nD) (b : Ref sig .tc) : Buf (Elt F) ((T d : Thread nD τ).loc b) := m ((T d : Thread nD τ).loc b)

/-- The sort's run, seen by its windows: the lengths and the features stay, the order and the offsets are computed. -/
def dats (_ : Fin 1) (d : Dev nD) : Dat τ (Elt F) (HIx 1) ℕ UU ℕ cfg0 d where
  A w := V₀ m d (Pipeline.arrRef spec0 w)
  after w _ := match w with
    | ⟨0, _⟩ => lenV m d
    | ⟨1, _⟩ => feV m d
    | ⟨2, _⟩ => Sort.ordVal (feV m d) (lenV m d)
    | ⟨3, _⟩ => Sort.kbVal (lenV m d)
  Φ _ := iprop(emp)
  q _ := fullShare
  owed _ := (K (F := F)).Otc d 0
  recorded _ := {p | (K (F := F)).lev (T d, p.1) p.2 ≤ 0}

/-- A window's array at the start is the one at launch. -/
theorem A_eq (d : Dev nD) (w : Fin cfg0.W) : (dats m 0 d).A w = V₀ m d (Pipeline.arrRef spec0 w) := by
  dsimp only [dats]

/-- The lengths' block is the whole array. -/
theorem read_len (f : S8.Idx → BitVec 32) : (win0_0.blk t0_0).view.read (Elt F) f = f :=
  Memref.read_access_unit_zero (Elt F) main_arg1 (show (fun a => (win0_0.index t0_0) a * main_arg1.ty.shape.size a) = fun _ => 0 from
    funext fun a => by fin_cases a <;> decide) (fun a => by fin_cases a <;> decide) f
/-- The features' block is the whole array. -/
theorem read_fe (f : S8x256x2048.Idx → F .f32) : (win0_1.blk t0_0).view.read (Elt F) f = f :=
  Memref.read_access_unit_zero (Elt F) main_arg0 (show (fun a => (win0_1.index t0_0) a * main_arg0.ty.shape.size a) = fun _ => 0 from
    funext fun a => by fin_cases a <;> decide) (fun a => by fin_cases a <;> decide) f
/-- The order's block is the whole array. -/
theorem read_ord (f : S8x1x2048.Idx → BitVec 32) : (win0_2.blk t0_0).view.read (Elt F) f = f :=
  Memref.read_access_unit_zero (Elt F) main_v0_0 (show (fun a => (win0_2.index t0_0) a * main_v0_0.ty.shape.size a) = fun _ => 0 from
    funext fun a => by fin_cases a <;> decide) (fun a => by fin_cases a <;> decide) f
/-- The offsets' block is the whole array. -/
theorem read_kb (f : S8x1x16.Idx → BitVec 32) : (win0_3.blk t0_0).view.read (Elt F) f = f :=
  Memref.read_access_unit_zero (Elt F) main_v0_1 (show (fun a => (win0_3.index t0_0) a * main_v0_1.ty.shape.size a) = fun _ => 0 from
    funext fun a => by fin_cases a <;> decide) (fun a => by fin_cases a <;> decide) f

/-- The body finds the lengths in their window. -/
theorem before_len (d : Dev nD) (x : (cfg0.win 0).block.Idx → Elt F (cfg0.win 0).elt) : (dats m 0 d).before 0 t0_0 x = lenV m d := by
  unfold Dat.before; rw [if_pos (by decide)]
  exact read_len (F := F) _
/-- The body finds the features in their window. -/
theorem before_fe (d : Dev nD) (x : (cfg0.win 1).block.Idx → Elt F (cfg0.win 1).elt) : (dats m 0 d).before 1 t0_0 x = feV m d := by
  unfold Dat.before; rw [if_pos (by decide)]
  exact read_fe (F := F) _

/-- After the call the order's array holds the order. -/
theorem arrAt_ord (d : Dev nD) : (dats m 0 d).arrAt 2 cfg0.N = Sort.ordVal (feV m d) (lenV m d) := by
  have hw : ((cfg0.win 2).blk t0_0).view.read (Elt F) ((dats m 0 d).arrAt 2 cfg0.N) = (dats m 0 d).flushed 2 t0_0 := by
    rw [show cfg0.N = t0_0.val + 1 from rfl, (dats m 0 d).arrAt_succ (2 : Fin 4) t0_0, flush0_2, if_pos rfl]
    exact View.read_write_univ _ _
  exact (read_ord _).symm.trans hw
/-- After the call the offsets' array holds the offsets. -/
theorem arrAt_kb (d : Dev nD) : (dats m 0 d).arrAt 3 cfg0.N = Sort.kbVal (lenV m d) := by
  have hw : ((cfg0.win 3).blk t0_0).view.read (Elt F) ((dats m 0 d).arrAt 3 cfg0.N) = (dats m 0 d).flushed 3 t0_0 := by
    rw [show cfg0.N = t0_0.val + 1 from rfl, (dats m 0 d).arrAt_succ (3 : Fin 4) t0_0, flush0_3, if_pos rfl]
    exact View.read_write_univ _ _
  exact (read_kb _).symm.trans hw

/-- The TensorCore's body at its label is the printed sorting body. -/
theorem defs₀_tc (a) : defs₀ (F := F) .tc 0 a = cc0__sort_body (win0_0.stage (a.2 0)) (hstage0_0 0) (win0_1.stage (a.2 1)) (hstage0_1 0) (win0_2.stage (a.2 2)) (hstage0_2 0) (win0_3.stage (a.2 3)) (hstage0_3 0) := rfl

/-- The sort's body: the order and the offsets are written, the lengths and the features stay. -/
theorem wp_sortBody (d : Dev nD) (bd) (arg0 : Memref sig .tc .smem S8 .i32) (harg0 : arg0.IsWhole) (arg1 : Memref sig .tc .vmem S8x256x2048 .f32) (harg1 : arg1.IsWhole) (arg2 : Memref sig .tc .vmem S8x1x2048 .i32) (harg2 : arg2.IsWhole) (arg3 : Memref sig .tc .vmem S8x1x16 .i32) (harg3 : arg3.IsWhole)
    (len : S8.Idx → BitVec 32) (fe : S8x256x2048.Idx → F .f32) (Z : S8x1x2048.Idx → BitVec 32) (Y : S8x1x16.Idx → BitVec 32)
    {Q : PUnit → sProp 𝕄} :
    (iprop(owns (d.tc : Thread nD τ) arg0 fullShare len ∗ owns (d.tc : Thread nD τ) arg1 fullShare fe
        ∗ owns (d.tc : Thread nD τ) arg2 fullShare Z ∗ owns (d.tc : Thread nD τ) arg3 fullShare Y) : sProp 𝕄)
      ⊢ iprop((iprop(owns (d.tc : Thread nD τ) arg0 fullShare len ∗ owns (d.tc : Thread nD τ) arg1 fullShare fe
          ∗ owns (d.tc : Thread nD τ) arg2 fullShare (Sort.ordVal fe len) ∗ owns (d.tc : Thread nD τ) arg3 fullShare (Sort.kbVal len)) -∗ Q ⟨⟩)
          -∗ wp frame (wpE (defs₀ (F := F)) 𝒱₀ (d.tc : Thread nD τ) bd) Set.univ (cc0__sort_body arg0 harg0 arg1 harg1 arg2 harg2 arg3 harg3) Q) := by
  rw [Sort.sort_body_eq]
  exact Sort.wp_sortProg 𝒱₀ d bd arg0 arg1 arg2 arg3 len fe Z Y

/-- The sort's body, run once, leaves each window's buffer as told. -/
theorem body_obligation (d : Dev nD) : BodyObligation (dats m 0 d) (defs₀ (F := F)) 𝒱₀ none Set.univ := fun t => by
  obtain rfl := fin_N0 t
  rw [bigSep_W0, bigSep_W0]
  rw [show (dats m 0 d).Φ t0_0.castSucc = iprop(emp) from rfl, show (dats m 0 d).Φ t0_0.succ = iprop(emp) from rfl]
  unfold Dat.owesAt Pipeline.owesWithin
  iintro ⟨-, ⟨%W, %hW, HO⟩, ⟨%x0, H0⟩, ⟨%x1, H1⟩, ⟨%x2, H2⟩, ⟨%x3, H3⟩⟩
  ihave H0 := (Entails.of_eq (congrArg (owns _ _ _) (before_len m d x0))) $$ H0
  ihave H1 := (Entails.of_eq (congrArg (owns _ _ _) (before_fe m d x1))) $$ H1
  iapply (wp_sortBody d none (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (lenV m d) (feV m d) _ _) $$ [H0 H1 H2 H3]
  · isplitl [H0]; · iexact H0
    isplitl [H1]; · iexact H1
    isplitl [H2]; · iexact H2
    iexact H3
  iintro ⟨H0, H1, H2, H3⟩
  isplitr; · iempintro
  isplitl [HO]
  · iexists W; isplitr; · ipureintro; exact hW
    iexact HO
  isplitl [H0]; · iexact H0
  isplitl [H1]; · iexact H1
  isplitl [H2]; · iexact H2
  iexact H3

/-! ## The call as a region of the program -/

/-- The pipeline's configuration is admissible. -/
abbrev adm : (p : Fin 1) → (pcfgs (F := F) p).Adm := fun p => (cfgs p).toPCfg_adm

/-- The body has no semaphores of its own. -/
abbrev osem : Fin 0 → SemLoc sig := fun k => k.elim0
/-- The facts about the body's own semaphores, of which there are none. -/
theorem ownSemFacts : Pipeline.OwnSemFacts spec0 osem := by decide

/-- The TensorCore owes no signal outside the launch. -/
theorem Otc_none (d : Dev nD) (g : GSem nD τ sig) : (K (F := F)).Otc d 0 g none = 0 := by
  by_contra h
  have := (K (F := F)).lev_of_Otc_pos (Nat.pos_of_ne_zero h)
  simp at this

/-- The four arrays of the call, at given contents. -/
theorem arrays_four (d : Dev nD) (G : (w : Fin cfg0.W) → Buf (Elt F) ((cfg0.win w).arr.view.loc (d.tc : Thread nD τ))) :
    (dats m 0 d).arrays G = iprop((lenLoc d ↦{fullShare} G 0) ∗ (feLoc d ↦{fullShare} G 1) ∗ (ordLoc d ↦{fullShare} G 2) ∗ (kbLoc d ↦{fullShare} G 3)) :=
  (Pipeline.arrays_eq cfgs (dats m) 0 d launch0.arr_whole ((dats m 0 d).share_full fun _ => rfl) G).trans (bigSep_W0 _)

/-- What the TensorCore holds before the sorting call. -/
abbrev preP (d : Dev nD) : sProp (MT nD τ sig (HIx 1) (Elt F) ℕ UU ℕ) :=
  iprop((lenLoc d ↦{fullShare} m (lenLoc d)) ∗ (feLoc d ↦{fullShare} m (feLoc d)) ∗ (ordLoc d ↦{fullShare} m (ordLoc d)) ∗ (kbLoc d ↦{fullShare} m (kbLoc d))
    ∗ ∃ W, ⌜(K (F := F)).WBelow (T d) W 0⌝ ∗ owes (T d) ((K (F := F)).Otc d 0) W)
/-- What the TensorCore holds after the sorting call. -/
abbrev postP (d : Dev nD) : sProp (MT nD τ sig (HIx 1) (Elt F) ℕ UU ℕ) :=
  iprop((lenLoc d ↦{fullShare} m (lenLoc d)) ∗ (feLoc d ↦{fullShare} m (feLoc d)) ∗ (ordLoc d ↦{fullShare} Sort.ordVal (feV m d) (lenV m d)) ∗ (kbLoc d ↦{fullShare} Sort.kbVal (lenV m d))
    ∗ ∃ W, ⌜(K (F := F)).WBelow (T d) W 0⌝ ∗ owes (T d) ((K (F := F)).Otc d 0) W)

set_option backward.isDefEq.respectTransparency.types false in
/-- The TensorCore's call: from the four arrays as launched to the order and the offsets computed. -/
def reg0 : Pipeline.RegionSeg (pcfgs (F := F)) adm (dats m) none defs₀ 𝒱₀ (K (F := F)).L (K (F := F)).lev 0 where
  win := launch0.win.to₀
  block_pos := launch0.block_pos
  stage_whole := launch0.stage_whole
  K := Fin 0
  osem := osem
  ho := ownSemFacts
  hbody c := (body_obligation m c).loose
  hwaits c := Pipeline.cellsWaits_intro cfgs (dats m) none 0 c fun w s t => (K (F := F)).mayWait_none _ (Otc_none c)
  pre := preP m
  post := postP m
  X _ := iprop(emp)
  Y _ := iprop(emp)
  Z _ := iprop(emp)
  hentry c := by
    iintro ⟨⟨H0, H1, H2, H3, %W, %hW, HO⟩, -, -⟩
    imodintro
    isplitl [H0 H1 H2 H3]
    · iapply (Entails.of_eq (arrays_four m c _).symm)
      isplitl [H0]; · iexact H0
      isplitl [H1]; · iexact H1
      isplitl [H2]; · iexact H2
      iexact H3
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun p hp => Or.inl (hW p hp)
      iexact HO
    isplitr <;> iempintro
  hin c := by
    rw [show (dats m 0 c).Φ 0 = iprop(emp) from rfl]
    iintro -; iempintro
  hout c := by
    rw [show (dats m 0 c).Φ (Fin.last cfg0.N) = iprop(emp) from rfl, show (Pipeline.scopedRest (Ix := HIx 1) (Name := ℕ) (U := UU) (Lvl := ℕ) (Val := Elt F) spec0 c : sProp 𝕄) = iprop(emp) from scopedRest0_eq c]
    iintro -
    isplitr; · iempintro
    isplitr
    · unfold Pipeline.ownSems0; rw [show (Finset.univ : Finset (Fin 0)) = ∅ from rfl, BI.bigSep_empty]; iempintro
    iempintro
  hexit c := by
    iintro ⟨Ha, HO, -, -⟩
    ihave Ha := (Entails.of_eq (arrays_four m c _)) $$ Ha
    icases Ha with ⟨H0, H1, H2, H3⟩
    imodintro
    unfold Pipeline.Dat.owesAt Pipeline.owesWithin
    icases HO with ⟨%W, %hW, HO⟩
    isplitl [H0]; · iapply (Entails.of_eq (congrArg (pointsTo (lenLoc c) Finset.univ fullShare) ((dats m 0 c).arrAt_in 0 rfl _))) $$ H0
    isplitl [H1]; · iapply (Entails.of_eq (congrArg (pointsTo (feLoc c) Finset.univ fullShare) ((dats m 0 c).arrAt_in 1 rfl _))) $$ H1
    isplitl [H2]; · iapply (Entails.of_eq (congrArg (pointsTo (ordLoc c) Finset.univ fullShare) (arrAt_ord m c))) $$ H2
    isplitl [H3]; · iapply (Entails.of_eq (congrArg (pointsTo (kbLoc c) Finset.univ fullShare) (arrAt_kb m c))) $$ H3
    iexists W; isplitr
    · ipureintro; intro p hp
      rcases hW hp with h | ⟨w, s, h⟩
      · exact h
      · rw [h]; exact le_of_eq ((K (F := F)).lev_none _)
    iexact HO

end Cert.Proof.Launch

end
-- ==== Proof.Launch.lean ====
module

public import proofs.«01_k».proof.Proof.Region

/-! The program's run: the TensorCore's call, then the SparseCores' — from the launch memory to the result. -/

@[expose] public section

noncomputable section

namespace Cert.Proof.Launch

open Cert.KernelIdeal Cert.KernelIdeal.Gen
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Tile

variable {F : FTy → Type} [FloatOps F]

local notation "𝕄" => MT nD τ sig (HIx 1) (Elt F) ℕ UU ℕ

variable (m : (ℓ : Loc nD τ sig) → Buf (Elt F) ℓ) (ρ : Dev nD → PrngReg)

/-! ## Dealing the arrays to the tiles and gathering them again -/

/-- What the sort read and wrote and the result's buffer, dealt to the tiles. -/
theorem deal (d : Dev nD) :
    (iprop((feLoc d ↦{fullShare} m (feLoc d)) ∗ (ordLoc d ↦{fullShare} Sort.ordVal (feV m d) (lenV m d)) ∗ (kbLoc d ↦{fullShare} Sort.kbVal (lenV m d))
      ∗ (outLoc d ↦{fullShare} m (outLoc d))) : sProp 𝕄)
      ⊢ bigSep Finset.univ fun c : Fin 2 => bigSep Finset.univ fun s : Fin 16 => goP m d c s := by
  refine (BIClass.sep_mono (Entails.of_eq (fe_tiles d fullShare _)) (BIClass.sep_mono (ord_tiles d _) (BIClass.sep_mono (kb_tiles d _) (Entails.of_eq (out_tiles d _))))).trans ?_
  rw [← bigSep_sep', ← bigSep_sep', ← bigSep_sep']
  refine BI.bigSep_mono fun c _ => ?_
  rw [← bigSep_sep', ← bigSep_sep', ← bigSep_sep']
  refine BI.bigSep_mono fun s _ => ?_
  unfold goP ins reads
  show (_ : sProp 𝕄) ⊢ _
  rw [read_kbSl]
  iintro ⟨⟨H0, H1, H2, H3⟩, Ho, Hk, Hr⟩
  isplitr [Hr]
  · isplitl [H0]; · iexact H0
    isplitl [H1]; · iexact H1
    isplitl [H2]; · iexact H2
    isplitl [H3]; · iexact H3
    isplitl [Ho]; · iexact Ho
    iexact Hk
  iexact Hr

/-- What the tiles hand back, gathered: the features as launched and the result. -/
theorem gather (d : Dev nD) :
    (bigSep Finset.univ fun c : Fin 2 => bigSep Finset.univ fun s : Fin 16 => tdP m d c s : sProp 𝕄)
      ⊢ iprop((feLoc d ↦{fullShare} m (feLoc d)) ∗ (outLoc d ↦{fullShare} outVal (feV m d) (lenV m d))) := by
  rw [fe_tiles, out_tiles, ← bigSep_sep']
  refine BI.bigSep_mono fun c _ => ?_
  rw [← bigSep_sep']
  refine BI.bigSep_mono fun s _ => ?_
  unfold tdP ins reads
  show (_ : sProp 𝕄) ⊢ _
  iintro ⟨⟨H0, H1, H2, H3, -, -⟩, Hr⟩
  isplitr [Hr]
  · isplitl [H0]; · iexact H0
    isplitl [H1]; · iexact H1
    isplitl [H2]; · iexact H2
    iexact H3
  iexact Hr

attribute [local irreducible] goP tdP

/-! ## The launch element -/

/-- The launches' rounds, the TensorCore call's, no counters. -/
def u₀ : UU := (initOf (K (F := F)).hsCells (K (F := F)).hsToks,
  (initOf (Pipeline.cells cfgs cellOf_inj) (Pipeline.launchToks cfgs cellOf_inj), 1))

/-- What the TensorCore's call needs of the ghost state. -/
abbrev G (d : Dev nD) : sProp (MT nD τ sig (HIx 1) (Elt F) ℕ UU ℕ) :=
  iprop(Pipeline.cellsGhost cfgs EP 0 d ∗ Pipeline.toksInit cfgs EP 0 d)

/-- The launch's ghost state, from nothing. -/
theorem hu₀ : (ownU (u₀ (F := F)) : sProp 𝕄)
    ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 1 => (P m).x q thr) := by
  unfold u₀
  iintro Hu
  ihave H := (ownU_pair (initOf (K (F := F)).hsCells (K (F := F)).hsToks) (initOf (Pipeline.cells cfgs cellOf_inj) (Pipeline.launchToks cfgs cellOf_inj), (1 : Counters))) $$ Hu
  icases H with ⟨HH, HR⟩
  ihave HR := (own_pair_emb embR (initOf (Pipeline.cells cfgs cellOf_inj) (Pipeline.launchToks cfgs cellOf_inj)) (1 : Counters)) $$ HR
  icases HR with ⟨HR, -⟩
  imod (Pipeline.fund_ghost cfgs EP cellOf_inj) $$ HR with ⟨Hg, Ht⟩
  imodintro
  isplitl [HH]; · iexact HH
  isplitl [Hg Ht]
  · rw [show (bigSep Finset.univ fun d : Dev nD => (G d : sProp 𝕄)) = iprop((bigSep Finset.univ fun d : Dev nD => Pipeline.cellsGhost cfgs EP 0 d) ∗ bigSep Finset.univ fun d : Dev nD => Pipeline.toksInit cfgs EP 0 d) from bigSep_sep' _ _ _]
    isplitl [Hg]
    · iapply (Entails.of_eq (bigSep_congr fun d _ => bigSep_univ_of_subsingleton (0 : Fin 1))) $$ Hg
    · iapply (Entails.of_eq (bigSep_congr fun d _ => bigSep_univ_of_subsingleton (0 : Fin 1))) $$ Ht
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1)]
  iapply (Entails.of_eq (BI.bigSep_emp_const _).symm)
  iempintro

/-! ## @main on the TensorCore -/

/-- The unscoped buffers of the device, one by one. -/
theorem unscopedBufs_eq (d : Dev nD) (W : (b : Ref sig .tc) → Buf (Elt F) ((d.tc : Thread nD τ).loc b)) :
    (unscopedBufs d W : sProp 𝕄) = iprop((feLoc d ↦{fullShare} W main_arg0) ∗ (lenLoc d ↦{fullShare} W main_arg1)
      ∗ (ordLoc d ↦{fullShare} W main_v0_0) ∗ (kbLoc d ↦{fullShare} W main_v0_1) ∗ outLoc d ↦{fullShare} W main_v1) := by
  unfold unscopedBufs
  rw [show (Finset.univ.filter fun b : Ref sig .tc => ¬ b.isScoped) = {main_arg0, main_arg1, main_v0_0, main_v0_1, main_v1} by decide,
    SparseCore.bigSep_insert' (by decide), SparseCore.bigSep_insert' (by decide), SparseCore.bigSep_insert' (by decide), SparseCore.bigSep_insert' (by decide), bigSep_singleton]

/-- A conjunction over the two SparseCores is the conjunction of its two parts. -/
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)
/-- What the SparseCores are handed at the start, as the conjunction over both. -/
theorem st0_eq (d : Dev nD) : (bigSep Finset.univ fun c : Fin ((K (F := F)).nCore 0) => (P m).st 0 d c)
    = bigSep Finset.univ fun c : Fin 2 => bigSep Finset.univ fun s : Fin 16 => goP m d c s :=
  bigSep_cores (F := F) fun c => bigSep Finset.univ fun s : Fin 16 => goP m d c s
/-- What the SparseCores hand back at the end, as the conjunction over both. -/
theorem dn0_eq (d : Dev nD) : (bigSep Finset.univ fun c : Fin ((K (F := F)).nCore 0) => (P m).dn 0 d c)
    = bigSep Finset.univ fun c : Fin 2 => bigSep Finset.univ fun s : Fin 16 => tdP m d c s :=
  bigSep_cores (F := F) fun c => bigSep Finset.univ fun s : Fin 16 => tdP m d c s

/-- What the TensorCore owes before the first call. -/
abbrev owing (d : Dev nD) : sProp (MT nD τ sig (HIx 1) (Elt F) ℕ UU ℕ) :=
  iprop(∃ W, ⌜(K (F := F)).WBelow (T d) W 0⌝ ∗ owes (T d) ((K (F := F)).Otc d 0) W)

/-- The TensorCore's state before the first call lends out what it owes. -/
theorem tcSt_open (d : Dev nD) : ((K (F := F)).tcSt EH d 0 : sProp 𝕄) ⊢ iprop(owing d ∗ (owing d -∗ (K (F := F)).tcSt EH d 0)) := by
  have h : ∀ A R : sProp 𝕄, (iprop(A ∗ R) : sProp 𝕄) ⊢ iprop(A ∗ (A -∗ iprop(A ∗ R))) := by
    intro A R
    iintro ⟨HA, HR⟩
    isplitl [HA]; · iexact HA
    iintro HA
    isplitl [HA] <;> iassumption
  exact h _ _

/-- What the device holds when the run is over. -/
abbrev FIN (d : Dev nD) : sProp (MT nD τ sig (HIx 1) (Elt F) ℕ UU ℕ) :=
  iprop((feLoc d ↦{fullShare} m (feLoc d)) ∗ (lenLoc d ↦{fullShare} m (lenLoc d)) ∗ (outLoc d ↦{fullShare} outVal (feV m d) (lenV m d)))

set_option backward.isDefEq.respectTransparency.types false in
/-- The TensorCore's call on device `d`, from the arrays as launched to the order and the offsets. -/
theorem wp_sortCall [∀ e, Nonempty (Elt F e)] (d : Dev nD) (Q : PUnit → sProp 𝕄) :
    iprop((iprop(boundary (d.tc : Thread nD τ) ∗ postP m d) -∗ Q ⟨⟩)
        ∗ boundary (d.tc : Thread nD τ) ∗ preP m d ∗ levAts (K (F := F)).L (K (F := F)).lev ∗ G d)
      ⊢ wp frame (wpE (D (F := F)) 𝒱 (d.tc : Thread nD τ) none) Set.univ (Prog.lift (.customCall (Pipeline.entry 0) ())) Q := by
  have h : iprop((iprop(boundary (d.tc : Thread nD τ) ∗ postP m d) -∗ wp frame (wpE (D (F := F)) 𝒱 (d.tc : Thread nD τ) none) Set.univ (Prog.ret ⟨⟩) Q)
      ∗ boundary (d.tc : Thread nD τ) ∗ preP m d ∗ levAts (K (F := F)).L (K (F := F)).lev ∗ Pipeline.cellsGhost cfgs EP 0 d ∗ Pipeline.toksInit cfgs EP 0 d)
      ⊢ wp frame (wpE (D (F := F)) 𝒱 (d.tc : Thread nD τ) none) Set.univ (Prog.lift (.customCall (Pipeline.entry 0) ())) Q := Pipeline.RegionSeg.wp (pcfgs (F := F)) adm (dats m) none cellOf_inj EP defs₀ 𝒱₀ (K (F := F)).L (K (F := F)).lev (reg0 m) d none
    (fun u hu => nomatch hu) (fun x => Prog.ret x) Q
  refine BI.Entails.trans ?_ h
  show (_ : sProp 𝕄) ⊢ _
  iintro ⟨HQ, Hb, Hp, Hl, Hg, Ht⟩
  isplitl [HQ]
  · iintro H
    iapply (Tile.ret 𝒱)
    iapply HQ; iexact H
  isplitl [Hb]; · iexact Hb
  isplitl [Hp]; · iexact Hp
  isplitl [Hl]; · iexact Hl
  isplitl [Hg]; · iexact Hg
  iexact Ht

/-- @main on device `d`'s TensorCore: the sort, then the SparseCores' call; the features and the lengths kept, the result computed. -/
theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Hfe, Hlen, Hord, Hkb, Hout⟩, Hts, -⟩, HG⟩
  ihave Hst := (tcSt_open d) $$ Hst
  icases Hst with ⟨HO, Hst⟩
  ihave Hlev := (SparseCore.Cfg.ctx_levAts κ) $$ Hctx
  iapply ((K (F := F)).wp_liftProg (D (F := F)) 𝒱 (SparseCore.T d) Set.univ none (Prog.lift (.customCall (Pipeline.entry 0) ())) _)
  iapply (wp_sortCall m d)
  isplitr [Hb Hfe Hlen Hord Hkb HO HG Hlev]
  · iintro ⟨Hb, Hlen, Hfe, Hord, Hkb, HO⟩
    iapply ((K (F := F)).wp_run (D (F := F)) 𝒱 (EH := EH) (P := P m) κ d 0) $$ [Hst HO Hlen Hfe Hord Hkb Hout Hb Hts]
    isplitr; · iexact Hctx
    isplitl [HO Hst]
    · iapply Hst; iexact HO
    isplitl [Hfe Hord Hkb Hout]
    · rw [st0_eq]
      iapply (deal m d)
      isplitl [Hfe]; · iexact Hfe
      isplitl [Hord]; · iexact Hord
      isplitl [Hkb] <;> iassumption
    iintro ⟨Hst, Hdn⟩
    ihave Hdn := (Entails.of_eq (dn0_eq m d)) $$ Hdn
    ihave Hdn := (gather m d) $$ Hdn
    icases Hdn with ⟨Hfe, Hout⟩
    imodintro
    isplitl [Hst]; · iexact Hst
    isplitr [Hb Hts]
    · isplitl [Hfe]; · iexact Hfe
      isplitl [Hlen] <;> iassumption
    isplitl [Hb] <;> iassumption
  isplitl [Hb]; · iexact Hb
  isplitl [Hlen Hfe Hord Hkb HO]
  · isplitl [Hlen]; · iexact Hlen
    isplitl [Hfe]; · iexact Hfe
    isplitl [Hord]; · iexact Hord
    isplitl [Hkb]; · iexact Hkb
    iexact HO
  isplitl [Hlev]; · iexact Hlev
  iexact HG

/-- The final facts of a device: the arguments as at the start, the output the kernel's value. -/
def fq (d : Dev nD) (s' : Phys nD τ sig (Elt F)) : Prop :=
  s'.mem.mem (feLoc d) = m (feLoc d) ∧ s'.mem.mem (lenLoc d) = m (lenLoc d) ∧ s'.mem.mem (outLoc d) = outVal (feV m d) (lenV m d)

set_option maxRecDepth 16384 in
/-- What the device holds at the end gives the final facts. -/
theorem hfin (d : Dev nD) (s' : Phys nD τ sig (Elt F)) : iprop(FIN m d ∗ SI s') ⊢ (⌜fq m d s'⌝ : sProp 𝕄) := by
  iintro ⟨⟨Hf, Hl, Ho⟩, HSI⟩
  ihave H := (persistent_entails_right (SI_pointsTo_agree (st := s') (ℓ := feLoc d) (I := Finset.univ) (q := fullShare) (f := m (feLoc d)))) $$ [HSI Hf]
  · isplitl [HSI] <;> iassumption
  icases H with ⟨%h1, HSI, -⟩
  ihave H := (persistent_entails_right (SI_pointsTo_agree (st := s') (ℓ := lenLoc d) (I := Finset.univ) (q := fullShare) (f := m (lenLoc d)))) $$ [HSI Hl]
  · isplitl [HSI] <;> iassumption
  icases H with ⟨%h2, HSI, -⟩
  ihave H := (SI_pointsTo_agree (st := s') (ℓ := outLoc d) (I := Finset.univ) (q := fullShare) (f := outVal (feV m d) (lenV m d))) $$ [HSI Ho]
  · isplitl [HSI] <;> iassumption
  icases H with %h3
  ipureintro
  exact ⟨funext fun i => h1 i (Finset.mem_univ i), funext fun i => h2 i (Finset.mem_univ i), funext fun i => h3 i (Finset.mem_univ i)⟩

/-- The run: on every device the features and the lengths as launched, the result the pooled features; every semaphore zero. -/
def QC : PUnit × MemSt nD τ sig (Elt F) → Prop := fun r =>
  (∀ d : Dev nD, r.2.mem (feLoc d) = m (feLoc d) ∧ r.2.mem (lenLoc d) = m (lenLoc d) ∧ r.2.mem (outLoc d) = outVal (feV m d) (lenV m d)) ∧ r.2.sem = fun _ => 0

/-- Every run of the program ends with the result computed. -/
theorem run_main [∀ e, Nonempty (Elt F e)] (hok : Ok m) (hord : OrdOk m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hok hord)
    (fun q _ => match q with | 0 => SparseCore.Cfg.VecSplit.of_plain (vecSplit m))
    m ρ main G (FIN m) (u₀ (F := F)) (sep_elim_left.trans (hu₀ m)) (hmain m ρ) (fq m) (hfin m) (QC m) (fun _ h hz => ⟨h, hz⟩)

end Cert.Proof.Launch

end
-- ==== Proof.Partner.lean ====
module

public import proofs.«01_k».proof.Proof.SortWp
public import Idealize.ShloMosaic.Lib.SortNet.Printed
public import Idealize.ShloMosaic.Lib.Pipeline.Value

/-! What the network's rolls and masks read, lane by lane: the partner of a lane, the direction of its block. -/

@[expose] public section

noncomputable section

namespace Cert.Proof.Sort

open Cert.KernelIdeal Cert.KernelIdeal.Gen
open Idealize.ShloMosaic hiding ix1 ix2 ix3
open Idealize.ShloMosaic.ValueIdx Idealize.ShloMosaic.SortNet

variable {F : FTy → Type} [FloatOps F]

/-! ## Reading a row broadcast over the rows, and a row cast to its own shape -/

/-- A row broadcast to eight rows, read at a lane. -/
theorem bcast_row {α : Type} (x : S1x1024.Idx → α) (b : Fin 8) (j : Fin 1024) :
    broadcastTo S8x1024 x broadcasts_S1x1024_S8x1024 (ix2 b j) = x (ix2 (0 : Fin 1) j) := by
  refine congrArg x (funext fun a => ?_)
  match a with
  | ⟨0, _⟩ => rfl
  | ⟨1, _⟩ => rfl

/-- A cast of a shape to itself changes nothing. -/
theorem cast_self {α : Type} {s : Shape} (x : s.Idx → α) (h : s.ShapeCasts s) (i : s.Idx) : shapeCast s x h i = x i :=
  congrArg x (Shape.reshapeEquiv_eq_of_rowMajor _ rfl)

/-! ## The rolls -/

/-- The roll down by a distance reads the lane that far above. -/
theorem roll_minus {α : Type} (s : Fin 10) (x : S8x1024.Idx → α) (b : Fin 8) (j j' : Fin 1024) (h : j'.val = j.val + 2 ^ s.val) :
    rollG (sl_hi s) (sl_lo s) (cat_m s) x (ix2 b j) = x (ix2 b j') := by
  unfold rollG
  have hlt : j.val < 1024 - 2 ^ s.val := by have := j'.isLt; omega
  rw [concatenate_pair_apply_left (t := S8x1024) (s₁ := Wd (1024 - 2 ^ s.val)) (s₂ := Wd (2 ^ s.val)) 1 _ _ (cat_m s) (ix2 b j) rfl (ix2 b ⟨j.val, hlt⟩)
    (fun a => match a with | ⟨0, _⟩ => rfl | ⟨1, _⟩ => rfl)]
  refine congrArg x (funext fun a => Fin.ext ?_)
  match a with
  | ⟨0, _⟩ => show 0 + b.val = b.val; omega
  | ⟨1, _⟩ => show 2 ^ s.val + j.val = j'.val; omega

/-- The roll up by a distance reads the lane that far below. -/
theorem roll_plus {α : Type} (s : Fin 10) (x : S8x1024.Idx → α) (b : Fin 8) (j j' : Fin 1024) (h : j.val = j'.val + 2 ^ s.val) :
    rollG (sl_hi' s) (sl_lo' s) (cat_p s) x (ix2 b j) = x (ix2 b j') := by
  unfold rollG
  have hlt : j'.val < 1024 - 2 ^ s.val := by have := j.isLt; omega
  rw [concatenate_pair_apply_right (t := S8x1024) (s₁ := Wd (2 ^ s.val)) (s₂ := Wd (1024 - 2 ^ s.val)) 1 _ _ (cat_p s) (ix2 b j) rfl rfl (ix2 b ⟨j'.val, hlt⟩)
    (fun a => match a with | ⟨0, _⟩ => fun _ => rfl | ⟨1, _⟩ => fun h => absurd rfl h) (show j'.val + 2 ^ s.val = j.val from h.symm)]
  refine congrArg x (funext fun a => Fin.ext ?_)
  match a with
  | ⟨0, _⟩ => show 0 + b.val = b.val; omega
  | ⟨1, _⟩ => show 0 + j'.val = j'.val; omega

/-! ## The masks -/

/-- A distance's word is the distance. -/
theorem distance_toNat (s : Fin 10) : (BitVec.ofNat 32 (2 ^ s.val)).toNat = 2 ^ s.val := by
  revert s; decide

/-- Comparing a word with zero decides whether it is zero. -/
theorem cmp_eq_zero (x : BitVec 32) (p : Prop) [Decidable p] (h : x = 0#32 ↔ p) : IntOp.cmpi .eq x 0#32 = BitVec.ofBool (decide p) := by
  show BitVec.ofBool (x == 0#32) = _
  congr 1
  rw [Bool.eq_iff_iff, beq_iff_eq, decide_eq_true_eq, h]

/-- The low mask at a lane says that the distance's bit of the lane is clear. -/
theorem lowMask_apply (s : Fin 10) (L : IVec S1x1024 32) (j : S1x1024.Idx) (n : Nat) (hn : n < 2048) (hL : L j = BitVec.ofNat 32 n) :
    lowMask (BitVec.ofNat 32 (2 ^ s.val)) L j = BitVec.ofBool (decide (n &&& 2 ^ s.val = 0)) := by
  show IntOp.cmpi .eq (IntOp.andi (L j) _) 0#32 = _
  rw [hL]
  exact cmp_eq_zero _ _ (and_distance_eq_zero_iff (by omega) _ (distance_toNat s))

/-- Masking by a power of two gives zero exactly if that bit is clear. -/
theorem and_pow_eq_zero_iff (n k : Nat) : n &&& 2 ^ k = 0 ↔ n.testBit k = false := by
  constructor
  · intro h
    have := congrArg (fun x => x.testBit k) h
    simpa [Nat.testBit_and, Nat.testBit_two_pow_self] using this
  · intro h
    refine Nat.eq_of_testBit_eq fun i => ?_
    rw [Nat.testBit_and, Nat.zero_testBit, Nat.testBit_two_pow]
    by_cases hi : k = i
    · subst hi; rw [h]; rfl
    · rw [decide_eq_false hi, Bool.and_false]

/-- The bit that a shift and a mask read is the number's bit. -/
theorem shift_and (n k : Nat) (hn : n < 2048) (hk : k ≤ 11) :
    IntOp.andi (IntOp.shrsi .vector (BitVec.ofNat 32 n) (BitVec.ofNat 32 k)) 1#32 = 0#32 ↔ n &&& 2 ^ k = 0 := by
  have hkn : (BitVec.ofNat 32 k).toNat = k := by rw [BitVec.toNat_ofNat]; omega
  have hmsb : (BitVec.ofNat 32 n).msb = false := by
    rw [BitVec.msb_eq_decide, decide_eq_false_iff_not, BitVec.toNat_ofNat]; omega
  unfold IntOp.shrsi IntOp.andi
  rw [if_pos (by rw [hkn]; omega), and_pow_eq_zero_iff, BitVec.sshiftRight', hkn, BitVec.sshiftRight_eq_of_msb_false hmsb,
    ← BitVec.toNat_inj, BitVec.toNat_and, BitVec.toNat_ushiftRight, BitVec.toNat_ofNat]
  show (n % 2 ^ 32) >>> k &&& 1 = 0 ↔ _
  rw [Nat.mod_eq_of_lt (by omega), Nat.and_one_is_mod, Nat.testBit]
  simp [Nat.one_and_eq_mod_two]

/-- The ascending mask at a lane says that the phase's bit of the lane is clear. -/
theorem ascMask_apply (k : Nat) (hk : k ≤ 11) (L : IVec S1x1024 32) (j : S1x1024.Idx) (n : Nat) (hn : n < 2048) (hL : L j = BitVec.ofNat 32 n) :
    ascMask (BitVec.ofNat 32 k) L j = BitVec.ofBool (decide (n &&& 2 ^ k = 0)) := by
  show IntOp.cmpi .eq (IntOp.andi (IntOp.shrsi .vector (L j) _) 1#32) 0#32 = _
  rw [hL]
  exact cmp_eq_zero _ _ (shift_and n k hn hk)

/-! ## The partner of a lane -/

/-- Lane `j` of half `h`, as a position of the whole row. -/
def pos (h : Fin 2) (j : Fin 1024) : Fin 2048 := ⟨h.val * 1024 + j.val, by have := h.isLt; have := j.isLt; omega⟩

/-- A half's partner lane at a distance below the half's width: the lane whose position is the partner's. -/
theorem partner_pos (s : Fin 10) (h : Fin 2) (j : Fin 1024) : ∃ j' : Fin 1024, partner 11 s.val (pos h j) = pos h j'
    ∧ (if (pos h j).val &&& 2 ^ s.val = 0 then j'.val = j.val + 2 ^ s.val else j.val = j'.val + 2 ^ s.val) := by
  have hs : s.val < 11 := by have := s.isLt; omega
  have h10 : s.val < 10 := s.isLt
  have hb : (pos h j).val &&& 2 ^ s.val = 0 ↔ j.val &&& 2 ^ s.val = 0 := by
    rw [and_pow_eq_zero_iff, and_pow_eq_zero_iff]
    show (h.val * 1024 + j.val).testBit s.val = false ↔ _
    match h with
    | ⟨0, _⟩ => simp
    | ⟨1, _⟩ =>
      rw [show (1 * 1024 + j.val) = 2 ^ 10 + j.val from rfl, Nat.testBit_two_pow_add_gt h10]
  obtain ⟨k, hk⟩ : ∃ k : Fin 1024, k = partner 10 s.val j := ⟨_, rfl⟩
  by_cases hc : (pos h j).val &&& 2 ^ s.val = 0
  · have hp : k.val = j.val + 2 ^ s.val := (congrArg Fin.val hk).trans (partner_val_of_clear h10 j (hb.mp hc))
    have hq : (partner 11 s.val (pos h j)).val = (h.val * 1024 + j.val) + 2 ^ s.val := partner_val_of_clear hs (pos h j) hc
    refine ⟨k, Fin.ext (hq.trans ?_), ?_⟩
    · show _ = h.val * 1024 + k.val
      omega
    · rw [if_pos hc]; exact hp
  · have hle : 2 ^ s.val ≤ j.val := (partner_val_of_set h10 j (fun e => hc (hb.mpr e))).1
    have hp : k.val = j.val - 2 ^ s.val := (congrArg Fin.val hk).trans (partner_val_of_set h10 j (fun e => hc (hb.mpr e))).2
    have hq : (partner 11 s.val (pos h j)).val = (h.val * 1024 + j.val) - 2 ^ s.val := (partner_val_of_set hs (pos h j) hc).2
    refine ⟨k, Fin.ext (hq.trans ?_), ?_⟩
    · show _ = h.val * 1024 + k.val
      omega
    · rw [if_neg hc]; omega

/-- A half's lanes are numbered by their positions in the row. -/
def Lanes (h : Fin 2) (L : IVec S1x1024 32) : Prop := ∀ j : Fin 1024, L (ix2 (0 : Fin 1) j) = BitVec.ofNat 32 (pos h j).val

/-- The lower half's lane numbers. -/
theorem lanes0 : Lanes 0 lane0 := fun j => by
  show BitVec.ofNat 32 (0 * 1024 + j.val) = BitVec.ofNat 32 (0 * 1024 + j.val)
  rfl
/-- The upper half's lane numbers. -/
theorem lanes1 : Lanes 1 lane1 := fun j => by
  show BitVec.ofNat 32 (0 * 1024 + j.val) + 1024#32 = BitVec.ofNat 32 (1 * 1024 + j.val)
  rw [← BitVec.ofNat_add]
  congr 1; omega

/-- The partner lanes of a half: the two rolls, chosen by the low mask. -/
abbrev partnerH {α : Type} (s : Fin 10) (L : IVec S1x1024 32) (x : S8x1024.Idx → α) : S8x1024.Idx → α :=
  partnerG (sl_hi s) (sl_lo s) (sl_hi' s) (sl_lo' s) (cat_m s) (cat_p s) (BitVec.ofNat 32 (2 ^ s.val)) L x

/-- The lane a half's partner vector reads. -/
theorem partnerH_apply {α : Type} (s : Fin 10) (h : Fin 2) (L : IVec S1x1024 32) (hL : Lanes h L) (x : S8x1024.Idx → α) (b : Fin 8) (j j' : Fin 1024)
    (hp : partner 11 s.val (pos h j) = pos h j') : partnerH s L x (ix2 b j) = x (ix2 b j') := by
  obtain ⟨j'', hp', hv⟩ := partner_pos s h j
  have e : j'' = j' := by
    have := congrArg Fin.val (hp'.symm.trans hp)
    refine Fin.ext ?_
    have h2 : h.val * 1024 + j''.val = h.val * 1024 + j'.val := this
    omega
  subst e
  unfold partnerH partnerG
  show Scalar.select (broadcastTo S8x1024 _ _ (ix2 b j)) _ _ = _
  rw [bcast_row, cast_self, lowMask_apply s L _ _ (pos h j).isLt (hL j), select_ofBool]
  by_cases hc : (pos h j).val &&& 2 ^ s.val = 0
  · rw [if_pos hc] at hv
    rw [decide_eq_true hc, if_pos rfl]
    exact roll_minus s x b j j'' hv
  · rw [if_neg hc] at hv
    rw [decide_eq_false hc, if_neg (by decide)]
    exact roll_plus s x b j j'' hv

/-! ## The ids stay below 2048 -/

/-- Every edge number is below 2048. -/
def Small (x : S8x1024.Idx → BitVec 32) : Prop := ∀ b j, (x (ix2 b j)).toNat < 2048
/-- Every edge number of both halves is below 2048. -/
def SmallB (x : Half F × Half F) : Prop := Small x.1.2 ∧ Small x.2.2

/-- Of small numbers the selected ones are small. -/
theorem Small.select {x y : S8x1024.Idx → BitVec 32} (hx : Small x) (hy : Small y) (c : IVec S8x1024 1) : Small (select c x y) := by
  intro b j
  show (Scalar.select (c (ix2 b j)) (x (ix2 b j)) (y (ix2 b j))).toNat < 2048
  unfold Scalar.select
  split
  · exact hx b j
  · exact hy b j

/-- A stage within a half keeps the numbers small. -/
theorem Small.half {x : Half F} (hx : Small x.2) (p : Nat) (s : Fin 10) (h : Fin 2) (L : IVec S1x1024 32) (hL : Lanes h L) : Small (halfStage p s L x).2 := by
  refine Small.select (fun b j => ?_) hx _
  obtain ⟨j', hp, -⟩ := partner_pos s h j
  exact (congrArg BitVec.toNat (partnerH_apply s h L hL x.2 b j j' hp)).trans_lt (hx b j')

/-- A stage keeps the numbers small. -/
theorem SmallB.stage {x : Half F × Half F} (hx : SmallB x) (p s : Nat) : SmallB (stageBoth p s x) := by
  unfold stageBoth
  split
  · exact ⟨hx.1.half p _ 0 _ lanes0, hx.2.half p _ 1 _ lanes1⟩
  · exact ⟨Small.select hx.2 hx.1 _, Small.select hx.1 hx.2 _⟩

/-- The stages of a phase keep the numbers small. -/
theorem SmallB.from {p : Nat} : ∀ (s : Nat) {x : Half F × Half F}, SmallB x → SmallB (phaseFrom p s x)
  | 0, _, hx => hx.stage p 0
  | s + 1, _, hx => SmallB.from s (hx.stage p (s + 1))

/-- The phases keep the numbers small. -/
theorem SmallB.phases {x : Half F × Half F} (hx : SmallB x) : ∀ n, SmallB (phases n x)
  | 0 => hx
  | n + 1 => SmallB.from n (SmallB.phases hx n)

/-- The lower half of a row, read at a lane. -/
theorem slice_lo {α : Type} (x : S8x2048.Idx → α) (b : Fin 8) (j : Fin 1024) :
    extractStridedSlice S8x1024 ![0, 0] x slices_S8x2048_o0_0_S8x1024 (ix2 b j) = x (ix2 b (⟨j.val, by have := j.isLt; omega⟩ : Fin 2048)) := by
  refine congrArg x (funext fun a => Fin.ext ?_)
  match a with
  | ⟨0, _⟩ => show 0 + b.val = b.val; omega
  | ⟨1, _⟩ => show 0 + j.val = j.val; omega
/-- The upper half of a row, read at a lane. -/
theorem slice_hi {α : Type} (x : S8x2048.Idx → α) (b : Fin 8) (j : Fin 1024) :
    extractStridedSlice S8x1024 ![0, 1024] x slices_S8x2048_o0_1024_S8x1024 (ix2 b j) = x (ix2 b (pos 1 j)) := by
  refine congrArg x (funext fun a => Fin.ext ?_)
  match a with
  | ⟨0, _⟩ => show 0 + b.val = b.val; omega
  | ⟨1, _⟩ => show 1024 + j.val = 1 * 1024 + j.val; omega

/-- The ids the network starts from: each lane its own position. -/
theorem start_ids (keys : FVec F S8x2048 .f32) (b : Fin 8) (j : Fin 1024) :
    (start keys).1.2 (ix2 b j) = BitVec.ofNat 32 j.val ∧ (start keys).2.2 (ix2 b j) = BitVec.ofNat 32 (1024 + j.val) := by
  have hid : ∀ i : Fin 2048, broadcastTo S8x2048 (shapeCast S1x2048 (iota .tc S1x2048 32 [1] iota_S1x2048_d1_w32) shapeCasts_S1x2048_S1x2048) broadcasts_S1x2048_S8x2048 (ix2 b i)
      = BitVec.ofNat 32 i.val := by
    intro i
    have e : broadcastTo S8x2048 (shapeCast S1x2048 (iota .tc S1x2048 32 [1] iota_S1x2048_d1_w32) shapeCasts_S1x2048_S1x2048) broadcasts_S1x2048_S8x2048 (ix2 b i)
        = shapeCast S1x2048 (iota .tc S1x2048 32 [1] iota_S1x2048_d1_w32) shapeCasts_S1x2048_S1x2048 (ix2 (0 : Fin 1) i) := by
      refine congrArg (shapeCast S1x2048 _ _) (funext fun a => ?_)
      match a with
      | ⟨0, _⟩ => rfl
      | ⟨1, _⟩ => rfl
    rw [e, cast_self]
    show BitVec.ofNat 32 (0 * 2048 + i.val) = _
    congr 1; omega
  exact ⟨(slice_lo _ b j).trans (hid _), (slice_hi _ b j).trans ((hid _).trans (congrArg _ (show 1 * 1024 + j.val = 1024 + j.val by omega)))⟩

/-- At the start the numbers are small. -/
theorem smallB_start (keys : FVec F S8x2048 .f32) : SmallB (start keys) := by
  constructor <;> intro b j <;> have hj := j.isLt
  · rw [(start_ids keys b j).1, BitVec.toNat_ofNat]; omega
  · rw [(start_ids keys b j).2, BitVec.toNat_ofNat]; omega

/-- Where the order reads the two halves the network leaves. -/
theorem orderOf_apply (keys : FVec F S8x2048 .f32) (b : Fin 8) (h : Fin 2) (j : Fin 1024) :
    orderOf keys (ix3 b (0 : Fin 1) (pos h j)) = (match h with | 0 => (phases 11 (start keys)).1.2 | 1 => (phases 11 (start keys)).2.2) (ix2 b j) := by
  unfold orderOf
  refine (congrArg _ (Shape.reshapeEquiv_eq_of_rowMajor shapeCasts_S8x2048_S8x1x2048 (x := ix3 b (0 : Fin 1) (pos h j)) (y := ix2 b (pos h j))
    (by rw [Shape.rowMajor_val_three, Shape.rowMajor_val_two]; show b.val * 2048 + (pos h j).val = (b.val * 1 + 0) * 2048 + (pos h j).val; omega))).trans ?_
  match h with
  | 0 =>
    exact concatenate_pair_apply_left (t := S8x2048) (s₁ := S8x1024) (s₂ := S8x1024) 1 _ _ _ _ rfl (ix2 b j)
      (fun a => match a with | ⟨0, _⟩ => rfl | ⟨1, _⟩ => (show j.val = 0 * 1024 + j.val by omega))
  | 1 =>
    exact concatenate_pair_apply_right (t := S8x2048) (s₁ := S8x1024) (s₂ := S8x1024) 1 _ _ _ _ rfl rfl (ix2 b j)
      (fun a => match a with | ⟨0, _⟩ => fun _ => rfl | ⟨1, _⟩ => fun h => absurd rfl h) (show j.val + 1024 = 1 * 1024 + j.val by omega)

/-- Every position is a lane of one of the halves. -/
theorem exists_pos (i : Fin 2048) : ∃ h j, (pos h j) = i := by
  have hi := i.isLt
  by_cases h : i.val < 1024
  · exact ⟨0, ⟨i.val, h⟩, Fin.ext (show 0 * 1024 + i.val = i.val by omega)⟩
  · exact ⟨1, ⟨i.val - 1024, by omega⟩, Fin.ext (show 1 * 1024 + (i.val - 1024) = i.val by omega)⟩

/-- Every index of the order is a row and a lane of one of the halves. -/
theorem exists_ix (z : S8x1x2048.Idx) : ∃ (b : Fin 8) (h : Fin 2) (j : Fin 1024), z = ix3 b (0 : Fin 1) (pos h j) := by
  obtain ⟨h, j, e⟩ := exists_pos (z 2)
  refine ⟨z 0, h, j, ?_⟩
  rw [e]; funext a
  match a with
  | ⟨0, _⟩ => rfl
  | ⟨1, _⟩ => exact Subsingleton.elim (α := Fin 1) _ _
  | ⟨2, _⟩ => rfl

/-- The order that the network leaves names edges below 2048. -/
theorem orderOf_lt (keys : FVec F S8x2048 .f32) (z : S8x1x2048.Idx) : (orderOf keys z).toNat < 2048 := by
  have hs := (smallB_start keys).phases 11
  obtain ⟨b, h, j, rfl⟩ := exists_ix z
  rw [orderOf_apply]
  generalize phases 11 (start keys) = x at hs ⊢
  match h with
  | 0 => exact hs.1 b j
  | 1 => exact hs.2 b j

/-- Every id of the order is a lane of the row. -/
theorem ordVal_lt (fe : S8x256x2048.Idx → F .f32) (len : S8.Idx → BitVec 32) (z : S8x1x2048.Idx) : (ordVal fe len z).toNat < 2048 :=
  orderOf_lt (scores fe len) z

end Cert.Proof.Sort

end
-- ==== Proof.Frame.lean ====
module

public import proofs.«01_k».proof.Defs
public import proofs.«01_k».proof.Proof.Launch
public import proofs.«01_k».proof.Proof.Partner
public import proofs.«01_k».proof.Proof.Gen.Kernel
public import proofs.«01_k».proof.Proof.Gen.Pre_in_range
public import Idealize.ShloMosaic.Lib.ReduceAll

/-! The kernel's run under the stated range of the lengths, over both the bit patterns and the ideal values. -/

@[expose] public section

noncomputable section

namespace Cert.Proof

open Idealize.ShloMosaic Idealize.SL.Sem Cert.KernelIdeal Cert.KernelIdeal.Gen
open Cert.Proof.Tile Cert.Proof.Launch

variable {F : FTy → Type} [FloatOps F]

/-- The precondition read at one length. -/
theorem range_of_bits (v : BitVec 32) (h : IntOp.andi (IntOp.cmpi .sge v 1544#32) (IntOp.cmpi .sle v 2048#32) = 1#1) :
    1544 ≤ v.toNat ∧ v.toNat ≤ 2048 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  simp only [IntOp.cmpi, andi_ofBool, ofBool_eq_one, Bool.and_eq_true, BitVec.sle_eq_decide,
    decide_eq_true_eq, BitVec.toInt_eq_toNat_cond, BitVec.toNat_ofNat, Nat.reducePow, Nat.reduceMod] at h
  omega

/-- The stated range of the lengths, of a kernel's memory. -/
theorem ok_of_pre (m : (ℓ : Loc nD τ sig) → Buf (Elt F) ℓ)
    (h : ∀ d : Dev nD, Cert.Pre_in_range.fn (F := F) (feV m d) (lenV m d) = fun _ => 1#1) :
    ∀ d b, 1544 ≤ (lenV m d (ValueIdx.ix1 b)).toNat ∧ (lenV m d (ValueIdx.ix1 b)).toNat ≤ 2048 := by
  intro d b
  have : Subsingleton Cert.Pre_in_range.S_.Idx := ⟨fun x y => funext fun a => a.elim0⟩
  exact range_of_bits _ (Host.reduce_andi_all _ _ _ _ _ (congrFun (h d) (fun a => a.elim0)) (ValueIdx.ix1 b))

/-- Lengths in the stated range are at least the target and at most the row. -/
theorem ok_of (m : (ℓ : Loc nD τ sig) → Buf (Elt F) ℓ)
    (h : ∀ d b, 1544 ≤ (lenV m d (ValueIdx.ix1 b)).toNat ∧ (lenV m d (ValueIdx.ix1 b)).toNat ≤ 2048) : Ok m :=
  fun d b => ⟨by have := (h d b).1; omega, (h d b).2⟩

/-- The order that the sorting call leaves names edges of the row. -/
theorem ordOk (m : (ℓ : Loc nD τ sig) → Buf (Elt F) ℓ) : OrdOk m := fun _ j => Sort.ordVal_lt _ _ j

/-- The kernel's whole run: the arguments unchanged, the output the kernel's value, every counter zero. -/
theorem run_kernel [∀ e, Nonempty (Elt F e)] (m : (ℓ : Loc nD τ sig) → Buf (Elt F) ℓ) (ρ : Dev nD → PrngReg)
    (h : ∀ d : Dev nD, Cert.Pre_in_range.fn (F := F) (feV m d) (lenV m d) = fun _ => 1#1) :
    θ_run (Cert.KernelIdeal.defs (F := F)) (Cert.KernelIdeal.threads (F := F)) ⟨m, fun _ => 0, ρ⟩ (Launch.QC m) :=
  Launch.run_main m ρ (ok_of m (ok_of_pre m h)) (ordOk m)

/-- The idealized kernel runs, leaves its arguments, and every counter ends at zero. -/
theorem frame_ideal : Cert.quiescent_KernelIdeal := fun m ρ h =>
  (θ_run (Cert.KernelIdeal.defs (F := Ideal)) _ _).mono (fun _ q => ⟨fun c => ⟨(q.1 c).1, (q.1 c).2.1⟩, q.2⟩) (run_kernel (F := Ideal) m ρ h)

/-- The printed and the idealized program have the same table of bodies: label by label. -/
theorem defs₀_eq : Kernel.defs₀ (F := Bits) = KernelIdeal.defs₀ (F := Bits) := by
  funext p l a
  match p, l, a with
  | .tc, (0 : Fin 2), a => rfl
  | .tc, (1 : Fin 2), a => rfl
  | .scScalar c, (0 : Fin 2), a => rfl
  | .scScalar c, (1 : Fin 2), a => rfl
  | .scVector c s, (0 : Fin 2), a => rfl
  | .scVector c s, (1 : Fin 2), a => rfl

/-- The printed and the idealized program have the same bodies at every label. -/
theorem defs_eq : Kernel.defs (F := Bits) = KernelIdeal.defs (F := Bits) :=
  congrArg (fun d => KernelIdeal.sc.defs (Pipeline.defs KernelIdeal.pcfgs d)) defs₀_eq

/-- So a run of the one is a run of the other. -/
theorem run_eq (s : MemSt KernelIdeal.nD KernelIdeal.τ KernelIdeal.sig (Elt Bits)) : θ_run (Kernel.defs (F := Bits)) Kernel.threads s = θ_run (KernelIdeal.defs (F := Bits)) KernelIdeal.threads s :=
  congrArg (fun d => θ_run d (KernelIdeal.threads (F := Bits)) s) defs_eq
/-- Equal runs satisfy the same postconditions. -/
theorem of_run_eq {α : Type} {x y : WPT α} (e : x = y) (Q : α → Prop) (h : y Q) : x Q := e ▸ h

/-- The printed kernel runs, leaves its arguments, and every counter ends at zero. -/
theorem frame_kernel : Cert.quiescent_Kernel := fun m ρ h =>
  of_run_eq (run_eq ⟨m, fun _ => 0, ρ⟩) _
    ((θ_run (Cert.KernelIdeal.defs (F := Bits)) _ _).mono (fun _ q => ⟨fun c => ⟨(q.1 c).1, (q.1 c).2.1⟩, q.2⟩) (run_kernel (F := Bits) m ρ h))

end Cert.Proof

end
-- ==== Proof.Net.lean ====
module

public import proofs.«01_k».proof.Proof.Partner
public import Idealize.ShloMosaic.Lib.SortNet.Sorts
public import Mathlib.Data.Prod.Lex

/-! On the extended reals the kernel's stages are the bitonic network's, so the order it leaves sorts the scores. -/

@[expose] public section

noncomputable section

namespace Cert.Proof.Sort

open Cert.KernelIdeal Cert.KernelIdeal.Gen
open Idealize.ShloMosaic hiding ix1 ix2 ix3
open Idealize.ShloMosaic.ValueIdx Idealize.ShloMosaic.SortNet

/-! ## One lane's entry: its key, then its edge number -/

/-- A lane's entry: the key and the edge's number, compared key first. -/
def ent (x : Half Ideal) (b : Fin 8) (j : Fin 1024) : EReal ×ₗ ℕ := toLex (x.1 (ix2 b j), (x.2 (ix2 b j)).toNat)

/-- A row's entries, position by position. -/
def rowAt (x : Half Ideal × Half Ideal) (b : Fin 8) (i : Fin (2 ^ 11)) : EReal ×ₗ ℕ :=
  if h : i.val < 1024 then ent x.1 b ⟨i.val, h⟩ else ent x.2 b ⟨i.val - 1024, by have : i.val < 2048 := i.isLt; omega⟩

/-- A position of the lower half holds the lower half's entry. -/
theorem rowAt_lo (x : Half Ideal × Half Ideal) (b : Fin 8) (j : Fin 1024) : rowAt x b (pos 0 j) = ent x.1 b j := by
  have e : (pos 0 j).val = j.val := by show 0 * 1024 + j.val = j.val; omega
  unfold rowAt
  rw [dif_pos (by rw [e]; exact j.isLt)]
  exact congrArg (ent x.1 b) (Fin.ext e)

/-- A position of the upper half holds the upper half's entry. -/
theorem rowAt_hi (x : Half Ideal × Half Ideal) (b : Fin 8) (j : Fin 1024) : rowAt x b (pos 1 j) = ent x.2 b j := by
  have e : (pos 1 j).val = 1024 + j.val := by show 1 * 1024 + j.val = 1024 + j.val; omega
  unfold rowAt
  rw [dif_neg (by rw [e]; omega)]
  exact congrArg (ent x.2 b) (Fin.ext (by show (pos 1 j).val - 1024 = j.val; omega))

/-- A signed comparison of two edge numbers is the comparison of the numbers. -/
theorem slt_small (i i' : BitVec 32) (h : i.toNat < 2048) (h' : i'.toNat < 2048) :
    IntOp.cmpi .slt i i' = BitVec.ofBool (decide (i.toNat < i'.toNat)) := by
  show BitVec.ofBool (i.slt i') = _
  congr 1
  rw [BitVec.slt, BitVec.toInt_eq_toNat_of_lt (by omega), BitVec.toInt_eq_toNat_of_lt (by omega)]
  simp only [Nat.cast_lt]

/-- The printed comparison says whether the other entry is less. -/
theorem before_apply (k k' : FVec Ideal S8x1024 .f32) (i i' : IVec S8x1024 32) (z : S8x1024.Idx) (h : (i z).toNat < 2048) (h' : (i' z).toNat < 2048) :
    before k k' i i' z = BitVec.ofBool (decide ((toLex (k z, (i z).toNat) : EReal ×ₗ ℕ) < toLex (k' z, (i' z).toNat))) := by
  show IntOp.ori (FloatOps.cmpf .olt (k z) (k' z)) (IntOp.andi (FloatOps.cmpf .oeq (k z) (k' z)) (IntOp.cmpi .slt (i z) (i' z))) = _
  rw [slt_small _ _ h h', Ideal.cmpf_def, Ideal.cmpf_def]
  have e1 : Ideal.cmp .olt (k z) (k' z) = BitVec.ofBool (decide (k z < k' z)) := by unfold Ideal.cmp; rfl
  have e2 : Ideal.cmp .oeq (k z) (k' z) = BitVec.ofBool (decide (k z = k' z)) := by unfold Ideal.cmp; rfl
  rw [e1, e2]
  have e3 : ((toLex (k z, (i z).toNat) : EReal ×ₗ ℕ) < toLex (k' z, (i' z).toNat)) ↔ (k z < k' z ∨ k z = k' z ∧ (i z).toNat < (i' z).toNat) :=
    Prod.Lex.toLex_lt_toLex
  rw [decide_eq_decide.mpr e3]
  rw [Bool.decide_or, Bool.decide_and]
  generalize decide (k z < k' z) = A
  generalize decide (k z = k' z) = B
  generalize decide ((i z).toNat < (i' z).toNat) = C
  cases A <;> cases B <;> cases C <;> rfl

/-! ## A stage within a half -/

/-- Which way the blocks of phase `p` run: ascending where bit `p + 1` is clear. -/
def dir (p : Nat) (i : Fin (2 ^ 11)) : Bool := decide (i.val &&& 2 ^ (p + 1) = 0) == false

/-- An entry of selected keys and numbers is the selected entry. -/
theorem ent_select (c : IVec S8x1024 1) (k k' : FVec Ideal S8x1024 .f32) (i i' : IVec S8x1024 32) (b : Fin 8) (j : Fin 1024) (t : Bool)
    (ht : c (ix2 b j) = BitVec.ofBool t) : ent (select c k k', select c i i') b j = if t then ent (k, i) b j else ent (k', i') b j := by
  unfold ent
  show (toLex (Scalar.select (c (ix2 b j)) (k (ix2 b j)) (k' (ix2 b j)), (Scalar.select (c (ix2 b j)) (i (ix2 b j)) (i' (ix2 b j))).toNat) : EReal ×ₗ ℕ) = _
  rw [ht, select_ofBool, select_ofBool]
  cases t <;> rfl

/-- A stage within a half leaves, at each lane, the lesser or the greater of the entry and its partner's, as the network does. -/
theorem half_ent (p : Nat) (hp10 : p ≤ 10) (s : Fin 10) (h : Fin 2) (L : IVec S1x1024 32) (hL : Lanes h L) (x : Half Ideal) (hx : Small x.2) (b : Fin 8)
    (j j' : Fin 1024) (hp : partner 11 s.val (pos h j) = pos h j') :
    ent (halfStage p s L x) b j
      = if decide (ent x b j' < ent x b j) = upperXor s.val (p := 11) (dir p) (pos h j) then ent x b j else ent x b j' := by
  have e1 := partnerH_apply s h L hL x.1 b j j' hp
  have e2 := partnerH_apply s h L hL x.2 b j j' hp
  have hlt : (pos h j).val < 2048 := (pos h j).isLt
  have hb : before (partnerH s L x.1) x.1 (partnerH s L x.2) x.2 (ix2 b j) = BitVec.ofBool (decide (ent x b j' < ent x b j)) := by
    rw [before_apply _ _ _ _ _ (by rw [e2]; exact hx b j') (hx b j), e1, e2]
    rfl
  have hl : broadcastTo S8x1024 (lowMask (BitVec.ofNat 32 (2 ^ s.val)) L) broadcasts_S1x1024_S8x1024 (ix2 b j)
      = BitVec.ofBool (decide ((pos h j).val &&& 2 ^ s.val = 0)) :=
    (bcast_row _ b j).trans (lowMask_apply s L _ _ hlt (hL j))
  have ha : broadcastTo S8x1024 (ascMask (BitVec.ofNat 32 (p + 1)) L) broadcasts_S1x1024_S8x1024 (ix2 b j)
      = BitVec.ofBool (decide ((pos h j).val &&& 2 ^ (p + 1) = 0)) :=
    (bcast_row _ b j).trans (ascMask_apply (p + 1) (by omega) L _ _ hlt (hL j))
  have ht : takeG (sl_hi s) (sl_lo s) (sl_hi' s) (sl_lo' s) (cat_m s) (cat_p s) (BitVec.ofNat 32 (2 ^ s.val)) (BitVec.ofNat 32 (p + 1)) L x (ix2 b j)
      = BitVec.ofBool ((decide (ent x b j' < ent x b j) ^^ decide ((pos h j).val &&& 2 ^ s.val = 0)) ^^ decide ((pos h j).val &&& 2 ^ (p + 1) = 0)) := by
    show IntOp.xori (IntOp.xori (before (partnerH s L x.1) x.1 (partnerH s L x.2) x.2 (ix2 b j)) _) _ = _
    rw [hb, hl, ha, ofBool_xor, ofBool_xor]
  unfold halfStage stageG
  rw [ent_select _ _ _ _ _ b j _ ht]
  have e3 : ent (partnerH s L x.1, partnerH s L x.2) b j = ent x b j' := by
    show (toLex (partnerH s L x.1 (ix2 b j), (partnerH s L x.2 (ix2 b j)).toNat) : EReal ×ₗ ℕ) = _
    rw [e1, e2]
    rfl
  rw [show ent (partnerG (sl_hi s) (sl_lo s) (sl_hi' s) (sl_lo' s) (cat_m s) (cat_p s) (BitVec.ofNat 32 (2 ^ s.val)) L x.1,
    partnerG (sl_hi s) (sl_lo s) (sl_hi' s) (sl_lo' s) (cat_m s) (cat_p s) (BitVec.ofNat 32 (2 ^ s.val)) L x.2) b j = ent x b j' from e3]
  show (if _ then ent x b j' else ent x b j) = _
  unfold upperXor dir
  generalize decide (ent x b j' < ent x b j) = t
  by_cases c1 : (pos h j).val &&& 2 ^ s.val = 0 <;> by_cases c2 : (pos h j).val &&& 2 ^ (p + 1) = 0 <;> cases t <;>
    simp [c1, c2]

/-- A stage within the halves is the network's stage. -/
theorem rowAt_half (p : Nat) (hp10 : p ≤ 10) (s : Nat) (hs : s < 10) (hsp : s ≤ p) (x : Half Ideal × Half Ideal) (hx : SmallB x) (b : Fin 8) :
    rowAt (stageBoth p s x) b = Network.apply (stage 11 s (dir p)) (rowAt x b) := by
  funext i
  rw [← stage_upperXor, apply_stage_select (by omega) _ (fun j => upperXor_partner (by omega) _ j (sizeClear_partner (by omega) hsp false j))]
  obtain ⟨h, j, rfl⟩ := exists_pos i
  obtain ⟨j', hp, -⟩ := partner_pos ⟨s, hs⟩ h j
  have hp2 : partner 11 s (pos h j) = pos h j' := hp
  rw [hp2]
  have e : stageBoth p s x = (halfStage p ⟨s, hs⟩ lane0 x.1, halfStage p ⟨s, hs⟩ lane1 x.2) := by
    unfold stageBoth
    rw [dif_pos hs]
  rw [e]
  by_cases h0 : h = 0
  · subst h0
    rw [rowAt_lo, rowAt_lo, rowAt_lo]
    exact half_ent p hp10 ⟨s, hs⟩ 0 lane0 lanes0 x.1 hx.1 b j j' hp
  · obtain rfl : h = 1 := by omega
    rw [rowAt_hi, rowAt_hi, rowAt_hi]
    exact half_ent p hp10 ⟨s, hs⟩ 1 lane1 lanes1 x.2 hx.2 b j j' hp

/-! ## The stage between the halves -/

/-- At distance 1024 a lane's partner is the same lane of the other half. -/
theorem partner_cross (j : Fin 1024) : partner 11 10 (pos 0 j) = pos 1 j ∧ partner 11 10 (pos 1 j) = pos 0 j := by
  have h0 : (pos 0 j).val &&& 2 ^ 10 = 0 := by
    rw [and_pow_eq_zero_iff]
    refine Nat.testBit_lt_two_pow ?_
    have := j.isLt
    show 0 * 1024 + j.val < 1024
    omega
  have e : partner 11 10 (pos 0 j) = pos 1 j := by
    refine Fin.ext ?_
    have h1 := partner_val_of_clear (p := 11) (s := 10) (by omega) (pos 0 j) h0
    have h2 : (pos 0 j).val = 0 * 1024 + j.val := rfl
    have h3 : (pos 1 j).val = 1 * 1024 + j.val := rfl
    refine h1.trans ?_
    rw [h2, h3]
    omega
  exact ⟨e, by rw [← e]; exact partner_partner (by omega) _⟩

/-- The last phase sorts every position in the same direction. -/
theorem dir_top (i : Fin (2 ^ 11)) : dir 10 i = false := by
  have : i.val &&& 2 ^ (10 + 1) = 0 := by
    rw [and_pow_eq_zero_iff]
    exact Nat.testBit_lt_two_pow i.isLt
  unfold dir
  rw [this]
  rfl

/-- The stage across the halves is the network's stage at distance 1024. -/
theorem rowAt_cross (x : Half Ideal × Half Ideal) (hx : SmallB x) (b : Fin 8) :
    rowAt (stageBoth 10 10 x) b = Network.apply (stage 11 10 (dir 10)) (rowAt x b) := by
  funext i
  rw [← stage_upperXor, apply_stage_select (by omega) _ (fun j => upperXor_partner (by omega) _ j (sizeClear_partner (by omega) (by omega) false j))]
  obtain ⟨h, j, rfl⟩ := exists_pos i
  have e : stageBoth 10 10 x = crossStage x := by
    unfold stageBoth
    rw [dif_neg (by omega)]
  have hb : before x.2.1 x.1.1 x.2.2 x.1.2 (ix2 b j) = BitVec.ofBool (decide (ent x.2 b j < ent x.1 b j)) := by
    rw [before_apply _ _ _ _ _ (hx.2 b j) (hx.1 b j)]
    rfl
  rw [e]
  unfold crossStage
  match h with
  | 0 =>
    have h0 : (pos 0 j).val &&& 2 ^ 10 = 0 := by
      rw [and_pow_eq_zero_iff]
      refine Nat.testBit_lt_two_pow ?_
      have := j.isLt
      show 0 * 1024 + j.val < 1024
      omega
    rw [(partner_cross j).1, rowAt_lo, rowAt_lo, rowAt_hi, ent_select _ _ _ _ _ b j _ hb]
    unfold upperXor
    rw [dir_top, decide_eq_false (not_not.mpr h0)]
    show (if _ then ent x.2 b j else ent x.1 b j) = _
    by_cases c : ent x.2 b j < ent x.1 b j <;> simp [c]
  | 1 =>
    have h1 : (pos 1 j).val &&& 2 ^ 10 ≠ 0 := by
      rw [Ne, and_pow_eq_zero_iff]
      have h3 : (pos 1 j).val = 2 ^ 10 + j.val := by show 1 * 1024 + j.val = _; omega
      rw [h3, Nat.testBit_two_pow_add_eq, Nat.testBit_lt_two_pow j.isLt]
      simp
    rw [(partner_cross j).2, rowAt_hi, rowAt_hi, rowAt_lo, ent_select _ _ _ _ _ b j _ hb]
    unfold upperXor
    rw [dir_top, decide_eq_true h1]
    show (if _ then ent x.1 b j else ent x.2 b j) = _
    rcases lt_trichotomy (ent x.2 b j) (ent x.1 b j) with c | c | c
    · simp [c, not_lt_of_gt c]
    · simp [c]
    · simp [c, not_lt_of_gt c]

/-- Every stage is the network's stage. -/
theorem rowAt_stage (p : Nat) (hp10 : p ≤ 10) (s : Nat) (hsp : s ≤ p) (x : Half Ideal × Half Ideal) (hx : SmallB x) (b : Fin 8) :
    rowAt (stageBoth p s x) b = Network.apply (stage 11 s (dir p)) (rowAt x b) := by
  by_cases hs : s < 10
  · exact rowAt_half p hp10 s hs hsp x hx b
  · obtain rfl : s = 10 := by omega
    obtain rfl : p = 10 := by omega
    exact rowAt_cross x hx b

/-- The stages of a phase from a distance down are the network's. -/
theorem rowAt_from (p : Nat) (hp10 : p ≤ 10) (b : Fin 8) : ∀ (s : Nat), s ≤ p → ∀ (x : Half Ideal × Half Ideal), SmallB x →
    rowAt (phaseFrom p s x) b = Network.apply ((List.range (s + 1)).reverse.flatMap fun s => stage 11 s (dir p)) (rowAt x b)
  | 0, h, x, hx => by
    show rowAt (stageBoth p 0 x) b = _
    rw [rowAt_stage p hp10 0 h x hx b]
    simp
  | s + 1, h, x, hx => by
    show rowAt (phaseFrom p s (stageBoth p (s + 1) x)) b = _
    rw [rowAt_from p hp10 b s (by omega) _ (hx.stage p (s + 1)), rowAt_stage p hp10 (s + 1) h x hx b, List.range_succ (n := s + 1), List.reverse_append,
      List.reverse_singleton, List.singleton_append, List.flatMap_cons, Network.apply_append]

/-- Lists laid end to end up to `n + 1` are those up to `n` and then the last. -/
theorem flatMap_range_succ {α : Type} (G : ℕ → List α) (n : ℕ) : (List.range (n + 1)).flatMap G = (List.range n).flatMap G ++ G n := by
  rw [List.range_succ, List.flatMap_append, List.flatMap_singleton]

/-- The first `n` phases are the network's. -/
theorem rowAt_phases (b : Fin 8) (x : Half Ideal × Half Ideal) (hx : SmallB x) : ∀ n, n ≤ 11 →
    rowAt (phases n x) b = Network.apply ((List.range n).flatMap fun l => (List.range (l + 1)).reverse.flatMap fun s => stage 11 s (dir l)) (rowAt x b)
  | 0, _ => rfl
  | n + 1, h => by
    show rowAt (phaseFrom n n (phases n x)) b = _
    rw [rowAt_from n (by omega) b n (le_refl n) _ (hx.phases n), rowAt_phases b x hx n (by omega), flatMap_range_succ (fun l => (List.range (l + 1)).reverse.flatMap fun s => stage 11 s (dir l)), Network.apply_append]

/-- All the phases together are the bitonic sort. -/
theorem rowAt_sorted (b : Fin 8) (x : Half Ideal × Half Ideal) (hx : SmallB x) :
    rowAt (phases 11 x) b = Network.apply (sortNet 11 false) (rowAt x b) := rowAt_phases b x hx 11 (le_refl 11)

/-! ## The order -/

/-- At the start a position holds its key and its own number. -/
theorem rowAt_start (keys : FVec Ideal S8x2048 .f32) (b : Fin 8) (i : Fin 2048) : rowAt (start keys) b i = toLex (keys (ix2 b i), i.val) := by
  obtain ⟨h, j, rfl⟩ := exists_pos i
  have hj := j.isLt
  match h with
  | 0 =>
    rw [rowAt_lo]
    unfold ent
    rw [(start_ids keys b j).1, BitVec.toNat_ofNat, Nat.mod_eq_of_lt (by omega), show (start keys).1.1 (ix2 b j) = _ from slice_lo keys b j]
    refine congrArg toLex (Prod.ext (congrArg (fun i => keys (ix2 b i)) (Fin.ext ?_)) ?_)
    · show j.val = 0 * 1024 + j.val; omega
    · show j.val = 0 * 1024 + j.val; omega
  | 1 =>
    rw [rowAt_hi]
    unfold ent
    rw [(start_ids keys b j).2, BitVec.toNat_ofNat, Nat.mod_eq_of_lt (by omega), show (start keys).2.1 (ix2 b j) = _ from slice_hi keys b j]
    refine congrArg toLex (Prod.ext rfl ?_)
    show 1024 + j.val = 1 * 1024 + j.val; omega

/-- The order left at a position is the number of the entry there. -/
theorem orderOf_rowAt (keys : FVec Ideal S8x2048 .f32) (b : Fin 8) (i : Fin 2048) :
    (orderOf keys (ix3 b (0 : Fin 1) i)).toNat = (ofLex (rowAt (phases 11 (start keys)) b i)).2 := by
  obtain ⟨h, j, rfl⟩ := exists_pos i
  rw [orderOf_apply]
  match h with
  | 0 => rw [rowAt_lo]; rfl
  | 1 => rw [rowAt_hi]; rfl

/-- The kernel's order is a permutation of the edges under which scores ascend, equal ones by edge number. -/
theorem orderOf_perm (keys : FVec Ideal S8x2048 .f32) (b : Fin 8) : ∃ σ : Equiv.Perm (Fin 2048),
    (∀ i, orderOf keys (ix3 b (0 : Fin 1) i) = BitVec.ofNat 32 (σ i).val)
      ∧ ∀ i i', i < i' → (toLex (keys (ix2 b (σ i)), (σ i).val) : EReal ×ₗ ℕ) < toLex (keys (ix2 b (σ i')), (σ i').val) := by
  obtain ⟨σ, hσ⟩ := Network.exists_perm (sortNet 11 false) (rowAt (start keys) b)
  have e := rowAt_sorted b (start keys) (smallB_start keys)
  have hv : ∀ i : Fin 2048, rowAt (phases 11 (start keys)) b i = toLex (keys (ix2 b (σ i)), (σ i).val) := fun i => by
    rw [e, hσ]
    exact rowAt_start keys b (σ i)
  refine ⟨σ, fun i => BitVec.eq_of_toNat_eq ?_, fun i i' hi => ?_⟩
  · rw [orderOf_rowAt, hv, BitVec.toNat_ofNat, Nat.mod_eq_of_lt (lt_trans (σ i).isLt (by norm_num))]
    rfl
  · have hm := sortNet_apply_monotone 11 (rowAt (start keys) b) (le_of_lt hi)
    rw [← e, hv, hv] at hm
    refine lt_of_le_of_ne hm fun he => ?_
    have h2 : (σ i).val = (σ i').val := congrArg (fun z => (ofLex z).2) he
    exact absurd (σ.injective (Fin.ext h2)) (ne_of_lt hi)

end Cert.Proof.Sort

end
-- ==== Proof.RefOrder.lean ====
module

public import proofs.«01_k».proof.Proof.Gen.ReferenceIdeal
public import proofs.«01_k».proof.Proof.Gen.ReferenceIdeal.Run
public import Idealize.ShloMosaic.Lib.SortFacts
public import Idealize.ShloMosaic.Lib.WordCmp
public import Idealize.ShloMosaic.Lib.ReduceAll
public import Idealize.ShloMosaic.Lib.ValueIdxCore
public import Idealize.ShloMosaic.Lib.Routing.OpsPair
public import Idealize.ShloMosaic.PureOps.Ideal.Laws
public import Mathlib.Data.Prod.Lex

/-! The reference's two argsorts, and its gathers and scatter read at an index. -/

@[expose] public section

noncomputable section

namespace Cert.Proof.Ref

open Cert.ReferenceIdeal Cert.ReferenceIdeal.Gen Cert.ReferenceIdeal.Value
open Idealize.ShloMosaic
open Idealize.ShloMosaic.ValueIdx

/-! ## A stable sort whose order ties only by position -/

/-- Two orders that agree on every later element against every earlier one sort an ascending list alike. -/
theorem stableSort_of_pairwise {n : ℕ} (R R' : Fin n → Fin n → Bool) (h : ∀ a b, a < b → R b a = R' b a) :
    ∀ l : List (Fin n), l.Pairwise (· < ·) → stableSort R l = stableSort R' l
  | [], _ => rfl
  | a :: l, hl => by
    rw [List.pairwise_cons] at hl
    show insertBefore R a (stableSort R l) = insertBefore R' a (stableSort R' l)
    rw [stableSort_of_pairwise R R' h l hl.2]
    exact insertBefore_congr R R' a _ fun b hb => h a b (hl.1 b ((perm_stableSort R' l).mem_iff.mp hb))

/-- A stable sort is the permutation whose inverse orders every two positions as the comparator does, ties by position. -/
theorem sortedFrom_perm {n : ℕ} (σ : Equiv.Perm (Fin n)) (R : Fin n → Fin n → Bool)
    (h : ∀ a b, a < b → R b a = decide (σ.symm b < σ.symm a)) (k : Fin n) : sortedFrom R k = σ k := by
  have e : sortPositions n R = List.ofFn σ :=
    (stableSort_of_pairwise R (fun k k' => decide (σ.symm k < σ.symm k')) h _ (List.pairwise_lt_finRange n)).trans (sortPositions_of_perm σ)
  unfold sortedFrom
  rw [List.get_of_eq e, List.get_ofFn]
  rfl

/-! ## Which way the scores and the ranks compare -/

/-- The printed comparator of the scores says whether the first score is less. -/
theorem comparator_score (l r : Ideal .f32 × BitVec 32) : comparator_f32_i32_d1 l r = BitVec.ofBool (decide (l.1 < r.1)) := by
  have une : ∀ x : Ideal .f32, FloatOps.cmpf .une x x = 0#1 := fun x => by
    show BitVec.ofBool (decide (x ≠ x)) = 0#1
    rw [decide_eq_false (fun h => h rfl)]
    rfl
  have z : ∀ x : Ideal .f32, Scalar.select (FloatOps.cmpf .oeq x (FloatOps.ofBits .f32 0x00000000#32)) (FloatOps.ofBits .f32 0x00000000#32) x = x := fun x => by
    show (if BitVec.ofBool (decide (x = _)) = 1#1 then _ else x) = x
    by_cases hx : x = (FloatOps.ofBits .f32 0x00000000#32 : Ideal .f32)
    · rw [decide_eq_true hx]; exact hx.symm
    · rw [decide_eq_false hx]; rfl
  unfold comparator_f32_i32_d1
  simp only [une, z]
  rfl

variable (V0 : Valuation τ sig (Elt Ideal))

/-- An index moved along its row. -/
theorem along_row (b : Fin 8) (i k : Fin 2048) : (ix2 b i : S8x2048.Idx).along (1 : Fin 2) k = ix2 b k := by
  funext a
  match a with
  | ⟨0, _⟩ => rfl
  | ⟨1, _⟩ => rfl

/-- A two-operand sort along the rows whose rank order is a permutation's: the second operand read through it. -/
theorem sort2_row {α : Type} (cmp : α × BitVec 32 → α × BitVec 32 → BitVec 1) (x : S8x2048.Idx → α) (y : S8x2048.Idx → BitVec 32) (b : Fin 8)
    (σ : Equiv.Perm (Fin 2048))
    (h : ∀ k k' : Fin 2048, k < k' → (cmp (x (ix2 b k'), y (ix2 b k')) (x (ix2 b k), y (ix2 b k)) == 1#1) = decide (σ.symm k' < σ.symm k)) (i : Fin 2048) :
    (Host.sort2 S8x2048 1 cmp x y).2 (ix2 b i) = y (ix2 b (σ i)) := by
  unfold Host.sort2
  rw [dif_pos (show 1 < S8x2048.rank by decide)]
  have hf : (fun k k' : Fin 2048 => cmp (x ((ix2 b i : S8x2048.Idx).along (1 : Fin 2) k), y ((ix2 b i : S8x2048.Idx).along (1 : Fin 2) k))
      (x ((ix2 b i : S8x2048.Idx).along (1 : Fin 2) k'), y ((ix2 b i : S8x2048.Idx).along (1 : Fin 2) k')) == 1#1)
      = fun k k' : Fin 2048 => cmp (x (ix2 b k), y (ix2 b k)) (x (ix2 b k'), y (ix2 b k')) == 1#1 := by
    funext k k'
    rw [along_row, along_row]
  have hk : sortedFrom (n := 2048) (fun k k' : Fin 2048 => cmp (x ((ix2 b i : S8x2048.Idx).along (1 : Fin 2) k), y ((ix2 b i : S8x2048.Idx).along (1 : Fin 2) k))
      (x ((ix2 b i : S8x2048.Idx).along (1 : Fin 2) k'), y ((ix2 b i : S8x2048.Idx).along (1 : Fin 2) k')) == 1#1) i = σ i := by
    rw [hf]
    exact sortedFrom_perm (n := 2048) σ _ h i
  exact congrArg y ((congrArg (fun k : Fin 2048 => (ix2 b i : S8x2048.Idx).along (1 : Fin 2) k) hk).trans (along_row b i (σ i)))

/-- A one-bit word made of a Boolean is one exactly if the Boolean is true. -/
theorem ofBool_beq_one (t : Bool) : (BitVec.ofBool t == 1#1) = t := by cases t <;> rfl

/-- The order: under a permutation whose scores ascend, equal ones by edge number, the argsort of the scores is it. -/
theorem order_apply (b : Fin 8) (σ : Equiv.Perm (Fin 2048))
    (hσ : ∀ i i', i < i' → (toLex (res_main_v8 V0 (ix2 b (σ i)), (σ i).val) : EReal ×ₗ ℕ) < toLex (res_main_v8 V0 (ix2 b (σ i')), (σ i').val)) (i : Fin 2048) :
    res_main_v9 V0 (ix2 b i) = BitVec.ofNat 32 (σ i).val := by
  have hm : StrictMono fun i => (toLex (res_main_v8 V0 (ix2 b (σ i)), (σ i).val) : EReal ×ₗ ℕ) := fun i i' h => hσ i i' h
  unfold res_main_v9
  rw [sort2_row comparator_f32_i32_d1 (res_main_v8 V0) (res_main_call1_v0 V0) b σ]
  · rfl
  · intro k k' hk
    rw [comparator_score, ofBool_beq_one]
    refine decide_eq_decide.mpr ?_
    rw [← hm.lt_iff_lt]
    simp only [Equiv.apply_symm_apply]
    rw [Prod.Lex.toLex_lt_toLex]
    constructor
    · exact Or.inl
    · rintro (h | ⟨-, h⟩)
      · exact h
      · exact absurd h (not_lt_of_gt hk)

/-- The ranks: the argsort of a permutation is its inverse. -/
theorem rank_apply (b : Fin 8) (σ : Equiv.Perm (Fin 2048)) (h9 : ∀ i : Fin 2048, res_main_v9 V0 (ix2 b i) = BitVec.ofNat 32 (σ i).val) (e : Fin 2048) :
    res_main_v10 V0 (ix2 b e) = BitVec.ofNat 32 (σ.symm e).val := by
  unfold res_main_v10
  rw [sort2_row comparator_i32_i32_d1 (res_main_v9 V0) (res_main_call2_v0 V0) b σ.symm]
  · rfl
  · intro k k' _
    show (IntOp.cmpi .slt (res_main_v9 V0 (ix2 b k')) (res_main_v9 V0 (ix2 b k)) == 1#1) = _
    rw [h9, h9, WordCmp.cmpi_slt_ofNat (lt_trans (σ k').isLt (by norm_num)) (lt_trans (σ k).isLt (by norm_num)), ofBool_beq_one]
    rfl

/-! ## The gathers -/

/-- A small number's word, read signed, is the number. -/
theorem toInt_small (n : ℕ) (hn : n < 2048) : (BitVec.ofNat 32 n).toInt.toNat = n := by
  rw [BitVec.toInt_eq_toNat_of_lt (by rw [BitVec.toNat_ofNat]; omega), BitVec.toNat_ofNat]
  omega

/-- One entry per place of a row: the row at the place's index. -/
theorem gather_row {α : Type} {C : ℕ} (wf : GatherDims.WF S8x2048 ⟨3, ![8, C, 1]⟩ ⟨2, ![8, C]⟩ [] [1] [0] [1] [0] 2 ![1, 1])
    (x : S8x2048.Idx → α) (idx : IVec ⟨3, ![8, C, 1]⟩ 32) (b : Fin 8) (t : Fin C) (n : Fin 2048) (h : idx (ix3 b t (0 : Fin 1)) = BitVec.ofNat 32 n.val) :
    Host.gather (⟨[], [1], [0], [0], [1], 2, ![1, 1], wf⟩ : GatherDims S8x2048 ⟨3, ![8, C, 1]⟩ ⟨2, ![8, C]⟩) x idx (ix2 b t) = x (ix2 b n) := by
  set d : GatherDims S8x2048 ⟨3, ![8, C, 1]⟩ ⟨2, ![8, C]⟩ := ⟨[], [1], [0], [0], [1], 2, ![1, 1], wf⟩ with hd
  unfold Host.gather
  congr 1
  funext a
  refine Fin.ext ?_
  show d.start (ix2 b t) idx a + d.batchCoord (ix2 b t) a + d.offCoord (ix2 b t) a = _
  have h01 : a = 0 ∨ a = 1 := by
    match a with
    | ⟨0, _⟩ => exact Or.inl rfl
    | ⟨1, _⟩ => exact Or.inr rfl
  rcases h01 with rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (List.mem_singleton.mpr rfl)]
    rfl
  · rw [GatherDims.batchCoord_eq_zero _ _ _ (fun h => by simp [hd] at h),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ d.startIndexMap from List.mem_singleton.mpr rfl)]
    have hsi : d.siIdx (ix2 b t) ⟨List.idxOf (1 : Fin 2) d.startIndexMap, List.idxOf_lt_length_iff.2 (List.mem_singleton.mpr rfl)⟩ = ix3 b t (0 : Fin 1) := by
      funext c; refine Fin.ext ?_
      match c with
      | ⟨0, _⟩ => rfl
      | ⟨1, _⟩ => rfl
      | ⟨2, _⟩ => rfl
    rw [hsi, h, toInt_small n.val n.isLt]
    show min n.val (2048 - 1) = n.val
    have := n.isLt
    omega

/-- The same of three axes, the channel a batching axis too. -/
theorem gather_chan {α : Type} (x : S8x256x2048.Idx → α) (idx : IVec S8x256x1536x1 32) (b : Fin 8) (c : Fin 256) (t : Fin 1536) (n : Fin 2048)
    (h : idx (ix4 b c t (0 : Fin 1)) = BitVec.ofNat 32 n.val) :
    Host.gather gather_S8x256x2048_S8x256x1536x1_S8x256x1536_n_2_01_01_2_3_111 x idx (ix3 b c t) = x (ix3 b c n) := by
  set d := gather_S8x256x2048_S8x256x1536x1_S8x256x1536_n_2_01_01_2_3_111 with hd
  unfold Host.gather
  congr 1
  funext a
  refine Fin.ext ?_
  show d.start (ix3 b c t) idx a + d.batchCoord (ix3 b c t) a + d.offCoord (ix3 b c t) a = _
  have m0 : (0 : Fin 3) ∈ d.operandBatchingDims := by show (0 : Fin 3) ∈ [0, 1]; decide
  have m1 : (1 : Fin 3) ∈ d.operandBatchingDims := by show (1 : Fin 3) ∈ [0, 1]; decide
  have m2 : (2 : Fin 3) ∉ d.operandBatchingDims := by show (2 : Fin 3) ∉ [0, 1]; decide
  have c2 : (2 : Fin 3) ∈ d.collapsedSliceDims := by show (2 : Fin 3) ∈ [2]; decide
  have s2 : (2 : Fin 3) ∈ d.startIndexMap := by show (2 : Fin 3) ∈ [2]; decide
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h012 with rfl | rfl | rfl
  · rw [GatherDims.start_batching _ _ _ _ m0, GatherDims.offCoord_eq_zero _ _ _ (fun h => ((GatherDims.mem_sKept _ _).mp h).2 m0)]
    simp only [Nat.zero_add, Nat.add_zero]
    unfold GatherDims.batchCoord
    rw [dif_pos m0]
    rfl
  · rw [GatherDims.start_batching _ _ _ _ m1, GatherDims.offCoord_eq_zero _ _ _ (fun h => ((GatherDims.mem_sKept _ _).mp h).2 m1)]
    simp only [Nat.zero_add, Nat.add_zero]
    unfold GatherDims.batchCoord
    rw [dif_pos m1]
    rfl
  · rw [GatherDims.batchCoord_eq_zero _ _ _ m2, GatherDims.offCoord_eq_zero _ _ _ (fun h => ((GatherDims.mem_sKept _ _).mp h).1 c2)]
    simp only [Nat.add_zero]
    unfold GatherDims.start
    rw [dif_pos s2]
    have hsi : d.siIdx (ix3 b c t) ⟨List.idxOf (2 : Fin 3) d.startIndexMap, List.idxOf_lt_length_iff.2 s2⟩ = ix4 b c t (0 : Fin 1) := by
      funext a; refine Fin.ext ?_
      match a with
      | ⟨0, _⟩ => rfl
      | ⟨1, _⟩ => rfl
      | ⟨2, _⟩ => rfl
      | ⟨3, _⟩ => rfl
    rw [hsi, h, toInt_small n.val n.isLt]
    show min n.val (2048 - 1) = n.val
    have := n.isLt
    omega

/-! ## The scatter -/

/-- Where an update lands: the row and the edge its two index words name, its own channel. -/
theorem scatter_lands (idx : IVec S8x2048x2 32) (b' : Fin 8) (e : Fin 2048) (c' : Fin 256) (n m : ℕ) (hn : n < 2048) (hm : m < 2048)
    (h0 : idx (ix3 b' e (0 : Fin 2)) = BitVec.ofNat 32 m) (h1 : idx (ix3 b' e (1 : Fin 2)) = BitVec.ofNat 32 n) (b : Fin 8) (c : Fin 256) (x : Fin 2048) :
    scatter_S8x256x2048_S8x2048x2_S8x2048x256_2_02_02_2.resultIdx? (ix3 b' e c') idx = some (ix3 b c x) ↔ m = b.val ∧ c' = c ∧ n = x.val := by
  set d := scatter_S8x256x2048_S8x2048x2_S8x2048x256_2_02_02_2 with hd
  rw [Routing.resultIdx?_eq_some]
  have i0 : ∀ k : Fin d.scatterDimsToOperandDims.length, k.val = 0 → d.siIdx (ix3 b' e c') k = ix3 b' e (0 : Fin 2) := fun k hk => by
    funext a; refine Fin.ext ?_
    match a with
    | ⟨0, _⟩ => rfl
    | ⟨1, _⟩ => rfl
    | ⟨2, _⟩ => exact hk
  have i1 : ∀ k : Fin d.scatterDimsToOperandDims.length, k.val = 1 → d.siIdx (ix3 b' e c') k = ix3 b' e (1 : Fin 2) := fun k hk => by
    funext a; refine Fin.ext ?_
    match a with
    | ⟨0, _⟩ => rfl
    | ⟨1, _⟩ => rfl
    | ⟨2, _⟩ => exact hk
  have toI : ∀ k, k < 2048 → (BitVec.ofNat 32 k).toInt = (k : ℤ) := fun k hk => by
    rw [BitVec.toInt_eq_toNat_of_lt (by rw [BitVec.toNat_ofNat]; omega), BitVec.toNat_ofNat, Nat.mod_eq_of_lt (by omega)]
  have s0 : d.start (ix3 b' e c') idx (0 : Fin 3) = (m : ℤ) := by
    unfold ScatterDims.start
    rw [dif_pos (show (0 : Fin 3) ∈ d.scatterDimsToOperandDims by show (0 : Fin 3) ∈ [0, 2]; decide), i0 _ rfl, h0, toI m hm]
  have s1 : d.start (ix3 b' e c') idx (1 : Fin 3) = 0 := by
    unfold ScatterDims.start
    rw [dif_neg (show (1 : Fin 3) ∉ d.scatterDimsToOperandDims by show (1 : Fin 3) ∉ [0, 2]; decide)]
  have s2 : d.start (ix3 b' e c') idx (2 : Fin 3) = (n : ℤ) := by
    unfold ScatterDims.start
    rw [dif_pos (show (2 : Fin 3) ∈ d.scatterDimsToOperandDims by show (2 : Fin 3) ∈ [0, 2]; decide), i1 _ rfl, h1, toI n hn]
  have w0 : d.window (ix3 b' e c') (0 : Fin 3) = 0 := rfl
  have w1 : d.window (ix3 b' e c') (1 : Fin 3) = c'.val := rfl
  have w2 : d.window (ix3 b' e c') (2 : Fin 3) = 0 := rfl
  constructor
  · intro h
    have e0 := h (0 : Fin 3); have e1 := h (1 : Fin 3); have e2 := h (2 : Fin 3)
    rw [s0, w0] at e0; rw [s1, w1] at e1; rw [s2, w2] at e2
    have f0 : (m : ℤ) + ((0 : ℕ) : ℤ) = (b.val : ℤ) := e0
    have f1 : (0 : ℤ) + (c'.val : ℤ) = (c.val : ℤ) := e1
    have f2 : (n : ℤ) + ((0 : ℕ) : ℤ) = (x.val : ℤ) := e2
    exact ⟨by omega, Fin.ext (by omega), by omega⟩
  · rintro ⟨rfl, rfl, rfl⟩ a
    match a with
    | ⟨0, _⟩ => rw [show (⟨0, _⟩ : Fin S8x256x2048.rank) = (0 : Fin 3) from rfl, s0, w0]; show (b.val : ℤ) + ((0 : ℕ) : ℤ) = (b.val : ℤ); omega
    | ⟨1, _⟩ => rw [show (⟨1, _⟩ : Fin S8x256x2048.rank) = (1 : Fin 3) from rfl, s1, w1]; show (0 : ℤ) + (c'.val : ℤ) = (c'.val : ℤ); omega
    | ⟨2, _⟩ => rw [show (⟨2, _⟩ : Fin S8x256x2048.rank) = (2 : Fin 3) from rfl, s2, w2]; show (x.val : ℤ) + ((0 : ℕ) : ℤ) = (x.val : ℤ); omega

end Cert.Proof.Ref

end
-- ==== Proof.RefValue.lean ====
module

public import proofs.«01_k».proof.Proof.RefOrder
public import Idealize.ShloMosaic.Lib.Affine
public import Idealize.ShloMosaic.Lib.Pipeline.Value

/-! The reference's result at an index, from the order of its scores. -/

@[expose] public section

noncomputable section

namespace Cert.Proof.Ref

open Cert.ReferenceIdeal Cert.ReferenceIdeal.Gen Cert.ReferenceIdeal.Value
open Idealize.ShloMosaic
open Idealize.ShloMosaic.ValueIdx

/-! ## Words -/

/-- An index in range is not wrapped. -/
theorem wrap_small (n : ℕ) (hn : n < 2048) (k : BitVec 32) :
    Scalar.select (IntOp.cmpi .slt (BitVec.ofNat 32 n) 0#32) (IntOp.addi (BitVec.ofNat 32 n) k) (BitVec.ofNat 32 n) = BitVec.ofNat 32 n := by
  rw [show (0#32 : BitVec 32) = BitVec.ofNat 32 0 from rfl, WordCmp.cmpi_slt_ofNat (by norm_num; omega) (by norm_num), decide_eq_false (by omega)]
  rfl

/-- An index in range passes the range check. -/
theorem check_small (n : ℕ) (hn : n < 2048) :
    IntOp.andi (IntOp.cmpi .sge (BitVec.ofNat 32 n) 0#32) (IntOp.cmpi .sle (BitVec.ofNat 32 n) 2047#32) = 1#1 := by
  rw [show (0#32 : BitVec 32) = BitVec.ofNat 32 0 from rfl, show (2047#32 : BitVec 32) = BitVec.ofNat 32 2047 from rfl,
    WordCmp.cmpi_sge_ofNat (by norm_num; omega) (by norm_num), WordCmp.cmpi_sle_ofNat (by norm_num; omega) (by norm_num),
    decide_eq_true (by omega), decide_eq_true (by omega)]
  rfl

/-- The edges beyond the target, of a length the target plus `k`. -/
theorem excess_word (k : ℕ) (hk : k ≤ 512) : IntOp.maxsi 0#32 (IntOp.subi (BitVec.ofNat 32 (1536 + k)) 1536#32) = BitVec.ofNat 32 k := by
  have e : IntOp.subi (BitVec.ofNat 32 (1536 + k)) 1536#32 = BitVec.ofNat 32 k := by
    show BitVec.ofNat 32 (1536 + k) - 1536#32 = _
    apply BitVec.eq_of_toNat_eq
    rw [BitVec.toNat_sub, BitVec.toNat_ofNat, BitVec.toNat_ofNat, BitVec.toNat_ofNat]
    omega
  rw [e]
  unfold IntOp.maxsi
  split
  · next h =>
    rw [BitVec.slt_iff_toInt_lt, BitVec.toInt_eq_toNat_of_lt (by rw [BitVec.toNat_ofNat]; omega), BitVec.toNat_ofNat] at h
    have : (0#32 : BitVec 32).toInt = 0 := rfl
    exact BitVec.eq_of_toNat_eq (by rw [BitVec.toNat_ofNat]; simp at h ⊢; omega)
  · rfl

/-- The remainder of a rank by the target, as a signed remainder corrected for sign. -/
theorem floor_rem (r : ℕ) (hr : r < 2048) :
    (fun v : BitVec 32 => Scalar.select (IntOp.andi (IntOp.cmpi .ne (IntOp.cmpi .slt v 0#32) (IntOp.cmpi .slt 1536#32 0#32)) (IntOp.cmpi .ne v 0#32))
      (IntOp.addi v 1536#32) v) (IntOp.remsi .host (BitVec.ofNat 32 r) 1536#32) = BitVec.ofNat 32 (r % 1536) := by
  have e : IntOp.remsi .host (BitVec.ofNat 32 r) 1536#32 = BitVec.ofNat 32 (r % 1536) := by
    apply BitVec.eq_of_toNat_eq
    rw [show (1536#32 : BitVec 32) = BitVec.ofNat 32 1536 from rfl,
      IntOp.toNat_remsi .host (by rw [BitVec.toNat_ofNat]; omega) 1536 (by norm_num) (by norm_num), BitVec.toNat_ofNat, BitVec.toNat_ofNat]
    omega
  rw [e]
  show Scalar.select (IntOp.andi (IntOp.cmpi .ne (IntOp.cmpi .slt (BitVec.ofNat 32 (r % 1536)) (BitVec.ofNat 32 0)) (0#1)) _) _ _ = _
  rw [WordCmp.cmpi_slt_ofNat (by norm_num; omega) (by norm_num), decide_eq_false (by omega)]
  show Scalar.select (0#1 &&& _) _ _ = _
  rw [BitVec.zero_and]
  rfl

/-! ## The rows' data -/

variable (V0 : Valuation τ sig (Elt Ideal))

/-- The edge features. -/
def feOf : S8x256x2048.Idx → Ideal .f32 := V0 (Proc.devRef .tc main_arg0)

/-- The lengths. -/
def lenOf : S8.Idx → BitVec 32 := V0 (Proc.devRef .tc main_arg1)

/-- What is known of the rows: each length the target plus `K b`, each row's order `σ b`. -/
structure Rows (σ : Fin 8 → Equiv.Perm (Fin 2048)) (K : Fin 8 → ℕ) : Prop where
  len : ∀ b, lenOf V0 (ix1 b) = BitVec.ofNat 32 (1536 + K b)
  le : ∀ b, K b ≤ 512
  order : ∀ (b : Fin 8) (i : Fin 2048), res_main_v9 V0 (ix2 b i) = BitVec.ofNat 32 (σ b i).val

variable {V0} {σ : Fin 8 → Equiv.Perm (Fin 2048)} {K : Fin 8 → ℕ}

/-- A length broadcast along its row. -/
theorem col_apply {α : Type} {C : ℕ} (h1 h2) (x : S8.Idx → α) (b : Fin 8) (t : Fin C) :
    broadcastInDim (s := S8x1) ⟨2, ![8, C]⟩ ![0, 1] h1 (broadcastInDim S8x1 ![0] h2 x) (ix2 b t) = x (ix1 b) := by
  unfold broadcastInDim
  congr 1
  funext a
  match a with
  | ⟨0, _⟩ => rfl

/-- The count of dropped edges of a row. -/
theorem excess_apply (R : Rows V0 σ K) (b : Fin 8) : res_main_v13 V0 (ix1 b) = BitVec.ofNat 32 (K b) := by
  show IntOp.maxsi 0#32 (IntOp.subi (lenOf V0 (ix1 b)) 1536#32) = _
  rw [R.len b, excess_word _ (R.le b)]

/-- The divisor of the ranks is the target. -/
theorem divisor_apply : res_main_call4_v2 V0 = fun _ => 1536#32 := by
  funext i
  show Scalar.select (IntOp.cmpi .eq (BitVec.ofNat 32 1536) (BitVec.ofNat 32 0)) (1#32) (1536#32) = _
  rw [WordCmp.cmpi_eq_ofNat (by norm_num) (by norm_num), decide_eq_false (by norm_num)]
  rfl

/-- The signed remainder of a rank by the target. -/
theorem rem_apply (i : S8x2048.Idx) : res_main_call4_v4 V0 i = IntOp.remsi .host (res_main_v10 V0 i) 1536#32 := by
  unfold res_main_call4_v4
  rw [divisor_apply]
  rfl

/-- The rank an edge reads its partner at. -/
theorem partner_apply (R : Rows V0 σ K) (b : Fin 8) (e : Fin 2048) :
    res_main_v20 V0 (ix2 b e) = BitVec.ofNat 32 (K b + ((σ b).symm e).val % 1536) := by
  unfold res_main_v20
  rw [divisor_apply]
  show IntOp.addi (broadcastInDim (s := S8x1) S8x2048 ![0, 1] _ (broadcastInDim S8x1 ![0] _ (res_main_v13 V0)) (ix2 b e))
    ((fun v : BitVec 32 => Scalar.select (IntOp.andi (IntOp.cmpi .ne (IntOp.cmpi .slt v 0#32) (IntOp.cmpi .slt 1536#32 0#32)) (IntOp.cmpi .ne v 0#32))
      (IntOp.addi v 1536#32) v) (res_main_call4_v4 V0 (ix2 b e))) = _
  rw [rem_apply, rank_apply V0 b (σ b) (R.order b) e, floor_rem _ ((σ b).symm e).isLt]
  refine (congrArg (fun v => IntOp.addi v _) ((col_apply _ _ _ b e).trans (excess_apply R b))).trans ?_
  exact WordCmp.addi_ofNat _ _

/-- A partner's rank is below 2048. -/
theorem partner_lt (R : Rows V0 σ K) (b : Fin 8) (e : Fin 2048) : K b + ((σ b).symm e).val % 1536 < 2048 := by
  have := R.le b; omega

/-- Where the condition holds a selection reads the first. -/
theorem select_one {s : Shape} {α : Type} (c : IVec s 1) (x y : s.Idx → α) (i : s.Idx) (h : c i = 1#1) : select c x y i = x i := if_pos h

/-- Where the condition fails a selection reads the second. -/
theorem select_zero {s : Shape} {α : Type} (c : IVec s 1) (x y : s.Idx → α) (i : s.Idx) (h : c i = 0#1) : select c x y i = y i :=
  if_neg (by rw [h]; decide)

/-- A row of indices in range, wrapped and given a unit axis, is the row. -/
theorem wrapped_row {C : ℕ} (v : IVec ⟨2, ![8, C]⟩ 32) (h0 h1 h2) (b : Fin 8) (t : Fin C) (n : ℕ) (hn : n < 2048) (hv : v (ix2 b t) = BitVec.ofNat 32 n) :
    shapeCast ⟨3, ![8, C, 1]⟩ (select (cmpi .slt v (broadcastInDim (s := S_) ⟨2, ![8, C]⟩ ![] h0 (constantI S_ 32 0#32)))
      (addi v (broadcastInDim (s := S_) ⟨2, ![8, C]⟩ ![] h1 (constantI S_ 32 2048#32))) v) h2 (ix3 b t (0 : Fin 1)) = BitVec.ofNat 32 n := by
  refine (shapeCast_apply _ _ _ (ix2 b t) ?_).trans ?_
  · rw [Shape.rowMajor_val_three, Shape.rowMajor_val_two]
    show b.val * C + t.val = (b.val * C + t.val) * 1 + 0
    omega
  · show Scalar.select (IntOp.cmpi .slt (v (ix2 b t)) 0#32) (IntOp.addi (v (ix2 b t)) 2048#32) (v (ix2 b t)) = _
    rw [hv, wrap_small n hn]

/-- The index that the partner is gathered at. -/
theorem partnerIx_apply (R : Rows V0 σ K) (b : Fin 8) (e : Fin 2048) :
    res_main_call5_v5 V0 (ix3 b e (0 : Fin 1)) = BitVec.ofNat 32 (K b + ((σ b).symm e).val % 1536) :=
  wrapped_row (res_main_v20 V0) _ _ _ b e _ (partner_lt R b e) (partner_apply R b e)

/-- Where an edge's features are added: a dropped edge's partner, a kept edge itself. -/
def landing (σ : Fin 8 → Equiv.Perm (Fin 2048)) (K : Fin 8 → ℕ) (b : Fin 8) (e : Fin 2048) : Fin 2048 :=
  if ((σ b).symm e).val < K b then σ b ⟨(K b + ((σ b).symm e).val % 1536) % 2048, Nat.mod_lt _ (by norm_num)⟩ else e

/-- An index with a last unit axis is its first two coordinates and zero. -/
theorem eq_ix3_unit {B C : ℕ} (i : (⟨3, ![B, C, 1]⟩ : Shape).Idx) : ∃ (b : Fin B) (t : Fin C), i = ix3 b t (0 : Fin 1) :=
  ⟨i 0, i 1, (eq_ix3 i).trans (congrArg (fun k : Fin 1 => ix3 (i 0) (i 1) k) (Subsingleton.elim (α := Fin 1) _ _))⟩

/-- The edge that an edge is assigned to is its landing. -/
theorem landing_apply (R : Rows V0 σ K) (b : Fin 8) (e : Fin 2048) : res_main_v24 V0 (ix2 b e) = BitVec.ofNat 32 (landing σ K b e).val := by
  have hr := ((σ b).symm e).isLt
  have hk := R.le b
  have hc : IntOp.cmpi .slt (res_main_v10 V0 (ix2 b e)) (broadcastInDim (s := S8x1) S8x2048 ![0, 1] bcast_S8x1_S8x2048_0_1 (broadcastInDim S8x1 ![0] bcast_S8_S8x1_0 (res_main_v13 V0)) (ix2 b e))
      = BitVec.ofBool (decide (((σ b).symm e).val < K b)) := by
    rw [rank_apply V0 b (σ b) (R.order b) e]
    refine (congrArg _ ((col_apply _ _ _ b e).trans (excess_apply R b))).trans ?_
    exact WordCmp.cmpi_slt_ofNat (by norm_num; omega) (by norm_num; omega)
  unfold res_main_v24 landing
  by_cases h : ((σ b).symm e).val < K b
  · rw [if_pos h]
    rw [decide_eq_true h] at hc
    refine (select_one _ _ _ _ hc).trans ?_
    refine (select_one _ _ _ _ ?_).trans ?_
    · refine Host.reduce_andi_one _ _ _ _ _ rfl fun i => ?_
      obtain ⟨b', t', rfl⟩ := eq_ix3_unit (B := 8) (C := 2048) i
      show IntOp.andi (IntOp.cmpi .sge (res_main_call5_v5 V0 (ix3 b' t' (0 : Fin 1))) 0#32) (IntOp.cmpi .sle (res_main_call5_v5 V0 (ix3 b' t' (0 : Fin 1))) 2047#32) = 1#1
      rw [partnerIx_apply R b' t']
      exact check_small _ (partner_lt R b' t')
    · have hl := partner_lt R b e
      refine (gather_row _ _ _ b e ⟨(K b + ((σ b).symm e).val % 1536) % 2048, Nat.mod_lt _ (by norm_num)⟩ ?_).trans ?_
      · rw [partnerIx_apply R b e]
        congr 1
        show _ = (K b + ((σ b).symm e).val % 1536) % 2048
        rw [Nat.mod_eq_of_lt hl]
      · exact R.order b _
  · rw [if_neg h]
    rw [decide_eq_false h] at hc
    exact (select_zero _ _ _ _ hc).trans rfl

/-! ## Where the result reads -/

/-- A place's rank is below 2048. -/
theorem place_lt (R : Rows V0 σ K) (b : Fin 8) (t : Fin 1536) : K b + t.val < 2048 := by
  have := R.le b; omega

/-- The rank of the edge kept at a place. -/
theorem place_apply (R : Rows V0 σ K) (b : Fin 8) (t : Fin 1536) : res_main_v49 V0 (ix2 b t) = BitVec.ofNat 32 (K b + t.val) := by
  unfold res_main_v49
  show IntOp.addi (broadcastInDim (s := S8x1) S8x1536 ![0, 1] _ (broadcastInDim S8x1 ![0] _ (res_main_v13 V0)) (ix2 b t)) (BitVec.ofNat 32 t.val) = _
  refine (congrArg (fun v => IntOp.addi v _) ((col_apply _ _ _ b t).trans (excess_apply R b))).trans ?_
  exact WordCmp.addi_ofNat _ _

/-- The index that the kept edge is gathered at. -/
theorem placeIx_apply (R : Rows V0 σ K) (b : Fin 8) (t : Fin 1536) :
    res_main_call7_v5 V0 (ix3 b t (0 : Fin 1)) = BitVec.ofNat 32 (K b + t.val) :=
  wrapped_row (res_main_v49 V0) _ _ _ b t _ (place_lt R b t) (place_apply R b t)

/-- The edge a place of the result is read at. -/
def kept (σ : Fin 8 → Equiv.Perm (Fin 2048)) (K : Fin 8 → ℕ) (b : Fin 8) (t : Fin 1536) : Fin 2048 :=
  σ b ⟨(K b + t.val) % 2048, Nat.mod_lt _ (by norm_num)⟩

/-- A row broadcast over the channels. -/
theorem chan_apply {α : Type} (h1 h2) (x : S8x1536.Idx → α) (b : Fin 8) (c : Fin 256) (t : Fin 1536) :
    broadcastInDim (s := S8x1x1536) S8x256x1536 ![0, 1, 2] h1 (broadcastInDim S8x1x1536 ![0, 2] h2 x) (ix3 b c t) = x (ix2 b t) := by
  unfold broadcastInDim
  congr 1
  funext a
  match a with
  | ⟨0, _⟩ => rfl
  | ⟨1, _⟩ => rfl

/-- The kept edge of a place, broadcast over the channels. -/
theorem kept_apply (R : Rows V0 σ K) (b : Fin 8) (c : Fin 256) (t : Fin 1536) : res_main_v52 V0 (ix3 b c t) = BitVec.ofNat 32 (kept σ K b t).val := by
  unfold res_main_v52 kept
  refine (chan_apply _ _ _ b c t).trans ?_
  refine (select_one _ _ _ _ ?_).trans ?_
  · refine Host.reduce_andi_one _ _ _ _ _ rfl fun i => ?_
    obtain ⟨b', t', rfl⟩ := eq_ix3_unit (B := 8) (C := 1536) i
    show IntOp.andi (IntOp.cmpi .sge (res_main_call7_v5 V0 (ix3 b' t' (0 : Fin 1))) 0#32) (IntOp.cmpi .sle (res_main_call7_v5 V0 (ix3 b' t' (0 : Fin 1))) 2047#32) = 1#1
    rw [placeIx_apply R b' t']
    exact check_small _ (place_lt R b' t')
  · have hl := place_lt R b t
    refine (gather_row _ _ _ b t ⟨(K b + t.val) % 2048, Nat.mod_lt _ (by norm_num)⟩ ?_).trans ?_
    · rw [placeIx_apply R b t]
      congr 1
      show _ = (K b + t.val) % 2048
      rw [Nat.mod_eq_of_lt hl]
    · exact R.order b _

/-- The index that the result is gathered at. -/
theorem keptIx_apply (R : Rows V0 σ K) (b : Fin 8) (c : Fin 256) (t : Fin 1536) :
    res_main_call8_v5 V0 (ix4 b c t (0 : Fin 1)) = BitVec.ofNat 32 (kept σ K b t).val := by
  unfold res_main_call8_v5
  refine (shapeCast_apply (s := S8x256x1536) (t := S8x256x1536x1) _ _ _ (ix3 b c t) ?_).trans ?_
  · refine (Shape.rowMajor_val_three (d := ![8, 256, 1536]) _).trans (Eq.trans ?_ (Shape.rowMajor_val_four (d := ![8, 256, 1536, 1]) _).symm)
    show (b.val * 256 + c.val) * 1536 + t.val = ((b.val * 256 + c.val) * 1536 + t.val) * 1 + 0
    omega
  · show Scalar.select (IntOp.cmpi .slt (res_main_v52 V0 (ix3 b c t)) 0#32) (IntOp.addi (res_main_v52 V0 (ix3 b c t)) 2048#32) (res_main_v52 V0 (ix3 b c t)) = _
    rw [kept_apply R b c t, wrap_small _ (kept σ K b t).isLt]

/-! ## What is added where -/

/-- A dropped edge lands on a place's edge when it is that place's partner; a kept edge when it is the place's own. -/
theorem landing_eq_kept (hk : ∀ b, K b ≤ 512) (b : Fin 8) (e : Fin 2048) (t : Fin 1536) :
    landing σ K b e = kept σ K b t ↔ e = kept σ K b t ∨ (t.val < K b ∧ e = σ b ⟨t.val, by omega⟩) := by
  have hk := hk b
  have ht := t.isLt
  obtain ⟨r, rfl⟩ := (σ b).surjective e
  have hr := r.isLt
  unfold landing kept
  simp only [Equiv.symm_apply_apply]
  by_cases h : r.val < K b
  · rw [if_pos h, (σ b).apply_eq_iff_eq, (σ b).apply_eq_iff_eq, (σ b).apply_eq_iff_eq, Fin.ext_iff, Fin.ext_iff, Fin.ext_iff]
    show (K b + r.val % 1536) % 2048 = (K b + t.val) % 2048 ↔ r.val = (K b + t.val) % 2048 ∨ (t.val < K b ∧ r.val = t.val)
    omega
  · rw [if_neg h, (σ b).apply_eq_iff_eq, (σ b).apply_eq_iff_eq, Fin.ext_iff, Fin.ext_iff]
    show r.val = (K b + t.val) % 2048 ↔ r.val = (K b + t.val) % 2048 ∨ (t.val < K b ∧ r.val = t.val)
    omega

/-- The sum over the edges that land on a place's edge. -/
theorem landing_sum (hk : ∀ b, K b ≤ 512) (b : Fin 8) (t : Fin 1536) (f : Fin 2048 → EReal) :
    ∑ e ∈ Finset.univ.filter (fun e => landing σ K b e = kept σ K b t), f e
      = f (kept σ K b t) + if t.val < K b then f (σ b ⟨t.val, by omega⟩) else 0 := by
  have ht := t.isLt
  by_cases h : t.val < K b
  · rw [if_pos h]
    have hs : Finset.univ.filter (fun e => landing σ K b e = kept σ K b t) = {kept σ K b t, σ b ⟨t.val, by omega⟩} := by
      ext e
      rw [Finset.mem_filter, landing_eq_kept hk, Finset.mem_insert, Finset.mem_singleton]
      exact ⟨fun q => q.2.imp id And.right, fun q => ⟨Finset.mem_univ _, q.imp id fun q => ⟨h, q⟩⟩⟩
    rw [hs, Finset.sum_pair]
    intro q
    have hk := hk b
    unfold kept at q
    rw [(σ b).apply_eq_iff_eq, Fin.ext_iff] at q
    have q : (K b + t.val) % 2048 = t.val := q
    omega
  · rw [if_neg h, add_zero]
    have hs : Finset.univ.filter (fun e => landing σ K b e = kept σ K b t) = {kept σ K b t} := by
      ext e
      rw [Finset.mem_filter, landing_eq_kept hk, Finset.mem_singleton]
      exact ⟨fun q => q.2.resolve_right fun q => h q.1, fun q => ⟨Finset.mem_univ _, Or.inl q⟩⟩
    rw [hs, Finset.sum_singleton]

/-- The scatter's sum at an index, of indices that name the batch and the landing. -/
theorem scatter_apply (idx : IVec S8x2048x2 32) (upd : FVec Ideal S8x2048x256 .f32) (x : FVec Ideal S8x256x2048 .f32)
    (h0 : ∀ (b : Fin 8) (e : Fin 2048), idx (ix3 b e (0 : Fin 2)) = BitVec.ofNat 32 b.val)
    (h1 : ∀ (b : Fin 8) (e : Fin 2048), idx (ix3 b e (1 : Fin 2)) = BitVec.ofNat 32 (landing σ K b e).val)
    (b : Fin 8) (c : Fin 256) (n : Fin 2048) :
    Host.scatterAdd scatter_S8x256x2048_S8x2048x2_S8x2048x256_2_02_02_2 x idx upd (ix3 b c n)
      = (x (ix3 b c n) + ∑ e ∈ Finset.univ.filter (fun e => landing σ K b e = n), upd (ix3 b e c) : EReal) := by
  have hl : ∀ (b' : Fin 8) (e : Fin 2048) (c' : Fin 256),
      scatter_S8x256x2048_S8x2048x2_S8x2048x256_2_02_02_2.resultIdx? (ix3 b' e c') idx = some (ix3 b c n) ↔ b' = b ∧ c' = c ∧ landing σ K b' e = n := fun b' e c' =>
    (scatter_lands idx b' e c' (landing σ K b' e).val b'.val (landing σ K b' e).isLt (by omega) (h0 b' e) (h1 b' e) b c n).trans
      (and_congr Fin.ext_iff.symm (and_congr Iff.rfl Fin.ext_iff.symm))
  show (x (ix3 b c n) + ∑ j ∈ Finset.univ.filter (fun j => scatter_S8x256x2048_S8x2048x2_S8x2048x256_2_02_02_2.resultIdx? j idx = some (ix3 b c n)), upd j : EReal) = _
  congr 1
  refine Finset.sum_bij' (fun j _ => (j 1 : Fin 2048)) (fun e _ => (ix3 b e c : S8x2048x256.Idx)) ?_ ?_ ?_ ?_ ?_
  · intro j hj
    obtain ⟨b', e, c', rfl⟩ : ∃ (b' : Fin 8) (e : Fin 2048) (c' : Fin 256), j = ix3 b' e c' := ⟨j 0, j 1, j 2, eq_ix3 j⟩
    obtain ⟨rfl, rfl, q⟩ := (hl b' e c').mp (Finset.mem_filter.mp hj).2
    exact Finset.mem_filter.mpr ⟨Finset.mem_univ _, q⟩
  · intro e he
    exact Finset.mem_filter.mpr ⟨Finset.mem_univ _, (hl b e c).mpr ⟨rfl, rfl, (Finset.mem_filter.mp he).2⟩⟩
  · intro j hj
    obtain ⟨b', e, c', rfl⟩ : ∃ (b' : Fin 8) (e : Fin 2048) (c' : Fin 256), j = ix3 b' e c' := ⟨j 0, j 1, j 2, eq_ix3 j⟩
    obtain ⟨rfl, rfl, q⟩ := (hl b' e c').mp (Finset.mem_filter.mp hj).2
    rfl
  · intro e _
    rfl
  · intro j hj
    obtain ⟨b', e, c', rfl⟩ : ∃ (b' : Fin 8) (e : Fin 2048) (c' : Fin 256), j = ix3 b' e c' := ⟨j 0, j 1, j 2, eq_ix3 j⟩
    obtain ⟨rfl, rfl, q⟩ := (hl b' e c').mp (Finset.mem_filter.mp hj).2
    rfl

/-! ## The result -/

/-- The scatter's indices. -/
def scatterIx (V0 : Valuation τ sig (Elt Ideal)) : IVec S8x2048x2 32 :=
  concatenate S8x2048x2 2 [⟨S8x2048x1, (broadcastInDim S8x2048x1 ![0, 1] bcast_S8x2048_S8x2048x1_0_1 (broadcastInDim S8x2048 ![0, 1] bcast_S8x1_S8x2048_0_1 (select (cmpi .slt (res_main_v27 V0) (broadcastInDim S8x1 ![] bcast_S_S8x1 (constantI S_ 32 0#32))) (addi (res_main_v27 V0) (broadcastInDim S8x1 ![] bcast_S_S8x1 (constantI S_ 32 8#32))) (res_main_v27 V0))))⟩, ⟨S8x2048x1, (broadcastInDim S8x2048x1 ![0, 1] bcast_S8x2048_S8x2048x1_0_1 (select (cmpi .slt (res_main_v24 V0) (broadcastInDim S8x2048 ![] bcast_S_S8x2048 (constantI S_ 32 0#32))) (addi (res_main_v24 V0) (broadcastInDim S8x2048 ![] bcast_S_S8x2048 (constantI S_ 32 2048#32))) (res_main_v24 V0)))⟩] concatenates_S8x2048x1_S8x2048x1_S8x2048x2_d2

/-- A row given a unit axis, read at an index. -/
theorem unit_apply {α : Type} (h) (x : S8x2048.Idx → α) (b : Fin 8) (e : Fin 2048) :
    broadcastInDim S8x2048x1 ![0, 1] h x (ix3 b e (0 : Fin 1)) = x (ix2 b e) := by
  unfold broadcastInDim
  congr 1
  funext a
  match a with
  | ⟨0, _⟩ => rfl
  | ⟨1, _⟩ => rfl

/-- The first of the scatter's indices is the batch. -/
theorem scatterIx_batch (b : Fin 8) (e : Fin 2048) : scatterIx V0 (ix3 b e (0 : Fin 2)) = BitVec.ofNat 32 b.val := by
  unfold scatterIx
  refine (concatenate_pair_apply_left (t := S8x2048x2) (s₁ := S8x2048x1) (s₂ := S8x2048x1) (2 : Fin 3) _ _ _ (ix3 b e (0 : Fin 2)) rfl (ix3 b e (0 : Fin 1)) fun a => ?_).trans ?_
  · match a with
    | ⟨0, _⟩ => rfl
    | ⟨1, _⟩ => rfl
    | ⟨2, _⟩ => rfl
  · refine (unit_apply _ _ b e).trans ?_
    show Scalar.select (IntOp.cmpi .slt (BitVec.ofNat 32 b.val) 0#32) (IntOp.addi (BitVec.ofNat 32 b.val) 8#32) (BitVec.ofNat 32 b.val) = _
    exact wrap_small b.val (by omega) _

/-- The second of the scatter's indices is the landing. -/
theorem scatterIx_landing (R : Rows V0 σ K) (b : Fin 8) (e : Fin 2048) : scatterIx V0 (ix3 b e (1 : Fin 2)) = BitVec.ofNat 32 (landing σ K b e).val := by
  unfold scatterIx
  refine (concatenate_pair_apply_right (t := S8x2048x2) (s₁ := S8x2048x1) (s₂ := S8x2048x1) (2 : Fin 3) _ _ _ (ix3 b e (1 : Fin 2)) rfl rfl (ix3 b e (0 : Fin 1)) (fun a ha => ?_) rfl).trans ?_
  · match a, ha with
    | ⟨0, _⟩, _ => rfl
    | ⟨1, _⟩, _ => rfl
    | ⟨2, _⟩, ha => exact absurd rfl ha
  · refine (unit_apply _ _ b e).trans ?_
    show Scalar.select (IntOp.cmpi .slt (res_main_v24 V0 (ix2 b e)) 0#32) (IntOp.addi (res_main_v24 V0 (ix2 b e)) 2048#32) (res_main_v24 V0 (ix2 b e)) = _
    rw [landing_apply R b e]
    exact wrap_small _ (landing σ K b e).isLt _

/-- Every place of the result is below the count of its row, which is the target. -/
theorem mask_apply (R : Rows V0 σ K) (b : Fin 8) (t : Fin 1536) :
    IntOp.cmpi .slt (BitVec.ofNat 32 t.val) (IntOp.minsi (lenOf V0 (ix1 b)) 1536#32) = 1#1 := by
  have hk := R.le b
  have e : IntOp.minsi (lenOf V0 (ix1 b)) 1536#32 = BitVec.ofNat 32 1536 := by
    rw [R.len b]
    unfold IntOp.minsi
    rw [if_neg]
    rw [BitVec.slt_iff_toInt_lt, BitVec.toInt_eq_toNat_of_lt (by rw [BitVec.toNat_ofNat]; omega), BitVec.toNat_ofNat]
    have : (1536#32 : BitVec 32).toInt = 1536 := rfl
    omega
  rw [e, WordCmp.cmpi_slt_ofNat (by norm_num; omega) (by norm_num), decide_eq_true t.isLt]
  rfl

/-- A place number broadcast down the rows. -/
theorem row_apply {α : Type} (h1 h2) (x : S1536.Idx → α) (b : Fin 8) (t : Fin 1536) :
    broadcastInDim (s := S1x1536) S8x1536 ![0, 1] h1 (broadcastInDim S1x1536 ![1] h2 x) (ix2 b t) = x (ix1 t) := by
  unfold broadcastInDim
  congr 1
  funext a
  match a with
  | ⟨0, _⟩ => rfl

/-- The mask over the places of a row. -/
def maskRow (V0 : Valuation τ sig (Elt Ideal)) : IVec S8x1536 1 :=
  cmpi .slt (broadcastInDim S8x1536 ![0, 1] bcast_S1x1536_S8x1536_0_1 (broadcastInDim S1x1536 ![1] bcast_S1536_S1x1536_1 (iotaInDim S1536 32 0)))
    (broadcastInDim S8x1536 ![0, 1] bcast_S8x1_S8x1536_0_1 (broadcastInDim S8x1 ![0] bcast_S8_S8x1_0 (minsi (V0 (Proc.devRef .tc main_arg1)) (broadcastInDim S8 ![] bcast_S_S8 (constantI S_ 32 1536#32)))))

/-- The mask holds at every place of a row. -/
theorem maskRow_apply (R : Rows V0 σ K) (b : Fin 8) (t : Fin 1536) : maskRow V0 (ix2 b t) = 1#1 :=
  (congrArg₂ (IntOp.cmpi .slt) (row_apply _ _ (iotaInDim S1536 32 0) b t) (col_apply _ _ _ b t)).trans (mask_apply R b t)

/-- The mask broadcast over the channels. -/
def maskOf (V0 : Valuation τ sig (Elt Ideal)) : FVec Ideal S8x256x1536 .f32 :=
  broadcastInDim S8x256x1536 ![0, 1, 2] bcast_S8x1x1536_S8x256x1536_0_1_2 (broadcastInDim S8x1x1536 ![0, 2] bcast_S8x1536_S8x1x1536_0_2 (uitofp .f32 (maskRow V0)))

/-- The mask is one everywhere. -/
theorem maskOf_apply (R : Rows V0 σ K) (b : Fin 8) (c : Fin 256) (t : Fin 1536) : maskOf V0 (ix3 b c t) = (1 : EReal) := by
  refine (chan_apply _ _ _ b c t).trans ?_
  refine (congrArg (FloatOps.uitofp (F := Ideal) .f32) (maskRow_apply R b t)).trans ?_
  show (((1#1 : BitVec 1).toNat : ℝ) : EReal) = 1
  norm_num

/-- The pooled features: zeros, and each edge's features added where it lands. -/
def pooledOf (V0 : Valuation τ sig (Elt Ideal)) : FVec Ideal S8x256x2048 .f32 :=
  Host.scatterAdd scatter_S8x256x2048_S8x2048x2_S8x2048x256_2_02_02_2 (broadcastInDim S8x256x2048 ![] bcast_S_S8x256x2048 (constant S_ .f32 0x00000000#32)) (scatterIx V0)
    (transpose S8x2048x256 [0, 2, 1] (V0 (Proc.devRef .tc main_arg0)) transposes_S8x256x2048_S8x2048x256_0_2_1)

/-- The features with channels and edges exchanged, read at an index. -/
theorem swap_apply (x : S8x256x2048.Idx → Ideal .f32) (b : Fin 8) (e : Fin 2048) (c : Fin 256) :
    transpose S8x2048x256 [0, 2, 1] x transposes_S8x256x2048_S8x2048x256_0_2_1 (ix3 b e c) = x (ix3 b c e) :=
  transpose_apply _ _ _ (ix3 b e c) (ix3 b c e) fun a => match a with
    | ⟨0, _⟩ => rfl
    | ⟨1, _⟩ => rfl
    | ⟨2, _⟩ => rfl

/-- The pooled features at a kept edge: its own and, at the first places, those of its dropped partner. -/
theorem pooledOf_apply (R : Rows V0 σ K) (b : Fin 8) (c : Fin 256) (t : Fin 1536) :
    pooledOf V0 (ix3 b c (kept σ K b t))
      = (feOf V0 (ix3 b c (kept σ K b t)) + if t.val < K b then feOf V0 (ix3 b c (σ b ⟨t.val, by omega⟩)) else 0 : EReal) := by
  unfold pooledOf
  rw [scatter_apply (σ := σ) (K := K) (scatterIx V0) _ _ scatterIx_batch (scatterIx_landing R) b c (kept σ K b t)]
  have hz : (broadcastInDim (s := S_) S8x256x2048 ![] bcast_S_S8x256x2048 (constant (F := Ideal) S_ .f32 0x00000000#32)) (ix3 b c (kept σ K b t)) = (0 : EReal) :=
    Ideal.ofBits_zero_f32
  rw [hz, zero_add, Finset.sum_congr rfl fun e _ => swap_apply (V0 (Proc.devRef .tc main_arg0)) b e c]
  exact landing_sum (σ := σ) R.le b t fun e => feOf V0 (ix3 b c e)

/-- The check that every place reads in range. -/
def checkOf (V0 : Valuation τ sig (Elt Ideal)) : IVec S8x256x1536 1 :=
  Host.reduce IntOp.andi (andi (cmpi .sge (res_main_call8_v5 V0) (broadcastInDim S8x256x1536x1 ![] bcast_S_S8x256x1536x1 (constantI S_ 32 0#32))) (cmpi .sle (res_main_call8_v5 V0) (broadcastInDim S8x256x1536x1 ![0, 1, 2, 3] bcast_S1x1x1x1_S8x256x1536x1_0_1_2_3 (broadcastInDim S1x1x1x1 ![3] bcast_S1_S1x1x1x1_3 (constantI S1 32 2047#32))))) (constantI S_ 1 1#1) reducesTo_S8x256x1536x1_S8x256x1536_d3 h_S_

/-- Every place passes the check. -/
theorem checkOf_apply (R : Rows V0 σ K) (i : S8x256x1536.Idx) : checkOf V0 i = 1#1 := by
  unfold checkOf
  refine Host.reduce_andi_one _ _ _ _ _ rfl fun i => ?_
  obtain ⟨b', c', t', rfl⟩ : ∃ (b' : Fin 8) (c' : Fin 256) (t' : Fin 1536), i = ix4 b' c' t' (0 : Fin 1) :=
    ⟨i 0, i 1, i 2, (eq_ix4 i).trans (congrArg (fun k : Fin 1 => ix4 (i 0) (i 1) (i 2) k) (Subsingleton.elim (α := Fin 1) _ _))⟩
  show IntOp.andi (IntOp.cmpi .sge (res_main_call8_v5 V0 (ix4 b' c' t' (0 : Fin 1))) 0#32) (IntOp.cmpi .sle (res_main_call8_v5 V0 (ix4 b' c' t' (0 : Fin 1))) 2047#32) = 1#1
  rw [keptIx_apply R b' c' t']
  exact check_small _ (kept σ K b' t').isLt

/-- The reference's result, by its named parts. -/
def resultOf (V0 : Valuation τ sig (Elt Ideal)) : FVec Ideal S8x256x1536 .f32 :=
  mulf (select (checkOf V0) (Host.gather gather_S8x256x2048_S8x256x1536x1_S8x256x1536_n_2_01_01_2_3_111 (pooledOf V0) (res_main_call8_v5 V0))
    (broadcastInDim S8x256x1536 ![] bcast_S_S8x256x1536 (constant S_ .f32 0x7FC00000#32))) (maskOf V0)

/-- The run's result is the result by its named parts. -/
theorem val2_result (V0 : Valuation τ sig (Elt Ideal)) : val2 V0 (Proc.devRef .tc main_v65) = resultOf V0 := val2_main_v65 V0

/-- A product read at an index, of factors known there. -/
theorem mulf_read {s : Shape} (x y : FVec Ideal s .f32) (i : s.Idx) (u v : EReal) (hx : x i = u) (hy : y i = v) : mulf x y i = (u * v : EReal) := by
  subst hx hy
  rfl

/-- A checked gather's place, of features `x` at the indices `idx`. -/
theorem gathered_apply (chk : IVec S8x256x1536 1) (x : FVec Ideal S8x256x2048 .f32) (idx : IVec S8x256x1536x1 32) (z : FVec Ideal S8x256x1536 .f32)
    (b : Fin 8) (c : Fin 256) (t : Fin 1536) (n : Fin 2048) (u : EReal) (hc : chk (ix3 b c t) = 1#1) (h : idx (ix4 b c t (0 : Fin 1)) = BitVec.ofNat 32 n.val)
    (hx : x (ix3 b c n) = u) :
    select chk (Host.gather gather_S8x256x2048_S8x256x1536x1_S8x256x1536_n_2_01_01_2_3_111 x idx) z (ix3 b c t) = u :=
  (select_one _ _ _ _ hc).trans ((gather_chan x idx b c t n h).trans hx)

/-- The reference's result: the kept edge's features, and to them, at the first places, the dropped partner's. -/
theorem result_apply (R : Rows V0 σ K) (b : Fin 8) (c : Fin 256) (t : Fin 1536) :
    resultOf V0 (ix3 b c t)
      = (feOf V0 (ix3 b c (kept σ K b t)) + if t.val < K b then feOf V0 (ix3 b c (σ b ⟨t.val, by omega⟩)) else 0 : EReal) := by
  unfold resultOf
  rw [mulf_read _ _ _ _ 1 (gathered_apply _ _ _ _ b c t (kept σ K b t) _ (checkOf_apply R _) (keptIx_apply R b c t) (pooledOf_apply R b c t)) (maskOf_apply R b c t)]
  exact mul_one _

end Cert.Proof.Ref

end
-- ==== Proof.Value.lean ====
module

public import proofs.«01_k».proof.Proof.Net
public import proofs.«01_k».proof.Proof.RefValue
public import proofs.«01_k».proof.Proof.Values
public import Idealize.ShloMosaic.Lib.IdealHost

/-! The value the kernel leaves is the reference's. -/

@[expose] public section

noncomputable section

namespace Cert.Proof.Value

open Cert.KernelIdeal Cert.KernelIdeal.Gen
open Idealize.ShloMosaic hiding ix1 ix2 ix3
open Idealize.ShloMosaic.ValueIdx

/-! ## The scores -/

/-- A row's sum of squares at an edge. -/
def energy (fe : S8x256x2048.Idx → EReal) (b : Fin 8) (i : Fin 2048) : EReal := ∑ k : Fin 256, fe (ix3 b k i) * fe (ix3 b k i)

/-- A row's score at an edge: its energy if the edge is below the length, infinity if not. -/
def scoreAt (fe : S8x256x2048.Idx → EReal) (len : S8.Idx → BitVec 32) (b : Fin 8) (i : Fin 2048) : Ideal .f32 :=
  Scalar.select (IntOp.cmpi .slt (BitVec.ofNat 32 i.val) (len (ix1 b))) (energy fe b i) (Scalar.ofBits .f32 0x7F800000#32 : Ideal .f32)

/-- A row of the features, read at a channel and an edge. -/
theorem feRow_apply (b : Fin 8) (fe : S8x256x2048.Idx → Ideal .f32) (k : Fin 256) (i : Fin 2048) :
    Sort.feRow b fe (ix3 (0 : Fin 1) k i) = fe (ix3 b k i) := by
  unfold Sort.feRow
  congr 1
  funext a
  refine Fin.ext ?_
  match a with
  | ⟨0, _⟩ => show b.val + 1 * 0 = b.val; omega
  | ⟨1, _⟩ => show 0 + 1 * k.val = k.val; omega
  | ⟨2, _⟩ => show 0 + 1 * i.val = i.val; omega

/-- A row without its unit axis, read at a channel and an edge. -/
theorem block_apply (x : S1x256x2048.Idx → Ideal .f32) (k : Fin 256) (i : Fin 2048) :
    shapeCast S256x2048 x shapeCasts_S1x256x2048_S256x2048 (ix2 k i) = x (ix3 (0 : Fin 1) k i) :=
  shapeCast_apply _ _ _ _ (by
    rw [Shape.rowMajor_val_three, Shape.rowMajor_val_two]
    show (0 * 256 + k.val) * 2048 + i.val = k.val * 2048 + i.val
    omega)

/-- The index of the sum down the channels, in the kernel. -/
theorem lift_block (i : Fin 2048) (k : Fin 256) : reduces_S256x2048_S2048.lift (ix1 i) k = ix2 k i := by
  funext a
  match a with
  | ⟨0, _⟩ => rfl
  | ⟨1, _⟩ => rfl

/-- The kernel's score of a row at an edge. -/
theorem scoreRow_apply (b : Fin 8) (fe : S8x256x2048.Idx → Ideal .f32) (len : S8.Idx → BitVec 32) (i : Fin 2048) :
    Sort.scoreRow (F := Ideal) (len (ix1 b)) (Sort.feRow b fe) (ix2 (0 : Fin 1) i) = scoreAt fe len b i := by
  unfold Sort.scoreRow scoreAt
  have hi : iota .tc S1x2048 32 [1] iota_S1x2048_d1_w32 (ix2 (0 : Fin 1) i) = BitVec.ofNat 32 i.val := by
    show BitVec.ofNat 32 (0 * 2048 + i.val) = _
    congr 1; omega
  have pick : ∀ (x : IVec S1x2048 32) (y z : FVec Ideal S1x2048 .f32) (n v : BitVec 32) (j : S1x2048.Idx) (u w : Ideal .f32), x j = v → y j = u → z j = w →
      select (cmpi .slt x (broadcast S1x2048 n)) y z j = Scalar.select (IntOp.cmpi .slt v n) u w := by
    rintro x y z n v j u w rfl rfl rfl
    rfl
  refine pick _ _ _ _ _ _ _ _ hi ?_ rfl
  refine (shapeCast_apply (s := S2048) (t := S1x2048) _ _ _ (ix1 i) (by
    rw [Shape.rowMajor_val_two, Shape.rowMajor_val_one]
    show i.val = 0 * 2048 + i.val
    omega)).trans ?_
  refine (Ideal.multiReduction_add_single _ _ _ _ _ (ix1 i)).trans ?_
  unfold energy
  refine Finset.sum_congr rfl fun k _ => ?_
  have e : shapeCast S256x2048 (Sort.feRow b fe) shapeCasts_S1x256x2048_S256x2048 (reduces_S256x2048_S2048.lift (ix1 i) k) = fe (ix3 b k i) :=
    (congrArg (shapeCast S256x2048 (Sort.feRow b fe) shapeCasts_S1x256x2048_S256x2048) (lift_block i k)).trans ((block_apply _ k i).trans (feRow_apply b fe k i))
  exact congrArg₂ (fun x y : EReal => x * y) e e

/-- The kernel's scores are the scores. -/
theorem scores_apply (fe : S8x256x2048.Idx → Ideal .f32) (len : S8.Idx → BitVec 32) (b : Fin 8) (i : Fin 2048) :
    Sort.scores (F := Ideal) fe len (ix2 b i) = scoreAt fe len b i := by
  unfold Sort.scores Sort.keysOf
  refine (concatenate_ofFn_unit_apply (t := S8x2048) (s₁ := S1x2048) (0 : Fin 2) (N := 8)
    (fun n => Sort.scoreRow (F := Ideal) (len (ix1 n)) (Sort.feRow n fe)) _ rfl rfl (ix2 b i) b rfl (ix2 (0 : Fin 1) i) ?_).trans (scoreRow_apply b fe len i)
  intro a ha
  match a, ha with
  | ⟨0, _⟩, ha => exact absurd rfl ha
  | ⟨1, _⟩, _ => rfl

/-- The sum down the channels has the scores' shape. -/
theorem reduces_channels : Cert.ReferenceIdeal.S8x256x2048.Reduces [1] Cert.ReferenceIdeal.S8x2048 := by decide

/-- The index of the sum down the channels, in the reference. -/
theorem lift_channels (b : Fin 8) (i : Fin 2048) (k : Fin 256) : reduces_channels.lift (ix2 b i) k = ix3 b k i := by
  funext a
  match a with
  | ⟨0, _⟩ => rfl
  | ⟨1, _⟩ => rfl
  | ⟨2, _⟩ => rfl

/-- The reference's scores are the scores. -/
theorem ref_scores_apply (V0 : Valuation Cert.ReferenceIdeal.τ Cert.ReferenceIdeal.sig (Elt Ideal)) (b : Fin 8) (i : Fin 2048) :
    Cert.ReferenceIdeal.Value.res_main_v8 V0 (ix2 b i) = scoreAt (Ref.feOf V0) (Ref.lenOf V0) b i := by
  unfold Cert.ReferenceIdeal.Value.res_main_v8 scoreAt
  have pick : ∀ (c : IVec Cert.ReferenceIdeal.S8x2048 1) (y z : FVec Ideal Cert.ReferenceIdeal.S8x2048 .f32) (j : Cert.ReferenceIdeal.S8x2048.Idx) (p : BitVec 1) (u w : Ideal .f32),
      c j = p → y j = u → z j = w → select c y z j = Scalar.select p u w := by
    rintro c y z j p u w rfl rfl rfl
    rfl
  refine pick _ _ _ _ _ _ _ ?_ ?_ rfl
  · exact congrArg (IntOp.cmpi .slt (BitVec.ofNat 32 i.val)) (Ref.col_apply _ _ (Ref.lenOf V0) b i)
  · refine (Ideal.hostReduceAdd_single _ reduces_channels _ _ (ix2 b i)).trans ?_
    have hz : (constant (F := Ideal) Cert.ReferenceIdeal.S_ .f32 0x00000000#32) (Shape.Idx.first Cert.ReferenceIdeal.Gen.h_S_) = (0 : EReal) := Ideal.ofBits_zero_f32
    refine (congrArg (fun z : EReal => z + _) hz).trans ((zero_add _).trans ?_)
    unfold energy
    refine Finset.sum_congr rfl fun k _ => ?_
    have e : Ref.feOf V0 (reduces_channels.lift (ix2 b i) k) = Ref.feOf V0 (ix3 b k i) := congrArg _ (lift_channels b i k)
    exact congrArg₂ (fun x y : EReal => x * y) e e

/-! ## The kernel's value at an index -/

/-- How many edges a row drops. -/
def excess (len : S8.Idx → BitVec 32) (b : Fin 8) : ℕ := (len (ix1 b)).toNat - 1536

/-- A slab read at an edge is the features read there. -/
theorem at2_read (fe : S8x256x2048.Idx → Ideal .f32) (b : Fin 8) (c : Fin 256) (r : Fin 16) (h : ∀ y : S16x2048.Idx, c.val / 16 * 16 + (y 0).val < 256) (n : Fin 2048) (w : BitVec 32) (hr : r.val = c.val % 16)
    (hw : w = BitVec.ofNat 32 n.val) :
    Tile.at2 (fun y : S16x2048.Idx => fe (ix3 b (⟨c.val / 16 * 16 + (y 0).val, h y⟩ : Fin 256) (y 1))) r w.toNat = fe (ix3 b c n) := by
  subst hw
  have hn : (BitVec.ofNat 32 n.val).toNat % 2048 = n.val := by
    rw [BitVec.toNat_ofNat]; omega
  unfold Tile.at2
  refine congrArg₂ (fun (c : Fin 256) (n : Fin 2048) => fe (ix3 b c n)) (Fin.ext ?_) (Fin.ext hn)
  show c.val / 16 * 16 + r.val = c.val
  omega

/-- With rows whose order is `σ b`, the kernel's value is the sum the reference takes. -/
theorem outVal_apply (fe : S8x256x2048.Idx → Ideal .f32) (len : S8.Idx → BitVec 32) (σ : Fin 8 → Equiv.Perm (Fin 2048))
    (hlen : ∀ b, 1544 ≤ (len (ix1 b)).toNat ∧ (len (ix1 b)).toNat ≤ 2048)
    (ho : ∀ (b : Fin 8) (i : Fin 2048), Sort.orderOf (F := Ideal) (Sort.scores fe len) (ix3 b (0 : Fin 1) i) = BitVec.ofNat 32 (σ b i).val)
    (b : Fin 8) (c : Fin 256) (t : Fin 1536) :
    Tile.outVal (F := Ideal) fe len (ix3 b c t)
      = (fe (ix3 b c (Ref.kept σ (excess len) b t)) + if t.val < excess len b then fe (ix3 b c (σ b ⟨t.val, by omega⟩)) else 0 : EReal) := by
  have ht := t.isLt
  have hl := hlen b
  have hk : (Tile.kkOf len b).toNat = excess len b := by
    show (len (ix1 b) - 1536#32).toNat = (len (ix1 b)).toNat - 1536
    rw [BitVec.toNat_sub, show (1536#32 : BitVec 32).toNat = 1536 from rfl]
    omega
  have hA : Tile.srcA (Tile.ordRow (Sort.ordVal (F := Ideal) fe len) b) (Tile.kkOf len b) (ix1 t) = BitVec.ofNat 32 (Ref.kept σ (excess len) b t).val := by
    refine (ho b _).trans (congrArg (fun n : Fin 2048 => BitVec.ofNat 32 (σ b n).val) (Fin.ext ?_))
    show (t.val + (Tile.kkOf len b).toNat) % 2048 = (excess len b + t.val) % 2048
    rw [hk, Nat.add_comm]
  have hB : Tile.srcB (Tile.ordRow (Sort.ordVal (F := Ideal) fe len) b) (ix1 t) = BitVec.ofNat 32 (σ b ⟨t.val, by omega⟩).val := by
    refine (ho b _).trans (congrArg (fun n : Fin 2048 => BitVec.ofNat 32 (σ b n).val) (Fin.ext ?_))
    show t.val % 2048 = t.val
    omega
  have hW : Tile.srcW (F := Ideal) (Tile.kkOf len b) (ix1 t) = (if t.val < excess len b then (1 : EReal) else 0) := by
    show (if t.val < (Tile.kkOf len b).toNat then (Ideal.ofBits .f32 0x3F800000#32 : EReal) else Ideal.ofBits .f32 0x00000000#32) = _
    rw [hk, Ideal.ofBits_one_f32, Ideal.ofBits_zero_f32]
  unfold Tile.outVal Tile.outOf Tile.chunkVal
  by_cases h5 : t.val < 512
  · refine (if_pos h5).trans ?_
    unfold Tile.pairVal
    refine (congrArg₂ (fun x y : EReal => x + y) (at2_read fe b c _ _ _ _ rfl hA)
      (congrArg₂ (fun x y : EReal => x * y) hW (at2_read fe b c _ _ _ _ rfl hB))).trans ?_
    by_cases h : t.val < excess len b
    · simp only [if_pos h, one_mul]
    · simp only [if_neg h, zero_mul]
  · refine (if_neg h5).trans ?_
    have h : ¬ t.val < excess len b := by unfold excess; omega
    rw [if_neg h]
    unfold Tile.soloVal
    exact (at2_read fe b c _ _ _ _ rfl hA).trans (add_zero _).symm

/-! ## The two values -/

/-- The kernel's value is the reference's result, of the same edge features and lengths in range. -/
theorem outVal_eq_result (V0 : Valuation Cert.ReferenceIdeal.τ Cert.ReferenceIdeal.sig (Elt Ideal))
    (hlen : ∀ b, 1544 ≤ (Ref.lenOf V0 (ix1 b)).toNat ∧ (Ref.lenOf V0 (ix1 b)).toNat ≤ 2048) :
    Tile.outVal (F := Ideal) (Ref.feOf V0) (Ref.lenOf V0) = Ref.resultOf V0 := by
  choose σ ho hs using Sort.orderOf_perm (Sort.scores (F := Ideal) (Ref.feOf V0) (Ref.lenOf V0))
  have R : Ref.Rows V0 σ (excess (Ref.lenOf V0)) := {
    len := fun b => by
      have := hlen b
      apply BitVec.eq_of_toNat_eq
      rw [BitVec.toNat_ofNat]
      unfold excess
      omega
    le := fun b => by have := hlen b; unfold excess; omega
    order := fun b i => Ref.order_apply V0 b (σ b) (fun i i' h => by
      have q := hs b i i' h
      rw [scores_apply, scores_apply] at q
      rw [ref_scores_apply, ref_scores_apply]
      exact q) i }
  funext z
  obtain ⟨b, c, t, rfl⟩ : ∃ (b : Fin 8) (c : Fin 256) (t : Fin 1536), z = ix3 b c t := ⟨z 0, z 1, z 2, ValueIdx.eq_ix3 z⟩
  exact (outVal_apply _ _ σ hlen ho b c t).trans (Ref.result_apply R b c t).symm

end Cert.Proof.Value

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_in_range
public import proofs.«01_k».proof.Proof.Frame
public import proofs.«01_k».proof.Proof.Value

@[expose] public section

noncomputable section

namespace Cert.Proof

open Idealize.ShloMosaic Idealize.ShloMosaic.StableHlo Idealize.SL.Sem

/-- The reference runs, leaves its arguments, and it has no counter. -/
theorem frame_reference : Cert.quiescent_ReferenceIdeal := fun m ρ _ =>
  (θ_run (Cert.ReferenceIdeal.defs (F := Ideal)) _ _).mono
    (fun r h => ⟨fun c => (h c).2, Idealize.ShloMosaic.sem_eq_zero_of_no_sems (by decide) r.2⟩)
    (Cert.ReferenceIdeal.Value.run (F := Ideal) m ρ)

/-- The same, of a memory in range. -/
theorem frame_reference_in_range : Cert.quiescent_ReferenceIdeal_pre_in_range := fun m ρ _ => frame_reference m ρ trivial

/-- The kernel's value, of a memory in range, is the result of the reference on a memory with the same arguments. -/
theorem value_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (h : Cert.Pre_KernelIdeal m)
    (c : Dev Cert.KernelIdeal.nD) (h0 : Ref.feOf (launchContents m' c) = Launch.feV m c) (h1 : Ref.lenOf (launchContents m' c) = Launch.lenV m c) :
    Tile.outVal (Launch.feV m c) (Launch.lenV m c) = Ref.resultOf (launchContents m' c) := by
  rw [← h0, ← h1]
  exact Value.outVal_eq_result (launchContents m' c) (by rw [h1]; exact ok_of_pre m h c)

/-- The reference's run: its result at the named parts, its arguments unchanged. -/
theorem run_reference (m' : (ℓ : Loc Cert.ReferenceIdeal.nD Cert.ReferenceIdeal.τ Cert.ReferenceIdeal.sig) → Buf (Elt Ideal) ℓ) (g' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, g'⟩ fun r => ∀ c : Dev Cert.ReferenceIdeal.nD,
      r.2.mem ((c.tc : Thread Cert.ReferenceIdeal.nD Cert.ReferenceIdeal.τ).loc Cert.ReferenceIdeal.main_v65) = Ref.resultOf (launchContents m' c)
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1) :=
  (θ_run (Cert.ReferenceIdeal.defs (F := Ideal)) _ _).mono
    (fun _ q c => ⟨(q c).1.trans ((Cert.ReferenceIdeal.Value.val2_main_v65 (launchContents m' c)).symm.trans (Ref.val2_result _)), (q c).2⟩)
    (Cert.ReferenceIdeal.Value.run (F := Ideal) m' g')

/-- The kernel and the reference, from memories with the same arguments, leave the same result. -/
theorem algebraic : Cert.algebraic_KernelIdeal_ReferenceIdeal := fun m g m' g' h hm =>
  ⟨fun c => Tile.outVal (Launch.feV m c) (Launch.lenV m c),
    (θ_run (Cert.KernelIdeal.defs (F := Ideal)) _ _).mono (fun _ q c => ⟨(q.1 c).2.2, (q.1 c).1, (q.1 c).2.1⟩) (run_kernel (F := Ideal) m g h),
    (θ_run (Cert.ReferenceIdeal.defs (F := Ideal)) _ _).mono
      (fun _ q c => ⟨(q c).1.trans (value_eq m m' h c (hm c).1 (hm c).2).symm, (q c).2⟩) (run_reference m' g')⟩

/-- The certificate: the three frames, that no rewrite was made, and the kernel's value against the reference's. -/
theorem claim : Cert.Claim := ⟨Cert.Kernel.Gen.facts, Cert.KernelIdeal.Gen.facts, Cert.ReferenceIdeal.Gen.facts, Cert.Pre_in_range.Gen.facts,
  frame_kernel, frame_ideal, frame_reference, frame_reference_in_range, trivial, algebraic⟩

end Cert.Proof

end
